-- ==== Defs.lean ====
def Pre_ScanBwd (m : (ℓ : Loc Cert.ScanBwd.nD Cert.ScanBwd.τ Cert.ScanBwd.sig) → Buf (Elt Bits) ℓ) : Prop :=
  True

def Pre_ScanBwdIdeal (m : (ℓ : Loc Cert.ScanBwdIdeal.nD Cert.ScanBwdIdeal.τ Cert.ScanBwdIdeal.sig) → Buf (Elt Ideal) ℓ) : Prop :=
  True

def Pre_ScanBwdRefIdeal (m : (ℓ : Loc Cert.ScanBwdRefIdeal.nD Cert.ScanBwdRefIdeal.τ Cert.ScanBwdRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_MixDh (m : (ℓ : Loc Cert.MixDh.nD Cert.MixDh.τ Cert.MixDh.sig) → Buf (Elt Bits) ℓ) : Prop :=
  True

def Pre_MixDhIdeal (m : (ℓ : Loc Cert.MixDhIdeal.nD Cert.MixDhIdeal.τ Cert.MixDhIdeal.sig) → Buf (Elt Ideal) ℓ) : Prop :=
  True

def Pre_MixDhRefIdeal (m : (ℓ : Loc Cert.MixDhRefIdeal.nD Cert.MixDhRefIdeal.τ Cert.MixDhRefIdeal.sig) → Buf (Elt Ideal) ℓ) : Prop :=
  True

def Pre_DwGu (m : (ℓ : Loc Cert.DwGu.nD Cert.DwGu.τ Cert.DwGu.sig) → Buf (Elt Bits) ℓ) : Prop :=
  True

def Pre_DwGuIdeal (m : (ℓ : Loc Cert.DwGuIdeal.nD Cert.DwGuIdeal.τ Cert.DwGuIdeal.sig) → Buf (Elt Ideal) ℓ) : Prop :=
  True

def Pre_DwGuRefIdeal (m : (ℓ : Loc Cert.DwGuRefIdeal.nD Cert.DwGuRefIdeal.τ Cert.DwGuRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_RecinBwd (m : (ℓ : Loc Cert.RecinBwd.nD Cert.RecinBwd.τ Cert.RecinBwd.sig) → Buf (Elt Bits) ℓ) : Prop :=
  True

def Pre_RecinBwdIdeal (m : (ℓ : Loc Cert.RecinBwdIdeal.nD Cert.RecinBwdIdeal.τ Cert.RecinBwdIdeal.sig) → Buf (Elt Ideal) ℓ) : Prop :=
  True

def Pre_RecinBwdRefIdeal (m : (ℓ : Loc Cert.RecinBwdRefIdeal.nD Cert.RecinBwdRefIdeal.τ Cert.RecinBwdRefIdeal.sig) → Buf (Elt Ideal) ℓ) : Prop :=
  True

def Pre_MmPost (m : (ℓ : Loc Cert.MmPost.nD Cert.MmPost.τ Cert.MmPost.sig) → Buf (Elt Bits) ℓ) : Prop :=
  True

def Pre_MmPostIdeal (m : (ℓ : Loc Cert.MmPostIdeal.nD Cert.MmPostIdeal.τ Cert.MmPostIdeal.sig) → Buf (Elt Ideal) ℓ) : Prop :=
  True

def Pre_MmPostRefIdeal (m : (ℓ : Loc Cert.MmPostRefIdeal.nD Cert.MmPostRefIdeal.τ Cert.MmPostRefIdeal.sig) → Buf (Elt Ideal) ℓ) : Prop :=
  True

def Pre_MergePost (m : (ℓ : Loc Cert.MergePost.nD Cert.MergePost.τ Cert.MergePost.sig) → Buf (Elt Bits) ℓ) : Prop :=
  True

def Pre_MergePostIdeal (m : (ℓ : Loc Cert.MergePostIdeal.nD Cert.MergePostIdeal.τ Cert.MergePostIdeal.sig) → Buf (Elt Ideal) ℓ) : Prop :=
  True

def Pre_MergePostRefIdeal (m : (ℓ : Loc Cert.MergePostRefIdeal.nD Cert.MergePostRefIdeal.τ Cert.MergePostRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwRecO (m : (ℓ : Loc Cert.DwRecO.nD Cert.DwRecO.τ Cert.DwRecO.sig) → Buf (Elt Bits) ℓ) : Prop :=
  True

def Pre_DwRecOIdeal (m : (ℓ : Loc Cert.DwRecOIdeal.nD Cert.DwRecOIdeal.τ Cert.DwRecOIdeal.sig) → Buf (Elt Ideal) ℓ) : Prop :=
  True

def Pre_DwRecORefIdeal (m : (ℓ : Loc Cert.DwRecORefIdeal.nD Cert.DwRecORefIdeal.τ Cert.DwRecORefIdeal.sig) → Buf (Elt Ideal) ℓ) : Prop :=
  True

def Pre_DwAttO (m : (ℓ : Loc Cert.DwAttO.nD Cert.DwAttO.τ Cert.DwAttO.sig) → Buf (Elt Bits) ℓ) : Prop :=
  True

def Pre_DwAttOIdeal (m : (ℓ : Loc Cert.DwAttOIdeal.nD Cert.DwAttOIdeal.τ Cert.DwAttOIdeal.sig) → Buf (Elt Ideal) ℓ) : Prop :=
  True

def Pre_DwAttORefIdeal (m : (ℓ : Loc Cert.DwAttORefIdeal.nD Cert.DwAttORefIdeal.τ Cert.DwAttORefIdeal.sig) → Buf (Elt Ideal) ℓ) : Prop :=
  True

def Pre_PreUp (m : (ℓ : Loc Cert.PreUp.nD Cert.PreUp.τ Cert.PreUp.sig) → Buf (Elt Bits) ℓ) : Prop :=
  True

def Pre_PreUpIdeal (m : (ℓ : Loc Cert.PreUpIdeal.nD Cert.PreUpIdeal.τ Cert.PreUpIdeal.sig) → Buf (Elt Ideal) ℓ) : Prop :=
  True

def Pre_PreUpRefIdeal (m : (ℓ : Loc Cert.PreUpRefIdeal.nD Cert.PreUpRefIdeal.τ Cert.PreUpRefIdeal.sig) → Buf (Elt Ideal) ℓ) : Prop :=
  True

def Pre_PreMm (m : (ℓ : Loc Cert.PreMm.nD Cert.PreMm.τ Cert.PreMm.sig) → Buf (Elt Bits) ℓ) : Prop :=
  True

def Pre_PreMmIdeal (m : (ℓ : Loc Cert.PreMmIdeal.nD Cert.PreMmIdeal.τ Cert.PreMmIdeal.sig) → Buf (Elt Ideal) ℓ) : Prop :=
  True

def Pre_PreMmRefIdeal (m : (ℓ : Loc Cert.PreMmRefIdeal.nD Cert.PreMmRefIdeal.τ Cert.PreMmRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_MmLoss (m : (ℓ : Loc Cert.MmLoss.nD Cert.MmLoss.τ Cert.MmLoss.sig) → Buf (Elt Bits) ℓ) : Prop :=
  True

def Pre_MmLossIdeal (m : (ℓ : Loc Cert.MmLossIdeal.nD Cert.MmLossIdeal.τ Cert.MmLossIdeal.sig) → Buf (Elt Ideal) ℓ) : Prop :=
  True

def Pre_MmLossRefIdeal (m : (ℓ : Loc Cert.MmLossRefIdeal.nD Cert.MmLossRefIdeal.τ Cert.MmLossRefIdeal.sig) → Buf (Elt Ideal) ℓ) : Prop :=
  True

def Pre_RecOut (m : (ℓ : Loc Cert.RecOut.nD Cert.RecOut.τ Cert.RecOut.sig) → Buf (Elt Bits) ℓ) : Prop :=
  True

def Pre_RecOutIdeal (m : (ℓ : Loc Cert.RecOutIdeal.nD Cert.RecOutIdeal.τ Cert.RecOutIdeal.sig) → Buf (Elt Ideal) ℓ) : Prop :=
  True

def Pre_RecOutRefIdeal (m : (ℓ : Loc Cert.RecOutRefIdeal.nD Cert.RecOutRefIdeal.τ Cert.RecOutRefIdeal.sig) → Buf (Elt Ideal) ℓ) : Prop :=
  True

def Pre_AttOut (m : (ℓ : Loc Cert.AttOut.nD Cert.AttOut.τ Cert.AttOut.sig) → Buf (Elt Bits) ℓ) : Prop :=
  True

def Pre_AttOutIdeal (m : (ℓ : Loc Cert.AttOutIdeal.nD Cert.AttOutIdeal.τ Cert.AttOutIdeal.sig) → Buf (Elt Ideal) ℓ) : Prop :=
  True

def Pre_AttOutRefIdeal (m : (ℓ : Loc Cert.AttOutRefIdeal.nD Cert.AttOutRefIdeal.τ Cert.AttOutRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdRefIdeal (m : (ℓ : Loc Cert.AdaBwdRefIdeal.nD Cert.AdaBwdRefIdeal.τ Cert.AdaBwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_ScanBwd [hScanBwd : Cert.ScanBwd.Facts] : Prop :=
  ∀ (m : (ℓ : Loc Cert.ScanBwd.nD Cert.ScanBwd.τ Cert.ScanBwd.sig) → Buf (Elt Bits) ℓ) (g : Dev Cert.ScanBwd.nD → PrngReg), Pre_ScanBwd m →
    θ_run (Cert.ScanBwd.defs (F := Bits)) (onTc (τ := Cert.ScanBwd.τ) (Cert.ScanBwd.main (F := Bits))) ⟨m, fun _ => 0, g⟩ (fun r => (∀ c : Dev Cert.ScanBwd.nD,
      r.2.mem ((c.tc : Thread Cert.ScanBwd.nD Cert.ScanBwd.τ).loc Cert.ScanBwd.main_arg0) = m ((c.tc : Thread Cert.ScanBwd.nD Cert.ScanBwd.τ).loc Cert.ScanBwd.main_arg0)
      ∧ r.2.mem ((c.tc : Thread Cert.ScanBwd.nD Cert.ScanBwd.τ).loc Cert.ScanBwd.main_arg1) = m ((c.tc : Thread Cert.ScanBwd.nD Cert.ScanBwd.τ).loc Cert.ScanBwd.main_arg1)
      ∧ r.2.mem ((c.tc : Thread Cert.ScanBwd.nD Cert.ScanBwd.τ).loc Cert.ScanBwd.main_arg2) = m ((c.tc : Thread Cert.ScanBwd.nD Cert.ScanBwd.τ).loc Cert.ScanBwd.main_arg2))
      ∧ r.2.sem = fun _ => 0)

def quiescent_ScanBwdIdeal [hScanBwdIdeal : Cert.ScanBwdIdeal.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg), Pre_ScanBwdIdeal m →
    θ_run (Cert.ScanBwdIdeal.defs (F := Ideal)) (onTc (τ := Cert.ScanBwdIdeal.τ) (Cert.ScanBwdIdeal.main (F := Ideal))) ⟨m, fun _ => 0, g⟩ (fun r => (∀ c : Dev Cert.ScanBwdIdeal.nD,
      r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
      ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
      ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2))
      ∧ r.2.sem = fun _ => 0)

def quiescent_ScanBwdRefIdeal [hScanBwdRefIdeal : Cert.ScanBwdRefIdeal.Facts] : Prop :=
  ∀ (m : (ℓ : Loc Cert.ScanBwdRefIdeal.nD Cert.ScanBwdRefIdeal.τ Cert.ScanBwdRefIdeal.sig) → Buf (Elt Ideal) ℓ) (g : Dev Cert.ScanBwdRefIdeal.nD → PrngReg), Pre_ScanBwdRefIdeal m →
    θ_run (Cert.ScanBwdRefIdeal.defs (F := Ideal)) (onTc (τ := Cert.ScanBwdRefIdeal.τ) (Cert.ScanBwdRefIdeal.main (F := Ideal))) ⟨m, fun _ => 0, g⟩ (fun r => (∀ c : Dev Cert.ScanBwdRefIdeal.nD,
      r.2.mem ((c.tc : Thread Cert.ScanBwdRefIdeal.nD Cert.ScanBwdRefIdeal.τ).loc Cert.ScanBwdRefIdeal.main_arg0) = m ((c.tc : Thread Cert.ScanBwdRefIdeal.nD Cert.ScanBwdRefIdeal.τ).loc Cert.ScanBwdRefIdeal.main_arg0)
      ∧ r.2.mem ((c.tc : Thread Cert.ScanBwdRefIdeal.nD Cert.ScanBwdRefIdeal.τ).loc Cert.ScanBwdRefIdeal.main_arg1) = m ((c.tc : Thread Cert.ScanBwdRefIdeal.nD Cert.ScanBwdRefIdeal.τ).loc Cert.ScanBwdRefIdeal.main_arg1)
      ∧ r.2.mem ((c.tc : Thread Cert.ScanBwdRefIdeal.nD Cert.ScanBwdRefIdeal.τ).loc Cert.ScanBwdRefIdeal.main_arg2) = m ((c.tc : Thread Cert.ScanBwdRefIdeal.nD Cert.ScanBwdRefIdeal.τ).loc Cert.ScanBwdRefIdeal.main_arg2))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3)
      ∧ r.2.mem ((c.tc : Thread Cert.FfnDh.nD Cert.FfnDh.τ).loc Cert.FfnDh.main_arg4) = m ((c.tc : Thread Cert.FfnDh.nD Cert.FfnDh.τ).loc Cert.FfnDh.main_arg4)
      ∧ r.2.mem ((c.tc : Thread Cert.FfnDh.nD Cert.FfnDh.τ).loc Cert.FfnDh.main_arg5) = m ((c.tc : Thread Cert.FfnDh.nD Cert.FfnDh.τ).loc Cert.FfnDh.main_arg5)
      ∧ r.2.mem ((c.tc : Thread Cert.FfnDh.nD Cert.FfnDh.τ).loc Cert.FfnDh.main_arg6) = m ((c.tc : Thread Cert.FfnDh.nD Cert.FfnDh.τ).loc Cert.FfnDh.main_arg6))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
      ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
      ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3)
      ∧ r.2.mem ((c.tc : Thread Cert.FfnDhRefIdeal.nD Cert.FfnDhRefIdeal.τ).loc Cert.FfnDhRefIdeal.main_arg4) = m ((c.tc : Thread Cert.FfnDhRefIdeal.nD Cert.FfnDhRefIdeal.τ).loc Cert.FfnDhRefIdeal.main_arg4)
      ∧ r.2.mem ((c.tc : Thread Cert.FfnDhRefIdeal.nD Cert.FfnDhRefIdeal.τ).loc Cert.FfnDhRefIdeal.main_arg5) = m ((c.tc : Thread Cert.FfnDhRefIdeal.nD Cert.FfnDhRefIdeal.τ).loc Cert.FfnDhRefIdeal.main_arg5)
      ∧ r.2.mem ((c.tc : Thread Cert.FfnDhRefIdeal.nD Cert.FfnDhRefIdeal.τ).loc Cert.FfnDhRefIdeal.main_arg6) = m ((c.tc : Thread Cert.FfnDhRefIdeal.nD Cert.FfnDhRefIdeal.τ).loc Cert.FfnDhRefIdeal.main_arg6))
      ∧ r.2.sem = fun _ => 0)

def quiescent_MixDh [hMixDh : Cert.MixDh.Facts] : Prop :=
  ∀ (m : (ℓ : Loc Cert.MixDh.nD Cert.MixDh.τ Cert.MixDh.sig) → Buf (Elt Bits) ℓ) (g : Dev Cert.MixDh.nD → PrngReg), Pre_MixDh m →
    θ_run (Cert.MixDh.defs (F := Bits)) (onTc (τ := Cert.MixDh.τ) (Cert.MixDh.main (F := Bits))) ⟨m, fun _ => 0, g⟩ (fun r => (∀ c : Dev Cert.MixDh.nD,
      r.2.mem ((c.tc : Thread Cert.MixDh.nD Cert.MixDh.τ).loc Cert.MixDh.main_arg0) = m ((c.tc : Thread Cert.MixDh.nD Cert.MixDh.τ).loc Cert.MixDh.main_arg0)
      ∧ r.2.mem ((c.tc : Thread Cert.MixDh.nD Cert.MixDh.τ).loc Cert.MixDh.main_arg1) = m ((c.tc : Thread Cert.MixDh.nD Cert.MixDh.τ).loc Cert.MixDh.main_arg1)
      ∧ r.2.mem ((c.tc : Thread Cert.MixDh.nD Cert.MixDh.τ).loc Cert.MixDh.main_arg2) = m ((c.tc : Thread Cert.MixDh.nD Cert.MixDh.τ).loc Cert.MixDh.main_arg2)
      ∧ r.2.mem ((c.tc : Thread Cert.MixDh.nD Cert.MixDh.τ).loc Cert.MixDh.main_arg3) = m ((c.tc : Thread Cert.MixDh.nD Cert.MixDh.τ).loc Cert.MixDh.main_arg3)
      ∧ r.2.mem ((c.tc : Thread Cert.MixDh.nD Cert.MixDh.τ).loc Cert.MixDh.main_arg4) = m ((c.tc : Thread Cert.MixDh.nD Cert.MixDh.τ).loc Cert.MixDh.main_arg4)
      ∧ r.2.mem ((c.tc : Thread Cert.MixDh.nD Cert.MixDh.τ).loc Cert.MixDh.main_arg5) = m ((c.tc : Thread Cert.MixDh.nD Cert.MixDh.τ).loc Cert.MixDh.main_arg5)
      ∧ r.2.mem ((c.tc : Thread Cert.MixDh.nD Cert.MixDh.τ).loc Cert.MixDh.main_arg6) = m ((c.tc : Thread Cert.MixDh.nD Cert.MixDh.τ).loc Cert.MixDh.main_arg6))
      ∧ r.2.sem = fun _ => 0)

def quiescent_MixDhIdeal [hMixDhIdeal : Cert.MixDhIdeal.Facts] : Prop :=
  ∀ (m : (ℓ : Loc Cert.MixDhIdeal.nD Cert.MixDhIdeal.τ Cert.MixDhIdeal.sig) → Buf (Elt Ideal) ℓ) (g : Dev Cert.MixDhIdeal.nD → PrngReg), Pre_MixDhIdeal m →
    θ_run (Cert.MixDhIdeal.defs (F := Ideal)) (onTc (τ := Cert.MixDhIdeal.τ) (Cert.MixDhIdeal.main (F := Ideal))) ⟨m, fun _ => 0, g⟩ (fun r => (∀ c : Dev Cert.MixDhIdeal.nD,
      r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
      ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1)
      ∧ r.2.mem ((c.tc : Thread Cert.MixDhIdeal.nD Cert.MixDhIdeal.τ).loc Cert.MixDhIdeal.main_arg2) = m ((c.tc : Thread Cert.MixDhIdeal.nD Cert.MixDhIdeal.τ).loc Cert.MixDhIdeal.main_arg2)
      ∧ r.2.mem ((c.tc : Thread Cert.MixDhIdeal.nD Cert.MixDhIdeal.τ).loc Cert.MixDhIdeal.main_arg3) = m ((c.tc : Thread Cert.MixDhIdeal.nD Cert.MixDhIdeal.τ).loc Cert.MixDhIdeal.main_arg3)
      ∧ r.2.mem ((c.tc : Thread Cert.MixDhIdeal.nD Cert.MixDhIdeal.τ).loc Cert.MixDhIdeal.main_arg4) = m ((c.tc : Thread Cert.MixDhIdeal.nD Cert.MixDhIdeal.τ).loc Cert.MixDhIdeal.main_arg4)
      ∧ r.2.mem ((c.tc : Thread Cert.MixDhIdeal.nD Cert.MixDhIdeal.τ).loc Cert.MixDhIdeal.main_arg5) = m ((c.tc : Thread Cert.MixDhIdeal.nD Cert.MixDhIdeal.τ).loc Cert.MixDhIdeal.main_arg5)
      ∧ r.2.mem ((c.tc : Thread Cert.MixDhIdeal.nD Cert.MixDhIdeal.τ).loc Cert.MixDhIdeal.main_arg6) = m ((c.tc : Thread Cert.MixDhIdeal.nD Cert.MixDhIdeal.τ).loc Cert.MixDhIdeal.main_arg6))
      ∧ r.2.sem = fun _ => 0)

def quiescent_MixDhRefIdeal [hMixDhRefIdeal : Cert.MixDhRefIdeal.Facts] : Prop :=
  ∀ (m : (ℓ : Loc Cert.MixDhRefIdeal.nD Cert.MixDhRefIdeal.τ Cert.MixDhRefIdeal.sig) → Buf (Elt Ideal) ℓ) (g : Dev Cert.MixDhRefIdeal.nD → PrngReg), Pre_MixDhRefIdeal m →
    θ_run (Cert.MixDhRefIdeal.defs (F := Ideal)) (onTc (τ := Cert.MixDhRefIdeal.τ) (Cert.MixDhRefIdeal.main (F := Ideal))) ⟨m, fun _ => 0, g⟩ (fun r => (∀ c : Dev Cert.MixDhRefIdeal.nD,
      r.2.mem ((c.tc : Thread Cert.MixDhRefIdeal.nD Cert.MixDhRefIdeal.τ).loc Cert.MixDhRefIdeal.main_arg0) = m ((c.tc : Thread Cert.MixDhRefIdeal.nD Cert.MixDhRefIdeal.τ).loc Cert.MixDhRefIdeal.main_arg0)
      ∧ r.2.mem ((c.tc : Thread Cert.MixDhRefIdeal.nD Cert.MixDhRefIdeal.τ).loc Cert.MixDhRefIdeal.main_arg1) = m ((c.tc : Thread Cert.MixDhRefIdeal.nD Cert.MixDhRefIdeal.τ).loc Cert.MixDhRefIdeal.main_arg1)
      ∧ r.2.mem ((c.tc : Thread Cert.MixDhRefIdeal.nD Cert.MixDhRefIdeal.τ).loc Cert.MixDhRefIdeal.main_arg2) = m ((c.tc : Thread Cert.MixDhRefIdeal.nD Cert.MixDhRefIdeal.τ).loc Cert.MixDhRefIdeal.main_arg2)
      ∧ r.2.mem ((c.tc : Thread Cert.MixDhRefIdeal.nD Cert.MixDhRefIdeal.τ).loc Cert.MixDhRefIdeal.main_arg3) = m ((c.tc : Thread Cert.MixDhRefIdeal.nD Cert.MixDhRefIdeal.τ).loc Cert.MixDhRefIdeal.main_arg3)
      ∧ r.2.mem ((c.tc : Thread Cert.MixDhRefIdeal.nD Cert.MixDhRefIdeal.τ).loc Cert.MixDhRefIdeal.main_arg4) = m ((c.tc : Thread Cert.MixDhRefIdeal.nD Cert.MixDhRefIdeal.τ).loc Cert.MixDhRefIdeal.main_arg4)
      ∧ r.2.mem ((c.tc : Thread Cert.MixDhRefIdeal.nD Cert.MixDhRefIdeal.τ).loc Cert.MixDhRefIdeal.main_arg5) = m ((c.tc : Thread Cert.MixDhRefIdeal.nD Cert.MixDhRefIdeal.τ).loc Cert.MixDhRefIdeal.main_arg5)
      ∧ r.2.mem ((c.tc : Thread Cert.MixDhRefIdeal.nD Cert.MixDhRefIdeal.τ).loc Cert.MixDhRefIdeal.main_arg6) = m ((c.tc : Thread Cert.MixDhRefIdeal.nD Cert.MixDhRefIdeal.τ).loc Cert.MixDhRefIdeal.main_arg6))
      ∧ r.2.sem = fun _ => 0)

def quiescent_DwGu [hDwGu : Cert.DwGu.Facts] : Prop :=
  ∀ (m : (ℓ : Loc Cert.DwGu.nD Cert.DwGu.τ Cert.DwGu.sig) → Buf (Elt Bits) ℓ) (g : Dev Cert.DwGu.nD → PrngReg), Pre_DwGu m →
    θ_run (Cert.DwGu.defs (F := Bits)) (onTc (τ := Cert.DwGu.τ) (Cert.DwGu.main (F := Bits))) ⟨m, fun _ => 0, g⟩ (fun r => (∀ c : Dev Cert.DwGu.nD,
      r.2.mem ((c.tc : Thread Cert.DwGu.nD Cert.DwGu.τ).loc Cert.DwGu.main_arg0) = m ((c.tc : Thread Cert.DwGu.nD Cert.DwGu.τ).loc Cert.DwGu.main_arg0)
      ∧ r.2.mem ((c.tc : Thread Cert.DwGu.nD Cert.DwGu.τ).loc Cert.DwGu.main_arg1) = m ((c.tc : Thread Cert.DwGu.nD Cert.DwGu.τ).loc Cert.DwGu.main_arg1))
      ∧ r.2.sem = fun _ => 0)

def quiescent_DwGuIdeal [hDwGuIdeal : Cert.DwGuIdeal.Facts] : Prop :=
  ∀ (m : (ℓ : Loc Cert.DwGuIdeal.nD Cert.DwGuIdeal.τ Cert.DwGuIdeal.sig) → Buf (Elt Ideal) ℓ) (g : Dev Cert.DwGuIdeal.nD → PrngReg), Pre_DwGuIdeal m →
    θ_run (Cert.DwGuIdeal.defs (F := Ideal)) (onTc (τ := Cert.DwGuIdeal.τ) (Cert.DwGuIdeal.main (F := Ideal))) ⟨m, fun _ => 0, g⟩ (fun r => (∀ c : Dev Cert.DwGuIdeal.nD,
      r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
      ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ r.2.sem = fun _ => 0)

def quiescent_DwGuRefIdeal [hDwGuRefIdeal : Cert.DwGuRefIdeal.Facts] : Prop :=
  ∀ (m : (ℓ : Loc Cert.DwGuRefIdeal.nD Cert.DwGuRefIdeal.τ Cert.DwGuRefIdeal.sig) → Buf (Elt Ideal) ℓ) (g : Dev Cert.DwGuRefIdeal.nD → PrngReg), Pre_DwGuRefIdeal m →
    θ_run (Cert.DwGuRefIdeal.defs (F := Ideal)) (onTc (τ := Cert.DwGuRefIdeal.τ) (Cert.DwGuRefIdeal.main (F := Ideal))) ⟨m, fun _ => 0, g⟩ (fun r => (∀ c : Dev Cert.DwGuRefIdeal.nD,
      r.2.mem ((c.tc : Thread Cert.DwGuRefIdeal.nD Cert.DwGuRefIdeal.τ).loc Cert.DwGuRefIdeal.main_arg0) = m ((c.tc : Thread Cert.DwGuRefIdeal.nD Cert.DwGuRefIdeal.τ).loc Cert.DwGuRefIdeal.main_arg0)
      ∧ r.2.mem ((c.tc : Thread Cert.DwGuRefIdeal.nD Cert.DwGuRefIdeal.τ).loc Cert.DwGuRefIdeal.main_arg1) = m ((c.tc : Thread Cert.DwGuRefIdeal.nD Cert.DwGuRefIdeal.τ).loc Cert.DwGuRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7))
      ∧ r.2.sem = fun _ => 0)

def quiescent_RecinBwd [hRecinBwd : Cert.RecinBwd.Facts] : Prop :=
  ∀ (m : (ℓ : Loc Cert.RecinBwd.nD Cert.RecinBwd.τ Cert.RecinBwd.sig) → Buf (Elt Bits) ℓ) (g : Dev Cert.RecinBwd.nD → PrngReg), Pre_RecinBwd m →
    θ_run (Cert.RecinBwd.defs (F := Bits)) (onTc (τ := Cert.RecinBwd.τ) (Cert.RecinBwd.main (F := Bits))) ⟨m, fun _ => 0, g⟩ (fun r => (∀ c : Dev Cert.RecinBwd.nD,
      r.2.mem ((c.tc : Thread Cert.RecinBwd.nD Cert.RecinBwd.τ).loc Cert.RecinBwd.main_arg0) = m ((c.tc : Thread Cert.RecinBwd.nD Cert.RecinBwd.τ).loc Cert.RecinBwd.main_arg0)
      ∧ r.2.mem ((c.tc : Thread Cert.RecinBwd.nD Cert.RecinBwd.τ).loc Cert.RecinBwd.main_arg1) = m ((c.tc : Thread Cert.RecinBwd.nD Cert.RecinBwd.τ).loc Cert.RecinBwd.main_arg1)
      ∧ r.2.mem ((c.tc : Thread Cert.RecinBwd.nD Cert.RecinBwd.τ).loc Cert.RecinBwd.main_arg2) = m ((c.tc : Thread Cert.RecinBwd.nD Cert.RecinBwd.τ).loc Cert.RecinBwd.main_arg2)
      ∧ r.2.mem ((c.tc : Thread Cert.RecinBwd.nD Cert.RecinBwd.τ).loc Cert.RecinBwd.main_arg3) = m ((c.tc : Thread Cert.RecinBwd.nD Cert.RecinBwd.τ).loc Cert.RecinBwd.main_arg3))
      ∧ r.2.sem = fun _ => 0)

def quiescent_RecinBwdIdeal [hRecinBwdIdeal : Cert.RecinBwdIdeal.Facts] : Prop :=
  ∀ (m : (ℓ : Loc Cert.RecinBwdIdeal.nD Cert.RecinBwdIdeal.τ Cert.RecinBwdIdeal.sig) → Buf (Elt Ideal) ℓ) (g : Dev Cert.RecinBwdIdeal.nD → PrngReg), Pre_RecinBwdIdeal m →
    θ_run (Cert.RecinBwdIdeal.defs (F := Ideal)) (onTc (τ := Cert.RecinBwdIdeal.τ) (Cert.RecinBwdIdeal.main (F := Ideal))) ⟨m, fun _ => 0, g⟩ (fun r => (∀ c : Dev Cert.RecinBwdIdeal.nD,
      r.2.mem ((c.tc : Thread Cert.RecinBwdIdeal.nD Cert.RecinBwdIdeal.τ).loc Cert.RecinBwdIdeal.main_arg0) = m ((c.tc : Thread Cert.RecinBwdIdeal.nD Cert.RecinBwdIdeal.τ).loc Cert.RecinBwdIdeal.main_arg0)
      ∧ r.2.mem ((c.tc : Thread Cert.RecinBwdIdeal.nD Cert.RecinBwdIdeal.τ).loc Cert.RecinBwdIdeal.main_arg1) = m ((c.tc : Thread Cert.RecinBwdIdeal.nD Cert.RecinBwdIdeal.τ).loc Cert.RecinBwdIdeal.main_arg1)
      ∧ r.2.mem ((c.tc : Thread Cert.RecinBwdIdeal.nD Cert.RecinBwdIdeal.τ).loc Cert.RecinBwdIdeal.main_arg2) = m ((c.tc : Thread Cert.RecinBwdIdeal.nD Cert.RecinBwdIdeal.τ).loc Cert.RecinBwdIdeal.main_arg2)
      ∧ r.2.mem ((c.tc : Thread Cert.RecinBwdIdeal.nD Cert.RecinBwdIdeal.τ).loc Cert.RecinBwdIdeal.main_arg3) = m ((c.tc : Thread Cert.RecinBwdIdeal.nD Cert.RecinBwdIdeal.τ).loc Cert.RecinBwdIdeal.main_arg3))
      ∧ r.2.sem = fun _ => 0)

def quiescent_RecinBwdRefIdeal [hRecinBwdRefIdeal : Cert.RecinBwdRefIdeal.Facts] : Prop :=
  ∀ (m : (ℓ : Loc Cert.RecinBwdRefIdeal.nD Cert.RecinBwdRefIdeal.τ Cert.RecinBwdRefIdeal.sig) → Buf (Elt Ideal) ℓ) (g : Dev Cert.RecinBwdRefIdeal.nD → PrngReg), Pre_RecinBwdRefIdeal m →
    θ_run (Cert.RecinBwdRefIdeal.defs (F := Ideal)) (onTc (τ := Cert.RecinBwdRefIdeal.τ) (Cert.RecinBwdRefIdeal.main (F := Ideal))) ⟨m, fun _ => 0, g⟩ (fun r => (∀ c : Dev Cert.RecinBwdRefIdeal.nD,
      r.2.mem ((c.tc : Thread Cert.RecinBwdRefIdeal.nD Cert.RecinBwdRefIdeal.τ).loc Cert.RecinBwdRefIdeal.main_arg0) = m ((c.tc : Thread Cert.RecinBwdRefIdeal.nD Cert.RecinBwdRefIdeal.τ).loc Cert.RecinBwdRefIdeal.main_arg0)
      ∧ r.2.mem ((c.tc : Thread Cert.RecinBwdRefIdeal.nD Cert.RecinBwdRefIdeal.τ).loc Cert.RecinBwdRefIdeal.main_arg1) = m ((c.tc : Thread Cert.RecinBwdRefIdeal.nD Cert.RecinBwdRefIdeal.τ).loc Cert.RecinBwdRefIdeal.main_arg1)
      ∧ r.2.mem ((c.tc : Thread Cert.RecinBwdRefIdeal.nD Cert.RecinBwdRefIdeal.τ).loc Cert.RecinBwdRefIdeal.main_arg2) = m ((c.tc : Thread Cert.RecinBwdRefIdeal.nD Cert.RecinBwdRefIdeal.τ).loc Cert.RecinBwdRefIdeal.main_arg2)
      ∧ r.2.mem ((c.tc : Thread Cert.RecinBwdRefIdeal.nD Cert.RecinBwdRefIdeal.τ).loc Cert.RecinBwdRefIdeal.main_arg3) = m ((c.tc : Thread Cert.RecinBwdRefIdeal.nD Cert.RecinBwdRefIdeal.τ).loc Cert.RecinBwdRefIdeal.main_arg3))
      ∧ r.2.sem = fun _ => 0)

def quiescent_MmPost [hMmPost : Cert.MmPost.Facts] : Prop :=
  ∀ (m : (ℓ : Loc Cert.MmPost.nD Cert.MmPost.τ Cert.MmPost.sig) → Buf (Elt Bits) ℓ) (g : Dev Cert.MmPost.nD → PrngReg), Pre_MmPost m →
    θ_run (Cert.MmPost.defs (F := Bits)) (onTc (τ := Cert.MmPost.τ) (Cert.MmPost.main (F := Bits))) ⟨m, fun _ => 0, g⟩ (fun r => (∀ c : Dev Cert.MmPost.nD,
      r.2.mem ((c.tc : Thread Cert.MmPost.nD Cert.MmPost.τ).loc Cert.MmPost.main_arg0) = m ((c.tc : Thread Cert.MmPost.nD Cert.MmPost.τ).loc Cert.MmPost.main_arg0)
      ∧ r.2.mem ((c.tc : Thread Cert.MmPost.nD Cert.MmPost.τ).loc Cert.MmPost.main_arg1) = m ((c.tc : Thread Cert.MmPost.nD Cert.MmPost.τ).loc Cert.MmPost.main_arg1)
      ∧ r.2.mem ((c.tc : Thread Cert.MmPost.nD Cert.MmPost.τ).loc Cert.MmPost.main_arg2) = m ((c.tc : Thread Cert.MmPost.nD Cert.MmPost.τ).loc Cert.MmPost.main_arg2)
      ∧ r.2.mem ((c.tc : Thread Cert.MmPost.nD Cert.MmPost.τ).loc Cert.MmPost.main_arg3) = m ((c.tc : Thread Cert.MmPost.nD Cert.MmPost.τ).loc Cert.MmPost.main_arg3)
      ∧ r.2.mem ((c.tc : Thread Cert.MmPost.nD Cert.MmPost.τ).loc Cert.MmPost.main_arg4) = m ((c.tc : Thread Cert.MmPost.nD Cert.MmPost.τ).loc Cert.MmPost.main_arg4))
      ∧ r.2.sem = fun _ => 0)

def quiescent_MmPostIdeal [hMmPostIdeal : Cert.MmPostIdeal.Facts] : Prop :=
  ∀ (m : (ℓ : Loc Cert.MmPostIdeal.nD Cert.MmPostIdeal.τ Cert.MmPostIdeal.sig) → Buf (Elt Ideal) ℓ) (g : Dev Cert.MmPostIdeal.nD → PrngReg), Pre_MmPostIdeal m →
    θ_run (Cert.MmPostIdeal.defs (F := Ideal)) (onTc (τ := Cert.MmPostIdeal.τ) (Cert.MmPostIdeal.main (F := Ideal))) ⟨m, fun _ => 0, g⟩ (fun r => (∀ c : Dev Cert.MmPostIdeal.nD,
      r.2.mem ((c.tc : Thread Cert.MmPostIdeal.nD Cert.MmPostIdeal.τ).loc Cert.MmPostIdeal.main_arg0) = m ((c.tc : Thread Cert.MmPostIdeal.nD Cert.MmPostIdeal.τ).loc Cert.MmPostIdeal.main_arg0)
      ∧ r.2.mem ((c.tc : Thread Cert.MmPostIdeal.nD Cert.MmPostIdeal.τ).loc Cert.MmPostIdeal.main_arg1) = m ((c.tc : Thread Cert.MmPostIdeal.nD Cert.MmPostIdeal.τ).loc Cert.MmPostIdeal.main_arg1)
      ∧ r.2.mem ((c.tc : Thread Cert.MmPostIdeal.nD Cert.MmPostIdeal.τ).loc Cert.MmPostIdeal.main_arg2) = m ((c.tc : Thread Cert.MmPostIdeal.nD Cert.MmPostIdeal.τ).loc Cert.MmPostIdeal.main_arg2)
      ∧ r.2.mem ((c.tc : Thread Cert.MmPostIdeal.nD Cert.MmPostIdeal.τ).loc Cert.MmPostIdeal.main_arg3) = m ((c.tc : Thread Cert.MmPostIdeal.nD Cert.MmPostIdeal.τ).loc Cert.MmPostIdeal.main_arg3)
      ∧ r.2.mem ((c.tc : Thread Cert.MmPostIdeal.nD Cert.MmPostIdeal.τ).loc Cert.MmPostIdeal.main_arg4) = m ((c.tc : Thread Cert.MmPostIdeal.nD Cert.MmPostIdeal.τ).loc Cert.MmPostIdeal.main_arg4))
      ∧ r.2.sem = fun _ => 0)

def quiescent_MmPostRefIdeal [hMmPostRefIdeal : Cert.MmPostRefIdeal.Facts] : Prop :=
  ∀ (m : (ℓ : Loc Cert.MmPostRefIdeal.nD Cert.MmPostRefIdeal.τ Cert.MmPostRefIdeal.sig) → Buf (Elt Ideal) ℓ) (g : Dev Cert.MmPostRefIdeal.nD → PrngReg), Pre_MmPostRefIdeal m →
    θ_run (Cert.MmPostRefIdeal.defs (F := Ideal)) (onTc (τ := Cert.MmPostRefIdeal.τ) (Cert.MmPostRefIdeal.main (F := Ideal))) ⟨m, fun _ => 0, g⟩ (fun r => (∀ c : Dev Cert.MmPostRefIdeal.nD,
      r.2.mem ((c.tc : Thread Cert.MmPostRefIdeal.nD Cert.MmPostRefIdeal.τ).loc Cert.MmPostRefIdeal.main_arg0) = m ((c.tc : Thread Cert.MmPostRefIdeal.nD Cert.MmPostRefIdeal.τ).loc Cert.MmPostRefIdeal.main_arg0)
      ∧ r.2.mem ((c.tc : Thread Cert.MmPostRefIdeal.nD Cert.MmPostRefIdeal.τ).loc Cert.MmPostRefIdeal.main_arg1) = m ((c.tc : Thread Cert.MmPostRefIdeal.nD Cert.MmPostRefIdeal.τ).loc Cert.MmPostRefIdeal.main_arg1)
      ∧ r.2.mem ((c.tc : Thread Cert.MmPostRefIdeal.nD Cert.MmPostRefIdeal.τ).loc Cert.MmPostRefIdeal.main_arg2) = m ((c.tc : Thread Cert.MmPostRefIdeal.nD Cert.MmPostRefIdeal.τ).loc Cert.MmPostRefIdeal.main_arg2)
      ∧ r.2.mem ((c.tc : Thread Cert.MmPostRefIdeal.nD Cert.MmPostRefIdeal.τ).loc Cert.MmPostRefIdeal.main_arg3) = m ((c.tc : Thread Cert.MmPostRefIdeal.nD Cert.MmPostRefIdeal.τ).loc Cert.MmPostRefIdeal.main_arg3)
      ∧ r.2.mem ((c.tc : Thread Cert.MmPostRefIdeal.nD Cert.MmPostRefIdeal.τ).loc Cert.MmPostRefIdeal.main_arg4) = m ((c.tc : Thread Cert.MmPostRefIdeal.nD Cert.MmPostRefIdeal.τ).loc Cert.MmPostRefIdeal.main_arg4))
      ∧ r.2.sem = fun _ => 0)

def quiescent_MergePost [hMergePost : Cert.MergePost.Facts] : Prop :=
  ∀ (m : (ℓ : Loc Cert.MergePost.nD Cert.MergePost.τ Cert.MergePost.sig) → Buf (Elt Bits) ℓ) (g : Dev Cert.MergePost.nD → PrngReg), Pre_MergePost m →
    θ_run (Cert.MergePost.defs (F := Bits)) (onTc (τ := Cert.MergePost.τ) (Cert.MergePost.main (F := Bits))) ⟨m, fun _ => 0, g⟩ (fun r => (∀ c : Dev Cert.MergePost.nD,
      r.2.mem ((c.tc : Thread Cert.MergePost.nD Cert.MergePost.τ).loc Cert.MergePost.main_arg0) = m ((c.tc : Thread Cert.MergePost.nD Cert.MergePost.τ).loc Cert.MergePost.main_arg0)
      ∧ r.2.mem ((c.tc : Thread Cert.MergePost.nD Cert.MergePost.τ).loc Cert.MergePost.main_arg1) = m ((c.tc : Thread Cert.MergePost.nD Cert.MergePost.τ).loc Cert.MergePost.main_arg1)
      ∧ r.2.mem ((c.tc : Thread Cert.MergePost.nD Cert.MergePost.τ).loc Cert.MergePost.main_arg2) = m ((c.tc : Thread Cert.MergePost.nD Cert.MergePost.τ).loc Cert.MergePost.main_arg2)
      ∧ r.2.mem ((c.tc : Thread Cert.MergePost.nD Cert.MergePost.τ).loc Cert.MergePost.main_arg3) = m ((c.tc : Thread Cert.MergePost.nD Cert.MergePost.τ).loc Cert.MergePost.main_arg3)
      ∧ r.2.mem ((c.tc : Thread Cert.MergePost.nD Cert.MergePost.τ).loc Cert.MergePost.main_arg4) = m ((c.tc : Thread Cert.MergePost.nD Cert.MergePost.τ).loc Cert.MergePost.main_arg4)
      ∧ r.2.mem ((c.tc : Thread Cert.MergePost.nD Cert.MergePost.τ).loc Cert.MergePost.main_arg5) = m ((c.tc : Thread Cert.MergePost.nD Cert.MergePost.τ).loc Cert.MergePost.main_arg5)
      ∧ r.2.mem ((c.tc : Thread Cert.MergePost.nD Cert.MergePost.τ).loc Cert.MergePost.main_arg6) = m ((c.tc : Thread Cert.MergePost.nD Cert.MergePost.τ).loc Cert.MergePost.main_arg6))
      ∧ r.2.sem = fun _ => 0)

def quiescent_MergePostIdeal [hMergePostIdeal : Cert.MergePostIdeal.Facts] : Prop :=
  ∀ (m : (ℓ : Loc Cert.MergePostIdeal.nD Cert.MergePostIdeal.τ Cert.MergePostIdeal.sig) → Buf (Elt Ideal) ℓ) (g : Dev Cert.MergePostIdeal.nD → PrngReg), Pre_MergePostIdeal m →
    θ_run (Cert.MergePostIdeal.defs (F := Ideal)) (onTc (τ := Cert.MergePostIdeal.τ) (Cert.MergePostIdeal.main (F := Ideal))) ⟨m, fun _ => 0, g⟩ (fun r => (∀ c : Dev Cert.MergePostIdeal.nD,
      r.2.mem ((c.tc : Thread Cert.MergePostIdeal.nD Cert.MergePostIdeal.τ).loc Cert.MergePostIdeal.main_arg0) = m ((c.tc : Thread Cert.MergePostIdeal.nD Cert.MergePostIdeal.τ).loc Cert.MergePostIdeal.main_arg0)
      ∧ r.2.mem ((c.tc : Thread Cert.MergePostIdeal.nD Cert.MergePostIdeal.τ).loc Cert.MergePostIdeal.main_arg1) = m ((c.tc : Thread Cert.MergePostIdeal.nD Cert.MergePostIdeal.τ).loc Cert.MergePostIdeal.main_arg1)
      ∧ r.2.mem ((c.tc : Thread Cert.MergePostIdeal.nD Cert.MergePostIdeal.τ).loc Cert.MergePostIdeal.main_arg2) = m ((c.tc : Thread Cert.MergePostIdeal.nD Cert.MergePostIdeal.τ).loc Cert.MergePostIdeal.main_arg2)
      ∧ r.2.mem ((c.tc : Thread Cert.MergePostIdeal.nD Cert.MergePostIdeal.τ).loc Cert.MergePostIdeal.main_arg3) = m ((c.tc : Thread Cert.MergePostIdeal.nD Cert.MergePostIdeal.τ).loc Cert.MergePostIdeal.main_arg3)
      ∧ r.2.mem ((c.tc : Thread Cert.MergePostIdeal.nD Cert.MergePostIdeal.τ).loc Cert.MergePostIdeal.main_arg4) = m ((c.tc : Thread Cert.MergePostIdeal.nD Cert.MergePostIdeal.τ).loc Cert.MergePostIdeal.main_arg4)
      ∧ r.2.mem ((c.tc : Thread Cert.MergePostIdeal.nD Cert.MergePostIdeal.τ).loc Cert.MergePostIdeal.main_arg5) = m ((c.tc : Thread Cert.MergePostIdeal.nD Cert.MergePostIdeal.τ).loc Cert.MergePostIdeal.main_arg5)
      ∧ r.2.mem ((c.tc : Thread Cert.MergePostIdeal.nD Cert.MergePostIdeal.τ).loc Cert.MergePostIdeal.main_arg6) = m ((c.tc : Thread Cert.MergePostIdeal.nD Cert.MergePostIdeal.τ).loc Cert.MergePostIdeal.main_arg6))
      ∧ r.2.sem = fun _ => 0)

def quiescent_MergePostRefIdeal [hMergePostRefIdeal : Cert.MergePostRefIdeal.Facts] : Prop :=
  ∀ (m : (ℓ : Loc Cert.MergePostRefIdeal.nD Cert.MergePostRefIdeal.τ Cert.MergePostRefIdeal.sig) → Buf (Elt Ideal) ℓ) (g : Dev Cert.MergePostRefIdeal.nD → PrngReg), Pre_MergePostRefIdeal m →
    θ_run (Cert.MergePostRefIdeal.defs (F := Ideal)) (onTc (τ := Cert.MergePostRefIdeal.τ) (Cert.MergePostRefIdeal.main (F := Ideal))) ⟨m, fun _ => 0, g⟩ (fun r => (∀ c : Dev Cert.MergePostRefIdeal.nD,
      r.2.mem ((c.tc : Thread Cert.MergePostRefIdeal.nD Cert.MergePostRefIdeal.τ).loc Cert.MergePostRefIdeal.main_arg0) = m ((c.tc : Thread Cert.MergePostRefIdeal.nD Cert.MergePostRefIdeal.τ).loc Cert.MergePostRefIdeal.main_arg0)
      ∧ r.2.mem ((c.tc : Thread Cert.MergePostRefIdeal.nD Cert.MergePostRefIdeal.τ).loc Cert.MergePostRefIdeal.main_arg1) = m ((c.tc : Thread Cert.MergePostRefIdeal.nD Cert.MergePostRefIdeal.τ).loc Cert.MergePostRefIdeal.main_arg1)
      ∧ r.2.mem ((c.tc : Thread Cert.MergePostRefIdeal.nD Cert.MergePostRefIdeal.τ).loc Cert.MergePostRefIdeal.main_arg2) = m ((c.tc : Thread Cert.MergePostRefIdeal.nD Cert.MergePostRefIdeal.τ).loc Cert.MergePostRefIdeal.main_arg2)
      ∧ r.2.mem ((c.tc : Thread Cert.MergePostRefIdeal.nD Cert.MergePostRefIdeal.τ).loc Cert.MergePostRefIdeal.main_arg3) = m ((c.tc : Thread Cert.MergePostRefIdeal.nD Cert.MergePostRefIdeal.τ).loc Cert.MergePostRefIdeal.main_arg3)
      ∧ r.2.mem ((c.tc : Thread Cert.MergePostRefIdeal.nD Cert.MergePostRefIdeal.τ).loc Cert.MergePostRefIdeal.main_arg4) = m ((c.tc : Thread Cert.MergePostRefIdeal.nD Cert.MergePostRefIdeal.τ).loc Cert.MergePostRefIdeal.main_arg4)
      ∧ r.2.mem ((c.tc : Thread Cert.MergePostRefIdeal.nD Cert.MergePostRefIdeal.τ).loc Cert.MergePostRefIdeal.main_arg5) = m ((c.tc : Thread Cert.MergePostRefIdeal.nD Cert.MergePostRefIdeal.τ).loc Cert.MergePostRefIdeal.main_arg5)
      ∧ r.2.mem ((c.tc : Thread Cert.MergePostRefIdeal.nD Cert.MergePostRefIdeal.τ).loc Cert.MergePostRefIdeal.main_arg6) = m ((c.tc : Thread Cert.MergePostRefIdeal.nD Cert.MergePostRefIdeal.τ).loc Cert.MergePostRefIdeal.main_arg6))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DwRecO [hDwRecO : Cert.DwRecO.Facts] : Prop :=
  ∀ (m : (ℓ : Loc Cert.DwRecO.nD Cert.DwRecO.τ Cert.DwRecO.sig) → Buf (Elt Bits) ℓ) (g : Dev Cert.DwRecO.nD → PrngReg), Pre_DwRecO m →
    θ_run (Cert.DwRecO.defs (F := Bits)) (onTc (τ := Cert.DwRecO.τ) (Cert.DwRecO.main (F := Bits))) ⟨m, fun _ => 0, g⟩ (fun r => (∀ c : Dev Cert.DwRecO.nD,
      r.2.mem ((c.tc : Thread Cert.DwRecO.nD Cert.DwRecO.τ).loc Cert.DwRecO.main_arg0) = m ((c.tc : Thread Cert.DwRecO.nD Cert.DwRecO.τ).loc Cert.DwRecO.main_arg0)
      ∧ r.2.mem ((c.tc : Thread Cert.DwRecO.nD Cert.DwRecO.τ).loc Cert.DwRecO.main_arg1) = m ((c.tc : Thread Cert.DwRecO.nD Cert.DwRecO.τ).loc Cert.DwRecO.main_arg1))
      ∧ r.2.sem = fun _ => 0)

def quiescent_DwRecOIdeal [hDwRecOIdeal : Cert.DwRecOIdeal.Facts] : Prop :=
  ∀ (m : (ℓ : Loc Cert.DwRecOIdeal.nD Cert.DwRecOIdeal.τ Cert.DwRecOIdeal.sig) → Buf (Elt Ideal) ℓ) (g : Dev Cert.DwRecOIdeal.nD → PrngReg), Pre_DwRecOIdeal m →
    θ_run (Cert.DwRecOIdeal.defs (F := Ideal)) (onTc (τ := Cert.DwRecOIdeal.τ) (Cert.DwRecOIdeal.main (F := Ideal))) ⟨m, fun _ => 0, g⟩ (fun r => (∀ c : Dev Cert.DwRecOIdeal.nD,
      r.2.mem ((c.tc : Thread Cert.DwRecOIdeal.nD Cert.DwRecOIdeal.τ).loc Cert.DwRecOIdeal.main_arg0) = m ((c.tc : Thread Cert.DwRecOIdeal.nD Cert.DwRecOIdeal.τ).loc Cert.DwRecOIdeal.main_arg0)
      ∧ r.2.mem ((c.tc : Thread Cert.DwRecOIdeal.nD Cert.DwRecOIdeal.τ).loc Cert.DwRecOIdeal.main_arg1) = m ((c.tc : Thread Cert.DwRecOIdeal.nD Cert.DwRecOIdeal.τ).loc Cert.DwRecOIdeal.main_arg1))
      ∧ r.2.sem = fun _ => 0)

def quiescent_DwRecORefIdeal [hDwRecORefIdeal : Cert.DwRecORefIdeal.Facts] : Prop :=
  ∀ (m : (ℓ : Loc Cert.DwRecORefIdeal.nD Cert.DwRecORefIdeal.τ Cert.DwRecORefIdeal.sig) → Buf (Elt Ideal) ℓ) (g : Dev Cert.DwRecORefIdeal.nD → PrngReg), Pre_DwRecORefIdeal m →
    θ_run (Cert.DwRecORefIdeal.defs (F := Ideal)) (onTc (τ := Cert.DwRecORefIdeal.τ) (Cert.DwRecORefIdeal.main (F := Ideal))) ⟨m, fun _ => 0, g⟩ (fun r => (∀ c : Dev Cert.DwRecORefIdeal.nD,
      r.2.mem ((c.tc : Thread Cert.DwRecORefIdeal.nD Cert.DwRecORefIdeal.τ).loc Cert.DwRecORefIdeal.main_arg0) = m ((c.tc : Thread Cert.DwRecORefIdeal.nD Cert.DwRecORefIdeal.τ).loc Cert.DwRecORefIdeal.main_arg0)
      ∧ r.2.mem ((c.tc : Thread Cert.DwRecORefIdeal.nD Cert.DwRecORefIdeal.τ).loc Cert.DwRecORefIdeal.main_arg1) = m ((c.tc : Thread Cert.DwRecORefIdeal.nD Cert.DwRecORefIdeal.τ).loc Cert.DwRecORefIdeal.main_arg1))
      ∧ r.2.sem = fun _ => 0)

def quiescent_DwAttO [hDwAttO : Cert.DwAttO.Facts] : Prop :=
  ∀ (m : (ℓ : Loc Cert.DwAttO.nD Cert.DwAttO.τ Cert.DwAttO.sig) → Buf (Elt Bits) ℓ) (g : Dev Cert.DwAttO.nD → PrngReg), Pre_DwAttO m →
    θ_run (Cert.DwAttO.defs (F := Bits)) (onTc (τ := Cert.DwAttO.τ) (Cert.DwAttO.main (F := Bits))) ⟨m, fun _ => 0, g⟩ (fun r => (∀ c : Dev Cert.DwAttO.nD,
      r.2.mem ((c.tc : Thread Cert.DwAttO.nD Cert.DwAttO.τ).loc Cert.DwAttO.main_arg0) = m ((c.tc : Thread Cert.DwAttO.nD Cert.DwAttO.τ).loc Cert.DwAttO.main_arg0)
      ∧ r.2.mem ((c.tc : Thread Cert.DwAttO.nD Cert.DwAttO.τ).loc Cert.DwAttO.main_arg1) = m ((c.tc : Thread Cert.DwAttO.nD Cert.DwAttO.τ).loc Cert.DwAttO.main_arg1))
      ∧ r.2.sem = fun _ => 0)

def quiescent_DwAttOIdeal [hDwAttOIdeal : Cert.DwAttOIdeal.Facts] : Prop :=
  ∀ (m : (ℓ : Loc Cert.DwAttOIdeal.nD Cert.DwAttOIdeal.τ Cert.DwAttOIdeal.sig) → Buf (Elt Ideal) ℓ) (g : Dev Cert.DwAttOIdeal.nD → PrngReg), Pre_DwAttOIdeal m →
    θ_run (Cert.DwAttOIdeal.defs (F := Ideal)) (onTc (τ := Cert.DwAttOIdeal.τ) (Cert.DwAttOIdeal.main (F := Ideal))) ⟨m, fun _ => 0, g⟩ (fun r => (∀ c : Dev Cert.DwAttOIdeal.nD,
      r.2.mem ((c.tc : Thread Cert.DwAttOIdeal.nD Cert.DwAttOIdeal.τ).loc Cert.DwAttOIdeal.main_arg0) = m ((c.tc : Thread Cert.DwAttOIdeal.nD Cert.DwAttOIdeal.τ).loc Cert.DwAttOIdeal.main_arg0)
      ∧ r.2.mem ((c.tc : Thread Cert.DwAttOIdeal.nD Cert.DwAttOIdeal.τ).loc Cert.DwAttOIdeal.main_arg1) = m ((c.tc : Thread Cert.DwAttOIdeal.nD Cert.DwAttOIdeal.τ).loc Cert.DwAttOIdeal.main_arg1))
      ∧ r.2.sem = fun _ => 0)

def quiescent_DwAttORefIdeal [hDwAttORefIdeal : Cert.DwAttORefIdeal.Facts] : Prop :=
  ∀ (m : (ℓ : Loc Cert.DwAttORefIdeal.nD Cert.DwAttORefIdeal.τ Cert.DwAttORefIdeal.sig) → Buf (Elt Ideal) ℓ) (g : Dev Cert.DwAttORefIdeal.nD → PrngReg), Pre_DwAttORefIdeal m →
    θ_run (Cert.DwAttORefIdeal.defs (F := Ideal)) (onTc (τ := Cert.DwAttORefIdeal.τ) (Cert.DwAttORefIdeal.main (F := Ideal))) ⟨m, fun _ => 0, g⟩ (fun r => (∀ c : Dev Cert.DwAttORefIdeal.nD,
      r.2.mem ((c.tc : Thread Cert.DwAttORefIdeal.nD Cert.DwAttORefIdeal.τ).loc Cert.DwAttORefIdeal.main_arg0) = m ((c.tc : Thread Cert.DwAttORefIdeal.nD Cert.DwAttORefIdeal.τ).loc Cert.DwAttORefIdeal.main_arg0)
      ∧ r.2.mem ((c.tc : Thread Cert.DwAttORefIdeal.nD Cert.DwAttORefIdeal.τ).loc Cert.DwAttORefIdeal.main_arg1) = m ((c.tc : Thread Cert.DwAttORefIdeal.nD Cert.DwAttORefIdeal.τ).loc Cert.DwAttORefIdeal.main_arg1))
      ∧ r.2.sem = fun _ => 0)

def quiescent_PreUp [hPreUp : Cert.PreUp.Facts] : Prop :=
  ∀ (m : (ℓ : Loc Cert.PreUp.nD Cert.PreUp.τ Cert.PreUp.sig) → Buf (Elt Bits) ℓ) (g : Dev Cert.PreUp.nD → PrngReg), Pre_PreUp m →
    θ_run (Cert.PreUp.defs (F := Bits)) (onTc (τ := Cert.PreUp.τ) (Cert.PreUp.main (F := Bits))) ⟨m, fun _ => 0, g⟩ (fun r => (∀ c : Dev Cert.PreUp.nD,
      r.2.mem ((c.tc : Thread Cert.PreUp.nD Cert.PreUp.τ).loc Cert.PreUp.main_arg0) = m ((c.tc : Thread Cert.PreUp.nD Cert.PreUp.τ).loc Cert.PreUp.main_arg0)
      ∧ r.2.mem ((c.tc : Thread Cert.PreUp.nD Cert.PreUp.τ).loc Cert.PreUp.main_arg1) = m ((c.tc : Thread Cert.PreUp.nD Cert.PreUp.τ).loc Cert.PreUp.main_arg1)
      ∧ r.2.mem ((c.tc : Thread Cert.PreUp.nD Cert.PreUp.τ).loc Cert.PreUp.main_arg2) = m ((c.tc : Thread Cert.PreUp.nD Cert.PreUp.τ).loc Cert.PreUp.main_arg2)
      ∧ r.2.mem ((c.tc : Thread Cert.PreUp.nD Cert.PreUp.τ).loc Cert.PreUp.main_arg3) = m ((c.tc : Thread Cert.PreUp.nD Cert.PreUp.τ).loc Cert.PreUp.main_arg3)
      ∧ r.2.mem ((c.tc : Thread Cert.PreUp.nD Cert.PreUp.τ).loc Cert.PreUp.main_arg4) = m ((c.tc : Thread Cert.PreUp.nD Cert.PreUp.τ).loc Cert.PreUp.main_arg4))
      ∧ r.2.sem = fun _ => 0)

def quiescent_PreUpIdeal [hPreUpIdeal : Cert.PreUpIdeal.Facts] : Prop :=
  ∀ (m : (ℓ : Loc Cert.PreUpIdeal.nD Cert.PreUpIdeal.τ Cert.PreUpIdeal.sig) → Buf (Elt Ideal) ℓ) (g : Dev Cert.PreUpIdeal.nD → PrngReg), Pre_PreUpIdeal m →
    θ_run (Cert.PreUpIdeal.defs (F := Ideal)) (onTc (τ := Cert.PreUpIdeal.τ) (Cert.PreUpIdeal.main (F := Ideal))) ⟨m, fun _ => 0, g⟩ (fun r => (∀ c : Dev Cert.PreUpIdeal.nD,
      r.2.mem ((c.tc : Thread Cert.PreUpIdeal.nD Cert.PreUpIdeal.τ).loc Cert.PreUpIdeal.main_arg0) = m ((c.tc : Thread Cert.PreUpIdeal.nD Cert.PreUpIdeal.τ).loc Cert.PreUpIdeal.main_arg0)
      ∧ r.2.mem ((c.tc : Thread Cert.PreUpIdeal.nD Cert.PreUpIdeal.τ).loc Cert.PreUpIdeal.main_arg1) = m ((c.tc : Thread Cert.PreUpIdeal.nD Cert.PreUpIdeal.τ).loc Cert.PreUpIdeal.main_arg1)
      ∧ r.2.mem ((c.tc : Thread Cert.PreUpIdeal.nD Cert.PreUpIdeal.τ).loc Cert.PreUpIdeal.main_arg2) = m ((c.tc : Thread Cert.PreUpIdeal.nD Cert.PreUpIdeal.τ).loc Cert.PreUpIdeal.main_arg2)
      ∧ r.2.mem ((c.tc : Thread Cert.PreUpIdeal.nD Cert.PreUpIdeal.τ).loc Cert.PreUpIdeal.main_arg3) = m ((c.tc : Thread Cert.PreUpIdeal.nD Cert.PreUpIdeal.τ).loc Cert.PreUpIdeal.main_arg3)
      ∧ r.2.mem ((c.tc : Thread Cert.PreUpIdeal.nD Cert.PreUpIdeal.τ).loc Cert.PreUpIdeal.main_arg4) = m ((c.tc : Thread Cert.PreUpIdeal.nD Cert.PreUpIdeal.τ).loc Cert.PreUpIdeal.main_arg4))
      ∧ r.2.sem = fun _ => 0)

def quiescent_PreUpRefIdeal [hPreUpRefIdeal : Cert.PreUpRefIdeal.Facts] : Prop :=
  ∀ (m : (ℓ : Loc Cert.PreUpRefIdeal.nD Cert.PreUpRefIdeal.τ Cert.PreUpRefIdeal.sig) → Buf (Elt Ideal) ℓ) (g : Dev Cert.PreUpRefIdeal.nD → PrngReg), Pre_PreUpRefIdeal m →
    θ_run (Cert.PreUpRefIdeal.defs (F := Ideal)) (onTc (τ := Cert.PreUpRefIdeal.τ) (Cert.PreUpRefIdeal.main (F := Ideal))) ⟨m, fun _ => 0, g⟩ (fun r => (∀ c : Dev Cert.PreUpRefIdeal.nD,
      r.2.mem ((c.tc : Thread Cert.PreUpRefIdeal.nD Cert.PreUpRefIdeal.τ).loc Cert.PreUpRefIdeal.main_arg0) = m ((c.tc : Thread Cert.PreUpRefIdeal.nD Cert.PreUpRefIdeal.τ).loc Cert.PreUpRefIdeal.main_arg0)
      ∧ r.2.mem ((c.tc : Thread Cert.PreUpRefIdeal.nD Cert.PreUpRefIdeal.τ).loc Cert.PreUpRefIdeal.main_arg1) = m ((c.tc : Thread Cert.PreUpRefIdeal.nD Cert.PreUpRefIdeal.τ).loc Cert.PreUpRefIdeal.main_arg1)
      ∧ r.2.mem ((c.tc : Thread Cert.PreUpRefIdeal.nD Cert.PreUpRefIdeal.τ).loc Cert.PreUpRefIdeal.main_arg2) = m ((c.tc : Thread Cert.PreUpRefIdeal.nD Cert.PreUpRefIdeal.τ).loc Cert.PreUpRefIdeal.main_arg2)
      ∧ r.2.mem ((c.tc : Thread Cert.PreUpRefIdeal.nD Cert.PreUpRefIdeal.τ).loc Cert.PreUpRefIdeal.main_arg3) = m ((c.tc : Thread Cert.PreUpRefIdeal.nD Cert.PreUpRefIdeal.τ).loc Cert.PreUpRefIdeal.main_arg3)
      ∧ r.2.mem ((c.tc : Thread Cert.PreUpRefIdeal.nD Cert.PreUpRefIdeal.τ).loc Cert.PreUpRefIdeal.main_arg4) = m ((c.tc : Thread Cert.PreUpRefIdeal.nD Cert.PreUpRefIdeal.τ).loc Cert.PreUpRefIdeal.main_arg4))
      ∧ r.2.sem = fun _ => 0)

def quiescent_PreMm [hPreMm : Cert.PreMm.Facts] : Prop :=
  ∀ (m : (ℓ : Loc Cert.PreMm.nD Cert.PreMm.τ Cert.PreMm.sig) → Buf (Elt Bits) ℓ) (g : Dev Cert.PreMm.nD → PrngReg), Pre_PreMm m →
    θ_run (Cert.PreMm.defs (F := Bits)) (onTc (τ := Cert.PreMm.τ) (Cert.PreMm.main (F := Bits))) ⟨m, fun _ => 0, g⟩ (fun r => (∀ c : Dev Cert.PreMm.nD,
      r.2.mem ((c.tc : Thread Cert.PreMm.nD Cert.PreMm.τ).loc Cert.PreMm.main_arg0) = m ((c.tc : Thread Cert.PreMm.nD Cert.PreMm.τ).loc Cert.PreMm.main_arg0)
      ∧ r.2.mem ((c.tc : Thread Cert.PreMm.nD Cert.PreMm.τ).loc Cert.PreMm.main_arg1) = m ((c.tc : Thread Cert.PreMm.nD Cert.PreMm.τ).loc Cert.PreMm.main_arg1)
      ∧ r.2.mem ((c.tc : Thread Cert.PreMm.nD Cert.PreMm.τ).loc Cert.PreMm.main_arg2) = m ((c.tc : Thread Cert.PreMm.nD Cert.PreMm.τ).loc Cert.PreMm.main_arg2)
      ∧ r.2.mem ((c.tc : Thread Cert.PreMm.nD Cert.PreMm.τ).loc Cert.PreMm.main_arg3) = m ((c.tc : Thread Cert.PreMm.nD Cert.PreMm.τ).loc Cert.PreMm.main_arg3)
      ∧ r.2.mem ((c.tc : Thread Cert.PreMm.nD Cert.PreMm.τ).loc Cert.PreMm.main_arg4) = m ((c.tc : Thread Cert.PreMm.nD Cert.PreMm.τ).loc Cert.PreMm.main_arg4))
      ∧ r.2.sem = fun _ => 0)

def quiescent_PreMmIdeal [hPreMmIdeal : Cert.PreMmIdeal.Facts] : Prop :=
  ∀ (m : (ℓ : Loc Cert.PreMmIdeal.nD Cert.PreMmIdeal.τ Cert.PreMmIdeal.sig) → Buf (Elt Ideal) ℓ) (g : Dev Cert.PreMmIdeal.nD → PrngReg), Pre_PreMmIdeal m →
    θ_run (Cert.PreMmIdeal.defs (F := Ideal)) (onTc (τ := Cert.PreMmIdeal.τ) (Cert.PreMmIdeal.main (F := Ideal))) ⟨m, fun _ => 0, g⟩ (fun r => (∀ c : Dev Cert.PreMmIdeal.nD,
      r.2.mem ((c.tc : Thread Cert.PreMmIdeal.nD Cert.PreMmIdeal.τ).loc Cert.PreMmIdeal.main_arg0) = m ((c.tc : Thread Cert.PreMmIdeal.nD Cert.PreMmIdeal.τ).loc Cert.PreMmIdeal.main_arg0)
      ∧ r.2.mem ((c.tc : Thread Cert.PreMmIdeal.nD Cert.PreMmIdeal.τ).loc Cert.PreMmIdeal.main_arg1) = m ((c.tc : Thread Cert.PreMmIdeal.nD Cert.PreMmIdeal.τ).loc Cert.PreMmIdeal.main_arg1)
      ∧ r.2.mem ((c.tc : Thread Cert.PreMmIdeal.nD Cert.PreMmIdeal.τ).loc Cert.PreMmIdeal.main_arg2) = m ((c.tc : Thread Cert.PreMmIdeal.nD Cert.PreMmIdeal.τ).loc Cert.PreMmIdeal.main_arg2)
      ∧ r.2.mem ((c.tc : Thread Cert.PreMmIdeal.nD Cert.PreMmIdeal.τ).loc Cert.PreMmIdeal.main_arg3) = m ((c.tc : Thread Cert.PreMmIdeal.nD Cert.PreMmIdeal.τ).loc Cert.PreMmIdeal.main_arg3)
      ∧ r.2.mem ((c.tc : Thread Cert.PreMmIdeal.nD Cert.PreMmIdeal.τ).loc Cert.PreMmIdeal.main_arg4) = m ((c.tc : Thread Cert.PreMmIdeal.nD Cert.PreMmIdeal.τ).loc Cert.PreMmIdeal.main_arg4))
      ∧ r.2.sem = fun _ => 0)

def quiescent_PreMmRefIdeal [hPreMmRefIdeal : Cert.PreMmRefIdeal.Facts] : Prop :=
  ∀ (m : (ℓ : Loc Cert.PreMmRefIdeal.nD Cert.PreMmRefIdeal.τ Cert.PreMmRefIdeal.sig) → Buf (Elt Ideal) ℓ) (g : Dev Cert.PreMmRefIdeal.nD → PrngReg), Pre_PreMmRefIdeal m →
    θ_run (Cert.PreMmRefIdeal.defs (F := Ideal)) (onTc (τ := Cert.PreMmRefIdeal.τ) (Cert.PreMmRefIdeal.main (F := Ideal))) ⟨m, fun _ => 0, g⟩ (fun r => (∀ c : Dev Cert.PreMmRefIdeal.nD,
      r.2.mem ((c.tc : Thread Cert.PreMmRefIdeal.nD Cert.PreMmRefIdeal.τ).loc Cert.PreMmRefIdeal.main_arg0) = m ((c.tc : Thread Cert.PreMmRefIdeal.nD Cert.PreMmRefIdeal.τ).loc Cert.PreMmRefIdeal.main_arg0)
      ∧ r.2.mem ((c.tc : Thread Cert.PreMmRefIdeal.nD Cert.PreMmRefIdeal.τ).loc Cert.PreMmRefIdeal.main_arg1) = m ((c.tc : Thread Cert.PreMmRefIdeal.nD Cert.PreMmRefIdeal.τ).loc Cert.PreMmRefIdeal.main_arg1)
      ∧ r.2.mem ((c.tc : Thread Cert.PreMmRefIdeal.nD Cert.PreMmRefIdeal.τ).loc Cert.PreMmRefIdeal.main_arg2) = m ((c.tc : Thread Cert.PreMmRefIdeal.nD Cert.PreMmRefIdeal.τ).loc Cert.PreMmRefIdeal.main_arg2)
      ∧ r.2.mem ((c.tc : Thread Cert.PreMmRefIdeal.nD Cert.PreMmRefIdeal.τ).loc Cert.PreMmRefIdeal.main_arg3) = m ((c.tc : Thread Cert.PreMmRefIdeal.nD Cert.PreMmRefIdeal.τ).loc Cert.PreMmRefIdeal.main_arg3)
      ∧ r.2.mem ((c.tc : Thread Cert.PreMmRefIdeal.nD Cert.PreMmRefIdeal.τ).loc Cert.PreMmRefIdeal.main_arg4) = m ((c.tc : Thread Cert.PreMmRefIdeal.nD Cert.PreMmRefIdeal.τ).loc Cert.PreMmRefIdeal.main_arg4))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4)
      ∧ r.2.mem ((c.tc : Thread Cert.UpBwd.nD Cert.UpBwd.τ).loc Cert.UpBwd.main_arg5) = m ((c.tc : Thread Cert.UpBwd.nD Cert.UpBwd.τ).loc Cert.UpBwd.main_arg5)
      ∧ r.2.mem ((c.tc : Thread Cert.UpBwd.nD Cert.UpBwd.τ).loc Cert.UpBwd.main_arg6) = m ((c.tc : Thread Cert.UpBwd.nD Cert.UpBwd.τ).loc Cert.UpBwd.main_arg6))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
      ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
      ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4)
      ∧ r.2.mem ((c.tc : Thread Cert.UpBwdRefIdeal.nD Cert.UpBwdRefIdeal.τ).loc Cert.UpBwdRefIdeal.main_arg5) = m ((c.tc : Thread Cert.UpBwdRefIdeal.nD Cert.UpBwdRefIdeal.τ).loc Cert.UpBwdRefIdeal.main_arg5)
      ∧ r.2.mem ((c.tc : Thread Cert.UpBwdRefIdeal.nD Cert.UpBwdRefIdeal.τ).loc Cert.UpBwdRefIdeal.main_arg6) = m ((c.tc : Thread Cert.UpBwdRefIdeal.nD Cert.UpBwdRefIdeal.τ).loc Cert.UpBwdRefIdeal.main_arg6))
      ∧ r.2.sem = fun _ => 0)

def quiescent_MmLoss [hMmLoss : Cert.MmLoss.Facts] : Prop :=
  ∀ (m : (ℓ : Loc Cert.MmLoss.nD Cert.MmLoss.τ Cert.MmLoss.sig) → Buf (Elt Bits) ℓ) (g : Dev Cert.MmLoss.nD → PrngReg), Pre_MmLoss m →
    θ_run (Cert.MmLoss.defs (F := Bits)) (onTc (τ := Cert.MmLoss.τ) (Cert.MmLoss.main (F := Bits))) ⟨m, fun _ => 0, g⟩ (fun r => (∀ c : Dev Cert.MmLoss.nD,
      r.2.mem ((c.tc : Thread Cert.MmLoss.nD Cert.MmLoss.τ).loc Cert.MmLoss.main_arg0) = m ((c.tc : Thread Cert.MmLoss.nD Cert.MmLoss.τ).loc Cert.MmLoss.main_arg0)
      ∧ r.2.mem ((c.tc : Thread Cert.MmLoss.nD Cert.MmLoss.τ).loc Cert.MmLoss.main_arg1) = m ((c.tc : Thread Cert.MmLoss.nD Cert.MmLoss.τ).loc Cert.MmLoss.main_arg1)
      ∧ r.2.mem ((c.tc : Thread Cert.MmLoss.nD Cert.MmLoss.τ).loc Cert.MmLoss.main_arg2) = m ((c.tc : Thread Cert.MmLoss.nD Cert.MmLoss.τ).loc Cert.MmLoss.main_arg2)
      ∧ r.2.mem ((c.tc : Thread Cert.MmLoss.nD Cert.MmLoss.τ).loc Cert.MmLoss.main_arg3) = m ((c.tc : Thread Cert.MmLoss.nD Cert.MmLoss.τ).loc Cert.MmLoss.main_arg3)
      ∧ r.2.mem ((c.tc : Thread Cert.MmLoss.nD Cert.MmLoss.τ).loc Cert.MmLoss.main_arg4) = m ((c.tc : Thread Cert.MmLoss.nD Cert.MmLoss.τ).loc Cert.MmLoss.main_arg4)
      ∧ r.2.mem ((c.tc : Thread Cert.MmLoss.nD Cert.MmLoss.τ).loc Cert.MmLoss.main_arg5) = m ((c.tc : Thread Cert.MmLoss.nD Cert.MmLoss.τ).loc Cert.MmLoss.main_arg5))
      ∧ r.2.sem = fun _ => 0)

def quiescent_MmLossIdeal [hMmLossIdeal : Cert.MmLossIdeal.Facts] : Prop :=
  ∀ (m : (ℓ : Loc Cert.MmLossIdeal.nD Cert.MmLossIdeal.τ Cert.MmLossIdeal.sig) → Buf (Elt Ideal) ℓ) (g : Dev Cert.MmLossIdeal.nD → PrngReg), Pre_MmLossIdeal m →
    θ_run (Cert.MmLossIdeal.defs (F := Ideal)) (onTc (τ := Cert.MmLossIdeal.τ) (Cert.MmLossIdeal.main (F := Ideal))) ⟨m, fun _ => 0, g⟩ (fun r => (∀ c : Dev Cert.MmLossIdeal.nD,
      r.2.mem ((c.tc : Thread Cert.MmLossIdeal.nD Cert.MmLossIdeal.τ).loc Cert.MmLossIdeal.main_arg0) = m ((c.tc : Thread Cert.MmLossIdeal.nD Cert.MmLossIdeal.τ).loc Cert.MmLossIdeal.main_arg0)
      ∧ r.2.mem ((c.tc : Thread Cert.MmLossIdeal.nD Cert.MmLossIdeal.τ).loc Cert.MmLossIdeal.main_arg1) = m ((c.tc : Thread Cert.MmLossIdeal.nD Cert.MmLossIdeal.τ).loc Cert.MmLossIdeal.main_arg1)
      ∧ r.2.mem ((c.tc : Thread Cert.MmLossIdeal.nD Cert.MmLossIdeal.τ).loc Cert.MmLossIdeal.main_arg2) = m ((c.tc : Thread Cert.MmLossIdeal.nD Cert.MmLossIdeal.τ).loc Cert.MmLossIdeal.main_arg2)
      ∧ r.2.mem ((c.tc : Thread Cert.MmLossIdeal.nD Cert.MmLossIdeal.τ).loc Cert.MmLossIdeal.main_arg3) = m ((c.tc : Thread Cert.MmLossIdeal.nD Cert.MmLossIdeal.τ).loc Cert.MmLossIdeal.main_arg3)
      ∧ r.2.mem ((c.tc : Thread Cert.MmLossIdeal.nD Cert.MmLossIdeal.τ).loc Cert.MmLossIdeal.main_arg4) = m ((c.tc : Thread Cert.MmLossIdeal.nD Cert.MmLossIdeal.τ).loc Cert.MmLossIdeal.main_arg4)
      ∧ r.2.mem ((c.tc : Thread Cert.MmLossIdeal.nD Cert.MmLossIdeal.τ).loc Cert.MmLossIdeal.main_arg5) = m ((c.tc : Thread Cert.MmLossIdeal.nD Cert.MmLossIdeal.τ).loc Cert.MmLossIdeal.main_arg5))
      ∧ r.2.sem = fun _ => 0)

def quiescent_MmLossRefIdeal [hMmLossRefIdeal : Cert.MmLossRefIdeal.Facts] : Prop :=
  ∀ (m : (ℓ : Loc Cert.MmLossRefIdeal.nD Cert.MmLossRefIdeal.τ Cert.MmLossRefIdeal.sig) → Buf (Elt Ideal) ℓ) (g : Dev Cert.MmLossRefIdeal.nD → PrngReg), Pre_MmLossRefIdeal m →
    θ_run (Cert.MmLossRefIdeal.defs (F := Ideal)) (onTc (τ := Cert.MmLossRefIdeal.τ) (Cert.MmLossRefIdeal.main (F := Ideal))) ⟨m, fun _ => 0, g⟩ (fun r => (∀ c : Dev Cert.MmLossRefIdeal.nD,
      r.2.mem ((c.tc : Thread Cert.MmLossRefIdeal.nD Cert.MmLossRefIdeal.τ).loc Cert.MmLossRefIdeal.main_arg0) = m ((c.tc : Thread Cert.MmLossRefIdeal.nD Cert.MmLossRefIdeal.τ).loc Cert.MmLossRefIdeal.main_arg0)
      ∧ r.2.mem ((c.tc : Thread Cert.MmLossRefIdeal.nD Cert.MmLossRefIdeal.τ).loc Cert.MmLossRefIdeal.main_arg1) = m ((c.tc : Thread Cert.MmLossRefIdeal.nD Cert.MmLossRefIdeal.τ).loc Cert.MmLossRefIdeal.main_arg1)
      ∧ r.2.mem ((c.tc : Thread Cert.MmLossRefIdeal.nD Cert.MmLossRefIdeal.τ).loc Cert.MmLossRefIdeal.main_arg2) = m ((c.tc : Thread Cert.MmLossRefIdeal.nD Cert.MmLossRefIdeal.τ).loc Cert.MmLossRefIdeal.main_arg2)
      ∧ r.2.mem ((c.tc : Thread Cert.MmLossRefIdeal.nD Cert.MmLossRefIdeal.τ).loc Cert.MmLossRefIdeal.main_arg3) = m ((c.tc : Thread Cert.MmLossRefIdeal.nD Cert.MmLossRefIdeal.τ).loc Cert.MmLossRefIdeal.main_arg3)
      ∧ r.2.mem ((c.tc : Thread Cert.MmLossRefIdeal.nD Cert.MmLossRefIdeal.τ).loc Cert.MmLossRefIdeal.main_arg4) = m ((c.tc : Thread Cert.MmLossRefIdeal.nD Cert.MmLossRefIdeal.τ).loc Cert.MmLossRefIdeal.main_arg4)
      ∧ r.2.mem ((c.tc : Thread Cert.MmLossRefIdeal.nD Cert.MmLossRefIdeal.τ).loc Cert.MmLossRefIdeal.main_arg5) = m ((c.tc : Thread Cert.MmLossRefIdeal.nD Cert.MmLossRefIdeal.τ).loc Cert.MmLossRefIdeal.main_arg5))
      ∧ r.2.sem = fun _ => 0)

def quiescent_RecOut [hRecOut : Cert.RecOut.Facts] : Prop :=
  ∀ (m : (ℓ : Loc Cert.RecOut.nD Cert.RecOut.τ Cert.RecOut.sig) → Buf (Elt Bits) ℓ) (g : Dev Cert.RecOut.nD → PrngReg), Pre_RecOut m →
    θ_run (Cert.RecOut.defs (F := Bits)) (onTc (τ := Cert.RecOut.τ) (Cert.RecOut.main (F := Bits))) ⟨m, fun _ => 0, g⟩ (fun r => (∀ c : Dev Cert.RecOut.nD,
      r.2.mem ((c.tc : Thread Cert.RecOut.nD Cert.RecOut.τ).loc Cert.RecOut.main_arg0) = m ((c.tc : Thread Cert.RecOut.nD Cert.RecOut.τ).loc Cert.RecOut.main_arg0)
      ∧ r.2.mem ((c.tc : Thread Cert.RecOut.nD Cert.RecOut.τ).loc Cert.RecOut.main_arg1) = m ((c.tc : Thread Cert.RecOut.nD Cert.RecOut.τ).loc Cert.RecOut.main_arg1))
      ∧ r.2.sem = fun _ => 0)

def quiescent_RecOutIdeal [hRecOutIdeal : Cert.RecOutIdeal.Facts] : Prop :=
  ∀ (m : (ℓ : Loc Cert.RecOutIdeal.nD Cert.RecOutIdeal.τ Cert.RecOutIdeal.sig) → Buf (Elt Ideal) ℓ) (g : Dev Cert.RecOutIdeal.nD → PrngReg), Pre_RecOutIdeal m →
    θ_run (Cert.RecOutIdeal.defs (F := Ideal)) (onTc (τ := Cert.RecOutIdeal.τ) (Cert.RecOutIdeal.main (F := Ideal))) ⟨m, fun _ => 0, g⟩ (fun r => (∀ c : Dev Cert.RecOutIdeal.nD,
      r.2.mem ((c.tc : Thread Cert.RecOutIdeal.nD Cert.RecOutIdeal.τ).loc Cert.RecOutIdeal.main_arg0) = m ((c.tc : Thread Cert.RecOutIdeal.nD Cert.RecOutIdeal.τ).loc Cert.RecOutIdeal.main_arg0)
      ∧ r.2.mem ((c.tc : Thread Cert.RecOutIdeal.nD Cert.RecOutIdeal.τ).loc Cert.RecOutIdeal.main_arg1) = m ((c.tc : Thread Cert.RecOutIdeal.nD Cert.RecOutIdeal.τ).loc Cert.RecOutIdeal.main_arg1))
      ∧ r.2.sem = fun _ => 0)

def quiescent_RecOutRefIdeal [hRecOutRefIdeal : Cert.RecOutRefIdeal.Facts] : Prop :=
  ∀ (m : (ℓ : Loc Cert.RecOutRefIdeal.nD Cert.RecOutRefIdeal.τ Cert.RecOutRefIdeal.sig) → Buf (Elt Ideal) ℓ) (g : Dev Cert.RecOutRefIdeal.nD → PrngReg), Pre_RecOutRefIdeal m →
    θ_run (Cert.RecOutRefIdeal.defs (F := Ideal)) (onTc (τ := Cert.RecOutRefIdeal.τ) (Cert.RecOutRefIdeal.main (F := Ideal))) ⟨m, fun _ => 0, g⟩ (fun r => (∀ c : Dev Cert.RecOutRefIdeal.nD,
      r.2.mem ((c.tc : Thread Cert.RecOutRefIdeal.nD Cert.RecOutRefIdeal.τ).loc Cert.RecOutRefIdeal.main_arg0) = m ((c.tc : Thread Cert.RecOutRefIdeal.nD Cert.RecOutRefIdeal.τ).loc Cert.RecOutRefIdeal.main_arg0)
      ∧ r.2.mem ((c.tc : Thread Cert.RecOutRefIdeal.nD Cert.RecOutRefIdeal.τ).loc Cert.RecOutRefIdeal.main_arg1) = m ((c.tc : Thread Cert.RecOutRefIdeal.nD Cert.RecOutRefIdeal.τ).loc Cert.RecOutRefIdeal.main_arg1))
      ∧ r.2.sem = fun _ => 0)

def quiescent_AttOut [hAttOut : Cert.AttOut.Facts] : Prop :=
  ∀ (m : (ℓ : Loc Cert.AttOut.nD Cert.AttOut.τ Cert.AttOut.sig) → Buf (Elt Bits) ℓ) (g : Dev Cert.AttOut.nD → PrngReg), Pre_AttOut m →
    θ_run (Cert.AttOut.defs (F := Bits)) (onTc (τ := Cert.AttOut.τ) (Cert.AttOut.main (F := Bits))) ⟨m, fun _ => 0, g⟩ (fun r => (∀ c : Dev Cert.AttOut.nD,
      r.2.mem ((c.tc : Thread Cert.AttOut.nD Cert.AttOut.τ).loc Cert.AttOut.main_arg0) = m ((c.tc : Thread Cert.AttOut.nD Cert.AttOut.τ).loc Cert.AttOut.main_arg0)
      ∧ r.2.mem ((c.tc : Thread Cert.AttOut.nD Cert.AttOut.τ).loc Cert.AttOut.main_arg1) = m ((c.tc : Thread Cert.AttOut.nD Cert.AttOut.τ).loc Cert.AttOut.main_arg1))
      ∧ r.2.sem = fun _ => 0)

def quiescent_AttOutIdeal [hAttOutIdeal : Cert.AttOutIdeal.Facts] : Prop :=
  ∀ (m : (ℓ : Loc Cert.AttOutIdeal.nD Cert.AttOutIdeal.τ Cert.AttOutIdeal.sig) → Buf (Elt Ideal) ℓ) (g : Dev Cert.AttOutIdeal.nD → PrngReg), Pre_AttOutIdeal m →
    θ_run (Cert.AttOutIdeal.defs (F := Ideal)) (onTc (τ := Cert.AttOutIdeal.τ) (Cert.AttOutIdeal.main (F := Ideal))) ⟨m, fun _ => 0, g⟩ (fun r => (∀ c : Dev Cert.AttOutIdeal.nD,
      r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
      ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ r.2.sem = fun _ => 0)

def quiescent_AttOutRefIdeal [hAttOutRefIdeal : Cert.AttOutRefIdeal.Facts] : Prop :=
  ∀ (m : (ℓ : Loc Cert.AttOutRefIdeal.nD Cert.AttOutRefIdeal.τ Cert.AttOutRefIdeal.sig) → Buf (Elt Ideal) ℓ) (g : Dev Cert.AttOutRefIdeal.nD → PrngReg), Pre_AttOutRefIdeal m →
    θ_run (Cert.AttOutRefIdeal.defs (F := Ideal)) (onTc (τ := Cert.AttOutRefIdeal.τ) (Cert.AttOutRefIdeal.main (F := Ideal))) ⟨m, fun _ => 0, g⟩ (fun r => (∀ c : Dev Cert.AttOutRefIdeal.nD,
      r.2.mem ((c.tc : Thread Cert.AttOutRefIdeal.nD Cert.AttOutRefIdeal.τ).loc Cert.AttOutRefIdeal.main_arg0) = m ((c.tc : Thread Cert.AttOutRefIdeal.nD Cert.AttOutRefIdeal.τ).loc Cert.AttOutRefIdeal.main_arg0)
      ∧ r.2.mem ((c.tc : Thread Cert.AttOutRefIdeal.nD Cert.AttOutRefIdeal.τ).loc Cert.AttOutRefIdeal.main_arg1) = m ((c.tc : Thread Cert.AttOutRefIdeal.nD Cert.AttOutRefIdeal.τ).loc Cert.AttOutRefIdeal.main_arg1))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ r.2.sem = fun _ => 0)

def quiescent_AdaBwdRefIdeal [hAdaBwdRefIdeal : Cert.AdaBwdRefIdeal.Facts] : Prop :=
  ∀ (m : (ℓ : Loc Cert.AdaBwdRefIdeal.nD Cert.AdaBwdRefIdeal.τ Cert.AdaBwdRefIdeal.sig) → Buf (Elt Ideal) ℓ) (g : Dev Cert.AdaBwdRefIdeal.nD → PrngReg), Pre_AdaBwdRefIdeal m →
    θ_run (Cert.AdaBwdRefIdeal.defs (F := Ideal)) (onTc (τ := Cert.AdaBwdRefIdeal.τ) (Cert.AdaBwdRefIdeal.main (F := Ideal))) ⟨m, fun _ => 0, g⟩ (fun r => (∀ c : Dev Cert.AdaBwdRefIdeal.nD,
      r.2.mem ((c.tc : Thread Cert.AdaBwdRefIdeal.nD Cert.AdaBwdRefIdeal.τ).loc Cert.AdaBwdRefIdeal.main_arg0) = m ((c.tc : Thread Cert.AdaBwdRefIdeal.nD Cert.AdaBwdRefIdeal.τ).loc Cert.AdaBwdRefIdeal.main_arg0)
      ∧ r.2.mem ((c.tc : Thread Cert.AdaBwdRefIdeal.nD Cert.AdaBwdRefIdeal.τ).loc Cert.AdaBwdRefIdeal.main_arg1) = m ((c.tc : Thread Cert.AdaBwdRefIdeal.nD Cert.AdaBwdRefIdeal.τ).loc Cert.AdaBwdRefIdeal.main_arg1))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_ScanBwd_ScanBwdIdeal : Prop :=
  True

def algebraic_ScanBwdIdeal_ScanBwdRefIdeal [hScanBwdIdeal : Cert.ScanBwdIdeal.Facts] [hScanBwdRefIdeal : Cert.ScanBwdRefIdeal.Facts] : Prop :=
  ∀ (m : (ℓ : Loc Cert.ScanBwdIdeal.nD Cert.ScanBwdIdeal.τ Cert.ScanBwdIdeal.sig) → Buf (Elt Ideal) ℓ) (g : Dev Cert.ScanBwdIdeal.nD → PrngReg)
    (m' : (ℓ : Loc Cert.ScanBwdRefIdeal.nD Cert.ScanBwdRefIdeal.τ Cert.ScanBwdRefIdeal.sig) → Buf (Elt Ideal) ℓ) (g' : Dev Cert.ScanBwdRefIdeal.nD → PrngReg), Pre_ScanBwdIdeal m →
    (∀ c : Dev Cert.ScanBwdIdeal.nD,
      m' ((c.tc : Thread Cert.ScanBwdRefIdeal.nD Cert.ScanBwdRefIdeal.τ).loc Cert.ScanBwdRefIdeal.main_arg0) = m ((c.tc : Thread Cert.ScanBwdIdeal.nD Cert.ScanBwdIdeal.τ).loc Cert.ScanBwdIdeal.main_arg0)
      ∧ m' ((c.tc : Thread Cert.ScanBwdRefIdeal.nD Cert.ScanBwdRefIdeal.τ).loc Cert.ScanBwdRefIdeal.main_arg1) = m ((c.tc : Thread Cert.ScanBwdIdeal.nD Cert.ScanBwdIdeal.τ).loc Cert.ScanBwdIdeal.main_arg1)
      ∧ m' ((c.tc : Thread Cert.ScanBwdRefIdeal.nD Cert.ScanBwdRefIdeal.τ).loc Cert.ScanBwdRefIdeal.main_arg2) = m ((c.tc : Thread Cert.ScanBwdIdeal.nD Cert.ScanBwdIdeal.τ).loc Cert.ScanBwdIdeal.main_arg2)) →
    ∃ (v0 : (c : Dev Cert.ScanBwdIdeal.nD) → Buf (Elt Ideal) ((c.tc : Thread Cert.ScanBwdIdeal.nD Cert.ScanBwdIdeal.τ).loc Cert.ScanBwdIdeal.main_v13)),
      θ_run (Cert.ScanBwdIdeal.defs (F := Ideal)) (onTc (τ := Cert.ScanBwdIdeal.τ) (Cert.ScanBwdIdeal.main (F := Ideal))) ⟨m, fun _ => 0, g⟩ (fun r => ∀ c : Dev Cert.ScanBwdIdeal.nD,
          r.2.mem ((c.tc : Thread Cert.ScanBwdIdeal.nD Cert.ScanBwdIdeal.τ).loc Cert.ScanBwdIdeal.main_v13) = v0 c
          ∧ r.2.mem ((c.tc : Thread Cert.ScanBwdIdeal.nD Cert.ScanBwdIdeal.τ).loc Cert.ScanBwdIdeal.main_arg0) = m ((c.tc : Thread Cert.ScanBwdIdeal.nD Cert.ScanBwdIdeal.τ).loc Cert.ScanBwdIdeal.main_arg0)
          ∧ r.2.mem ((c.tc : Thread Cert.ScanBwdIdeal.nD Cert.ScanBwdIdeal.τ).loc Cert.ScanBwdIdeal.main_arg1) = m ((c.tc : Thread Cert.ScanBwdIdeal.nD Cert.ScanBwdIdeal.τ).loc Cert.ScanBwdIdeal.main_arg1)
          ∧ r.2.mem ((c.tc : Thread Cert.ScanBwdIdeal.nD Cert.ScanBwdIdeal.τ).loc Cert.ScanBwdIdeal.main_arg2) = m ((c.tc : Thread Cert.ScanBwdIdeal.nD Cert.ScanBwdIdeal.τ).loc Cert.ScanBwdIdeal.main_arg2))
      ∧ θ_run (Cert.ScanBwdRefIdeal.defs (F := Ideal)) (onTc (τ := Cert.ScanBwdRefIdeal.τ) (Cert.ScanBwdRefIdeal.main (F := Ideal))) ⟨m', fun _ => 0, g'⟩ (fun r => ∀ c : Dev Cert.ScanBwdRefIdeal.nD,
          r.2.mem ((c.tc : Thread Cert.ScanBwdRefIdeal.nD Cert.ScanBwdRefIdeal.τ).loc Cert.ScanBwdRefIdeal.main_v16_4) = v0 c
          ∧ r.2.mem ((c.tc : Thread Cert.ScanBwdRefIdeal.nD Cert.ScanBwdRefIdeal.τ).loc Cert.ScanBwdRefIdeal.main_arg0) = m' ((c.tc : Thread Cert.ScanBwdRefIdeal.nD Cert.ScanBwdRefIdeal.τ).loc Cert.ScanBwdRefIdeal.main_arg0)
          ∧ r.2.mem ((c.tc : Thread Cert.ScanBwdRefIdeal.nD Cert.ScanBwdRefIdeal.τ).loc Cert.ScanBwdRefIdeal.main_arg1) = m' ((c.tc : Thread Cert.ScanBwdRefIdeal.nD Cert.ScanBwdRefIdeal.τ).loc Cert.ScanBwdRefIdeal.main_arg1)
          ∧ r.2.mem ((c.tc : Thread Cert.ScanBwdRefIdeal.nD Cert.ScanBwdRefIdeal.τ).loc Cert.ScanBwdRefIdeal.main_arg2) = m' ((c.tc : Thread Cert.ScanBwdRefIdeal.nD Cert.ScanBwdRefIdeal.τ).loc Cert.ScanBwdRefIdeal.main_arg2))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)
      ∧ m' ((c.tc : Thread Cert.FfnDhRefIdeal.nD Cert.FfnDhRefIdeal.τ).loc Cert.FfnDhRefIdeal.main_arg4) = m ((c.tc : Thread Cert.FfnDhIdeal.nD Cert.FfnDhIdeal.τ).loc Cert.FfnDhIdeal.main_arg4)
      ∧ m' ((c.tc : Thread Cert.FfnDhRefIdeal.nD Cert.FfnDhRefIdeal.τ).loc Cert.FfnDhRefIdeal.main_arg5) = m ((c.tc : Thread Cert.FfnDhIdeal.nD Cert.FfnDhIdeal.τ).loc Cert.FfnDhIdeal.main_arg5)
      ∧ m' ((c.tc : Thread Cert.FfnDhRefIdeal.nD Cert.FfnDhRefIdeal.τ).loc Cert.FfnDhRefIdeal.main_arg6) = m ((c.tc : Thread Cert.FfnDhIdeal.nD Cert.FfnDhIdeal.τ).loc Cert.FfnDhIdeal.main_arg6)) →
    ∃ (v0 : (c : Dev Cert.FfnDhIdeal.nD) → Buf (Elt Ideal) ((c.tc : Thread Cert.FfnDhIdeal.nD Cert.FfnDhIdeal.τ).loc Cert.FfnDhIdeal.main_v0_0)) (v1 : (c : Dev Cert.FfnDhIdeal.nD) → Buf (Elt Ideal) ((c.tc : Thread Cert.FfnDhIdeal.nD Cert.FfnDhIdeal.τ).loc Cert.FfnDhIdeal.main_v0_1)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v0_0) = v0 c
          ∧ r.2.mem ((c.tc : Thread Cert.FfnDhIdeal.nD Cert.FfnDhIdeal.τ).loc Cert.FfnDhIdeal.main_v0_1) = v1 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
          ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4)
          ∧ r.2.mem ((c.tc : Thread Cert.FfnDhIdeal.nD Cert.FfnDhIdeal.τ).loc Cert.FfnDhIdeal.main_arg5) = m ((c.tc : Thread Cert.FfnDhIdeal.nD Cert.FfnDhIdeal.τ).loc Cert.FfnDhIdeal.main_arg5)
          ∧ r.2.mem ((c.tc : Thread Cert.FfnDhIdeal.nD Cert.FfnDhIdeal.τ).loc Cert.FfnDhIdeal.main_arg6) = m ((c.tc : Thread Cert.FfnDhIdeal.nD Cert.FfnDhIdeal.τ).loc Cert.FfnDhIdeal.main_arg6))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v59) = v0 c
          ∧ r.2.mem ((c.tc : Thread Cert.FfnDhRefIdeal.nD Cert.FfnDhRefIdeal.τ).loc Cert.FfnDhRefIdeal.main_v61) = v1 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3)
          ∧ r.2.mem ((c.tc : Thread Cert.FfnDhRefIdeal.nD Cert.FfnDhRefIdeal.τ).loc Cert.FfnDhRefIdeal.main_arg4) = m' ((c.tc : Thread Cert.FfnDhRefIdeal.nD Cert.FfnDhRefIdeal.τ).loc Cert.FfnDhRefIdeal.main_arg4)
          ∧ r.2.mem ((c.tc : Thread Cert.FfnDhRefIdeal.nD Cert.FfnDhRefIdeal.τ).loc Cert.FfnDhRefIdeal.main_arg5) = m' ((c.tc : Thread Cert.FfnDhRefIdeal.nD Cert.FfnDhRefIdeal.τ).loc Cert.FfnDhRefIdeal.main_arg5)
          ∧ r.2.mem ((c.tc : Thread Cert.FfnDhRefIdeal.nD Cert.FfnDhRefIdeal.τ).loc Cert.FfnDhRefIdeal.main_arg6) = m' ((c.tc : Thread Cert.FfnDhRefIdeal.nD Cert.FfnDhRefIdeal.τ).loc Cert.FfnDhRefIdeal.main_arg6))

def preserves_MixDh_MixDhIdeal : Prop :=
  True

def algebraic_MixDhIdeal_MixDhRefIdeal [hMixDhIdeal : Cert.MixDhIdeal.Facts] [hMixDhRefIdeal : Cert.MixDhRefIdeal.Facts] : Prop :=
  ∀ (m : (ℓ : Loc Cert.MixDhIdeal.nD Cert.MixDhIdeal.τ Cert.MixDhIdeal.sig) → Buf (Elt Ideal) ℓ) (g : Dev Cert.MixDhIdeal.nD → PrngReg)
    (m' : (ℓ : Loc Cert.MixDhRefIdeal.nD Cert.MixDhRefIdeal.τ Cert.MixDhRefIdeal.sig) → Buf (Elt Ideal) ℓ) (g' : Dev Cert.MixDhRefIdeal.nD → PrngReg), Pre_MixDhIdeal m →
    (∀ c : Dev Cert.MixDhIdeal.nD,
      m' ((c.tc : Thread Cert.MixDhRefIdeal.nD Cert.MixDhRefIdeal.τ).loc Cert.MixDhRefIdeal.main_arg0) = m ((c.tc : Thread Cert.MixDhIdeal.nD Cert.MixDhIdeal.τ).loc Cert.MixDhIdeal.main_arg0)
      ∧ m' ((c.tc : Thread Cert.MixDhRefIdeal.nD Cert.MixDhRefIdeal.τ).loc Cert.MixDhRefIdeal.main_arg1) = m ((c.tc : Thread Cert.MixDhIdeal.nD Cert.MixDhIdeal.τ).loc Cert.MixDhIdeal.main_arg1)
      ∧ m' ((c.tc : Thread Cert.MixDhRefIdeal.nD Cert.MixDhRefIdeal.τ).loc Cert.MixDhRefIdeal.main_arg2) = m ((c.tc : Thread Cert.MixDhIdeal.nD Cert.MixDhIdeal.τ).loc Cert.MixDhIdeal.main_arg2)
      ∧ m' ((c.tc : Thread Cert.MixDhRefIdeal.nD Cert.MixDhRefIdeal.τ).loc Cert.MixDhRefIdeal.main_arg3) = m ((c.tc : Thread Cert.MixDhIdeal.nD Cert.MixDhIdeal.τ).loc Cert.MixDhIdeal.main_arg3)
      ∧ m' ((c.tc : Thread Cert.MixDhRefIdeal.nD Cert.MixDhRefIdeal.τ).loc Cert.MixDhRefIdeal.main_arg4) = m ((c.tc : Thread Cert.MixDhIdeal.nD Cert.MixDhIdeal.τ).loc Cert.MixDhIdeal.main_arg4)
      ∧ m' ((c.tc : Thread Cert.MixDhRefIdeal.nD Cert.MixDhRefIdeal.τ).loc Cert.MixDhRefIdeal.main_arg5) = m ((c.tc : Thread Cert.MixDhIdeal.nD Cert.MixDhIdeal.τ).loc Cert.MixDhIdeal.main_arg5)
      ∧ m' ((c.tc : Thread Cert.MixDhRefIdeal.nD Cert.MixDhRefIdeal.τ).loc Cert.MixDhRefIdeal.main_arg6) = m ((c.tc : Thread Cert.MixDhIdeal.nD Cert.MixDhIdeal.τ).loc Cert.MixDhIdeal.main_arg6)) →
    ∃ (v0 : (c : Dev Cert.MixDhIdeal.nD) → Buf (Elt Ideal) ((c.tc : Thread Cert.MixDhIdeal.nD Cert.MixDhIdeal.τ).loc Cert.MixDhIdeal.main_v0_0)) (v1 : (c : Dev Cert.MixDhIdeal.nD) → Buf (Elt Ideal) ((c.tc : Thread Cert.MixDhIdeal.nD Cert.MixDhIdeal.τ).loc Cert.MixDhIdeal.main_v0_1)),
      θ_run (Cert.MixDhIdeal.defs (F := Ideal)) (onTc (τ := Cert.MixDhIdeal.τ) (Cert.MixDhIdeal.main (F := Ideal))) ⟨m, fun _ => 0, g⟩ (fun r => ∀ c : Dev Cert.MixDhIdeal.nD,
          r.2.mem ((c.tc : Thread Cert.MixDhIdeal.nD Cert.MixDhIdeal.τ).loc Cert.MixDhIdeal.main_v0_0) = v0 c
          ∧ r.2.mem ((c.tc : Thread Cert.MixDhIdeal.nD Cert.MixDhIdeal.τ).loc Cert.MixDhIdeal.main_v0_1) = v1 c
          ∧ r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
          ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1)
          ∧ r.2.mem ((c.tc : Thread Cert.MixDhIdeal.nD Cert.MixDhIdeal.τ).loc Cert.MixDhIdeal.main_arg2) = m ((c.tc : Thread Cert.MixDhIdeal.nD Cert.MixDhIdeal.τ).loc Cert.MixDhIdeal.main_arg2)
          ∧ r.2.mem ((c.tc : Thread Cert.MixDhIdeal.nD Cert.MixDhIdeal.τ).loc Cert.MixDhIdeal.main_arg3) = m ((c.tc : Thread Cert.MixDhIdeal.nD Cert.MixDhIdeal.τ).loc Cert.MixDhIdeal.main_arg3)
          ∧ r.2.mem ((c.tc : Thread Cert.MixDhIdeal.nD Cert.MixDhIdeal.τ).loc Cert.MixDhIdeal.main_arg4) = m ((c.tc : Thread Cert.MixDhIdeal.nD Cert.MixDhIdeal.τ).loc Cert.MixDhIdeal.main_arg4)
          ∧ r.2.mem ((c.tc : Thread Cert.MixDhIdeal.nD Cert.MixDhIdeal.τ).loc Cert.MixDhIdeal.main_arg5) = m ((c.tc : Thread Cert.MixDhIdeal.nD Cert.MixDhIdeal.τ).loc Cert.MixDhIdeal.main_arg5)
          ∧ r.2.mem ((c.tc : Thread Cert.MixDhIdeal.nD Cert.MixDhIdeal.τ).loc Cert.MixDhIdeal.main_arg6) = m ((c.tc : Thread Cert.MixDhIdeal.nD Cert.MixDhIdeal.τ).loc Cert.MixDhIdeal.main_arg6))
      ∧ θ_run (Cert.MixDhRefIdeal.defs (F := Ideal)) (onTc (τ := Cert.MixDhRefIdeal.τ) (Cert.MixDhRefIdeal.main (F := Ideal))) ⟨m', fun _ => 0, g'⟩ (fun r => ∀ c : Dev Cert.MixDhRefIdeal.nD,
          r.2.mem ((c.tc : Thread Cert.MixDhRefIdeal.nD Cert.MixDhRefIdeal.τ).loc Cert.MixDhRefIdeal.main_v52) = v0 c
          ∧ r.2.mem ((c.tc : Thread Cert.MixDhRefIdeal.nD Cert.MixDhRefIdeal.τ).loc Cert.MixDhRefIdeal.main_v54) = v1 c
          ∧ r.2.mem ((c.tc : Thread Cert.MixDhRefIdeal.nD Cert.MixDhRefIdeal.τ).loc Cert.MixDhRefIdeal.main_arg0) = m' ((c.tc : Thread Cert.MixDhRefIdeal.nD Cert.MixDhRefIdeal.τ).loc Cert.MixDhRefIdeal.main_arg0)
          ∧ r.2.mem ((c.tc : Thread Cert.MixDhRefIdeal.nD Cert.MixDhRefIdeal.τ).loc Cert.MixDhRefIdeal.main_arg1) = m' ((c.tc : Thread Cert.MixDhRefIdeal.nD Cert.MixDhRefIdeal.τ).loc Cert.MixDhRefIdeal.main_arg1)
          ∧ r.2.mem ((c.tc : Thread Cert.MixDhRefIdeal.nD Cert.MixDhRefIdeal.τ).loc Cert.MixDhRefIdeal.main_arg2) = m' ((c.tc : Thread Cert.MixDhRefIdeal.nD Cert.MixDhRefIdeal.τ).loc Cert.MixDhRefIdeal.main_arg2)
          ∧ r.2.mem ((c.tc : Thread Cert.MixDhRefIdeal.nD Cert.MixDhRefIdeal.τ).loc Cert.MixDhRefIdeal.main_arg3) = m' ((c.tc : Thread Cert.MixDhRefIdeal.nD Cert.MixDhRefIdeal.τ).loc Cert.MixDhRefIdeal.main_arg3)
          ∧ r.2.mem ((c.tc : Thread Cert.MixDhRefIdeal.nD Cert.MixDhRefIdeal.τ).loc Cert.MixDhRefIdeal.main_arg4) = m' ((c.tc : Thread Cert.MixDhRefIdeal.nD Cert.MixDhRefIdeal.τ).loc Cert.MixDhRefIdeal.main_arg4)
          ∧ r.2.mem ((c.tc : Thread Cert.MixDhRefIdeal.nD Cert.MixDhRefIdeal.τ).loc Cert.MixDhRefIdeal.main_arg5) = m' ((c.tc : Thread Cert.MixDhRefIdeal.nD Cert.MixDhRefIdeal.τ).loc Cert.MixDhRefIdeal.main_arg5)
          ∧ r.2.mem ((c.tc : Thread Cert.MixDhRefIdeal.nD Cert.MixDhRefIdeal.τ).loc Cert.MixDhRefIdeal.main_arg6) = m' ((c.tc : Thread Cert.MixDhRefIdeal.nD Cert.MixDhRefIdeal.τ).loc Cert.MixDhRefIdeal.main_arg6))

def preserves_DwGu_DwGuIdeal : Prop :=
  True

def algebraic_DwGuIdeal_DwGuRefIdeal [hDwGuIdeal : Cert.DwGuIdeal.Facts] [hDwGuRefIdeal : Cert.DwGuRefIdeal.Facts] : Prop :=
  ∀ (m : (ℓ : Loc Cert.DwGuIdeal.nD Cert.DwGuIdeal.τ Cert.DwGuIdeal.sig) → Buf (Elt Ideal) ℓ) (g : Dev Cert.DwGuIdeal.nD → PrngReg)
    (m' : (ℓ : Loc Cert.DwGuRefIdeal.nD Cert.DwGuRefIdeal.τ Cert.DwGuRefIdeal.sig) → Buf (Elt Ideal) ℓ) (g' : Dev Cert.DwGuRefIdeal.nD → PrngReg), Pre_DwGuIdeal m →
    (∀ c : Dev Cert.DwGuIdeal.nD,
      m' ((c.tc : Thread Cert.DwGuRefIdeal.nD Cert.DwGuRefIdeal.τ).loc Cert.DwGuRefIdeal.main_arg0) = m ((c.tc : Thread Cert.DwGuIdeal.nD Cert.DwGuIdeal.τ).loc Cert.DwGuIdeal.main_arg0)
      ∧ m' ((c.tc : Thread Cert.DwGuRefIdeal.nD Cert.DwGuRefIdeal.τ).loc Cert.DwGuRefIdeal.main_arg1) = m ((c.tc : Thread Cert.DwGuIdeal.nD Cert.DwGuIdeal.τ).loc Cert.DwGuIdeal.main_arg1)) →
    ∃ (v0 : (c : Dev Cert.DwGuIdeal.nD) → Buf (Elt Ideal) ((c.tc : Thread Cert.DwGuIdeal.nD Cert.DwGuIdeal.τ).loc Cert.DwGuIdeal.main_v0)),
      θ_run (Cert.DwGuIdeal.defs (F := Ideal)) (onTc (τ := Cert.DwGuIdeal.τ) (Cert.DwGuIdeal.main (F := Ideal))) ⟨m, fun _ => 0, g⟩ (fun r => ∀ c : Dev Cert.DwGuIdeal.nD,
          r.2.mem ((c.tc : Thread Cert.DwGuIdeal.nD Cert.DwGuIdeal.τ).loc Cert.DwGuIdeal.main_v0) = v0 c
          ∧ r.2.mem ((c.tc : Thread Cert.DwGuIdeal.nD Cert.DwGuIdeal.τ).loc Cert.DwGuIdeal.main_arg0) = m ((c.tc : Thread Cert.DwGuIdeal.nD Cert.DwGuIdeal.τ).loc Cert.DwGuIdeal.main_arg0)
          ∧ r.2.mem ((c.tc : Thread Cert.DwGuIdeal.nD Cert.DwGuIdeal.τ).loc Cert.DwGuIdeal.main_arg1) = m ((c.tc : Thread Cert.DwGuIdeal.nD Cert.DwGuIdeal.τ).loc Cert.DwGuIdeal.main_arg1))
      ∧ θ_run (Cert.DwGuRefIdeal.defs (F := Ideal)) (onTc (τ := Cert.DwGuRefIdeal.τ) (Cert.DwGuRefIdeal.main (F := Ideal))) ⟨m', fun _ => 0, g'⟩ (fun r => ∀ c : Dev Cert.DwGuRefIdeal.nD,
          r.2.mem ((c.tc : Thread Cert.DwGuRefIdeal.nD Cert.DwGuRefIdeal.τ).loc Cert.DwGuRefIdeal.main_v10) = v0 c
          ∧ r.2.mem ((c.tc : Thread Cert.DwGuRefIdeal.nD Cert.DwGuRefIdeal.τ).loc Cert.DwGuRefIdeal.main_arg0) = m' ((c.tc : Thread Cert.DwGuRefIdeal.nD Cert.DwGuRefIdeal.τ).loc Cert.DwGuRefIdeal.main_arg0)
          ∧ r.2.mem ((c.tc : Thread Cert.DwGuRefIdeal.nD Cert.DwGuRefIdeal.τ).loc Cert.DwGuRefIdeal.main_arg1) = m' ((c.tc : Thread Cert.DwGuRefIdeal.nD Cert.DwGuRefIdeal.τ).loc Cert.DwGuRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v4) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v5) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)) (v4 : (c : Dev Cert.MergeBwdIdeal.nD) → Buf (Elt Ideal) ((c.tc : Thread Cert.MergeBwdIdeal.nD Cert.MergeBwdIdeal.τ).loc Cert.MergeBwdIdeal.main_v0_4)) (v5 : (c : Dev Cert.MergeBwdIdeal.nD) → Buf (Elt Ideal) ((c.tc : Thread Cert.MergeBwdIdeal.nD Cert.MergeBwdIdeal.τ).loc Cert.MergeBwdIdeal.main_v0_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_v0_4) = v4 c
          ∧ r.2.mem ((c.tc : Thread Cert.MergeBwdIdeal.nD Cert.MergeBwdIdeal.τ).loc Cert.MergeBwdIdeal.main_v0_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v77) = v0 c
          ∧ r.2.mem ((c.tc : Thread Cert.MergeBwdRefIdeal.nD Cert.MergeBwdRefIdeal.τ).loc Cert.MergeBwdRefIdeal.main_v78) = v1 c
          ∧ r.2.mem ((c.tc : Thread Cert.MergeBwdRefIdeal.nD Cert.MergeBwdRefIdeal.τ).loc Cert.MergeBwdRefIdeal.main_v79) = v2 c
          ∧ r.2.mem ((c.tc : Thread Cert.MergeBwdRefIdeal.nD Cert.MergeBwdRefIdeal.τ).loc Cert.MergeBwdRefIdeal.main_v80) = v3 c
          ∧ r.2.mem ((c.tc : Thread Cert.MergeBwdRefIdeal.nD Cert.MergeBwdRefIdeal.τ).loc Cert.MergeBwdRefIdeal.main_v81) = v4 c
          ∧ r.2.mem ((c.tc : Thread Cert.MergeBwdRefIdeal.nD Cert.MergeBwdRefIdeal.τ).loc Cert.MergeBwdRefIdeal.main_v83) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7))

def preserves_RecinBwd_RecinBwdIdeal : Prop :=
  True

def algebraic_RecinBwdIdeal_RecinBwdRefIdeal [hRecinBwdIdeal : Cert.RecinBwdIdeal.Facts] [hRecinBwdRefIdeal : Cert.RecinBwdRefIdeal.Facts] : Prop :=
  ∀ (m : (ℓ : Loc Cert.RecinBwdIdeal.nD Cert.RecinBwdIdeal.τ Cert.RecinBwdIdeal.sig) → Buf (Elt Ideal) ℓ) (g : Dev Cert.RecinBwdIdeal.nD → PrngReg)
    (m' : (ℓ : Loc Cert.RecinBwdRefIdeal.nD Cert.RecinBwdRefIdeal.τ Cert.RecinBwdRefIdeal.sig) → Buf (Elt Ideal) ℓ) (g' : Dev Cert.RecinBwdRefIdeal.nD → PrngReg), Pre_RecinBwdIdeal m →
    (∀ c : Dev Cert.RecinBwdIdeal.nD,
      m' ((c.tc : Thread Cert.RecinBwdRefIdeal.nD Cert.RecinBwdRefIdeal.τ).loc Cert.RecinBwdRefIdeal.main_arg0) = m ((c.tc : Thread Cert.RecinBwdIdeal.nD Cert.RecinBwdIdeal.τ).loc Cert.RecinBwdIdeal.main_arg0)
      ∧ m' ((c.tc : Thread Cert.RecinBwdRefIdeal.nD Cert.RecinBwdRefIdeal.τ).loc Cert.RecinBwdRefIdeal.main_arg1) = m ((c.tc : Thread Cert.RecinBwdIdeal.nD Cert.RecinBwdIdeal.τ).loc Cert.RecinBwdIdeal.main_arg1)
      ∧ m' ((c.tc : Thread Cert.RecinBwdRefIdeal.nD Cert.RecinBwdRefIdeal.τ).loc Cert.RecinBwdRefIdeal.main_arg2) = m ((c.tc : Thread Cert.RecinBwdIdeal.nD Cert.RecinBwdIdeal.τ).loc Cert.RecinBwdIdeal.main_arg2)
      ∧ m' ((c.tc : Thread Cert.RecinBwdRefIdeal.nD Cert.RecinBwdRefIdeal.τ).loc Cert.RecinBwdRefIdeal.main_arg3) = m ((c.tc : Thread Cert.RecinBwdIdeal.nD Cert.RecinBwdIdeal.τ).loc Cert.RecinBwdIdeal.main_arg3)) →
    ∃ (v0 : (c : Dev Cert.RecinBwdIdeal.nD) → Buf (Elt Ideal) ((c.tc : Thread Cert.RecinBwdIdeal.nD Cert.RecinBwdIdeal.τ).loc Cert.RecinBwdIdeal.main_v0_0)) (v1 : (c : Dev Cert.RecinBwdIdeal.nD) → Buf (Elt Ideal) ((c.tc : Thread Cert.RecinBwdIdeal.nD Cert.RecinBwdIdeal.τ).loc Cert.RecinBwdIdeal.main_v0_1)),
      θ_run (Cert.RecinBwdIdeal.defs (F := Ideal)) (onTc (τ := Cert.RecinBwdIdeal.τ) (Cert.RecinBwdIdeal.main (F := Ideal))) ⟨m, fun _ => 0, g⟩ (fun r => ∀ c : Dev Cert.RecinBwdIdeal.nD,
          r.2.mem ((c.tc : Thread Cert.RecinBwdIdeal.nD Cert.RecinBwdIdeal.τ).loc Cert.RecinBwdIdeal.main_v0_0) = v0 c
          ∧ r.2.mem ((c.tc : Thread Cert.RecinBwdIdeal.nD Cert.RecinBwdIdeal.τ).loc Cert.RecinBwdIdeal.main_v0_1) = v1 c
          ∧ r.2.mem ((c.tc : Thread Cert.RecinBwdIdeal.nD Cert.RecinBwdIdeal.τ).loc Cert.RecinBwdIdeal.main_arg0) = m ((c.tc : Thread Cert.RecinBwdIdeal.nD Cert.RecinBwdIdeal.τ).loc Cert.RecinBwdIdeal.main_arg0)
          ∧ r.2.mem ((c.tc : Thread Cert.RecinBwdIdeal.nD Cert.RecinBwdIdeal.τ).loc Cert.RecinBwdIdeal.main_arg1) = m ((c.tc : Thread Cert.RecinBwdIdeal.nD Cert.RecinBwdIdeal.τ).loc Cert.RecinBwdIdeal.main_arg1)
          ∧ r.2.mem ((c.tc : Thread Cert.RecinBwdIdeal.nD Cert.RecinBwdIdeal.τ).loc Cert.RecinBwdIdeal.main_arg2) = m ((c.tc : Thread Cert.RecinBwdIdeal.nD Cert.RecinBwdIdeal.τ).loc Cert.RecinBwdIdeal.main_arg2)
          ∧ r.2.mem ((c.tc : Thread Cert.RecinBwdIdeal.nD Cert.RecinBwdIdeal.τ).loc Cert.RecinBwdIdeal.main_arg3) = m ((c.tc : Thread Cert.RecinBwdIdeal.nD Cert.RecinBwdIdeal.τ).loc Cert.RecinBwdIdeal.main_arg3))
      ∧ θ_run (Cert.RecinBwdRefIdeal.defs (F := Ideal)) (onTc (τ := Cert.RecinBwdRefIdeal.τ) (Cert.RecinBwdRefIdeal.main (F := Ideal))) ⟨m', fun _ => 0, g'⟩ (fun r => ∀ c : Dev Cert.RecinBwdRefIdeal.nD,
          r.2.mem ((c.tc : Thread Cert.RecinBwdRefIdeal.nD Cert.RecinBwdRefIdeal.τ).loc Cert.RecinBwdRefIdeal.main_v28) = v0 c
          ∧ r.2.mem ((c.tc : Thread Cert.RecinBwdRefIdeal.nD Cert.RecinBwdRefIdeal.τ).loc Cert.RecinBwdRefIdeal.main_v41) = v1 c
          ∧ r.2.mem ((c.tc : Thread Cert.RecinBwdRefIdeal.nD Cert.RecinBwdRefIdeal.τ).loc Cert.RecinBwdRefIdeal.main_arg0) = m' ((c.tc : Thread Cert.RecinBwdRefIdeal.nD Cert.RecinBwdRefIdeal.τ).loc Cert.RecinBwdRefIdeal.main_arg0)
          ∧ r.2.mem ((c.tc : Thread Cert.RecinBwdRefIdeal.nD Cert.RecinBwdRefIdeal.τ).loc Cert.RecinBwdRefIdeal.main_arg1) = m' ((c.tc : Thread Cert.RecinBwdRefIdeal.nD Cert.RecinBwdRefIdeal.τ).loc Cert.RecinBwdRefIdeal.main_arg1)
          ∧ r.2.mem ((c.tc : Thread Cert.RecinBwdRefIdeal.nD Cert.RecinBwdRefIdeal.τ).loc Cert.RecinBwdRefIdeal.main_arg2) = m' ((c.tc : Thread Cert.RecinBwdRefIdeal.nD Cert.RecinBwdRefIdeal.τ).loc Cert.RecinBwdRefIdeal.main_arg2)
          ∧ r.2.mem ((c.tc : Thread Cert.RecinBwdRefIdeal.nD Cert.RecinBwdRefIdeal.τ).loc Cert.RecinBwdRefIdeal.main_arg3) = m' ((c.tc : Thread Cert.RecinBwdRefIdeal.nD Cert.RecinBwdRefIdeal.τ).loc Cert.RecinBwdRefIdeal.main_arg3))

def preserves_MmPost_MmPostIdeal : Prop :=
  True

def algebraic_MmPostIdeal_MmPostRefIdeal [hMmPostIdeal : Cert.MmPostIdeal.Facts] [hMmPostRefIdeal : Cert.MmPostRefIdeal.Facts] : Prop :=
  ∀ (m : (ℓ : Loc Cert.MmPostIdeal.nD Cert.MmPostIdeal.τ Cert.MmPostIdeal.sig) → Buf (Elt Ideal) ℓ) (g : Dev Cert.MmPostIdeal.nD → PrngReg)
    (m' : (ℓ : Loc Cert.MmPostRefIdeal.nD Cert.MmPostRefIdeal.τ Cert.MmPostRefIdeal.sig) → Buf (Elt Ideal) ℓ) (g' : Dev Cert.MmPostRefIdeal.nD → PrngReg), Pre_MmPostIdeal m →
    (∀ c : Dev Cert.MmPostIdeal.nD,
      m' ((c.tc : Thread Cert.MmPostRefIdeal.nD Cert.MmPostRefIdeal.τ).loc Cert.MmPostRefIdeal.main_arg0) = m ((c.tc : Thread Cert.MmPostIdeal.nD Cert.MmPostIdeal.τ).loc Cert.MmPostIdeal.main_arg0)
      ∧ m' ((c.tc : Thread Cert.MmPostRefIdeal.nD Cert.MmPostRefIdeal.τ).loc Cert.MmPostRefIdeal.main_arg1) = m ((c.tc : Thread Cert.MmPostIdeal.nD Cert.MmPostIdeal.τ).loc Cert.MmPostIdeal.main_arg1)
      ∧ m' ((c.tc : Thread Cert.MmPostRefIdeal.nD Cert.MmPostRefIdeal.τ).loc Cert.MmPostRefIdeal.main_arg2) = m ((c.tc : Thread Cert.MmPostIdeal.nD Cert.MmPostIdeal.τ).loc Cert.MmPostIdeal.main_arg2)
      ∧ m' ((c.tc : Thread Cert.MmPostRefIdeal.nD Cert.MmPostRefIdeal.τ).loc Cert.MmPostRefIdeal.main_arg3) = m ((c.tc : Thread Cert.MmPostIdeal.nD Cert.MmPostIdeal.τ).loc Cert.MmPostIdeal.main_arg3)
      ∧ m' ((c.tc : Thread Cert.MmPostRefIdeal.nD Cert.MmPostRefIdeal.τ).loc Cert.MmPostRefIdeal.main_arg4) = m ((c.tc : Thread Cert.MmPostIdeal.nD Cert.MmPostIdeal.τ).loc Cert.MmPostIdeal.main_arg4)) →
    ∃ (v0 : (c : Dev Cert.MmPostIdeal.nD) → Buf (Elt Ideal) ((c.tc : Thread Cert.MmPostIdeal.nD Cert.MmPostIdeal.τ).loc Cert.MmPostIdeal.main_v0_0)) (v1 : (c : Dev Cert.MmPostIdeal.nD) → Buf (Elt Ideal) ((c.tc : Thread Cert.MmPostIdeal.nD Cert.MmPostIdeal.τ).loc Cert.MmPostIdeal.main_v0_1)),
      θ_run (Cert.MmPostIdeal.defs (F := Ideal)) (onTc (τ := Cert.MmPostIdeal.τ) (Cert.MmPostIdeal.main (F := Ideal))) ⟨m, fun _ => 0, g⟩ (fun r => ∀ c : Dev Cert.MmPostIdeal.nD,
          r.2.mem ((c.tc : Thread Cert.MmPostIdeal.nD Cert.MmPostIdeal.τ).loc Cert.MmPostIdeal.main_v0_0) = v0 c
          ∧ r.2.mem ((c.tc : Thread Cert.MmPostIdeal.nD Cert.MmPostIdeal.τ).loc Cert.MmPostIdeal.main_v0_1) = v1 c
          ∧ r.2.mem ((c.tc : Thread Cert.MmPostIdeal.nD Cert.MmPostIdeal.τ).loc Cert.MmPostIdeal.main_arg0) = m ((c.tc : Thread Cert.MmPostIdeal.nD Cert.MmPostIdeal.τ).loc Cert.MmPostIdeal.main_arg0)
          ∧ r.2.mem ((c.tc : Thread Cert.MmPostIdeal.nD Cert.MmPostIdeal.τ).loc Cert.MmPostIdeal.main_arg1) = m ((c.tc : Thread Cert.MmPostIdeal.nD Cert.MmPostIdeal.τ).loc Cert.MmPostIdeal.main_arg1)
          ∧ r.2.mem ((c.tc : Thread Cert.MmPostIdeal.nD Cert.MmPostIdeal.τ).loc Cert.MmPostIdeal.main_arg2) = m ((c.tc : Thread Cert.MmPostIdeal.nD Cert.MmPostIdeal.τ).loc Cert.MmPostIdeal.main_arg2)
          ∧ r.2.mem ((c.tc : Thread Cert.MmPostIdeal.nD Cert.MmPostIdeal.τ).loc Cert.MmPostIdeal.main_arg3) = m ((c.tc : Thread Cert.MmPostIdeal.nD Cert.MmPostIdeal.τ).loc Cert.MmPostIdeal.main_arg3)
          ∧ r.2.mem ((c.tc : Thread Cert.MmPostIdeal.nD Cert.MmPostIdeal.τ).loc Cert.MmPostIdeal.main_arg4) = m ((c.tc : Thread Cert.MmPostIdeal.nD Cert.MmPostIdeal.τ).loc Cert.MmPostIdeal.main_arg4))
      ∧ θ_run (Cert.MmPostRefIdeal.defs (F := Ideal)) (onTc (τ := Cert.MmPostRefIdeal.τ) (Cert.MmPostRefIdeal.main (F := Ideal))) ⟨m', fun _ => 0, g'⟩ (fun r => ∀ c : Dev Cert.MmPostRefIdeal.nD,
          r.2.mem ((c.tc : Thread Cert.MmPostRefIdeal.nD Cert.MmPostRefIdeal.τ).loc Cert.MmPostRefIdeal.main_v2) = v0 c
          ∧ r.2.mem ((c.tc : Thread Cert.MmPostRefIdeal.nD Cert.MmPostRefIdeal.τ).loc Cert.MmPostRefIdeal.main_v19) = v1 c
          ∧ r.2.mem ((c.tc : Thread Cert.MmPostRefIdeal.nD Cert.MmPostRefIdeal.τ).loc Cert.MmPostRefIdeal.main_arg0) = m' ((c.tc : Thread Cert.MmPostRefIdeal.nD Cert.MmPostRefIdeal.τ).loc Cert.MmPostRefIdeal.main_arg0)
          ∧ r.2.mem ((c.tc : Thread Cert.MmPostRefIdeal.nD Cert.MmPostRefIdeal.τ).loc Cert.MmPostRefIdeal.main_arg1) = m' ((c.tc : Thread Cert.MmPostRefIdeal.nD Cert.MmPostRefIdeal.τ).loc Cert.MmPostRefIdeal.main_arg1)
          ∧ r.2.mem ((c.tc : Thread Cert.MmPostRefIdeal.nD Cert.MmPostRefIdeal.τ).loc Cert.MmPostRefIdeal.main_arg2) = m' ((c.tc : Thread Cert.MmPostRefIdeal.nD Cert.MmPostRefIdeal.τ).loc Cert.MmPostRefIdeal.main_arg2)
          ∧ r.2.mem ((c.tc : Thread Cert.MmPostRefIdeal.nD Cert.MmPostRefIdeal.τ).loc Cert.MmPostRefIdeal.main_arg3) = m' ((c.tc : Thread Cert.MmPostRefIdeal.nD Cert.MmPostRefIdeal.τ).loc Cert.MmPostRefIdeal.main_arg3)
          ∧ r.2.mem ((c.tc : Thread Cert.MmPostRefIdeal.nD Cert.MmPostRefIdeal.τ).loc Cert.MmPostRefIdeal.main_arg4) = m' ((c.tc : Thread Cert.MmPostRefIdeal.nD Cert.MmPostRefIdeal.τ).loc Cert.MmPostRefIdeal.main_arg4))

def preserves_MergePost_MergePostIdeal : Prop :=
  True

def algebraic_MergePostIdeal_MergePostRefIdeal [hMergePostIdeal : Cert.MergePostIdeal.Facts] [hMergePostRefIdeal : Cert.MergePostRefIdeal.Facts] : Prop :=
  ∀ (m : (ℓ : Loc Cert.MergePostIdeal.nD Cert.MergePostIdeal.τ Cert.MergePostIdeal.sig) → Buf (Elt Ideal) ℓ) (g : Dev Cert.MergePostIdeal.nD → PrngReg)
    (m' : (ℓ : Loc Cert.MergePostRefIdeal.nD Cert.MergePostRefIdeal.τ Cert.MergePostRefIdeal.sig) → Buf (Elt Ideal) ℓ) (g' : Dev Cert.MergePostRefIdeal.nD → PrngReg), Pre_MergePostIdeal m →
    (∀ c : Dev Cert.MergePostIdeal.nD,
      m' ((c.tc : Thread Cert.MergePostRefIdeal.nD Cert.MergePostRefIdeal.τ).loc Cert.MergePostRefIdeal.main_arg0) = m ((c.tc : Thread Cert.MergePostIdeal.nD Cert.MergePostIdeal.τ).loc Cert.MergePostIdeal.main_arg0)
      ∧ m' ((c.tc : Thread Cert.MergePostRefIdeal.nD Cert.MergePostRefIdeal.τ).loc Cert.MergePostRefIdeal.main_arg1) = m ((c.tc : Thread Cert.MergePostIdeal.nD Cert.MergePostIdeal.τ).loc Cert.MergePostIdeal.main_arg1)
      ∧ m' ((c.tc : Thread Cert.MergePostRefIdeal.nD Cert.MergePostRefIdeal.τ).loc Cert.MergePostRefIdeal.main_arg2) = m ((c.tc : Thread Cert.MergePostIdeal.nD Cert.MergePostIdeal.τ).loc Cert.MergePostIdeal.main_arg2)
      ∧ m' ((c.tc : Thread Cert.MergePostRefIdeal.nD Cert.MergePostRefIdeal.τ).loc Cert.MergePostRefIdeal.main_arg3) = m ((c.tc : Thread Cert.MergePostIdeal.nD Cert.MergePostIdeal.τ).loc Cert.MergePostIdeal.main_arg3)
      ∧ m' ((c.tc : Thread Cert.MergePostRefIdeal.nD Cert.MergePostRefIdeal.τ).loc Cert.MergePostRefIdeal.main_arg4) = m ((c.tc : Thread Cert.MergePostIdeal.nD Cert.MergePostIdeal.τ).loc Cert.MergePostIdeal.main_arg4)
      ∧ m' ((c.tc : Thread Cert.MergePostRefIdeal.nD Cert.MergePostRefIdeal.τ).loc Cert.MergePostRefIdeal.main_arg5) = m ((c.tc : Thread Cert.MergePostIdeal.nD Cert.MergePostIdeal.τ).loc Cert.MergePostIdeal.main_arg5)
      ∧ m' ((c.tc : Thread Cert.MergePostRefIdeal.nD Cert.MergePostRefIdeal.τ).loc Cert.MergePostRefIdeal.main_arg6) = m ((c.tc : Thread Cert.MergePostIdeal.nD Cert.MergePostIdeal.τ).loc Cert.MergePostIdeal.main_arg6)) →
    ∃ (v0 : (c : Dev Cert.MergePostIdeal.nD) → Buf (Elt Ideal) ((c.tc : Thread Cert.MergePostIdeal.nD Cert.MergePostIdeal.τ).loc Cert.MergePostIdeal.main_v0_0)) (v1 : (c : Dev Cert.MergePostIdeal.nD) → Buf (Elt Ideal) ((c.tc : Thread Cert.MergePostIdeal.nD Cert.MergePostIdeal.τ).loc Cert.MergePostIdeal.main_v0_1)) (v2 : (c : Dev Cert.MergePostIdeal.nD) → Buf (Elt Ideal) ((c.tc : Thread Cert.MergePostIdeal.nD Cert.MergePostIdeal.τ).loc Cert.MergePostIdeal.main_v0_2)),
      θ_run (Cert.MergePostIdeal.defs (F := Ideal)) (onTc (τ := Cert.MergePostIdeal.τ) (Cert.MergePostIdeal.main (F := Ideal))) ⟨m, fun _ => 0, g⟩ (fun r => ∀ c : Dev Cert.MergePostIdeal.nD,
          r.2.mem ((c.tc : Thread Cert.MergePostIdeal.nD Cert.MergePostIdeal.τ).loc Cert.MergePostIdeal.main_v0_0) = v0 c
          ∧ r.2.mem ((c.tc : Thread Cert.MergePostIdeal.nD Cert.MergePostIdeal.τ).loc Cert.MergePostIdeal.main_v0_1) = v1 c
          ∧ r.2.mem ((c.tc : Thread Cert.MergePostIdeal.nD Cert.MergePostIdeal.τ).loc Cert.MergePostIdeal.main_v0_2) = v2 c
          ∧ r.2.mem ((c.tc : Thread Cert.MergePostIdeal.nD Cert.MergePostIdeal.τ).loc Cert.MergePostIdeal.main_arg0) = m ((c.tc : Thread Cert.MergePostIdeal.nD Cert.MergePostIdeal.τ).loc Cert.MergePostIdeal.main_arg0)
          ∧ r.2.mem ((c.tc : Thread Cert.MergePostIdeal.nD Cert.MergePostIdeal.τ).loc Cert.MergePostIdeal.main_arg1) = m ((c.tc : Thread Cert.MergePostIdeal.nD Cert.MergePostIdeal.τ).loc Cert.MergePostIdeal.main_arg1)
          ∧ r.2.mem ((c.tc : Thread Cert.MergePostIdeal.nD Cert.MergePostIdeal.τ).loc Cert.MergePostIdeal.main_arg2) = m ((c.tc : Thread Cert.MergePostIdeal.nD Cert.MergePostIdeal.τ).loc Cert.MergePostIdeal.main_arg2)
          ∧ r.2.mem ((c.tc : Thread Cert.MergePostIdeal.nD Cert.MergePostIdeal.τ).loc Cert.MergePostIdeal.main_arg3) = m ((c.tc : Thread Cert.MergePostIdeal.nD Cert.MergePostIdeal.τ).loc Cert.MergePostIdeal.main_arg3)
          ∧ r.2.mem ((c.tc : Thread Cert.MergePostIdeal.nD Cert.MergePostIdeal.τ).loc Cert.MergePostIdeal.main_arg4) = m ((c.tc : Thread Cert.MergePostIdeal.nD Cert.MergePostIdeal.τ).loc Cert.MergePostIdeal.main_arg4)
          ∧ r.2.mem ((c.tc : Thread Cert.MergePostIdeal.nD Cert.MergePostIdeal.τ).loc Cert.MergePostIdeal.main_arg5) = m ((c.tc : Thread Cert.MergePostIdeal.nD Cert.MergePostIdeal.τ).loc Cert.MergePostIdeal.main_arg5)
          ∧ r.2.mem ((c.tc : Thread Cert.MergePostIdeal.nD Cert.MergePostIdeal.τ).loc Cert.MergePostIdeal.main_arg6) = m ((c.tc : Thread Cert.MergePostIdeal.nD Cert.MergePostIdeal.τ).loc Cert.MergePostIdeal.main_arg6))
      ∧ θ_run (Cert.MergePostRefIdeal.defs (F := Ideal)) (onTc (τ := Cert.MergePostRefIdeal.τ) (Cert.MergePostRefIdeal.main (F := Ideal))) ⟨m', fun _ => 0, g'⟩ (fun r => ∀ c : Dev Cert.MergePostRefIdeal.nD,
          r.2.mem ((c.tc : Thread Cert.MergePostRefIdeal.nD Cert.MergePostRefIdeal.τ).loc Cert.MergePostRefIdeal.main_v17) = v0 c
          ∧ r.2.mem ((c.tc : Thread Cert.MergePostRefIdeal.nD Cert.MergePostRefIdeal.τ).loc Cert.MergePostRefIdeal.main_v20) = v1 c
          ∧ r.2.mem ((c.tc : Thread Cert.MergePostRefIdeal.nD Cert.MergePostRefIdeal.τ).loc Cert.MergePostRefIdeal.main_v37) = v2 c
          ∧ r.2.mem ((c.tc : Thread Cert.MergePostRefIdeal.nD Cert.MergePostRefIdeal.τ).loc Cert.MergePostRefIdeal.main_arg0) = m' ((c.tc : Thread Cert.MergePostRefIdeal.nD Cert.MergePostRefIdeal.τ).loc Cert.MergePostRefIdeal.main_arg0)
          ∧ r.2.mem ((c.tc : Thread Cert.MergePostRefIdeal.nD Cert.MergePostRefIdeal.τ).loc Cert.MergePostRefIdeal.main_arg1) = m' ((c.tc : Thread Cert.MergePostRefIdeal.nD Cert.MergePostRefIdeal.τ).loc Cert.MergePostRefIdeal.main_arg1)
          ∧ r.2.mem ((c.tc : Thread Cert.MergePostRefIdeal.nD Cert.MergePostRefIdeal.τ).loc Cert.MergePostRefIdeal.main_arg2) = m' ((c.tc : Thread Cert.MergePostRefIdeal.nD Cert.MergePostRefIdeal.τ).loc Cert.MergePostRefIdeal.main_arg2)
          ∧ r.2.mem ((c.tc : Thread Cert.MergePostRefIdeal.nD Cert.MergePostRefIdeal.τ).loc Cert.MergePostRefIdeal.main_arg3) = m' ((c.tc : Thread Cert.MergePostRefIdeal.nD Cert.MergePostRefIdeal.τ).loc Cert.MergePostRefIdeal.main_arg3)
          ∧ r.2.mem ((c.tc : Thread Cert.MergePostRefIdeal.nD Cert.MergePostRefIdeal.τ).loc Cert.MergePostRefIdeal.main_arg4) = m' ((c.tc : Thread Cert.MergePostRefIdeal.nD Cert.MergePostRefIdeal.τ).loc Cert.MergePostRefIdeal.main_arg4)
          ∧ r.2.mem ((c.tc : Thread Cert.MergePostRefIdeal.nD Cert.MergePostRefIdeal.τ).loc Cert.MergePostRefIdeal.main_arg5) = m' ((c.tc : Thread Cert.MergePostRefIdeal.nD Cert.MergePostRefIdeal.τ).loc Cert.MergePostRefIdeal.main_arg5)
          ∧ r.2.mem ((c.tc : Thread Cert.MergePostRefIdeal.nD Cert.MergePostRefIdeal.τ).loc Cert.MergePostRefIdeal.main_arg6) = m' ((c.tc : Thread Cert.MergePostRefIdeal.nD Cert.MergePostRefIdeal.τ).loc Cert.MergePostRefIdeal.main_arg6))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v4) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DwRecO_DwRecOIdeal : Prop :=
  True

def algebraic_DwRecOIdeal_DwRecORefIdeal [hDwRecOIdeal : Cert.DwRecOIdeal.Facts] [hDwRecORefIdeal : Cert.DwRecORefIdeal.Facts] : Prop :=
  ∀ (m : (ℓ : Loc Cert.DwRecOIdeal.nD Cert.DwRecOIdeal.τ Cert.DwRecOIdeal.sig) → Buf (Elt Ideal) ℓ) (g : Dev Cert.DwRecOIdeal.nD → PrngReg)
    (m' : (ℓ : Loc Cert.DwRecORefIdeal.nD Cert.DwRecORefIdeal.τ Cert.DwRecORefIdeal.sig) → Buf (Elt Ideal) ℓ) (g' : Dev Cert.DwRecORefIdeal.nD → PrngReg), Pre_DwRecOIdeal m →
    (∀ c : Dev Cert.DwRecOIdeal.nD,
      m' ((c.tc : Thread Cert.DwRecORefIdeal.nD Cert.DwRecORefIdeal.τ).loc Cert.DwRecORefIdeal.main_arg0) = m ((c.tc : Thread Cert.DwRecOIdeal.nD Cert.DwRecOIdeal.τ).loc Cert.DwRecOIdeal.main_arg0)
      ∧ m' ((c.tc : Thread Cert.DwRecORefIdeal.nD Cert.DwRecORefIdeal.τ).loc Cert.DwRecORefIdeal.main_arg1) = m ((c.tc : Thread Cert.DwRecOIdeal.nD Cert.DwRecOIdeal.τ).loc Cert.DwRecOIdeal.main_arg1)) →
    ∃ (v0 : (c : Dev Cert.DwRecOIdeal.nD) → Buf (Elt Ideal) ((c.tc : Thread Cert.DwRecOIdeal.nD Cert.DwRecOIdeal.τ).loc Cert.DwRecOIdeal.main_v0)),
      θ_run (Cert.DwRecOIdeal.defs (F := Ideal)) (onTc (τ := Cert.DwRecOIdeal.τ) (Cert.DwRecOIdeal.main (F := Ideal))) ⟨m, fun _ => 0, g⟩ (fun r => ∀ c : Dev Cert.DwRecOIdeal.nD,
          r.2.mem ((c.tc : Thread Cert.DwRecOIdeal.nD Cert.DwRecOIdeal.τ).loc Cert.DwRecOIdeal.main_v0) = v0 c
          ∧ r.2.mem ((c.tc : Thread Cert.DwRecOIdeal.nD Cert.DwRecOIdeal.τ).loc Cert.DwRecOIdeal.main_arg0) = m ((c.tc : Thread Cert.DwRecOIdeal.nD Cert.DwRecOIdeal.τ).loc Cert.DwRecOIdeal.main_arg0)
          ∧ r.2.mem ((c.tc : Thread Cert.DwRecOIdeal.nD Cert.DwRecOIdeal.τ).loc Cert.DwRecOIdeal.main_arg1) = m ((c.tc : Thread Cert.DwRecOIdeal.nD Cert.DwRecOIdeal.τ).loc Cert.DwRecOIdeal.main_arg1))
      ∧ θ_run (Cert.DwRecORefIdeal.defs (F := Ideal)) (onTc (τ := Cert.DwRecORefIdeal.τ) (Cert.DwRecORefIdeal.main (F := Ideal))) ⟨m', fun _ => 0, g'⟩ (fun r => ∀ c : Dev Cert.DwRecORefIdeal.nD,
          r.2.mem ((c.tc : Thread Cert.DwRecORefIdeal.nD Cert.DwRecORefIdeal.τ).loc Cert.DwRecORefIdeal.main_v4) = v0 c
          ∧ r.2.mem ((c.tc : Thread Cert.DwRecORefIdeal.nD Cert.DwRecORefIdeal.τ).loc Cert.DwRecORefIdeal.main_arg0) = m' ((c.tc : Thread Cert.DwRecORefIdeal.nD Cert.DwRecORefIdeal.τ).loc Cert.DwRecORefIdeal.main_arg0)
          ∧ r.2.mem ((c.tc : Thread Cert.DwRecORefIdeal.nD Cert.DwRecORefIdeal.τ).loc Cert.DwRecORefIdeal.main_arg1) = m' ((c.tc : Thread Cert.DwRecORefIdeal.nD Cert.DwRecORefIdeal.τ).loc Cert.DwRecORefIdeal.main_arg1))

def preserves_DwAttO_DwAttOIdeal : Prop :=
  True

def algebraic_DwAttOIdeal_DwAttORefIdeal [hDwAttOIdeal : Cert.DwAttOIdeal.Facts] [hDwAttORefIdeal : Cert.DwAttORefIdeal.Facts] : Prop :=
  ∀ (m : (ℓ : Loc Cert.DwAttOIdeal.nD Cert.DwAttOIdeal.τ Cert.DwAttOIdeal.sig) → Buf (Elt Ideal) ℓ) (g : Dev Cert.DwAttOIdeal.nD → PrngReg)
    (m' : (ℓ : Loc Cert.DwAttORefIdeal.nD Cert.DwAttORefIdeal.τ Cert.DwAttORefIdeal.sig) → Buf (Elt Ideal) ℓ) (g' : Dev Cert.DwAttORefIdeal.nD → PrngReg), Pre_DwAttOIdeal m →
    (∀ c : Dev Cert.DwAttOIdeal.nD,
      m' ((c.tc : Thread Cert.DwAttORefIdeal.nD Cert.DwAttORefIdeal.τ).loc Cert.DwAttORefIdeal.main_arg0) = m ((c.tc : Thread Cert.DwAttOIdeal.nD Cert.DwAttOIdeal.τ).loc Cert.DwAttOIdeal.main_arg0)
      ∧ m' ((c.tc : Thread Cert.DwAttORefIdeal.nD Cert.DwAttORefIdeal.τ).loc Cert.DwAttORefIdeal.main_arg1) = m ((c.tc : Thread Cert.DwAttOIdeal.nD Cert.DwAttOIdeal.τ).loc Cert.DwAttOIdeal.main_arg1)) →
    ∃ (v0 : (c : Dev Cert.DwAttOIdeal.nD) → Buf (Elt Ideal) ((c.tc : Thread Cert.DwAttOIdeal.nD Cert.DwAttOIdeal.τ).loc Cert.DwAttOIdeal.main_v0)),
      θ_run (Cert.DwAttOIdeal.defs (F := Ideal)) (onTc (τ := Cert.DwAttOIdeal.τ) (Cert.DwAttOIdeal.main (F := Ideal))) ⟨m, fun _ => 0, g⟩ (fun r => ∀ c : Dev Cert.DwAttOIdeal.nD,
          r.2.mem ((c.tc : Thread Cert.DwAttOIdeal.nD Cert.DwAttOIdeal.τ).loc Cert.DwAttOIdeal.main_v0) = v0 c
          ∧ r.2.mem ((c.tc : Thread Cert.DwAttOIdeal.nD Cert.DwAttOIdeal.τ).loc Cert.DwAttOIdeal.main_arg0) = m ((c.tc : Thread Cert.DwAttOIdeal.nD Cert.DwAttOIdeal.τ).loc Cert.DwAttOIdeal.main_arg0)
          ∧ r.2.mem ((c.tc : Thread Cert.DwAttOIdeal.nD Cert.DwAttOIdeal.τ).loc Cert.DwAttOIdeal.main_arg1) = m ((c.tc : Thread Cert.DwAttOIdeal.nD Cert.DwAttOIdeal.τ).loc Cert.DwAttOIdeal.main_arg1))
      ∧ θ_run (Cert.DwAttORefIdeal.defs (F := Ideal)) (onTc (τ := Cert.DwAttORefIdeal.τ) (Cert.DwAttORefIdeal.main (F := Ideal))) ⟨m', fun _ => 0, g'⟩ (fun r => ∀ c : Dev Cert.DwAttORefIdeal.nD,
          r.2.mem ((c.tc : Thread Cert.DwAttORefIdeal.nD Cert.DwAttORefIdeal.τ).loc Cert.DwAttORefIdeal.main_v4) = v0 c
          ∧ r.2.mem ((c.tc : Thread Cert.DwAttORefIdeal.nD Cert.DwAttORefIdeal.τ).loc Cert.DwAttORefIdeal.main_arg0) = m' ((c.tc : Thread Cert.DwAttORefIdeal.nD Cert.DwAttORefIdeal.τ).loc Cert.DwAttORefIdeal.main_arg0)
          ∧ r.2.mem ((c.tc : Thread Cert.DwAttORefIdeal.nD Cert.DwAttORefIdeal.τ).loc Cert.DwAttORefIdeal.main_arg1) = m' ((c.tc : Thread Cert.DwAttORefIdeal.nD Cert.DwAttORefIdeal.τ).loc Cert.DwAttORefIdeal.main_arg1))

def preserves_PreUp_PreUpIdeal : Prop :=
  True

def algebraic_PreUpIdeal_PreUpRefIdeal [hPreUpIdeal : Cert.PreUpIdeal.Facts] [hPreUpRefIdeal : Cert.PreUpRefIdeal.Facts] : Prop :=
  ∀ (m : (ℓ : Loc Cert.PreUpIdeal.nD Cert.PreUpIdeal.τ Cert.PreUpIdeal.sig) → Buf (Elt Ideal) ℓ) (g : Dev Cert.PreUpIdeal.nD → PrngReg)
    (m' : (ℓ : Loc Cert.PreUpRefIdeal.nD Cert.PreUpRefIdeal.τ Cert.PreUpRefIdeal.sig) → Buf (Elt Ideal) ℓ) (g' : Dev Cert.PreUpRefIdeal.nD → PrngReg), Pre_PreUpIdeal m →
    (∀ c : Dev Cert.PreUpIdeal.nD,
      m' ((c.tc : Thread Cert.PreUpRefIdeal.nD Cert.PreUpRefIdeal.τ).loc Cert.PreUpRefIdeal.main_arg0) = m ((c.tc : Thread Cert.PreUpIdeal.nD Cert.PreUpIdeal.τ).loc Cert.PreUpIdeal.main_arg0)
      ∧ m' ((c.tc : Thread Cert.PreUpRefIdeal.nD Cert.PreUpRefIdeal.τ).loc Cert.PreUpRefIdeal.main_arg1) = m ((c.tc : Thread Cert.PreUpIdeal.nD Cert.PreUpIdeal.τ).loc Cert.PreUpIdeal.main_arg1)
      ∧ m' ((c.tc : Thread Cert.PreUpRefIdeal.nD Cert.PreUpRefIdeal.τ).loc Cert.PreUpRefIdeal.main_arg2) = m ((c.tc : Thread Cert.PreUpIdeal.nD Cert.PreUpIdeal.τ).loc Cert.PreUpIdeal.main_arg2)
      ∧ m' ((c.tc : Thread Cert.PreUpRefIdeal.nD Cert.PreUpRefIdeal.τ).loc Cert.PreUpRefIdeal.main_arg3) = m ((c.tc : Thread Cert.PreUpIdeal.nD Cert.PreUpIdeal.τ).loc Cert.PreUpIdeal.main_arg3)
      ∧ m' ((c.tc : Thread Cert.PreUpRefIdeal.nD Cert.PreUpRefIdeal.τ).loc Cert.PreUpRefIdeal.main_arg4) = m ((c.tc : Thread Cert.PreUpIdeal.nD Cert.PreUpIdeal.τ).loc Cert.PreUpIdeal.main_arg4)) →
    ∃ (v0 : (c : Dev Cert.PreUpIdeal.nD) → Buf (Elt Ideal) ((c.tc : Thread Cert.PreUpIdeal.nD Cert.PreUpIdeal.τ).loc Cert.PreUpIdeal.main_v0_0)) (v1 : (c : Dev Cert.PreUpIdeal.nD) → Buf (Elt Ideal) ((c.tc : Thread Cert.PreUpIdeal.nD Cert.PreUpIdeal.τ).loc Cert.PreUpIdeal.main_v0_1)) (v2 : (c : Dev Cert.PreUpIdeal.nD) → Buf (Elt Ideal) ((c.tc : Thread Cert.PreUpIdeal.nD Cert.PreUpIdeal.τ).loc Cert.PreUpIdeal.main_v0_2)) (v3 : (c : Dev Cert.PreUpIdeal.nD) → Buf (Elt Ideal) ((c.tc : Thread Cert.PreUpIdeal.nD Cert.PreUpIdeal.τ).loc Cert.PreUpIdeal.main_v0_3)),
      θ_run (Cert.PreUpIdeal.defs (F := Ideal)) (onTc (τ := Cert.PreUpIdeal.τ) (Cert.PreUpIdeal.main (F := Ideal))) ⟨m, fun _ => 0, g⟩ (fun r => ∀ c : Dev Cert.PreUpIdeal.nD,
          r.2.mem ((c.tc : Thread Cert.PreUpIdeal.nD Cert.PreUpIdeal.τ).loc Cert.PreUpIdeal.main_v0_0) = v0 c
          ∧ r.2.mem ((c.tc : Thread Cert.PreUpIdeal.nD Cert.PreUpIdeal.τ).loc Cert.PreUpIdeal.main_v0_1) = v1 c
          ∧ r.2.mem ((c.tc : Thread Cert.PreUpIdeal.nD Cert.PreUpIdeal.τ).loc Cert.PreUpIdeal.main_v0_2) = v2 c
          ∧ r.2.mem ((c.tc : Thread Cert.PreUpIdeal.nD Cert.PreUpIdeal.τ).loc Cert.PreUpIdeal.main_v0_3) = v3 c
          ∧ r.2.mem ((c.tc : Thread Cert.PreUpIdeal.nD Cert.PreUpIdeal.τ).loc Cert.PreUpIdeal.main_arg0) = m ((c.tc : Thread Cert.PreUpIdeal.nD Cert.PreUpIdeal.τ).loc Cert.PreUpIdeal.main_arg0)
          ∧ r.2.mem ((c.tc : Thread Cert.PreUpIdeal.nD Cert.PreUpIdeal.τ).loc Cert.PreUpIdeal.main_arg1) = m ((c.tc : Thread Cert.PreUpIdeal.nD Cert.PreUpIdeal.τ).loc Cert.PreUpIdeal.main_arg1)
          ∧ r.2.mem ((c.tc : Thread Cert.PreUpIdeal.nD Cert.PreUpIdeal.τ).loc Cert.PreUpIdeal.main_arg2) = m ((c.tc : Thread Cert.PreUpIdeal.nD Cert.PreUpIdeal.τ).loc Cert.PreUpIdeal.main_arg2)
          ∧ r.2.mem ((c.tc : Thread Cert.PreUpIdeal.nD Cert.PreUpIdeal.τ).loc Cert.PreUpIdeal.main_arg3) = m ((c.tc : Thread Cert.PreUpIdeal.nD Cert.PreUpIdeal.τ).loc Cert.PreUpIdeal.main_arg3)
          ∧ r.2.mem ((c.tc : Thread Cert.PreUpIdeal.nD Cert.PreUpIdeal.τ).loc Cert.PreUpIdeal.main_arg4) = m ((c.tc : Thread Cert.PreUpIdeal.nD Cert.PreUpIdeal.τ).loc Cert.PreUpIdeal.main_arg4))
      ∧ θ_run (Cert.PreUpRefIdeal.defs (F := Ideal)) (onTc (τ := Cert.PreUpRefIdeal.τ) (Cert.PreUpRefIdeal.main (F := Ideal))) ⟨m', fun _ => 0, g'⟩ (fun r => ∀ c : Dev Cert.PreUpRefIdeal.nD,
          r.2.mem ((c.tc : Thread Cert.PreUpRefIdeal.nD Cert.PreUpRefIdeal.τ).loc Cert.PreUpRefIdeal.main_v25) = v0 c
          ∧ r.2.mem ((c.tc : Thread Cert.PreUpRefIdeal.nD Cert.PreUpRefIdeal.τ).loc Cert.PreUpRefIdeal.main_v26) = v1 c
          ∧ r.2.mem ((c.tc : Thread Cert.PreUpRefIdeal.nD Cert.PreUpRefIdeal.τ).loc Cert.PreUpRefIdeal.main_v27) = v2 c
          ∧ r.2.mem ((c.tc : Thread Cert.PreUpRefIdeal.nD Cert.PreUpRefIdeal.τ).loc Cert.PreUpRefIdeal.main_v28) = v3 c
          ∧ r.2.mem ((c.tc : Thread Cert.PreUpRefIdeal.nD Cert.PreUpRefIdeal.τ).loc Cert.PreUpRefIdeal.main_arg0) = m' ((c.tc : Thread Cert.PreUpRefIdeal.nD Cert.PreUpRefIdeal.τ).loc Cert.PreUpRefIdeal.main_arg0)
          ∧ r.2.mem ((c.tc : Thread Cert.PreUpRefIdeal.nD Cert.PreUpRefIdeal.τ).loc Cert.PreUpRefIdeal.main_arg1) = m' ((c.tc : Thread Cert.PreUpRefIdeal.nD Cert.PreUpRefIdeal.τ).loc Cert.PreUpRefIdeal.main_arg1)
          ∧ r.2.mem ((c.tc : Thread Cert.PreUpRefIdeal.nD Cert.PreUpRefIdeal.τ).loc Cert.PreUpRefIdeal.main_arg2) = m' ((c.tc : Thread Cert.PreUpRefIdeal.nD Cert.PreUpRefIdeal.τ).loc Cert.PreUpRefIdeal.main_arg2)
          ∧ r.2.mem ((c.tc : Thread Cert.PreUpRefIdeal.nD Cert.PreUpRefIdeal.τ).loc Cert.PreUpRefIdeal.main_arg3) = m' ((c.tc : Thread Cert.PreUpRefIdeal.nD Cert.PreUpRefIdeal.τ).loc Cert.PreUpRefIdeal.main_arg3)
          ∧ r.2.mem ((c.tc : Thread Cert.PreUpRefIdeal.nD Cert.PreUpRefIdeal.τ).loc Cert.PreUpRefIdeal.main_arg4) = m' ((c.tc : Thread Cert.PreUpRefIdeal.nD Cert.PreUpRefIdeal.τ).loc Cert.PreUpRefIdeal.main_arg4))

def preserves_PreMm_PreMmIdeal : Prop :=
  True

def algebraic_PreMmIdeal_PreMmRefIdeal [hPreMmIdeal : Cert.PreMmIdeal.Facts] [hPreMmRefIdeal : Cert.PreMmRefIdeal.Facts] : Prop :=
  ∀ (m : (ℓ : Loc Cert.PreMmIdeal.nD Cert.PreMmIdeal.τ Cert.PreMmIdeal.sig) → Buf (Elt Ideal) ℓ) (g : Dev Cert.PreMmIdeal.nD → PrngReg)
    (m' : (ℓ : Loc Cert.PreMmRefIdeal.nD Cert.PreMmRefIdeal.τ Cert.PreMmRefIdeal.sig) → Buf (Elt Ideal) ℓ) (g' : Dev Cert.PreMmRefIdeal.nD → PrngReg), Pre_PreMmIdeal m →
    (∀ c : Dev Cert.PreMmIdeal.nD,
      m' ((c.tc : Thread Cert.PreMmRefIdeal.nD Cert.PreMmRefIdeal.τ).loc Cert.PreMmRefIdeal.main_arg0) = m ((c.tc : Thread Cert.PreMmIdeal.nD Cert.PreMmIdeal.τ).loc Cert.PreMmIdeal.main_arg0)
      ∧ m' ((c.tc : Thread Cert.PreMmRefIdeal.nD Cert.PreMmRefIdeal.τ).loc Cert.PreMmRefIdeal.main_arg1) = m ((c.tc : Thread Cert.PreMmIdeal.nD Cert.PreMmIdeal.τ).loc Cert.PreMmIdeal.main_arg1)
      ∧ m' ((c.tc : Thread Cert.PreMmRefIdeal.nD Cert.PreMmRefIdeal.τ).loc Cert.PreMmRefIdeal.main_arg2) = m ((c.tc : Thread Cert.PreMmIdeal.nD Cert.PreMmIdeal.τ).loc Cert.PreMmIdeal.main_arg2)
      ∧ m' ((c.tc : Thread Cert.PreMmRefIdeal.nD Cert.PreMmRefIdeal.τ).loc Cert.PreMmRefIdeal.main_arg3) = m ((c.tc : Thread Cert.PreMmIdeal.nD Cert.PreMmIdeal.τ).loc Cert.PreMmIdeal.main_arg3)
      ∧ m' ((c.tc : Thread Cert.PreMmRefIdeal.nD Cert.PreMmRefIdeal.τ).loc Cert.PreMmRefIdeal.main_arg4) = m ((c.tc : Thread Cert.PreMmIdeal.nD Cert.PreMmIdeal.τ).loc Cert.PreMmIdeal.main_arg4)) →
    ∃ (v0 : (c : Dev Cert.PreMmIdeal.nD) → Buf (Elt Ideal) ((c.tc : Thread Cert.PreMmIdeal.nD Cert.PreMmIdeal.τ).loc Cert.PreMmIdeal.main_v0_0)) (v1 : (c : Dev Cert.PreMmIdeal.nD) → Buf (Elt Ideal) ((c.tc : Thread Cert.PreMmIdeal.nD Cert.PreMmIdeal.τ).loc Cert.PreMmIdeal.main_v0_1)),
      θ_run (Cert.PreMmIdeal.defs (F := Ideal)) (onTc (τ := Cert.PreMmIdeal.τ) (Cert.PreMmIdeal.main (F := Ideal))) ⟨m, fun _ => 0, g⟩ (fun r => ∀ c : Dev Cert.PreMmIdeal.nD,
          r.2.mem ((c.tc : Thread Cert.PreMmIdeal.nD Cert.PreMmIdeal.τ).loc Cert.PreMmIdeal.main_v0_0) = v0 c
          ∧ r.2.mem ((c.tc : Thread Cert.PreMmIdeal.nD Cert.PreMmIdeal.τ).loc Cert.PreMmIdeal.main_v0_1) = v1 c
          ∧ r.2.mem ((c.tc : Thread Cert.PreMmIdeal.nD Cert.PreMmIdeal.τ).loc Cert.PreMmIdeal.main_arg0) = m ((c.tc : Thread Cert.PreMmIdeal.nD Cert.PreMmIdeal.τ).loc Cert.PreMmIdeal.main_arg0)
          ∧ r.2.mem ((c.tc : Thread Cert.PreMmIdeal.nD Cert.PreMmIdeal.τ).loc Cert.PreMmIdeal.main_arg1) = m ((c.tc : Thread Cert.PreMmIdeal.nD Cert.PreMmIdeal.τ).loc Cert.PreMmIdeal.main_arg1)
          ∧ r.2.mem ((c.tc : Thread Cert.PreMmIdeal.nD Cert.PreMmIdeal.τ).loc Cert.PreMmIdeal.main_arg2) = m ((c.tc : Thread Cert.PreMmIdeal.nD Cert.PreMmIdeal.τ).loc Cert.PreMmIdeal.main_arg2)
          ∧ r.2.mem ((c.tc : Thread Cert.PreMmIdeal.nD Cert.PreMmIdeal.τ).loc Cert.PreMmIdeal.main_arg3) = m ((c.tc : Thread Cert.PreMmIdeal.nD Cert.PreMmIdeal.τ).loc Cert.PreMmIdeal.main_arg3)
          ∧ r.2.mem ((c.tc : Thread Cert.PreMmIdeal.nD Cert.PreMmIdeal.τ).loc Cert.PreMmIdeal.main_arg4) = m ((c.tc : Thread Cert.PreMmIdeal.nD Cert.PreMmIdeal.τ).loc Cert.PreMmIdeal.main_arg4))
      ∧ θ_run (Cert.PreMmRefIdeal.defs (F := Ideal)) (onTc (τ := Cert.PreMmRefIdeal.τ) (Cert.PreMmRefIdeal.main (F := Ideal))) ⟨m', fun _ => 0, g'⟩ (fun r => ∀ c : Dev Cert.PreMmRefIdeal.nD,
          r.2.mem ((c.tc : Thread Cert.PreMmRefIdeal.nD Cert.PreMmRefIdeal.τ).loc Cert.PreMmRefIdeal.main_v23) = v0 c
          ∧ r.2.mem ((c.tc : Thread Cert.PreMmRefIdeal.nD Cert.PreMmRefIdeal.τ).loc Cert.PreMmRefIdeal.main_v24) = v1 c
          ∧ r.2.mem ((c.tc : Thread Cert.PreMmRefIdeal.nD Cert.PreMmRefIdeal.τ).loc Cert.PreMmRefIdeal.main_arg0) = m' ((c.tc : Thread Cert.PreMmRefIdeal.nD Cert.PreMmRefIdeal.τ).loc Cert.PreMmRefIdeal.main_arg0)
          ∧ r.2.mem ((c.tc : Thread Cert.PreMmRefIdeal.nD Cert.PreMmRefIdeal.τ).loc Cert.PreMmRefIdeal.main_arg1) = m' ((c.tc : Thread Cert.PreMmRefIdeal.nD Cert.PreMmRefIdeal.τ).loc Cert.PreMmRefIdeal.main_arg1)
          ∧ r.2.mem ((c.tc : Thread Cert.PreMmRefIdeal.nD Cert.PreMmRefIdeal.τ).loc Cert.PreMmRefIdeal.main_arg2) = m' ((c.tc : Thread Cert.PreMmRefIdeal.nD Cert.PreMmRefIdeal.τ).loc Cert.PreMmRefIdeal.main_arg2)
          ∧ r.2.mem ((c.tc : Thread Cert.PreMmRefIdeal.nD Cert.PreMmRefIdeal.τ).loc Cert.PreMmRefIdeal.main_arg3) = m' ((c.tc : Thread Cert.PreMmRefIdeal.nD Cert.PreMmRefIdeal.τ).loc Cert.PreMmRefIdeal.main_arg3)
          ∧ r.2.mem ((c.tc : Thread Cert.PreMmRefIdeal.nD Cert.PreMmRefIdeal.τ).loc Cert.PreMmRefIdeal.main_arg4) = m' ((c.tc : Thread Cert.PreMmRefIdeal.nD Cert.PreMmRefIdeal.τ).loc Cert.PreMmRefIdeal.main_arg4))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)
      ∧ m' ((c.tc : Thread Cert.UpBwdRefIdeal.nD Cert.UpBwdRefIdeal.τ).loc Cert.UpBwdRefIdeal.main_arg5) = m ((c.tc : Thread Cert.UpBwdIdeal.nD Cert.UpBwdIdeal.τ).loc Cert.UpBwdIdeal.main_arg5)
      ∧ m' ((c.tc : Thread Cert.UpBwdRefIdeal.nD Cert.UpBwdRefIdeal.τ).loc Cert.UpBwdRefIdeal.main_arg6) = m ((c.tc : Thread Cert.UpBwdIdeal.nD Cert.UpBwdIdeal.τ).loc Cert.UpBwdIdeal.main_arg6)) →
    ∃ (v0 : (c : Dev Cert.UpBwdIdeal.nD) → Buf (Elt Ideal) ((c.tc : Thread Cert.UpBwdIdeal.nD Cert.UpBwdIdeal.τ).loc Cert.UpBwdIdeal.main_v0_0)) (v1 : (c : Dev Cert.UpBwdIdeal.nD) → Buf (Elt Ideal) ((c.tc : Thread Cert.UpBwdIdeal.nD Cert.UpBwdIdeal.τ).loc Cert.UpBwdIdeal.main_v0_1)) (v2 : (c : Dev Cert.UpBwdIdeal.nD) → Buf (Elt Ideal) ((c.tc : Thread Cert.UpBwdIdeal.nD Cert.UpBwdIdeal.τ).loc Cert.UpBwdIdeal.main_v0_2)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0_0) = v0 c
          ∧ r.2.mem ((c.tc : Thread Cert.UpBwdIdeal.nD Cert.UpBwdIdeal.τ).loc Cert.UpBwdIdeal.main_v0_1) = v1 c
          ∧ r.2.mem ((c.tc : Thread Cert.UpBwdIdeal.nD Cert.UpBwdIdeal.τ).loc Cert.UpBwdIdeal.main_v0_2) = v2 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4)
          ∧ r.2.mem ((c.tc : Thread Cert.UpBwdIdeal.nD Cert.UpBwdIdeal.τ).loc Cert.UpBwdIdeal.main_arg5) = m ((c.tc : Thread Cert.UpBwdIdeal.nD Cert.UpBwdIdeal.τ).loc Cert.UpBwdIdeal.main_arg5)
          ∧ r.2.mem ((c.tc : Thread Cert.UpBwdIdeal.nD Cert.UpBwdIdeal.τ).loc Cert.UpBwdIdeal.main_arg6) = m ((c.tc : Thread Cert.UpBwdIdeal.nD Cert.UpBwdIdeal.τ).loc Cert.UpBwdIdeal.main_arg6))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v55) = v0 c
          ∧ r.2.mem ((c.tc : Thread Cert.UpBwdRefIdeal.nD Cert.UpBwdRefIdeal.τ).loc Cert.UpBwdRefIdeal.main_v59) = v1 c
          ∧ r.2.mem ((c.tc : Thread Cert.UpBwdRefIdeal.nD Cert.UpBwdRefIdeal.τ).loc Cert.UpBwdRefIdeal.main_v61) = v2 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4)
          ∧ r.2.mem ((c.tc : Thread Cert.UpBwdRefIdeal.nD Cert.UpBwdRefIdeal.τ).loc Cert.UpBwdRefIdeal.main_arg5) = m' ((c.tc : Thread Cert.UpBwdRefIdeal.nD Cert.UpBwdRefIdeal.τ).loc Cert.UpBwdRefIdeal.main_arg5)
          ∧ r.2.mem ((c.tc : Thread Cert.UpBwdRefIdeal.nD Cert.UpBwdRefIdeal.τ).loc Cert.UpBwdRefIdeal.main_arg6) = m' ((c.tc : Thread Cert.UpBwdRefIdeal.nD Cert.UpBwdRefIdeal.τ).loc Cert.UpBwdRefIdeal.main_arg6))

def preserves_MmLoss_MmLossIdeal : Prop :=
  True

def algebraic_MmLossIdeal_MmLossRefIdeal [hMmLossIdeal : Cert.MmLossIdeal.Facts] [hMmLossRefIdeal : Cert.MmLossRefIdeal.Facts] : Prop :=
  ∀ (m : (ℓ : Loc Cert.MmLossIdeal.nD Cert.MmLossIdeal.τ Cert.MmLossIdeal.sig) → Buf (Elt Ideal) ℓ) (g : Dev Cert.MmLossIdeal.nD → PrngReg)
    (m' : (ℓ : Loc Cert.MmLossRefIdeal.nD Cert.MmLossRefIdeal.τ Cert.MmLossRefIdeal.sig) → Buf (Elt Ideal) ℓ) (g' : Dev Cert.MmLossRefIdeal.nD → PrngReg), Pre_MmLossIdeal m →
    (∀ c : Dev Cert.MmLossIdeal.nD,
      m' ((c.tc : Thread Cert.MmLossRefIdeal.nD Cert.MmLossRefIdeal.τ).loc Cert.MmLossRefIdeal.main_arg0) = m ((c.tc : Thread Cert.MmLossIdeal.nD Cert.MmLossIdeal.τ).loc Cert.MmLossIdeal.main_arg0)
      ∧ m' ((c.tc : Thread Cert.MmLossRefIdeal.nD Cert.MmLossRefIdeal.τ).loc Cert.MmLossRefIdeal.main_arg1) = m ((c.tc : Thread Cert.MmLossIdeal.nD Cert.MmLossIdeal.τ).loc Cert.MmLossIdeal.main_arg1)
      ∧ m' ((c.tc : Thread Cert.MmLossRefIdeal.nD Cert.MmLossRefIdeal.τ).loc Cert.MmLossRefIdeal.main_arg2) = m ((c.tc : Thread Cert.MmLossIdeal.nD Cert.MmLossIdeal.τ).loc Cert.MmLossIdeal.main_arg2)
      ∧ m' ((c.tc : Thread Cert.MmLossRefIdeal.nD Cert.MmLossRefIdeal.τ).loc Cert.MmLossRefIdeal.main_arg3) = m ((c.tc : Thread Cert.MmLossIdeal.nD Cert.MmLossIdeal.τ).loc Cert.MmLossIdeal.main_arg3)
      ∧ m' ((c.tc : Thread Cert.MmLossRefIdeal.nD Cert.MmLossRefIdeal.τ).loc Cert.MmLossRefIdeal.main_arg4) = m ((c.tc : Thread Cert.MmLossIdeal.nD Cert.MmLossIdeal.τ).loc Cert.MmLossIdeal.main_arg4)
      ∧ m' ((c.tc : Thread Cert.MmLossRefIdeal.nD Cert.MmLossRefIdeal.τ).loc Cert.MmLossRefIdeal.main_arg5) = m ((c.tc : Thread Cert.MmLossIdeal.nD Cert.MmLossIdeal.τ).loc Cert.MmLossIdeal.main_arg5)) →
    ∃ (v0 : (c : Dev Cert.MmLossIdeal.nD) → Buf (Elt Ideal) ((c.tc : Thread Cert.MmLossIdeal.nD Cert.MmLossIdeal.τ).loc Cert.MmLossIdeal.main_v0_0)) (v1 : (c : Dev Cert.MmLossIdeal.nD) → Buf (Elt Ideal) ((c.tc : Thread Cert.MmLossIdeal.nD Cert.MmLossIdeal.τ).loc Cert.MmLossIdeal.main_v0_1)) (v2 : (c : Dev Cert.MmLossIdeal.nD) → Buf (Elt Ideal) ((c.tc : Thread Cert.MmLossIdeal.nD Cert.MmLossIdeal.τ).loc Cert.MmLossIdeal.main_v0_2)),
      θ_run (Cert.MmLossIdeal.defs (F := Ideal)) (onTc (τ := Cert.MmLossIdeal.τ) (Cert.MmLossIdeal.main (F := Ideal))) ⟨m, fun _ => 0, g⟩ (fun r => ∀ c : Dev Cert.MmLossIdeal.nD,
          r.2.mem ((c.tc : Thread Cert.MmLossIdeal.nD Cert.MmLossIdeal.τ).loc Cert.MmLossIdeal.main_v0_0) = v0 c
          ∧ r.2.mem ((c.tc : Thread Cert.MmLossIdeal.nD Cert.MmLossIdeal.τ).loc Cert.MmLossIdeal.main_v0_1) = v1 c
          ∧ r.2.mem ((c.tc : Thread Cert.MmLossIdeal.nD Cert.MmLossIdeal.τ).loc Cert.MmLossIdeal.main_v0_2) = v2 c
          ∧ r.2.mem ((c.tc : Thread Cert.MmLossIdeal.nD Cert.MmLossIdeal.τ).loc Cert.MmLossIdeal.main_arg0) = m ((c.tc : Thread Cert.MmLossIdeal.nD Cert.MmLossIdeal.τ).loc Cert.MmLossIdeal.main_arg0)
          ∧ r.2.mem ((c.tc : Thread Cert.MmLossIdeal.nD Cert.MmLossIdeal.τ).loc Cert.MmLossIdeal.main_arg1) = m ((c.tc : Thread Cert.MmLossIdeal.nD Cert.MmLossIdeal.τ).loc Cert.MmLossIdeal.main_arg1)
          ∧ r.2.mem ((c.tc : Thread Cert.MmLossIdeal.nD Cert.MmLossIdeal.τ).loc Cert.MmLossIdeal.main_arg2) = m ((c.tc : Thread Cert.MmLossIdeal.nD Cert.MmLossIdeal.τ).loc Cert.MmLossIdeal.main_arg2)
          ∧ r.2.mem ((c.tc : Thread Cert.MmLossIdeal.nD Cert.MmLossIdeal.τ).loc Cert.MmLossIdeal.main_arg3) = m ((c.tc : Thread Cert.MmLossIdeal.nD Cert.MmLossIdeal.τ).loc Cert.MmLossIdeal.main_arg3)
          ∧ r.2.mem ((c.tc : Thread Cert.MmLossIdeal.nD Cert.MmLossIdeal.τ).loc Cert.MmLossIdeal.main_arg4) = m ((c.tc : Thread Cert.MmLossIdeal.nD Cert.MmLossIdeal.τ).loc Cert.MmLossIdeal.main_arg4)
          ∧ r.2.mem ((c.tc : Thread Cert.MmLossIdeal.nD Cert.MmLossIdeal.τ).loc Cert.MmLossIdeal.main_arg5) = m ((c.tc : Thread Cert.MmLossIdeal.nD Cert.MmLossIdeal.τ).loc Cert.MmLossIdeal.main_arg5))
      ∧ θ_run (Cert.MmLossRefIdeal.defs (F := Ideal)) (onTc (τ := Cert.MmLossRefIdeal.τ) (Cert.MmLossRefIdeal.main (F := Ideal))) ⟨m', fun _ => 0, g'⟩ (fun r => ∀ c : Dev Cert.MmLossRefIdeal.nD,
          r.2.mem ((c.tc : Thread Cert.MmLossRefIdeal.nD Cert.MmLossRefIdeal.τ).loc Cert.MmLossRefIdeal.main_v2) = v0 c
          ∧ r.2.mem ((c.tc : Thread Cert.MmLossRefIdeal.nD Cert.MmLossRefIdeal.τ).loc Cert.MmLossRefIdeal.main_v34) = v1 c
          ∧ r.2.mem ((c.tc : Thread Cert.MmLossRefIdeal.nD Cert.MmLossRefIdeal.τ).loc Cert.MmLossRefIdeal.main_v38) = v2 c
          ∧ r.2.mem ((c.tc : Thread Cert.MmLossRefIdeal.nD Cert.MmLossRefIdeal.τ).loc Cert.MmLossRefIdeal.main_arg0) = m' ((c.tc : Thread Cert.MmLossRefIdeal.nD Cert.MmLossRefIdeal.τ).loc Cert.MmLossRefIdeal.main_arg0)
          ∧ r.2.mem ((c.tc : Thread Cert.MmLossRefIdeal.nD Cert.MmLossRefIdeal.τ).loc Cert.MmLossRefIdeal.main_arg1) = m' ((c.tc : Thread Cert.MmLossRefIdeal.nD Cert.MmLossRefIdeal.τ).loc Cert.MmLossRefIdeal.main_arg1)
          ∧ r.2.mem ((c.tc : Thread Cert.MmLossRefIdeal.nD Cert.MmLossRefIdeal.τ).loc Cert.MmLossRefIdeal.main_arg2) = m' ((c.tc : Thread Cert.MmLossRefIdeal.nD Cert.MmLossRefIdeal.τ).loc Cert.MmLossRefIdeal.main_arg2)
          ∧ r.2.mem ((c.tc : Thread Cert.MmLossRefIdeal.nD Cert.MmLossRefIdeal.τ).loc Cert.MmLossRefIdeal.main_arg3) = m' ((c.tc : Thread Cert.MmLossRefIdeal.nD Cert.MmLossRefIdeal.τ).loc Cert.MmLossRefIdeal.main_arg3)
          ∧ r.2.mem ((c.tc : Thread Cert.MmLossRefIdeal.nD Cert.MmLossRefIdeal.τ).loc Cert.MmLossRefIdeal.main_arg4) = m' ((c.tc : Thread Cert.MmLossRefIdeal.nD Cert.MmLossRefIdeal.τ).loc Cert.MmLossRefIdeal.main_arg4)
          ∧ r.2.mem ((c.tc : Thread Cert.MmLossRefIdeal.nD Cert.MmLossRefIdeal.τ).loc Cert.MmLossRefIdeal.main_arg5) = m' ((c.tc : Thread Cert.MmLossRefIdeal.nD Cert.MmLossRefIdeal.τ).loc Cert.MmLossRefIdeal.main_arg5))

def preserves_RecOut_RecOutIdeal : Prop :=
  True

def algebraic_RecOutIdeal_RecOutRefIdeal [hRecOutIdeal : Cert.RecOutIdeal.Facts] [hRecOutRefIdeal : Cert.RecOutRefIdeal.Facts] : Prop :=
  ∀ (m : (ℓ : Loc Cert.RecOutIdeal.nD Cert.RecOutIdeal.τ Cert.RecOutIdeal.sig) → Buf (Elt Ideal) ℓ) (g : Dev Cert.RecOutIdeal.nD → PrngReg)
    (m' : (ℓ : Loc Cert.RecOutRefIdeal.nD Cert.RecOutRefIdeal.τ Cert.RecOutRefIdeal.sig) → Buf (Elt Ideal) ℓ) (g' : Dev Cert.RecOutRefIdeal.nD → PrngReg), Pre_RecOutIdeal m →
    (∀ c : Dev Cert.RecOutIdeal.nD,
      m' ((c.tc : Thread Cert.RecOutRefIdeal.nD Cert.RecOutRefIdeal.τ).loc Cert.RecOutRefIdeal.main_arg0) = m ((c.tc : Thread Cert.RecOutIdeal.nD Cert.RecOutIdeal.τ).loc Cert.RecOutIdeal.main_arg0)
      ∧ m' ((c.tc : Thread Cert.RecOutRefIdeal.nD Cert.RecOutRefIdeal.τ).loc Cert.RecOutRefIdeal.main_arg1) = m ((c.tc : Thread Cert.RecOutIdeal.nD Cert.RecOutIdeal.τ).loc Cert.RecOutIdeal.main_arg1)) →
    ∃ (v0 : (c : Dev Cert.RecOutIdeal.nD) → Buf (Elt Ideal) ((c.tc : Thread Cert.RecOutIdeal.nD Cert.RecOutIdeal.τ).loc Cert.RecOutIdeal.main_v0)),
      θ_run (Cert.RecOutIdeal.defs (F := Ideal)) (onTc (τ := Cert.RecOutIdeal.τ) (Cert.RecOutIdeal.main (F := Ideal))) ⟨m, fun _ => 0, g⟩ (fun r => ∀ c : Dev Cert.RecOutIdeal.nD,
          r.2.mem ((c.tc : Thread Cert.RecOutIdeal.nD Cert.RecOutIdeal.τ).loc Cert.RecOutIdeal.main_v0) = v0 c
          ∧ r.2.mem ((c.tc : Thread Cert.RecOutIdeal.nD Cert.RecOutIdeal.τ).loc Cert.RecOutIdeal.main_arg0) = m ((c.tc : Thread Cert.RecOutIdeal.nD Cert.RecOutIdeal.τ).loc Cert.RecOutIdeal.main_arg0)
          ∧ r.2.mem ((c.tc : Thread Cert.RecOutIdeal.nD Cert.RecOutIdeal.τ).loc Cert.RecOutIdeal.main_arg1) = m ((c.tc : Thread Cert.RecOutIdeal.nD Cert.RecOutIdeal.τ).loc Cert.RecOutIdeal.main_arg1))
      ∧ θ_run (Cert.RecOutRefIdeal.defs (F := Ideal)) (onTc (τ := Cert.RecOutRefIdeal.τ) (Cert.RecOutRefIdeal.main (F := Ideal))) ⟨m', fun _ => 0, g'⟩ (fun r => ∀ c : Dev Cert.RecOutRefIdeal.nD,
          r.2.mem ((c.tc : Thread Cert.RecOutRefIdeal.nD Cert.RecOutRefIdeal.τ).loc Cert.RecOutRefIdeal.main_v2) = v0 c
          ∧ r.2.mem ((c.tc : Thread Cert.RecOutRefIdeal.nD Cert.RecOutRefIdeal.τ).loc Cert.RecOutRefIdeal.main_arg0) = m' ((c.tc : Thread Cert.RecOutRefIdeal.nD Cert.RecOutRefIdeal.τ).loc Cert.RecOutRefIdeal.main_arg0)
          ∧ r.2.mem ((c.tc : Thread Cert.RecOutRefIdeal.nD Cert.RecOutRefIdeal.τ).loc Cert.RecOutRefIdeal.main_arg1) = m' ((c.tc : Thread Cert.RecOutRefIdeal.nD Cert.RecOutRefIdeal.τ).loc Cert.RecOutRefIdeal.main_arg1))

def preserves_AttOut_AttOutIdeal : Prop :=
  True

def algebraic_AttOutIdeal_AttOutRefIdeal [hAttOutIdeal : Cert.AttOutIdeal.Facts] [hAttOutRefIdeal : Cert.AttOutRefIdeal.Facts] : Prop :=
  ∀ (m : (ℓ : Loc Cert.AttOutIdeal.nD Cert.AttOutIdeal.τ Cert.AttOutIdeal.sig) → Buf (Elt Ideal) ℓ) (g : Dev Cert.AttOutIdeal.nD → PrngReg)
    (m' : (ℓ : Loc Cert.AttOutRefIdeal.nD Cert.AttOutRefIdeal.τ Cert.AttOutRefIdeal.sig) → Buf (Elt Ideal) ℓ) (g' : Dev Cert.AttOutRefIdeal.nD → PrngReg), Pre_AttOutIdeal m →
    (∀ c : Dev Cert.AttOutIdeal.nD,
      m' ((c.tc : Thread Cert.AttOutRefIdeal.nD Cert.AttOutRefIdeal.τ).loc Cert.AttOutRefIdeal.main_arg0) = m ((c.tc : Thread Cert.AttOutIdeal.nD Cert.AttOutIdeal.τ).loc Cert.AttOutIdeal.main_arg0)
      ∧ m' ((c.tc : Thread Cert.AttOutRefIdeal.nD Cert.AttOutRefIdeal.τ).loc Cert.AttOutRefIdeal.main_arg1) = m ((c.tc : Thread Cert.AttOutIdeal.nD Cert.AttOutIdeal.τ).loc Cert.AttOutIdeal.main_arg1)) →
    ∃ (v0 : (c : Dev Cert.AttOutIdeal.nD) → Buf (Elt Ideal) ((c.tc : Thread Cert.AttOutIdeal.nD Cert.AttOutIdeal.τ).loc Cert.AttOutIdeal.main_v0)),
      θ_run (Cert.AttOutIdeal.defs (F := Ideal)) (onTc (τ := Cert.AttOutIdeal.τ) (Cert.AttOutIdeal.main (F := Ideal))) ⟨m, fun _ => 0, g⟩ (fun r => ∀ c : Dev Cert.AttOutIdeal.nD,
          r.2.mem ((c.tc : Thread Cert.AttOutIdeal.nD Cert.AttOutIdeal.τ).loc Cert.AttOutIdeal.main_v0) = v0 c
          ∧ r.2.mem ((c.tc : Thread Cert.AttOutIdeal.nD Cert.AttOutIdeal.τ).loc Cert.AttOutIdeal.main_arg0) = m ((c.tc : Thread Cert.AttOutIdeal.nD Cert.AttOutIdeal.τ).loc Cert.AttOutIdeal.main_arg0)
          ∧ r.2.mem ((c.tc : Thread Cert.AttOutIdeal.nD Cert.AttOutIdeal.τ).loc Cert.AttOutIdeal.main_arg1) = m ((c.tc : Thread Cert.AttOutIdeal.nD Cert.AttOutIdeal.τ).loc Cert.AttOutIdeal.main_arg1))
      ∧ θ_run (Cert.AttOutRefIdeal.defs (F := Ideal)) (onTc (τ := Cert.AttOutRefIdeal.τ) (Cert.AttOutRefIdeal.main (F := Ideal))) ⟨m', fun _ => 0, g'⟩ (fun r => ∀ c : Dev Cert.AttOutRefIdeal.nD,
          r.2.mem ((c.tc : Thread Cert.AttOutRefIdeal.nD Cert.AttOutRefIdeal.τ).loc Cert.AttOutRefIdeal.main_v2) = v0 c
          ∧ r.2.mem ((c.tc : Thread Cert.AttOutRefIdeal.nD Cert.AttOutRefIdeal.τ).loc Cert.AttOutRefIdeal.main_arg0) = m' ((c.tc : Thread Cert.AttOutRefIdeal.nD Cert.AttOutRefIdeal.τ).loc Cert.AttOutRefIdeal.main_arg0)
          ∧ r.2.mem ((c.tc : Thread Cert.AttOutRefIdeal.nD Cert.AttOutRefIdeal.τ).loc Cert.AttOutRefIdeal.main_arg1) = m' ((c.tc : Thread Cert.AttOutRefIdeal.nD Cert.AttOutRefIdeal.τ).loc Cert.AttOutRefIdeal.main_arg1))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_arg0) = v0 c
          ∧ r.2.mem ((c.tc : Thread Cert.AdamAdaRefIdeal.nD Cert.AdamAdaRefIdeal.τ).loc Cert.AdamAdaRefIdeal.main_v23) = v1 c
          ∧ r.2.mem ((c.tc : Thread Cert.AdamAdaRefIdeal.nD Cert.AdamAdaRefIdeal.τ).loc Cert.AdamAdaRefIdeal.main_v4) = v2 c
          ∧ r.2.mem ((c.tc : Thread Cert.AdamAdaRefIdeal.nD Cert.AdamAdaRefIdeal.τ).loc Cert.AdamAdaRefIdeal.main_v10) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdaBwd_AdaBwdIdeal : Prop :=
  True

def algebraic_AdaBwdIdeal_AdaBwdRefIdeal [hAdaBwdIdeal : Cert.AdaBwdIdeal.Facts] [hAdaBwdRefIdeal : Cert.AdaBwdRefIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdRefIdeal.nD Cert.AdaBwdRefIdeal.τ Cert.AdaBwdRefIdeal.sig) → Buf (Elt Ideal) ℓ) (g' : Dev Cert.AdaBwdRefIdeal.nD → PrngReg), Pre_AdaBwdIdeal m →
    (∀ c : Dev Cert.AdaBwdIdeal.nD,
      m' ((c.tc : Thread Cert.AdaBwdRefIdeal.nD Cert.AdaBwdRefIdeal.τ).loc Cert.AdaBwdRefIdeal.main_arg0) = m ((c.tc : Thread Cert.AdaBwdIdeal.nD Cert.AdaBwdIdeal.τ).loc Cert.AdaBwdIdeal.main_arg0)
      ∧ m' ((c.tc : Thread Cert.AdaBwdRefIdeal.nD Cert.AdaBwdRefIdeal.τ).loc Cert.AdaBwdRefIdeal.main_arg1) = m ((c.tc : Thread Cert.AdaBwdIdeal.nD Cert.AdaBwdIdeal.τ).loc Cert.AdaBwdIdeal.main_arg1)) →
    ∃ (v0 : (c : Dev Cert.AdaBwdIdeal.nD) → Buf (Elt Ideal) ((c.tc : Thread Cert.AdaBwdIdeal.nD Cert.AdaBwdIdeal.τ).loc Cert.AdaBwdIdeal.main_v0)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0) = v0 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1))
      ∧ θ_run (Cert.AdaBwdRefIdeal.defs (F := Ideal)) (onTc (τ := Cert.AdaBwdRefIdeal.τ) (Cert.AdaBwdRefIdeal.main (F := Ideal))) ⟨m', fun _ => 0, g'⟩ (fun r => ∀ c : Dev Cert.AdaBwdRefIdeal.nD,
          r.2.mem ((c.tc : Thread Cert.AdaBwdRefIdeal.nD Cert.AdaBwdRefIdeal.τ).loc Cert.AdaBwdRefIdeal.main_v4) = v0 c
          ∧ r.2.mem ((c.tc : Thread Cert.AdaBwdRefIdeal.nD Cert.AdaBwdRefIdeal.τ).loc Cert.AdaBwdRefIdeal.main_arg0) = m' ((c.tc : Thread Cert.AdaBwdRefIdeal.nD Cert.AdaBwdRefIdeal.τ).loc Cert.AdaBwdRefIdeal.main_arg0)
          ∧ r.2.mem ((c.tc : Thread Cert.AdaBwdRefIdeal.nD Cert.AdaBwdRefIdeal.τ).loc Cert.AdaBwdRefIdeal.main_arg1) = m' ((c.tc : Thread Cert.AdaBwdRefIdeal.nD Cert.AdaBwdRefIdeal.τ).loc Cert.AdaBwdRefIdeal.main_arg1))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v1) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg0) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hScanBwd : Cert.ScanBwd.Facts) (hScanBwdIdeal : Cert.ScanBwdIdeal.Facts) (hScanBwdRefIdeal : Cert.ScanBwdRefIdeal.Facts) (hFfnDh : Cert.FfnDh.Facts) (hFfnDhIdeal : Cert.FfnDhIdeal.Facts) (hFfnDhRefIdeal : Cert.FfnDhRefIdeal.Facts) (hMixDh : Cert.MixDh.Facts) (hMixDhIdeal : Cert.MixDhIdeal.Facts) (hMixDhRefIdeal : Cert.MixDhRefIdeal.Facts) (hDwGu : Cert.DwGu.Facts) (hDwGuIdeal : Cert.DwGuIdeal.Facts) (hDwGuRefIdeal : Cert.DwGuRefIdeal.Facts) (hDwDown : Cert.DwDown.Facts) (hDwDownIdeal : Cert.DwDownIdeal.Facts) (hDwDownRefIdeal : Cert.DwDownRefIdeal.Facts) (hDwIn : Cert.DwIn.Facts) (hDwInIdeal : Cert.DwInIdeal.Facts) (hDwInRefIdeal : Cert.DwInRefIdeal.Facts) (hMergeBwd : Cert.MergeBwd.Facts) (hMergeBwdIdeal : Cert.MergeBwdIdeal.Facts) (hMergeBwdRefIdeal : Cert.MergeBwdRefIdeal.Facts) (hRecinBwd : Cert.RecinBwd.Facts) (hRecinBwdIdeal : Cert.RecinBwdIdeal.Facts) (hRecinBwdRefIdeal : Cert.RecinBwdRefIdeal.Facts) (hMmPost : Cert.MmPost.Facts) (hMmPostIdeal : Cert.MmPostIdeal.Facts) (hMmPostRefIdeal : Cert.MmPostRefIdeal.Facts) (hMergePost : Cert.MergePost.Facts) (hMergePostIdeal : Cert.MergePostIdeal.Facts) (hMergePostRefIdeal : Cert.MergePostRefIdeal.Facts) (hDwOut : Cert.DwOut.Facts) (hDwOutIdeal : Cert.DwOutIdeal.Facts) (hDwOutRefIdeal : Cert.DwOutRefIdeal.Facts) (hDwRecO : Cert.DwRecO.Facts) (hDwRecOIdeal : Cert.DwRecOIdeal.Facts) (hDwRecORefIdeal : Cert.DwRecORefIdeal.Facts) (hDwAttO : Cert.DwAttO.Facts) (hDwAttOIdeal : Cert.DwAttOIdeal.Facts) (hDwAttORefIdeal : Cert.DwAttORefIdeal.Facts) (hPreUp : Cert.PreUp.Facts) (hPreUpIdeal : Cert.PreUpIdeal.Facts) (hPreUpRefIdeal : Cert.PreUpRefIdeal.Facts) (hPreMm : Cert.PreMm.Facts) (hPreMmIdeal : Cert.PreMmIdeal.Facts) (hPreMmRefIdeal : Cert.PreMmRefIdeal.Facts) (hUpBwd : Cert.UpBwd.Facts) (hUpBwdIdeal : Cert.UpBwdIdeal.Facts) (hUpBwdRefIdeal : Cert.UpBwdRefIdeal.Facts) (hMmLoss : Cert.MmLoss.Facts) (hMmLossIdeal : Cert.MmLossIdeal.Facts) (hMmLossRefIdeal : Cert.MmLossRefIdeal.Facts) (hRecOut : Cert.RecOut.Facts) (hRecOutIdeal : Cert.RecOutIdeal.Facts) (hRecOutRefIdeal : Cert.RecOutRefIdeal.Facts) (hAttOut : Cert.AttOut.Facts) (hAttOutIdeal : Cert.AttOutIdeal.Facts) (hAttOutRefIdeal : Cert.AttOutRefIdeal.Facts) (hAdamAda : Cert.AdamAda.Facts) (hAdamAdaIdeal : Cert.AdamAdaIdeal.Facts) (hAdamAdaRefIdeal : Cert.AdamAdaRefIdeal.Facts) (hAdaBwd : Cert.AdaBwd.Facts) (hAdaBwdIdeal : Cert.AdaBwdIdeal.Facts) (hAdaBwdRefIdeal : Cert.AdaBwdRefIdeal.Facts) (hAdaFwd : Cert.AdaFwd.Facts) (hAdaFwdIdeal : Cert.AdaFwdIdeal.Facts) (hAdaFwdRefIdeal : Cert.AdaFwdRefIdeal.Facts) (hAdamSmall : Cert.AdamSmall.Facts) (hAdamSmallIdeal : Cert.AdamSmallIdeal.Facts) (hAdamSmallRefIdeal : Cert.AdamSmallRefIdeal.Facts),
    quiescent_ScanBwd (hScanBwd := hScanBwd)
    ∧ quiescent_ScanBwdIdeal (hScanBwdIdeal := hScanBwdIdeal)
    ∧ quiescent_ScanBwdRefIdeal (hScanBwdRefIdeal := hScanBwdRefIdeal)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_MixDh (hMixDh := hMixDh)
    ∧ quiescent_MixDhIdeal (hMixDhIdeal := hMixDhIdeal)
    ∧ quiescent_MixDhRefIdeal (hMixDhRefIdeal := hMixDhRefIdeal)
    ∧ quiescent_DwGu (hDwGu := hDwGu)
    ∧ quiescent_DwGuIdeal (hDwGuIdeal := hDwGuIdeal)
    ∧ quiescent_DwGuRefIdeal (hDwGuRefIdeal := hDwGuRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_RecinBwd (hRecinBwd := hRecinBwd)
    ∧ quiescent_RecinBwdIdeal (hRecinBwdIdeal := hRecinBwdIdeal)
    ∧ quiescent_RecinBwdRefIdeal (hRecinBwdRefIdeal := hRecinBwdRefIdeal)
    ∧ quiescent_MmPost (hMmPost := hMmPost)
    ∧ quiescent_MmPostIdeal (hMmPostIdeal := hMmPostIdeal)
    ∧ quiescent_MmPostRefIdeal (hMmPostRefIdeal := hMmPostRefIdeal)
    ∧ quiescent_MergePost (hMergePost := hMergePost)
    ∧ quiescent_MergePostIdeal (hMergePostIdeal := hMergePostIdeal)
    ∧ quiescent_MergePostRefIdeal (hMergePostRefIdeal := hMergePostRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwRecO (hDwRecO := hDwRecO)
    ∧ quiescent_DwRecOIdeal (hDwRecOIdeal := hDwRecOIdeal)
    ∧ quiescent_DwRecORefIdeal (hDwRecORefIdeal := hDwRecORefIdeal)
    ∧ quiescent_DwAttO (hDwAttO := hDwAttO)
    ∧ quiescent_DwAttOIdeal (hDwAttOIdeal := hDwAttOIdeal)
    ∧ quiescent_DwAttORefIdeal (hDwAttORefIdeal := hDwAttORefIdeal)
    ∧ quiescent_PreUp (hPreUp := hPreUp)
    ∧ quiescent_PreUpIdeal (hPreUpIdeal := hPreUpIdeal)
    ∧ quiescent_PreUpRefIdeal (hPreUpRefIdeal := hPreUpRefIdeal)
    ∧ quiescent_PreMm (hPreMm := hPreMm)
    ∧ quiescent_PreMmIdeal (hPreMmIdeal := hPreMmIdeal)
    ∧ quiescent_PreMmRefIdeal (hPreMmRefIdeal := hPreMmRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_MmLoss (hMmLoss := hMmLoss)
    ∧ quiescent_MmLossIdeal (hMmLossIdeal := hMmLossIdeal)
    ∧ quiescent_MmLossRefIdeal (hMmLossRefIdeal := hMmLossRefIdeal)
    ∧ quiescent_RecOut (hRecOut := hRecOut)
    ∧ quiescent_RecOutIdeal (hRecOutIdeal := hRecOutIdeal)
    ∧ quiescent_RecOutRefIdeal (hRecOutRefIdeal := hRecOutRefIdeal)
    ∧ quiescent_AttOut (hAttOut := hAttOut)
    ∧ quiescent_AttOutIdeal (hAttOutIdeal := hAttOutIdeal)
    ∧ quiescent_AttOutRefIdeal (hAttOutRefIdeal := hAttOutRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdaBwd (hAdaBwd := hAdaBwd)
    ∧ quiescent_AdaBwdIdeal (hAdaBwdIdeal := hAdaBwdIdeal)
    ∧ quiescent_AdaBwdRefIdeal (hAdaBwdRefIdeal := hAdaBwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_ScanBwd_ScanBwdIdeal
    ∧ algebraic_ScanBwdIdeal_ScanBwdRefIdeal (hScanBwdIdeal := hScanBwdIdeal) (hScanBwdRefIdeal := hScanBwdRefIdeal)
    ∧ preserves_FfnDh_FfnDhIdeal
    ∧ algebraic_FfnDhIdeal_FfnDhRefIdeal (hFfnDhIdeal := hFfnDhIdeal) (hFfnDhRefIdeal := hFfnDhRefIdeal)
    ∧ preserves_MixDh_MixDhIdeal
    ∧ algebraic_MixDhIdeal_MixDhRefIdeal (hMixDhIdeal := hMixDhIdeal) (hMixDhRefIdeal := hMixDhRefIdeal)
    ∧ preserves_DwGu_DwGuIdeal
    ∧ algebraic_DwGuIdeal_DwGuRefIdeal (hDwGuIdeal := hDwGuIdeal) (hDwGuRefIdeal := hDwGuRefIdeal)
    ∧ preserves_DwDown_DwDownIdeal
    ∧ algebraic_DwDownIdeal_DwDownRefIdeal (hDwDownIdeal := hDwDownIdeal) (hDwDownRefIdeal := hDwDownRefIdeal)
    ∧ preserves_DwIn_DwInIdeal
    ∧ algebraic_DwInIdeal_DwInRefIdeal (hDwInIdeal := hDwInIdeal) (hDwInRefIdeal := hDwInRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_RecinBwd_RecinBwdIdeal
    ∧ algebraic_RecinBwdIdeal_RecinBwdRefIdeal (hRecinBwdIdeal := hRecinBwdIdeal) (hRecinBwdRefIdeal := hRecinBwdRefIdeal)
    ∧ preserves_MmPost_MmPostIdeal
    ∧ algebraic_MmPostIdeal_MmPostRefIdeal (hMmPostIdeal := hMmPostIdeal) (hMmPostRefIdeal := hMmPostRefIdeal)
    ∧ preserves_MergePost_MergePostIdeal
    ∧ algebraic_MergePostIdeal_MergePostRefIdeal (hMergePostIdeal := hMergePostIdeal) (hMergePostRefIdeal := hMergePostRefIdeal)
    ∧ preserves_DwOut_DwOutIdeal
    ∧ algebraic_DwOutIdeal_DwOutRefIdeal (hDwOutIdeal := hDwOutIdeal) (hDwOutRefIdeal := hDwOutRefIdeal)
    ∧ preserves_DwRecO_DwRecOIdeal
    ∧ algebraic_DwRecOIdeal_DwRecORefIdeal (hDwRecOIdeal := hDwRecOIdeal) (hDwRecORefIdeal := hDwRecORefIdeal)
    ∧ preserves_DwAttO_DwAttOIdeal
    ∧ algebraic_DwAttOIdeal_DwAttORefIdeal (hDwAttOIdeal := hDwAttOIdeal) (hDwAttORefIdeal := hDwAttORefIdeal)
    ∧ preserves_PreUp_PreUpIdeal
    ∧ algebraic_PreUpIdeal_PreUpRefIdeal (hPreUpIdeal := hPreUpIdeal) (hPreUpRefIdeal := hPreUpRefIdeal)
    ∧ preserves_PreMm_PreMmIdeal
    ∧ algebraic_PreMmIdeal_PreMmRefIdeal (hPreMmIdeal := hPreMmIdeal) (hPreMmRefIdeal := hPreMmRefIdeal)
    ∧ preserves_UpBwd_UpBwdIdeal
    ∧ algebraic_UpBwdIdeal_UpBwdRefIdeal (hUpBwdIdeal := hUpBwdIdeal) (hUpBwdRefIdeal := hUpBwdRefIdeal)
    ∧ preserves_MmLoss_MmLossIdeal
    ∧ algebraic_MmLossIdeal_MmLossRefIdeal (hMmLossIdeal := hMmLossIdeal) (hMmLossRefIdeal := hMmLossRefIdeal)
    ∧ preserves_RecOut_RecOutIdeal
    ∧ algebraic_RecOutIdeal_RecOutRefIdeal (hRecOutIdeal := hRecOutIdeal) (hRecOutRefIdeal := hRecOutRefIdeal)
    ∧ preserves_AttOut_AttOutIdeal
    ∧ algebraic_AttOutIdeal_AttOutRefIdeal (hAttOutIdeal := hAttOutIdeal) (hAttOutRefIdeal := hAttOutRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdaBwd_AdaBwdIdeal
    ∧ algebraic_AdaBwdIdeal_AdaBwdRefIdeal (hAdaBwdIdeal := hAdaBwdIdeal) (hAdaBwdRefIdeal := hAdaBwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== ScanBwd.lean ====
abbrev S4096x1024 : Shape := ⟨2, ![4096, 1024]⟩
abbrev S1x1024 : Shape := ⟨2, ![1, 1024]⟩
abbrev S_ : Shape := ⟨0, ![]⟩
abbrev S512x1024 : Shape := ⟨2, ![512, 1024]⟩
abbrev S8x1024 : Shape := ⟨2, ![8, 1024]⟩

abbrev nBuf : Space → Nat
  | .hbm => 33
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .i1⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_2 : BitVec 32 := 0#32
  let c64_i32 : BitVec 32 := 64#32
  let v5 : BitVec 32 := Scalar.addi c0_i32_2 c64_i32
  let c1_i32 : BitVec 32 := 1#32
  ⟨c0_i32_2, v5, c1_i32⟩
def k0_mult1 (k0_t1 : Fin k0_t1_loop.trips) : BitVec 32 :=
  let c63_i32 : BitVec 32 := 63#32
  let c0_i32_2 : BitVec 32 := 0#32
  let c1_i32 : BitVec 32 := 1#32
  let arg5 : BitVec 32 := Scf.iv c0_i32_2 c1_i32 k0_t1
  let v10 : BitVec 32 := Scalar.subi c63_i32 arg5
  let c8_i32 : BitVec 32 := 8#32
  let v11 : BitVec 32 := Scalar.muli v10 c8_i32
  v11
def k0_off1 (k0_t1 : Fin k0_t1_loop.trips) : Fin 2 → Nat :=
  let c63_i32 : BitVec 32 := 63#32
  let c0_i32_2 : BitVec 32 := 0#32
  let c1_i32 : BitVec 32 := 1#32
  let arg5 : BitVec 32 := Scf.iv c0_i32_2 c1_i32 k0_t1
  let v10 : BitVec 32 := Scalar.subi c63_i32 arg5
  let c8_i32 : BitVec 32 := 8#32
  let v11 : BitVec 32 := Scalar.muli v10 c8_i32
  let v12 : BitVec 32 := v11
  let v13 : Index := Scalar.indexCast v12
  let c0_6 : Index := 0#32
  ![v13.toNat, 0]
def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ScanBwdRefIdeal.lean ====
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .i1⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S_, .f32⟩
  | .hbm, ⟨37, _⟩ => ⟨S4096x1024, .f32⟩
  | .hbm, ⟨38, _⟩ => ⟨S_, .i32⟩
  | .hbm, ⟨39, _⟩ => ⟨S4096x1024, .f32⟩
  | .hbm, ⟨40, _⟩ => ⟨S4096x1024, .f32⟩
  | .hbm, ⟨41, _⟩ => ⟨S_, .i32⟩
  | .hbm, ⟨42, _⟩ => ⟨S1024, .f32⟩
  | .hbm, ⟨43, _⟩ => ⟨S4096x1024, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x1024, .f32⟩
  | .hbm, ⟨52, _⟩ => ⟨S1024, .f32⟩
  | .hbm, ⟨53, _⟩ => ⟨S_, .i32⟩
  | .hbm, ⟨54, _⟩ => ⟨S1x1024, .f32⟩
  | .hbm, ⟨55, _⟩ => ⟨S1024, .f32⟩
  | .hbm, ⟨56, _⟩ => ⟨S1024, .f32⟩
  | .hbm, ⟨57, _⟩ => ⟨S1024, .f32⟩
  | .hbm, ⟨58, _⟩ => ⟨S1x1024, .f32⟩
  | .hbm, ⟨59, _⟩ => ⟨S_, .i32⟩
  | .hbm, ⟨60, _⟩ => ⟨S4096x1024, .f32⟩
  | .hbm, ⟨61, _⟩ => ⟨S_, .i32⟩
  | .hbm, ⟨62, _⟩ => ⟨S_, .i32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_c : Ref sig .tc := ⟨.hbm, 38, rfl⟩
abbrev main_v16_0 : Ref sig .tc := ⟨.hbm, 39, rfl⟩
abbrev main_v16_1 : Ref sig .tc := ⟨.hbm, 40, rfl⟩
abbrev main_v16_2 : Ref sig .tc := ⟨.hbm, 41, rfl⟩
abbrev main_v16_3 : Ref sig .tc := ⟨.hbm, 42, rfl⟩
abbrev main_v16_4 : Ref sig .tc := ⟨.hbm, 43, rfl⟩
abbrev main_while0c_c_9 : Ref sig .tc := ⟨.hbm, 44, rfl⟩
abbrev main_while0c_v17 : Ref sig .tc := ⟨.hbm, 45, rfl⟩
abbrev main_while0b_c_9 : Ref sig .tc := ⟨.hbm, 46, rfl⟩
abbrev main_while0b_v17 : Ref sig .tc := ⟨.hbm, 47, rfl⟩
abbrev main_while0b_c_10 : Ref sig .tc := ⟨.hbm, 48, rfl⟩
abbrev main_while0b_v18 : Ref sig .tc := ⟨.hbm, 49, rfl⟩
abbrev main_while0b_call1_c : Ref sig .tc := ⟨.hbm, 50, rfl⟩
abbrev main_while0b_call1_v0 : Ref sig .tc := ⟨.hbm, 51, rfl⟩
abbrev main_while0b_v19 : Ref sig .tc := ⟨.hbm, 52, rfl⟩
abbrev main_while0b_call2_c : Ref sig .tc := ⟨.hbm, 53, rfl⟩
abbrev main_while0b_call2_v0 : Ref sig .tc := ⟨.hbm, 54, rfl⟩
abbrev main_while0b_v20 : Ref sig .tc := ⟨.hbm, 55, rfl⟩
abbrev main_while0b_v21 : Ref sig .tc := ⟨.hbm, 56, rfl⟩
abbrev main_while0b_v22 : Ref sig .tc := ⟨.hbm, 57, rfl⟩
abbrev main_while0b_call3_v0 : Ref sig .tc := ⟨.hbm, 58, rfl⟩
abbrev main_while0b_call3_c : Ref sig .tc := ⟨.hbm, 59, rfl⟩
abbrev main_while0b_v23 : Ref sig .tc := ⟨.hbm, 60, rfl⟩
abbrev main_while0b_c_11 : Ref sig .tc := ⟨.hbm, 61, rfl⟩
abbrev main_while0b_v24 : Ref sig .tc := ⟨.hbm, 62, rfl⟩

abbrev nD : Nat := 1
abbrev τ : Topo := Topo.v7x

variable {F : FTy → Type} [FloatOps F]

abbrev main_while0_count : Scf.Loop 32 := ⟨0#32, 4096#32, 1#32⟩
-- ==== FfnDh.lean ====
abbrev S4096x1024 : Shape := ⟨2, ![4096, 1024]⟩
abbrev S1x1024 : Shape := ⟨2, ![1, 1024]⟩
abbrev S5632x1024 : Shape := ⟨2, ![5632, 1024]⟩
abbrev S2x4096x2816 : Shape := ⟨3, ![2, 4096, 2816]⟩
abbrev S8x1024 : Shape := ⟨2, ![8, 1024]⟩
abbrev S1x256x2816 : Shape := ⟨3, ![1, 256, 2816]⟩
abbrev S256x1024 : Shape := ⟨2, ![256, 1024]⟩
abbrev S256x2816 : Shape := ⟨2, ![256, 2816]⟩
abbrev S2816x1024 : Shape := ⟨2, ![2816, 1024]⟩
abbrev S256 : Shape := ⟨1, ![256]⟩
abbrev S256x1 : Shape := ⟨2, ![256, 1]⟩
abbrev S1024 : Shape := ⟨1, ![1024]⟩
abbrev S5x1024 : Shape := ⟨2, ![5, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S2x4096x2816, .bf16⟩
  | .hbm, ⟨6, _⟩ => ⟨S4096x1024, .f32⟩
  | .hbm, ⟨7, _⟩ => ⟨S4096x1024, .f32⟩
  | .hbm, ⟨8, _⟩ => ⟨S8x1024, .f32⟩
  | .local _ .vmem, ⟨0, _⟩ => ⟨S1x256x2816, .bf16⟩
  | .local _ .vmem, ⟨1, _⟩ => ⟨S1x256x2816, .bf16⟩
  | .local _ .vmem, ⟨2, _⟩ => ⟨S1x256x2816, .bf16⟩
  | .local _ .vmem, ⟨3, _⟩ => ⟨S1x256x2816, .bf16⟩
  | .local _ .vmem, ⟨4, _⟩ => ⟨S5632x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v62 : BitVec 32 := Scalar.extui v61
  let c0_i32_31 : BitVec 32 := 0#32
  let v63 : BitVec 1 := Scalar.cmpi .ne v62 c0_i32_31
  v63

def k0_cond2 (i : grid0.Coords) : BitVec 1 :=
  let arg0 : BitVec 32 := BitVec.ofNat 32 (i 0).val
  let c0_i32_32 : BitVec 32 := 0#32
  let v64 : BitVec 1 := Scalar.cmpi .sgt arg0 c0_i32_32
  let v65 : BitVec 32 := Scalar.extui v64
  let c0_i32_33 : BitVec 32 := 0#32
  let v66 : BitVec 1 := Scalar.cmpi .ne v65 c0_i32_33
  v66

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfnDhRefIdeal.lean ====
abbrev S4096x1024 : Shape := ⟨2, ![4096, 1024]⟩
abbrev S1x1024 : Shape := ⟨2, ![1, 1024]⟩
abbrev S5632x1024 : Shape := ⟨2, ![5632, 1024]⟩
abbrev S2x4096x2816 : Shape := ⟨3, ![2, 4096, 2816]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S1024 : Shape := ⟨1, ![1024]⟩
abbrev S5x1024 : Shape := ⟨2, ![5, 1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S2x4096x2816, .bf16⟩
  | .hbm, ⟨6, _⟩ => ⟨S4096x1024, .f32⟩
  | .hbm, ⟨7, _⟩ => ⟨S5632x1024, .f32⟩
  | .hbm, ⟨8, _⟩ => ⟨S1024x5632, .f32⟩
  | .hbm, ⟨9, _⟩ => ⟨S2x4096x2816, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x5632, .f32⟩
  | .hbm, ⟨37, _⟩ => ⟨S4096x2816, .f32⟩
  | .hbm, ⟨38, _⟩ => ⟨S4096x2816, .f32⟩
  | .hbm, ⟨39, _⟩ => ⟨S1x4096x2816, .f32⟩
  | .hbm, ⟨40, _⟩ => ⟨S4096x2816, .f32⟩
  | .hbm, ⟨41, _⟩ => ⟨S1x4096x2816, .f32⟩
  | .hbm, ⟨42, _⟩ => ⟨S4096x2816, .f32⟩
  | .hbm, ⟨43, _⟩ => ⟨S4096x5632, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S5x1024, .f32⟩
  | .hbm, ⟨80, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== MixDh.lean ====
abbrev S4096x1024 : Shape := ⟨2, ![4096, 1024]⟩
abbrev S1x1024 : Shape := ⟨2, ![1, 1024]⟩
abbrev S5632x1024 : Shape := ⟨2, ![5632, 1024]⟩
abbrev S4096x5632 : Shape := ⟨2, ![4096, 5632]⟩
abbrev S8x1024 : Shape := ⟨2, ![8, 1024]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S5x1024 : Shape := ⟨2, ![5, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S4096x5632, .bf16⟩
  | .hbm, ⟨6, _⟩ => ⟨S4096x1024, .f32⟩
  | .hbm, ⟨7, _⟩ => ⟨S4096x1024, .f32⟩
  | .hbm, ⟨8, _⟩ => ⟨S8x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_25 : BitVec 32 := 0#32
  let v57 : BitVec 1 := Scalar.cmpi .ne v56 c0_i32_25
  v57

def k0_cond2 (i : grid0.Coords) : BitVec 1 :=
  let arg0 : BitVec 32 := BitVec.ofNat 32 (i 0).val
  let c0_i32_26 : BitVec 32 := 0#32
  let v58 : BitVec 1 := Scalar.cmpi .sgt arg0 c0_i32_26
  let v59 : BitVec 32 := Scalar.extui v58
  let c0_i32_27 : BitVec 32 := 0#32
  let v60 : BitVec 1 := Scalar.cmpi .ne v59 c0_i32_27
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixDhRefIdeal.lean ====
abbrev S4096x1024 : Shape := ⟨2, ![4096, 1024]⟩
abbrev S1x1024 : Shape := ⟨2, ![1, 1024]⟩
abbrev S5632x1024 : Shape := ⟨2, ![5632, 1024]⟩
abbrev S4096x5632 : Shape := ⟨2, ![4096, 5632]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S4096x5632, .bf16⟩
  | .hbm, ⟨6, _⟩ => ⟨S4096x1024, .f32⟩
  | .hbm, ⟨7, _⟩ => ⟨S5632x1024, .f32⟩
  | .hbm, ⟨8, _⟩ => ⟨S1024x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x5632, .f32⟩
  | .hbm, ⟨36, _⟩ => ⟨S4096x5632, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S5x1024, .f32⟩
  | .hbm, ⟨73, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== DwGu.lean ====
abbrev S2x4096x2816 : Shape := ⟨3, ![2, 4096, 2816]⟩
abbrev S4096x1024 : Shape := ⟨2, ![4096, 1024]⟩
abbrev S5632x1024 : Shape := ⟨2, ![5632, 1024]⟩
abbrev S1x4096x1408 : Shape := ⟨3, ![1, 4096, 1408]⟩
abbrev S1408x1024 : Shape := ⟨2, ![1408, 1024]⟩
abbrev S4096x1408 : Shape := ⟨2, ![4096, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S5632x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwGuRefIdeal.lean ====
abbrev S2x4096x2816 : Shape := ⟨3, ![2, 4096, 2816]⟩
abbrev S4096x1024 : Shape := ⟨2, ![4096, 1024]⟩
abbrev S1x4096x2816 : Shape := ⟨3, ![1, 4096, 2816]⟩
abbrev S4096x2816 : Shape := ⟨2, ![4096, 2816]⟩
abbrev S4096x5632 : Shape := ⟨2, ![4096, 5632]⟩
abbrev S5632x1024 : Shape := ⟨2, ![5632, 1024]⟩
abbrev S1024x5632 : Shape := ⟨2, ![1024, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4096x1024, .bf16⟩
  | .hbm, ⟨2, _⟩ => ⟨S4096x1024, .f32⟩
  | .hbm, ⟨3, _⟩ => ⟨S2x4096x2816, .f32⟩
  | .hbm, ⟨4, _⟩ => ⟨S1x4096x2816, .f32⟩
  | .hbm, ⟨5, _⟩ => ⟨S4096x2816, .f32⟩
  | .hbm, ⟨6, _⟩ => ⟨S1x4096x2816, .f32⟩
  | .hbm, ⟨7, _⟩ => ⟨S4096x2816, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwIn.lean ====
abbrev S4096x5632 : Shape := ⟨2, ![4096, 5632]⟩
abbrev S4096x1024 : Shape := ⟨2, ![4096, 1024]⟩
abbrev S5632x1024 : Shape := ⟨2, ![5632, 1024]⟩
abbrev S4096x1408 : Shape := ⟨2, ![4096, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .bf16⟩
  | .local _ .vmem, ⟨4, _⟩ => ⟨S1408x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x5632 : Shape := ⟨2, ![4096, 5632]⟩
abbrev S4096x1024 : Shape := ⟨2, ![4096, 1024]⟩
abbrev S5632x1024 : Shape := ⟨2, ![5632, 1024]⟩
abbrev S1024x5632 : Shape := ⟨2, ![1024, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S4096x5632, .f32⟩
  | .hbm, ⟨3, _⟩ => ⟨S4096x1024, .f32⟩
  | .hbm, ⟨4, _⟩ => ⟨S5632x1024, .f32⟩
  | .hbm, ⟨5, _⟩ => ⟨S1024x5632, .f32⟩
  | .hbm, ⟨6, _⟩ => ⟨S5632x1024, .f32⟩
  | .hbm, ⟨7, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MergeBwd.lean ====
abbrev S4096x1024 : Shape := ⟨2, ![4096, 1024]⟩
abbrev S1x1024 : Shape := ⟨2, ![1, 1024]⟩
abbrev S1024x1024 : Shape := ⟨2, ![1024, 1024]⟩
abbrev S4096x5632 : Shape := ⟨2, ![4096, 5632]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S6x1024 : Shape := ⟨2, ![6, 1024]⟩

abbrev nBuf : Space → Nat
  | .hbm => 14
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S4096x1024, .f32⟩
  | .hbm, ⟨7, _⟩ => ⟨S4096x5632, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v52 : BitVec 1 := Scalar.cmpi .eq arg0 c0_i32
  let v53 : BitVec 32 := Scalar.extui v52
  let c0_i32_20 : BitVec 32 := 0#32
  let v54 : BitVec 1 := Scalar.cmpi .ne v53 c0_i32_20
  v54

def k0_cond2 (i : grid0.Coords) : BitVec 1 :=
  let arg0 : BitVec 32 := BitVec.ofNat 32 (i 0).val
  let c0_i32_21 : BitVec 32 := 0#32
  let v55 : BitVec 1 := Scalar.cmpi .sgt arg0 c0_i32_21
  let v56 : BitVec 32 := Scalar.extui v55
  let c0_i32_22 : BitVec 32 := 0#32
  let v57 : BitVec 1 := Scalar.cmpi .ne v56 c0_i32_22
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeBwdRefIdeal.lean ====
abbrev S4096x1024 : Shape := ⟨2, ![4096, 1024]⟩
abbrev S1x1024 : Shape := ⟨2, ![1, 1024]⟩
abbrev S1024x1024 : Shape := ⟨2, ![1024, 1024]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 110
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S4096x1024, .f32⟩
  | .hbm, ⟨7, _⟩ => ⟨S4096x5632, .f32⟩
  | .hbm, ⟨8, _⟩ => ⟨S1024x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S1x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .bf16⟩
  | .hbm, ⟨103, _⟩ => ⟨S4096x1024, .bf16⟩
  | .hbm, ⟨104, _⟩ => ⟨S4096x1024, .bf16⟩
  | .hbm, ⟨105, _⟩ => ⟨S4096x1024, .bf16⟩
  | .hbm, ⟨106, _⟩ => ⟨S4096x1024, .bf16⟩
  | .hbm, ⟨107, _⟩ => ⟨S_, .f32⟩
  | .hbm, ⟨108, _⟩ => ⟨S6x1024, .f32⟩
  | .hbm, ⟨109, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_cst_15 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]
-- ==== RecinBwd.lean ====
abbrev S4096x1024 : Shape := ⟨2, ![4096, 1024]⟩
abbrev S1024x1024 : Shape := ⟨2, ![1024, 1024]⟩
abbrev S4096x5632 : Shape := ⟨2, ![4096, 5632]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x5632, .f32⟩
  | .hbm, ⟨4, _⟩ => ⟨S4096x1024, .f32⟩
  | .hbm, ⟨5, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RecinBwdRefIdeal.lean ====
abbrev S4096x1024 : Shape := ⟨2, ![4096, 1024]⟩
abbrev S1024x1024 : Shape := ⟨2, ![1024, 1024]⟩
abbrev S4096x5632 : Shape := ⟨2, ![4096, 5632]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x5632, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== MmPost.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MmPostRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== MergePost.lean ====
abbrev S4096x1024 : Shape := ⟨2, ![4096, 1024]⟩
abbrev S4096x5632 : Shape := ⟨2, ![4096, 5632]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5632, .f32⟩
  | .hbm, ⟨3, _⟩ => ⟨S1024x1024, .bf16⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S4096x1024, .f32⟩
  | .hbm, ⟨9, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergePostRefIdeal.lean ====
abbrev S4096x1024 : Shape := ⟨2, ![4096, 1024]⟩
abbrev S4096x5632 : Shape := ⟨2, ![4096, 5632]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x5632, .f32⟩
  | .hbm, ⟨3, _⟩ => ⟨S1024x1024, .bf16⟩
  | .hbm, ⟨4, _⟩ => ⟨S4096x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S4096x1024, .f32⟩
  | .hbm, ⟨30, _⟩ => ⟨S1024x1024, .f32⟩
  | .hbm, ⟨31, _⟩ => ⟨S4096x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== DwOut.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwRecO.lean ====
abbrev S4096x1024 : Shape := ⟨2, ![4096, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwRecORefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwAttO.lean ====
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x512, .bf16⟩
  | .local _ .vmem, ⟨1, _⟩ => ⟨S4096x1024, .bf16⟩
  | .local _ .vmem, ⟨2, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwAttORefIdeal.lean ====
abbrev S4096x512 : Shape := ⟨2, ![4096, 512]⟩
abbrev S4096x1024 : Shape := ⟨2, ![4096, 1024]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== PreUp.lean ====
abbrev S4096x1024 : Shape := ⟨2, ![4096, 1024]⟩
abbrev S1x1024 : Shape := ⟨2, ![1, 1024]⟩
abbrev S5632x1024 : Shape := ⟨2, ![5632, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S4096x1024, .bf16⟩
  | .hbm, ⟨6, _⟩ => ⟨S4096x2816, .bf16⟩
  | .hbm, ⟨7, _⟩ => ⟨S4096x2816, .bf16⟩
  | .hbm, ⟨8, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1408 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PreUpRefIdeal.lean ====
abbrev S4096x1024 : Shape := ⟨2, ![4096, 1024]⟩
abbrev S1x1024 : Shape := ⟨2, ![1, 1024]⟩
abbrev S5632x1024 : Shape := ⟨2, ![5632, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S5632x1024, .f32⟩
  | .hbm, ⟨28, _⟩ => ⟨S1024x5632, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .bf16⟩
  | .hbm, ⟨43, _⟩ => ⟨S4096x2816, .bf16⟩
  | .hbm, ⟨44, _⟩ => ⟨S4096x2816, .bf16⟩
  | .hbm, ⟨45, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== PreMm.lean ====
abbrev S4096x1024 : Shape := ⟨2, ![4096, 1024]⟩
abbrev S1x1024 : Shape := ⟨2, ![1, 1024]⟩
abbrev S5632x1024 : Shape := ⟨2, ![5632, 1024]⟩
abbrev S4096x5632 : Shape := ⟨2, ![4096, 5632]⟩
abbrev S1024x1024 : Shape := ⟨2, ![1024, 1024]⟩
abbrev S512x1024 : Shape := ⟨2, ![512, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S4096x1024, .bf16⟩
  | .hbm, ⟨6, _⟩ => ⟨S4096x5632, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x512, .f32⟩
  | .local _ .vmem, ⟨10, _⟩ => ⟨S1024x512, .f32⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg1 c3_i32
  let c11_i32 : BitVec 32 := 11#32
  let c0_i32 : BitVec 32 := 0#32
  let v1 : BitVec 1 := Scalar.cmpi .eq c11_i32 c0_i32
  let c1_i32 : BitVec 32 := 1#32
  let v2 : BitVec 32 := Scalar.select v1 c1_i32 c11_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![v10.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PreMmRefIdeal.lean ====
abbrev S4096x1024 : Shape := ⟨2, ![4096, 1024]⟩
abbrev S1x1024 : Shape := ⟨2, ![1, 1024]⟩
abbrev S5632x1024 : Shape := ⟨2, ![5632, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x1536 : Shape := ⟨2, ![4096, 1536]⟩
abbrev S4096x4096 : Shape := ⟨2, ![4096, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S5632x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S5632x1024, .f32⟩
  | .hbm, ⟨28, _⟩ => ⟨S1024x5632, .f32⟩
  | .hbm, ⟨29, _⟩ => ⟨S4096x5632, .f32⟩
  | .hbm, ⟨30, _⟩ => ⟨S4096x1536, .f32⟩
  | .hbm, ⟨31, _⟩ => ⟨S4096x4096, .f32⟩
  | .hbm, ⟨32, _⟩ => ⟨S4096x1024, .bf16⟩
  | .hbm, ⟨33, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== UpBwd.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S2x4096x2816 : Shape := ⟨3, ![2, 4096, 2816]⟩
abbrev S8x1024 : Shape := ⟨2, ![8, 1024]⟩
abbrev S512x1024 : Shape := ⟨2, ![512, 1024]⟩
abbrev S1408x1024 : Shape := ⟨2, ![1408, 1024]⟩
abbrev S512x1408 : Shape := ⟨2, ![512, 1408]⟩
abbrev S2x512x1408 : Shape := ⟨3, ![2, 512, 1408]⟩
abbrev S512 : Shape := ⟨1, ![512]⟩
abbrev S512x1 : Shape := ⟨2, ![512, 1]⟩
abbrev S1024 : Shape := ⟨1, ![1024]⟩
abbrev S6x1024 : Shape := ⟨2, ![6, 1024]⟩
abbrev S1x512x1408 : Shape := ⟨3, ![1, 512, 1408]⟩

abbrev nBuf : Space → Nat
  | .hbm => 10
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2816x1024, .bf16⟩
  | .hbm, ⟨5, _⟩ => ⟨S4096x2816, .bf16⟩
  | .hbm, ⟨6, _⟩ => ⟨S4096x2816, .bf16⟩
  | .hbm, ⟨7, _⟩ => ⟨S4096x1024, .bf16⟩
  | .hbm, ⟨8, _⟩ => ⟨S2x4096x2816, .bf16⟩
  | .hbm, ⟨9, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | .local _ .vmem, ⟨13, _⟩ => ⟨S512x1024, .bf16⟩
  | .local _ .vmem, ⟨14, _⟩ => ⟨S2x512x1408, .bf16⟩
  | .local _ .vmem, ⟨15, _⟩ => ⟨S2x512x1408, .bf16⟩
  | .local _ .vmem, ⟨16, _⟩ => ⟨S8x1024, .f32⟩
  | .local _ .vmem, ⟨17, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_40 : BitVec 32 := 0#32
  let v85 : BitVec 1 := Scalar.cmpi .eq arg0 c0_i32_40
  let v86 : BitVec 32 := Scalar.extui v85
  let c0_i32_41 : BitVec 32 := 0#32
  let v87 : BitVec 1 := Scalar.cmpi .ne v86 c0_i32_41
  v87

def k0_cond3 (i : grid0.Coords) : BitVec 1 :=
  let arg0 : BitVec 32 := BitVec.ofNat 32 (i 0).val
  let c0_i32_42 : BitVec 32 := 0#32
  let v88 : BitVec 1 := Scalar.cmpi .sgt arg0 c0_i32_42
  let v89 : BitVec 32 := Scalar.extui v88
  let c0_i32_43 : BitVec 32 := 0#32
  let v90 : BitVec 1 := Scalar.cmpi .ne v89 c0_i32_43
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== UpBwdRefIdeal.lean ====
abbrev S4096x1024 : Shape := ⟨2, ![4096, 1024]⟩
abbrev S1x1024 : Shape := ⟨2, ![1, 1024]⟩
abbrev S2816x1024 : Shape := ⟨2, ![2816, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x4096x2816 : Shape := ⟨3, ![1, 4096, 2816]⟩
abbrev S2x4096x2816 : Shape := ⟨3, ![2, 4096, 2816]⟩
abbrev S6x1024 : Shape := ⟨2, ![6, 1024]⟩
abbrev S8x1024 : Shape := ⟨2, ![8, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S2816x1024, .bf16⟩
  | .hbm, ⟨5, _⟩ => ⟨S4096x2816, .bf16⟩
  | .hbm, ⟨6, _⟩ => ⟨S4096x2816, .bf16⟩
  | .hbm, ⟨7, _⟩ => ⟨S4096x2816, .f32⟩
  | .hbm, ⟨8, _⟩ => ⟨S4096x2816, .f32⟩
  | .hbm, ⟨9, _⟩ => ⟨S2816x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S4096x2816, .f32⟩
  | .hbm, ⟨67, _⟩ => ⟨S4096x2816, .f32⟩
  | .hbm, ⟨68, _⟩ => ⟨S_, .f32⟩
  | .hbm, ⟨69, _⟩ => ⟨S4096x2816, .f32⟩
  | .hbm, ⟨70, _⟩ => ⟨S4096x2816, .f32⟩
  | .hbm, ⟨71, _⟩ => ⟨S_, .f32⟩
  | .hbm, ⟨72, _⟩ => ⟨S4096x2816, .f32⟩
  | .hbm, ⟨73, _⟩ => ⟨S4096x2816, .f32⟩
  | .hbm, ⟨74, _⟩ => ⟨S_, .f32⟩
  | .hbm, ⟨75, _⟩ => ⟨S4096x2816, .f32⟩
  | .hbm, ⟨76, _⟩ => ⟨S4096x2816, .f32⟩
  | .hbm, ⟨77, _⟩ => ⟨S4096x2816, .f32⟩
  | .hbm, ⟨78, _⟩ => ⟨S4096x2816, .f32⟩
  | .hbm, ⟨79, _⟩ => ⟨S4096x2816, .f32⟩
  | .hbm, ⟨80, _⟩ => ⟨S4096x1024, .f32⟩
  | .hbm, ⟨81, _⟩ => ⟨S4096x2816, .f32⟩
  | .hbm, ⟨82, _⟩ => ⟨S4096x2816, .f32⟩
  | .hbm, ⟨83, _⟩ => ⟨S4096x2816, .f32⟩
  | .hbm, ⟨84, _⟩ => ⟨S4096x2816, .f32⟩
  | .hbm, ⟨85, _⟩ => ⟨S4096x2816, .f32⟩
  | .hbm, ⟨86, _⟩ => ⟨S4096x2816, .f32⟩
  | .hbm, ⟨87, _⟩ => ⟨S4096x2816, .f32⟩
  | .hbm, ⟨88, _⟩ => ⟨S4096x1024, .bf16⟩
  | .hbm, ⟨89, _⟩ => ⟨S1x4096x2816, .f32⟩
  | .hbm, ⟨90, _⟩ => ⟨S1x4096x2816, .f32⟩
  | .hbm, ⟨91, _⟩ => ⟨S2x4096x2816, .f32⟩
  | .hbm, ⟨92, _⟩ => ⟨S2x4096x2816, .bf16⟩
  | .hbm, ⟨93, _⟩ => ⟨S_, .f32⟩
  | .hbm, ⟨94, _⟩ => ⟨S6x1024, .f32⟩
  | .hbm, ⟨95, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_v48_2 : Ref sig .tc := ⟨.hbm, 73, rfl⟩
abbrev main_call0_cst_1 : Ref sig .tc := ⟨.hbm, 74, rfl⟩
abbrev main_call0_v6 : Ref sig .tc := ⟨.hbm, 75, rfl⟩
abbrev main_call0_v7 : Ref sig .tc := ⟨.hbm, 76, rfl⟩
abbrev main_v48_1 : Ref sig .tc := ⟨.hbm, 77, rfl⟩
abbrev main_v48_0 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩

abbrev nD : Nat := 1
abbrev τ : Topo := Topo.v7x

variable {F : FTy → Type} [FloatOps F]
-- ==== MmLoss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_19 : BitVec 32 := 0#32
  let v33 : BitVec 1 := Scalar.cmpi .ne v32 c0_i32_19
  v33

def k0_cond2 (i : grid0.Coords) : BitVec 1 :=
  let arg0 : BitVec 32 := BitVec.ofNat 32 (i 0).val
  let c0_i32_20 : BitVec 32 := 0#32
  let v34 : BitVec 1 := Scalar.cmpi .sgt arg0 c0_i32_20
  let v35 : BitVec 32 := Scalar.extui v34
  let c0_i32_21 : BitVec 32 := 0#32
  let v36 : BitVec 1 := Scalar.cmpi .ne v35 c0_i32_21
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MmLossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_cst_8 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== RecOut.lean ====
abbrev S4096x1024 : Shape := ⟨2, ![4096, 1024]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecOutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttOut.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttOutRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamAda.lean ====
abbrev S1024x1152 : Shape := ⟨2, ![1024, 1152]⟩
abbrev S256x1152 : Shape := ⟨2, ![256, 1152]⟩

abbrev nBuf : Space → Nat
  | .hbm => 8
  | .vmem => 16
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .hbm, ⟨7, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaRefIdeal.lean ====
abbrev S1024x1152 : Shape := ⟨2, ![1024, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S_, .f32⟩
  | .hbm, ⟨5, _⟩ => ⟨S1024x1152, .f32⟩
  | .hbm, ⟨6, _⟩ => ⟨S1024x1152, .f32⟩
  | .hbm, ⟨7, _⟩ => ⟨S_, .f32⟩
  | .hbm, ⟨8, _⟩ => ⟨S1024x1152, .f32⟩
  | .hbm, ⟨9, _⟩ => ⟨S1024x1152, .f32⟩
  | .hbm, ⟨10, _⟩ => ⟨S1024x1152, .f32⟩
  | .hbm, ⟨11, _⟩ => ⟨S_, .f32⟩
  | .hbm, ⟨12, _⟩ => ⟨S1024x1152, .f32⟩
  | .hbm, ⟨13, _⟩ => ⟨S1024x1152, .f32⟩
  | .hbm, ⟨14, _⟩ => ⟨S1024x1152, .f32⟩
  | .hbm, ⟨15, _⟩ => ⟨S_, .f32⟩
  | .hbm, ⟨16, _⟩ => ⟨S1024x1152, .f32⟩
  | .hbm, ⟨17, _⟩ => ⟨S1024x1152, .f32⟩
  | .hbm, ⟨18, _⟩ => ⟨S1024x1152, .f32⟩
  | .hbm, ⟨19, _⟩ => ⟨S_, .f32⟩
  | .hbm, ⟨20, _⟩ => ⟨S1024x1152, .f32⟩
  | .hbm, ⟨21, _⟩ => ⟨S1024x1152, .f32⟩
  | .hbm, ⟨22, _⟩ => ⟨S_, .f32⟩
  | .hbm, ⟨23, _⟩ => ⟨S1024x1152, .f32⟩
  | .hbm, ⟨24, _⟩ => ⟨S1024x1152, .f32⟩
  | .hbm, ⟨25, _⟩ => ⟨S1024x1152, .f32⟩
  | .hbm, ⟨26, _⟩ => ⟨S_, .f32⟩
  | .hbm, ⟨27, _⟩ => ⟨S1024x1152, .f32⟩
  | .hbm, ⟨28, _⟩ => ⟨S1024x1152, .f32⟩
  | .hbm, ⟨29, _⟩ => ⟨S1024x1152, .f32⟩
  | .hbm, ⟨30, _⟩ => ⟨S_, .f32⟩
  | .hbm, ⟨31, _⟩ => ⟨S1024x1152, .f32⟩
  | .hbm, ⟨32, _⟩ => ⟨S1024x1152, .f32⟩
  | .hbm, ⟨33, _⟩ => ⟨S1024x1152, .f32⟩
  | .hbm, ⟨34, _⟩ => ⟨S_, .f32⟩
  | .hbm, ⟨35, _⟩ => ⟨S1024x1152, .f32⟩
  | .hbm, ⟨36, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaBwd.lean ====
abbrev S8x1024 : Shape := ⟨2, ![8, 1024]⟩
abbrev S8x1152 : Shape := ⟨2, ![8, 1152]⟩
abbrev S1024x1152 : Shape := ⟨2, ![1024, 1152]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S1024x1152, .f32⟩
  | .local _ .vmem, ⟨0, _⟩ => ⟨S8x1024, .f32⟩
  | .local _ .vmem, ⟨1, _⟩ => ⟨S8x1152, .f32⟩
  | .local _ .vmem, ⟨2, _⟩ => ⟨S1024x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaBwdRefIdeal.lean ====
abbrev S8x1024 : Shape := ⟨2, ![8, 1024]⟩
abbrev S8x1152 : Shape := ⟨2, ![8, 1152]⟩
abbrev S_ : Shape := ⟨0, ![]⟩
abbrev S1024x1152 : Shape := ⟨2, ![1024, 1152]⟩
abbrev S1152x1024 : Shape := ⟨2, ![1152, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1152, .f32⟩
  | .hbm, ⟨2, _⟩ => ⟨S_, .f32⟩
  | .hbm, ⟨3, _⟩ => ⟨S1024x1152, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1152, .f32⟩
  | .hbm, ⟨14, _⟩ => ⟨S1152x1024, .f32⟩
  | .hbm, ⟨15, _⟩ => ⟨S1024x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== AdaFwd.lean ====
abbrev S8x1024 : Shape := ⟨2, ![8, 1024]⟩
abbrev S1024x1152 : Shape := ⟨2, ![1024, 1152]⟩
abbrev S8x1152 : Shape := ⟨2, ![8, 1152]⟩

abbrev nBuf : Space → Nat
  | .hbm => 3
  | .vmem => 3
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S8x1152, .f32⟩
  | .local _ .vmem, ⟨0, _⟩ => ⟨S8x1024, .f32⟩
  | .local _ .vmem, ⟨1, _⟩ => ⟨S1024x1152, .f32⟩
  | .local _ .vmem, ⟨2, _⟩ => ⟨S8x1152, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== AdaFwdRefIdeal.lean ====
abbrev S8x1024 : Shape := ⟨2, ![8, 1024]⟩
abbrev S1024x1152 : Shape := ⟨2, ![1024, 1152]⟩
abbrev S_ : Shape := ⟨0, ![]⟩
abbrev S8x1152 : Shape := ⟨2, ![8, 1152]⟩

abbrev nBuf : Space → Nat
  | .hbm => 12
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1152, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1152, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩

abbrev nD : Nat := 1
abbrev τ : Topo := Topo.v7x

variable {F : FTy → Type} [FloatOps F]
-- ==== AdamSmall.lean ====
abbrev S160x1024 : Shape := ⟨2, ![160, 1024]⟩

abbrev nBuf : Space → Nat
  | .hbm => 8
  | .vmem => 8
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S160x1024, .f32⟩
  | .hbm, ⟨5, _⟩ => ⟨S160x1024, .f32⟩
  | .hbm, ⟨6, _⟩ => ⟨S160x1024, .f32⟩
  | .hbm, ⟨7, _⟩ => ⟨S160x1024, .f32⟩
  | .local _ .vmem, ⟨0, _⟩ => ⟨S160x1024, .f32⟩
  | .local _ .vmem, ⟨1, _⟩ => ⟨S160x1024, .f32⟩
  | .local _ .vmem, ⟨2, _⟩ => ⟨S160x1024, .f32⟩
  | .local _ .vmem, ⟨3, _⟩ => ⟨S160x1024, .f32⟩
  | .local _ .vmem, ⟨4, _⟩ => ⟨S160x1024, .f32⟩
  | .local _ .vmem, ⟨5, _⟩ => ⟨S160x1024, .f32⟩
  | .local _ .vmem, ⟨6, _⟩ => ⟨S160x1024, .f32⟩
  | .local _ .vmem, ⟨7, _⟩ => ⟨S160x1024, .f32⟩
  | _, _ => ⟨S160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S160x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S160x1024 : Shape := ⟨2, ![160, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S160x1024, .f32⟩
  | .hbm, ⟨1, _⟩ => ⟨S160x1024, .f32⟩
  | .hbm, ⟨2, _⟩ => ⟨S160x1024, .f32⟩
  | .hbm, ⟨3, _⟩ => ⟨S160x1024, .f32⟩
  | .hbm, ⟨4, _⟩ => ⟨S_, .f32⟩
  | .hbm, ⟨5, _⟩ => ⟨S160x1024, .f32⟩
  | .hbm, ⟨6, _⟩ => ⟨S160x1024, .f32⟩
  | .hbm, ⟨7, _⟩ => ⟨S_, .f32⟩
  | .hbm, ⟨8, _⟩ => ⟨S160x1024, .f32⟩
  | .hbm, ⟨9, _⟩ => ⟨S160x1024, .f32⟩
  | .hbm, ⟨10, _⟩ => ⟨S160x1024, .f32⟩
  | .hbm, ⟨11, _⟩ => ⟨S_, .f32⟩
  | .hbm, ⟨12, _⟩ => ⟨S160x1024, .f32⟩
  | .hbm, ⟨13, _⟩ => ⟨S160x1024, .f32⟩
  | .hbm, ⟨14, _⟩ => ⟨S160x1024, .f32⟩
  | .hbm, ⟨15, _⟩ => ⟨S_, .f32⟩
  | .hbm, ⟨16, _⟩ => ⟨S160x1024, .f32⟩
  | .hbm, ⟨17, _⟩ => ⟨S160x1024, .f32⟩
  | .hbm, ⟨18, _⟩ => ⟨S160x1024, .f32⟩
  | .hbm, ⟨19, _⟩ => ⟨S_, .f32⟩
  | .hbm, ⟨20, _⟩ => ⟨S160x1024, .f32⟩
  | .hbm, ⟨21, _⟩ => ⟨S160x1024, .f32⟩
  | .hbm, ⟨22, _⟩ => ⟨S_, .f32⟩
  | .hbm, ⟨23, _⟩ => ⟨S160x1024, .f32⟩
  | .hbm, ⟨24, _⟩ => ⟨S160x1024, .f32⟩
  | .hbm, ⟨25, _⟩ => ⟨S160x1024, .f32⟩
  | .hbm, ⟨26, _⟩ => ⟨S_, .f32⟩
  | .hbm, ⟨27, _⟩ => ⟨S160x1024, .f32⟩
  | .hbm, ⟨28, _⟩ => ⟨S160x1024, .f32⟩
  | .hbm, ⟨29, _⟩ => ⟨S160x1024, .f32⟩
  | .hbm, ⟨30, _⟩ => ⟨S_, .f32⟩
  | .hbm, ⟨31, _⟩ => ⟨S160x1024, .f32⟩
  | .hbm, ⟨32, _⟩ => ⟨S160x1024, .f32⟩
  | .hbm, ⟨33, _⟩ => ⟨S160x1024, .f32⟩
  | .hbm, ⟨34, _⟩ => ⟨S_, .f32⟩
  | .hbm, ⟨35, _⟩ => ⟨S160x1024, .f32⟩
  | .hbm, ⟨36, _⟩ => ⟨S160x1024, .f32⟩
  | _, _ => ⟨S160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.ScanRun.lean ====
/- The run of the backward scan's kernel, with what it leaves NAMED.

   One grid point handles 512 rows, from the last block of rows to the first. Its body goes through
   64 groups of 8 rows and carries the last group's scan from group to group; what the last group
   leaves is kept in a scratch for the next grid point. Here: the body's triple in the two cases (the
   first point, which starts from zero, and any other point), what the output's staging buffer and
   the scratch hold after each point, the pipeline's proof data, and the whole program's run. -/
module

public import proofs.«01_k».proof.Proof.Gen.ScanBwdIdeal.Frame
public import proofs.«01_k».proof.Proof.Gen.ScanBwdIdeal.Loops
public import proofs.«01_k».proof.Proof.Gen.ScanBwdIdeal.Skeleton
public import Idealize.ShloMosaic.Lib.Pipeline.Value
public import Idealize.ShloMosaic.Lib.WritesUnit
public import Idealize.ShloMosaic.Lib.WholeRead
public import Idealize.ShloMosaic.Lib.ValueIdxCore

@[expose] public section

set_option maxRecDepth 16384

noncomputable section

namespace Cert.ScanBwdIdeal.ScanRun

open Cert.ScanBwdIdeal Cert.ScanBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first point -/

/-- The condition of the body's `scf.if`: the grid coordinate is zero. -/
abbrev first (i : grid0.Coords) : Prop :=
  (Scalar.cmpi .ne (Scalar.extui (Scalar.cmpi .eq (BitVec.ofNat 32 (i 0).val) 0#32)) 0#32) = 1#1

/-- It holds at the grid's first point only. -/
theorem first_iff : ∀ t : Fin cfg0.N, first (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val = 0 ↔ t.val % 8 = 0 := by omega
    rw [e1]
    simp only [first, e0]
    word_cmp
   : ∀ t : Fin grid0.N, first (grid0.coords t) ↔ t.val = 0)

/-- The staging memrefs at a point, and the scratch that carries the scan. -/
abbrev inA (t : Fin cfg0.N) : Memref sig .tc .vmem S512x1024 .f32 := win0_0.stage (cfg0.slots t 0)
abbrev inA_whole (t : Fin cfg0.N) : (inA t).IsWhole := hstage0_0 ((cfg0.slots t 0).cast nbuf0_0)
abbrev inD (t : Fin cfg0.N) : Memref sig .tc .vmem S512x1024 .f32 := win0_1.stage (cfg0.slots t 1)
abbrev inD_whole (t : Fin cfg0.N) : (inD t).IsWhole := hstage0_1 ((cfg0.slots t 1).cast nbuf0_1)
abbrev outG (t : Fin cfg0.N) : Memref sig .tc .vmem S512x1024 .f32 := win0_2.stage (cfg0.slots t 2)
abbrev outG_whole (t : Fin cfg0.N) : (outG t).IsWhole := hstage0_2 ((cfg0.slots t 2).cast nbuf0_2)
abbrev carry : Memref sig .tc .vmem S8x1024 .f32 := Memref.whole cc0_scratch0

/-- Some fixed staging memref, through which contents of a block are read. -/
abbrev VG : View sig .tc .vmem S512x1024 .f32 := (win0_2.stage 0).view
abbrev VC : View sig .tc .vmem S8x1024 .f32 := carry.view

/-- The region's invariant with the scratch as a memref owned at some contents. -/
theorem rest_eq (c : Dev nD) :
    (Pipeline.ΦA spec0 c : sProp 𝕄)
      = iprop(iprop((∃ d, owns (c : Thread nD τ) carry fullShare d)) ∗ (∃ r, prngReg c r)) := by
  unfold Pipeline.ΦA; rw [scopedRest0_eq]; simp only [carry, owns_whole]; try rfl

/-! ## The body's triple -/

set_option maxHeartbeats 1000000 in
/-- The body at the first point: the pieces it leaves in the output's buffer and in the scratch. -/
def runFirst (c : Dev nD) (i : grid0.Coords) (arg1 : Memref sig .tc .vmem S512x1024 .f32) (harg1 : arg1.IsWhole)
    (arg2 : Memref sig .tc .vmem S512x1024 .f32) (harg2 : arg2.IsWhole) (arg3 : Memref sig .tc .vmem S512x1024 .f32)
    (harg3 : arg3.IsWhole) (arg4 : Memref sig .tc .vmem S8x1024 .f32) (harg4 : arg4.IsWhole) (hc : first i)
    (x0 x1 : Vec F S512x1024 .f32) :
    Σ' (L : List (View.Piece (Elt F) S512x1024 .f32)), { LS : List (View.Piece (Elt F) S8x1024 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)
                ∗ (∃ f, arg4.view.loc (c : Thread nD τ) ↦[arg4.view.set]{fullShare} arg4.view.writes (Elt F) f LS)) -∗ K ⟨⟩))
          ⊢ wp frame (wpE (defs₀ (F := F)) Variants.none c none) E (cc0_lru_scan_bwd i arg1 harg1 arg2 harg2 arg3 harg3 arg4 harg4) K } := by
  refine ⟨?_, ?_, fun E K => ?run⟩
  case run =>
    simp only [cc0_lru_scan_bwd_eq_skeleton]; unfold cc0_lru_scan_bwd_skel
    unfold owns
    iintro ⟨⟨%f0, %hf0, H0⟩, ⟨%f1, %hf1, H1⟩, ⟨%d2, %f2, -, H2⟩, ⟨%ds, %fs, -, HS⟩, Hk⟩
    obtain rfl := harg1.eq_unread hf0; obtain rfl := harg2.eq_unread hf1
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact HS

set_option maxHeartbeats 1000000 in
/-- The body at any other point, the scratch holding `xs`. -/
def runLater (c : Dev nD) (i : grid0.Coords) (arg1 : Memref sig .tc .vmem S512x1024 .f32) (harg1 : arg1.IsWhole)
    (arg2 : Memref sig .tc .vmem S512x1024 .f32) (harg2 : arg2.IsWhole) (arg3 : Memref sig .tc .vmem S512x1024 .f32)
    (harg3 : arg3.IsWhole) (arg4 : Memref sig .tc .vmem S8x1024 .f32) (harg4 : arg4.IsWhole) (hc : ¬first i)
    (x0 x1 : Vec F S512x1024 .f32) (xs : Vec F S8x1024 .f32) :
    Σ' (L : List (View.Piece (Elt F) S512x1024 .f32)), { LS : List (View.Piece (Elt F) S8x1024 .f32) //
      ∀ (E : Set ℕ) (K : PUnit → sProp 𝕄),
        iprop(owns (c : Thread nD τ) arg1 fullShare x0 ∗ owns (c : Thread nD τ) arg2 fullShare x1
            ∗ (∃ d, owns (c : Thread nD τ) arg3 fullShare d) ∗ owns (c : Thread nD τ) arg4 fullShare xs
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L)
                ∗ (∃ f, arg4.view.loc (c : Thread nD τ) ↦[arg4.view.set]{fullShare} arg4.view.writes (Elt F) f LS)) -∗ K ⟨⟩))
          ⊢ wp frame (wpE (defs₀ (F := F)) Variants.none c none) E (cc0_lru_scan_bwd i arg1 harg1 arg2 harg2 arg3 harg3 arg4 harg4) K } := by
  refine ⟨?_, ?_, fun E K => ?run⟩
  case run =>
    simp only [cc0_lru_scan_bwd_eq_skeleton]; unfold cc0_lru_scan_bwd_skel
    unfold owns
    iintro ⟨⟨%f0, %hf0, H0⟩, ⟨%f1, %hf1, H1⟩, ⟨%d2, %f2, -, H2⟩, ⟨%fs, %hfs, HS⟩, Hk⟩
    obtain rfl := harg1.eq_unread hf0; obtain rfl := harg2.eq_unread hf1; obtain rfl := harg4.eq_unread hfs
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact HS

/-! ## What the groups of rows compute -/

open Idealize.ShloMosaic.ValueIdx

/-- Rows `504 - 8k … 511 - 8k` of a block: the group trip `k` works on. -/
def group (x : Vec F S512x1024 .f32) (k : ℕ) : Vec F S8x1024 .f32 :=
  fun y => x (ix2 (⟨504 - 8 * k + (y 0).val, by have : (y 0).val < 8 := (y 0).isLt; omega⟩ : Fin 512) (y 1))

/-- The row numbers of a group. -/
abbrev rowNo : IVec S8x1024 32 := iota .tc S8x1024 32 [0] iota_S8x1024_d0_w32

/-- The value carried into trip `k`, from what trip 0 starts with. -/
def carried (x0 x1 : Vec F S512x1024 .f32) (init : Vec F S8x1024 .f32) : ℕ → Vec F S8x1024 .f32
  | 0 => init
  | k + 1 => k0_pay2 (k0_pay4 rowNo (carried x0 x1 init k) (group x0 k) (group x1 k))

/-- The output block: row `r` is row `r % 8` of the group of trip `63 - r / 8`. -/
def block (x0 x1 : Vec F S512x1024 .f32) (init : Vec F S8x1024 .f32) : Vec F S512x1024 .f32 :=
  fun y => k0_pay5 rowNo (carried x0 x1 init (63 - (y 0).val / 8)) (group x0 (63 - (y 0).val / 8)) (group x1 (63 - (y 0).val / 8))
    (ix2 (⟨(y 0).val % 8, Nat.mod_lt _ (by decide)⟩ : Fin 8) (y 1))

theorem trips_eq : k0_t1_loop.trips = 64 := by decide +kernel

/-- A load of trip `k`'s rectangle from a staging buffer reads the group. -/
theorem load_group {M : Memref sig .tc .vmem S512x1024 .f32} (hM : M.IsWhole) (x : Vec F S512x1024 .f32) (k : Fin k0_t1_loop.trips) :
    View.readAt (Elt F) M.view (Rect.unit (s := S512x1024) (k0_off1 k) S8x1024.size (k0_off1_inb k)).toLoadRect (hM.unread x) = group x k.val := by
  funext y
  rw [hM.readAt_unread]
  unfold group
  refine congrArg x (funext fun a => Fin.ext ?_)
  match a with
  | ⟨0, _⟩ =>
    show k0_off1 k 0 + 1 * (y 0).val = 504 - 8 * k.val + (y 0).val
    have h0 : k0_off1 k 0 = 504 - 8 * k.val := by rw [k0_off1_eq]; rfl
    omega
  | ⟨1, _⟩ =>
    show k0_off1 k 1 + 1 * (y 1).val = (y 1).val
    have h1 : k0_off1 k 1 = 0 := by rw [k0_off1_eq]; rfl
    omega

section Loop

variable (c : Dev nD) (i : grid0.Coords) (arg1 : Memref sig .tc .vmem S512x1024 .f32) (harg1 : arg1.IsWhole)
    (arg2 : Memref sig .tc .vmem S512x1024 .f32) (harg2 : arg2.IsWhole) (arg3 : Memref sig .tc .vmem S512x1024 .f32)
    (harg3 : arg3.IsWhole) (arg4 : Memref sig .tc .vmem S8x1024 .f32) (harg4 : arg4.IsWhole)
    (x0 x1 : Vec F S512x1024 .f32) (init : Vec F S8x1024 .f32)

/-- What one trip yields. -/
theorem tripR_eq (k : Fin k0_t1_loop.trips) (acc : Vec F S8x1024 .f32) :
    tripR_k0_t1 (F := F) Variants.none c none i arg1 harg1 arg2 harg2 arg3 harg3 arg4 harg4 rowNo (harg1.unread x0) (harg2.unread x1) k acc
      = k0_pay2 (k0_pay4 rowNo acc (group x0 k.val) (group x1 k.val)) := by
  rw [← load_group harg1 x0 k, ← load_group harg2 x1 k]
  unfold tripR_k0_t1 trip_k0_t1
  rfl

/-- What one trip stores. -/
theorem tripL_eq (k : Fin k0_t1_loop.trips) (acc : Vec F S8x1024 .f32) :
    tripL_k0_t1 (F := F) Variants.none c none i arg1 harg1 arg2 harg2 arg3 harg3 arg4 harg4 rowNo (harg1.unread x0) (harg2.unread x1) k acc
      = [⟨Rect.unit (s := S512x1024) (k0_off1 k) S8x1024.size (k0_off1_inb k), k0_pay5 rowNo acc (group x0 k.val) (group x1 k.val)⟩] := by
  rw [← load_group harg1 x0 k, ← load_group harg2 x1 k]
  unfold tripL_k0_t1 trip_k0_t1
  rfl

/-- The loop's carried value. -/
theorem st_carried : ∀ k ≤ 64, (st_k0_t1 (F := F) Variants.none c none i arg1 harg1 arg2 harg2 arg3 harg3 arg4 harg4 rowNo
    (harg1.unread x0) (harg2.unread x1) init k).1 = carried x0 x1 init k
  | 0, _ => rfl
  | k + 1, h => by
    have hk : k < k0_t1_loop.trips := by rw [trips_eq]; omega
    have e := st_k0_t1_succ (F := F) Variants.none c none i arg1 harg1 arg2 harg2 arg3 harg3 arg4 harg4 rowNo
      (harg1.unread x0) (harg2.unread x1) init ⟨k, hk⟩
    rw [show k + 1 = (⟨k, hk⟩ : Fin k0_t1_loop.trips).val + 1 from rfl, e]
    dsimp only
    rw [tripR_eq, st_carried k (by omega)]
    rfl

/-- The rows the first `k` trips have stored. -/
theorem st_stored (f : BufTy.Contents (Elt F) arg3.view.ty) : ∀ k ≤ 64, ∀ y : S512x1024.Idx, 512 - 8 * k ≤ (y 0).val →
    arg3.view.read (Elt F) (arg3.view.writes (Elt F) f (st_k0_t1 (F := F) Variants.none c none i arg1 harg1 arg2 harg2 arg3 harg3 arg4 harg4 rowNo
      (harg1.unread x0) (harg2.unread x1) init k).2) y = block x0 x1 init y
  | 0, _, y, hy => absurd hy (by have : (y 0).val < 512 := (y 0).isLt; omega)
  | k + 1, h, y, hy => by
    have hk : k < k0_t1_loop.trips := by rw [trips_eq]; omega
    have hy' : (y 0).val < 512 := (y 0).isLt
    have e := st_k0_t1_succ (F := F) Variants.none c none i arg1 harg1 arg2 harg2 arg3 harg3 arg4 harg4 rowNo
      (harg1.unread x0) (harg2.unread x1) init ⟨k, hk⟩
    rw [show k + 1 = (⟨k, hk⟩ : Fin k0_t1_loop.trips).val + 1 from rfl, e]
    dsimp only
    rw [tripL_eq, List.singleton_append, st_carried c i arg1 harg1 arg2 harg2 arg3 harg3 arg4 harg4 x0 x1 init k (by omega)]
    by_cases hr : 512 - 8 * k ≤ (y 0).val
    · rw [View.read_writes_cons_unit_of_not_mem _ _ _ _ _ y (k0_off1_eq ⟨k, hk⟩) (0 : Fin 2)
        (Or.inr (by show 504 - 8 * k + 8 ≤ _; omega))]
      exact st_stored f k (by omega) y hr
    · have hd : 63 - (y 0).val / 8 = k := by omega
      refine (View.read_writes_cons_unit_of_mem (s := S512x1024) arg3.view f (size := S8x1024.size) (k0_off1_inb ⟨k, hk⟩) _ _ y
        (ix2 (⟨(y 0).val % 8, Nat.mod_lt _ (by decide)⟩ : Fin 8) (y 1)) (k0_off1_eq ⟨k, hk⟩)
        (Fin.forall_fin_two.mpr ⟨by show (y 0).val = 504 - 8 * k + (y 0).val % 8; omega, by show (y 1).val = 0 + (y 1).val; omega⟩)).trans ?_
      unfold block
      rw [hd]

end Loop

end Cert.ScanBwdIdeal.ScanRun

end
-- ==== Proof.ScanCert.lean ====
/-
The whole run of the backward scan: from the body's triple at one grid point to what the result array and the carried
scratch hold after every point, over any values.
-/
module

public import proofs.«01_k».proof.Proof.ScanRun
public import Idealize.ShloMosaic.Lib.Claim

@[expose] public section

set_option maxRecDepth 16384

noncomputable section

namespace Cert.ScanBwdIdeal.ScanRun

open Cert.ScanBwdIdeal Cert.ScanBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one point leaves -/

section Point

variable (c : Dev nD) (i : grid0.Coords) (arg1 : Memref sig .tc .vmem S512x1024 .f32) (harg1 : arg1.IsWhole)
    (arg2 : Memref sig .tc .vmem S512x1024 .f32) (harg2 : arg2.IsWhole) (arg3 : Memref sig .tc .vmem S512x1024 .f32)
    (harg3 : arg3.IsWhole) (arg4 : Memref sig .tc .vmem S8x1024 .f32) (harg4 : arg4.IsWhole)
    (x0 x1 : Vec F S512x1024 .f32)

/-- The loop's carried value after its last trip. -/
theorem st_last (init : Vec F S8x1024 .f32) :
    (st_k0_t1 (F := F) Variants.none c none i arg1 harg1 arg2 harg2 arg3 harg3 arg4 harg4 rowNo
      (harg1.unread x0) (harg2.unread x1) init k0_t1_loop.trips).1 = carried x0 x1 init 64 := by
  rw [trips_eq]
  exact st_carried c i arg1 harg1 arg2 harg2 arg3 harg3 arg4 harg4 x0 x1 init 64 (le_refl _)

/-- The loop's pieces after its last trip, read back: the block. -/
theorem st_block (f : BufTy.Contents (Elt F) arg3.view.ty) (init : Vec F S8x1024 .f32) :
    arg3.view.read (Elt F) (arg3.view.writes (Elt F) f (st_k0_t1 (F := F) Variants.none c none i arg1 harg1 arg2 harg2 arg3 harg3 arg4 harg4 rowNo
      (harg1.unread x0) (harg2.unread x1) init k0_t1_loop.trips).2) = block x0 x1 init := by
  rw [trips_eq]
  exact funext fun y => st_stored c i arg1 harg1 arg2 harg2 arg3 harg3 arg4 harg4 x0 x1 init f 64 (le_refl _) y (by omega)

theorem zero_off : (![0, 0] : Fin 2 → ℕ) = fun _ => 0 := by decide

/-- A load of the whole scratch holding `xs` reads `xs`. -/
theorem load_scratch (inb : ∀ a, (![0, 0] : Fin 2 → ℕ) a + S8x1024.size a ≤ S8x1024.size a) (xs : Vec F S8x1024 .f32) :
    View.readAt (Elt F) arg4.view (Rect.unit (s := S8x1024) ![0, 0] S8x1024.size inb).toLoadRect (harg4.unread xs) = xs := by
  funext y
  rw [harg4.readAt_unread]
  refine congrArg xs (funext fun a => Fin.ext ?_)
  match a with
  | ⟨0, _⟩ => show 0 + 1 * (y 0).val = (y 0).val; omega
  | ⟨1, _⟩ => show 0 + 1 * (y 1).val = (y 1).val; omega

/-- A store of the whole scratch, read back. -/
theorem read_scratch (inb : ∀ a, (![0, 0] : Fin 2 → ℕ) a + S8x1024.size a ≤ S8x1024.size a) (f : BufTy.Contents (Elt F) arg4.view.ty) (w : Vec F S8x1024 .f32) (L : List (View.Piece (Elt F) S8x1024 .f32)) :
    arg4.view.read (Elt F) (arg4.view.writes (Elt F) f (⟨Rect.unit (s := S8x1024) ![0, 0] S8x1024.size inb, w⟩ :: L)) = w :=
  funext fun y => View.read_writes_cons_unit_of_mem (s := S8x1024) arg4.view f (size := S8x1024.size) inb w L y y rfl
    (Fin.forall_fin_two.mpr ⟨by show (y 0).val = 0 + (y 0).val; omega, by show (y 1).val = 0 + (y 1).val; omega⟩)

theorem first_out (hc : first i) (f : BufTy.Contents (Elt F) arg3.view.ty) :
    arg3.view.read (Elt F) (arg3.view.writes (Elt F) f (runFirst c i arg1 harg1 arg2 harg2 arg3 harg3 arg4 harg4 hc x0 x1).1)
      = block x0 x1 k0_pay1 := by
  refine Eq.trans ?_ (st_block c i arg1 harg1 arg2 harg2 arg3 harg3 arg4 harg4 x0 x1 f k0_pay1)
  unfold runFirst runFirst.sl.v4 runFirst.sl.HS_1
  dsimp only
  rw [View.readCov_unit_zero (S := S8x1024) _ zero_off]
  rfl

theorem later_out (hc : ¬first i) (xs : Vec F S8x1024 .f32) (f : BufTy.Contents (Elt F) arg3.view.ty) :
    arg3.view.read (Elt F) (arg3.view.writes (Elt F) f (runLater c i arg1 harg1 arg2 harg2 arg3 harg3 arg4 harg4 hc x0 x1 xs).1)
      = block x0 x1 xs := by
  refine Eq.trans ?_ (st_block c i arg1 harg1 arg2 harg2 arg3 harg3 arg4 harg4 x0 x1 f xs)
  unfold runLater
  dsimp only
  rw [load_scratch]
  rfl

theorem first_scratch (hc : first i) (f : BufTy.Contents (Elt F) arg4.view.ty) :
    arg4.view.read (Elt F) (arg4.view.writes (Elt F) f (runFirst c i arg1 harg1 arg2 harg2 arg3 harg3 arg4 harg4 hc x0 x1).2.1)
      = carried x0 x1 k0_pay1 64 := by
  refine Eq.trans ?_ (st_last c i arg1 harg1 arg2 harg2 arg3 harg3 arg4 harg4 x0 x1 k0_pay1)
  unfold runFirst runFirst.sl.v4 runFirst.sl.HS_1
  dsimp only
  rw [View.readCov_unit_zero (S := S8x1024) _ zero_off, read_scratch]
  unfold k0_pay3
  rw [shapeCast_self]
  rfl

theorem later_scratch (hc : ¬first i) (xs : Vec F S8x1024 .f32) (f : BufTy.Contents (Elt F) arg4.view.ty) :
    arg4.view.read (Elt F) (arg4.view.writes (Elt F) f (runLater c i arg1 harg1 arg2 harg2 arg3 harg3 arg4 harg4 hc x0 x1 xs).2.1)
      = carried x0 x1 xs 64 := by
  refine Eq.trans ?_ (st_last c i arg1 harg1 arg2 harg2 arg3 harg3 arg4 harg4 x0 x1 xs)
  unfold runLater
  dsimp only
  rw [load_scratch, read_scratch]
  unfold k0_pay3
  rw [shapeCast_self]
  rfl

end Point

variable (m : (ℓ : Loc nD τ sig) → Buf (Elt F) ℓ) (ρ : Dev nD → PrngReg)

/-! ## What the scratch holds point by point -/

/-- What the scan starts with at point `n`: zero, then what the point before left in the scratch. -/
def start (c : Dev nD) : (n : ℕ) → n ≤ cfg0.N → Vec F S8x1024 .f32
  | 0, _ => k0_pay1
  | n + 1, hn => carried (iblk m c 0 ⟨n, hn⟩) (iblk m c 1 ⟨n, hn⟩) (start c n (Nat.le_of_succ_le hn)) 64

/-- The region's invariant before point `n`. -/
def held (c : Dev nD) : (n : ℕ) → n ≤ cfg0.N → sProp 𝕄
  | 0, _ => Pipeline.ΦA spec0 c
  | n + 1, hn => iprop(owns (c : Thread nD τ) carry fullShare (start m c (n + 1) hn) ∗ (∃ r, prngReg c r))

theorem held_zero (c : Dev nD) (n : ℕ) (h : n ≤ cfg0.N) (hz : n = 0) : held m c n h = Pipeline.ΦA spec0 c := by
  subst hz; rfl

theorem held_pos (c : Dev nD) (n : ℕ) (h : n ≤ cfg0.N) (hz : n ≠ 0) :
    held m c n h = iprop(owns (c : Thread nD τ) carry fullShare (start m c n h) ∗ (∃ r, prngReg c r)) := by
  cases n with
  | zero => exact absurd rfl hz
  | succ n => rfl

/-- The proof data: the inputs' buffers keep their blocks, the result's buffer is left at the scanned block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => block (iblk m c 0 t) (iblk m c 1 t) (start m c t.val (Nat.le_of_lt t.isLt))
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = block (iblk m c 0 t) (iblk m c 1 t) (start m c t.val (Nat.le_of_lt t.isLt)) := by
  dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body at every point -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (inA t) fullShare ((dats m 0 c).before 0 t d))
    ∗ (∃ d, owns (c : Thread nD τ) (inD t) fullShare ((dats m 0 c).before 1 t d))
    ∗ (∃ d, owns (c : Thread nD τ) (outG t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (inA t) fullShare ((dats m 0 c).after 0 t)
    ∗ owns (c : Thread nD τ) (inD t) fullShare ((dats m 0 c).after 1 t)
    ∗ owns (c : Thread nD τ) (outG t) fullShare ((dats m 0 c).after 2 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl, after0, after1, after2]
  rw [show (dats m 0 c).Φ t.succ = held m c (t.val + 1) t.isLt from rfl, held_pos m c (t.val + 1) _ (Nat.succ_ne_zero _)]
  rw [show start m c (t.val + 1) t.isLt = carried (iblk m c 0 t) (iblk m c 1 t) (start m c t.val (Nat.le_of_lt t.isLt)) 64 from rfl]
  by_cases hz : t.val = 0
  · rw [held_castSucc m c t, held_zero m c _ _ hz, rest_eq]
    have hs : start m c t.val (Nat.le_of_lt t.isLt) = k0_pay1 := by
      obtain ⟨n, hn⟩ := t; dsimp only at hz; subst hz; rfl
    rw [hs]
    iintro ⟨⟨HS, Hg⟩, Ho, ⟨%d0, H0⟩, ⟨%d1, H1⟩, ⟨%d2, H2⟩⟩
    iapply ((runFirst c (grid0.coords t) _ _ _ _ _ _ _ _ ((first_iff t).mpr hz) (iblk m c 0 t) (iblk m c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro; exact first_scratch c _ _ _ _ _ _ _ _ _ _ _ _ _
      iexact Hg
    isplitl [Ho]; · iexact Ho
    isplitl [H0]; · iexact H0
    isplitl [H1]; · iexact H1
    unfold owns; iexists _; isplitr
    swap; · iexact H2
    ipureintro; exact first_out c _ _ _ _ _ _ _ _ _ _ _ _ _
  · rw [held_castSucc m c t, held_pos m c _ _ hz]
    iintro ⟨⟨HS, Hg⟩, Ho, ⟨%d0, H0⟩, ⟨%d1, H1⟩, ⟨%d2, H2⟩⟩
    iapply ((runLater c (grid0.coords t) _ _ _ _ _ _ _ _ (fun h => hz ((first_iff t).mp h)) (iblk m c 0 t) (iblk m c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hg]
    · isplitl [HS]
      · unfold owns; iexists _; isplitr
        swap; · iexact HS
        ipureintro; exact later_scratch c _ _ _ _ _ _ _ _ _ _ _ _ _ _
      iexact Hg
    isplitl [Ho]; · iexact Ho
    isplitl [H0]; · iexact H0
    isplitl [H1]; · iexact H1
    unfold owns; iexists _; isplitr
    swap; · iexact H2
    ipureintro; exact later_out c _ _ _ _ _ _ _ _ _ _ _ _ _ _

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem held_first (c : Dev nD) : Pipeline.ΦA spec0 c ⊢ (dats m 0 c).Φ 0 := by
  rw [show (dats m 0 c).Φ 0 = held m c 0 (Nat.zero_le _) from rfl, held_zero m c 0 _ rfl]

theorem held_last (c : Dev nD) : (dats m 0 c).Φ (Fin.last cfg0.N) ⊢ Pipeline.ΦA spec0 c := by
  rw [show (dats m 0 c).Φ (Fin.last cfg0.N) = held m c cfg0.N (le_refl _) from rfl,
    held_pos m c _ _ (by have : cfg0.N = 8 := N_0; omega), rest_eq]
  iintro ⟨HS, Hg⟩
  isplitl [HS]
  · iexists _; iexact HS
  iexact Hg

/-! ## The run -/

set_option backward.isDefEq.respectTransparency.types false in
/-- Every execution ends with the arrays at what the points' blocks make of them, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := held_first m) (hout := held_last m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ScanBwdIdeal.ScanRun

end
-- ==== Proof.ScanGroup.lean ====
/-
One group of eight rows of the backward scan over the extended reals: the three doubling steps and the carry give, row by
row, the plain recurrence `e_r = a_r · (d_r + e_{r+1})`, whenever the decays lie in `[0, ∞)`.
-/
module

public import proofs.«01_k».proof.Proof.ScanRun
public import Idealize.ShloMosaic.Lib.KernelVsHost
public import Idealize.ShloMosaic.Lib.IdealHost

@[expose] public section

set_option maxRecDepth 16384

noncomputable section

namespace Cert.ScanBwdIdeal.ScanGroup

open Cert.ScanBwdIdeal Cert.ScanBwdIdeal.Gen Cert.ScanBwdIdeal.ScanRun
open Idealize.ShloMosaic Idealize.ShloMosaic.ValueIdx

/-! ## Eight rows, as functions of the row -/

/-- One doubling step of the products: row `r` takes in the row `n` below, where there is one. -/
def stepA (n : ℕ) (a : Fin 8 → EReal) (r : Fin 8) : EReal := if h : r.val + n < 8 then a r * a ⟨r.val + n, h⟩ else a r

/-- The same step of the sums. -/
def stepB (n : ℕ) (a b : Fin 8 → EReal) (r : Fin 8) : EReal := if h : r.val + n < 8 then a r * b ⟨r.val + n, h⟩ + b r else b r

/-- The scan of eight rows with the value `c` carried in. -/
def scan8 (a d : Fin 8 → EReal) (c : EReal) (r : Fin 8) : EReal :=
  stepB 4 (stepA 2 (stepA 1 a)) (stepB 2 (stepA 1 a) (stepB 1 a fun r => a r * d r)) r
    + stepA 4 (stepA 2 (stepA 1 a)) r * c

/-- `n` rows of the recurrence from row `r` on, applied to `x`; rows past the last do nothing. -/
def rows (a d : Fin 8 → EReal) : ℕ → ℕ → EReal → EReal
  | 0, _, x => x
  | n + 1, r, x => if h : r < 8 then a ⟨r, h⟩ * (d ⟨r, h⟩ + rows a d n (r + 1) x) else x

theorem rows_past (a d : Fin 8 → EReal) (n r : ℕ) (h : 8 ≤ r) (x : EReal) : rows a d n r x = x := by
  cases n with
  | zero => rfl
  | succ n => exact dif_neg (by omega)

theorem rows_add (a d : Fin 8 → EReal) (x : EReal) (n : ℕ) : ∀ m r, rows a d (m + n) r x = rows a d m r (rows a d n (r + m) x)
  | 0, r => by rw [Nat.zero_add]; rfl
  | m + 1, r => by
    rw [show m + 1 + n = (m + n) + 1 by omega]
    by_cases h : r < 8
    · simp only [rows, dif_pos h]
      rw [rows_add a d x n m (r + 1), show r + 1 + m = r + (m + 1) by omega]
    · rw [rows_past a d _ r (by omega), rows_past a d _ r (by omega), rows_past a d _ _ (by omega)]

/-- `p` and `b` hold the composition of `n` rows: each `p r` in `[0, ∞)`, and `b r + p r · x` the rows applied to `x`. -/
def Holds (a d : Fin 8 → EReal) (n : ℕ) (p b : Fin 8 → EReal) : Prop :=
  ∀ r : Fin 8, (0 ≤ p r ∧ p r ≠ ⊤) ∧ ∀ x, b r + p r * x = rows a d n r.val x

theorem finite_mul {x y : EReal} (hx : 0 ≤ x ∧ x ≠ ⊤) (hy : 0 ≤ y ∧ y ≠ ⊤) : 0 ≤ x * y ∧ x * y ≠ ⊤ := by
  refine ⟨mul_nonneg hx.1 hy.1, ?_⟩
  lift x to ℝ using ⟨hx.2, ne_of_gt (lt_of_lt_of_le EReal.bot_lt_zero hx.1)⟩
  lift y to ℝ using ⟨hy.2, ne_of_gt (lt_of_lt_of_le EReal.bot_lt_zero hy.1)⟩
  rw [← EReal.coe_mul]
  exact EReal.coe_ne_top _

theorem dist {p : EReal} (hp : 0 ≤ p ∧ p ≠ ⊤) (x y : EReal) : p * (x + y) = p * x + p * y :=
  EReal.left_distrib_of_nonneg_of_ne_top hp.1 hp.2 x y

theorem holds_one (a d : Fin 8 → EReal) (ha : ∀ r, 0 ≤ a r ∧ a r ≠ ⊤) : Holds a d 1 a fun r => a r * d r := fun r => by
  refine ⟨ha r, fun x => ?_⟩
  simp only [rows, dif_pos r.isLt]
  exact (dist (ha r) _ _).symm

/-- A doubling step composes twice as many rows. -/
theorem holds_step (a d : Fin 8 → EReal) (n : ℕ) (p b : Fin 8 → EReal) (hp : Holds a d n p b) :
    Holds a d (n + n) (stepA n p) (stepB n p b) := fun r => by
  unfold stepA stepB
  by_cases h : r.val + n < 8
  · rw [dif_pos h, dif_pos h]
    refine ⟨finite_mul (hp r).1 (hp ⟨r.val + n, h⟩).1, fun x => ?_⟩
    rw [rows_add, ← (hp ⟨r.val + n, h⟩).2 x, ← (hp r).2, dist (hp r).1, mul_assoc, add_comm (p r * _) (b r), add_assoc]
  · rw [dif_neg h, dif_neg h]
    refine ⟨(hp r).1, fun x => ?_⟩
    rw [rows_add, rows_past a d n (r.val + n) (by omega), (hp r).2]

/-- The scan of a row is the recurrence from that row on. -/
theorem scan8_rows (a d : Fin 8 → EReal) (ha : ∀ r, 0 ≤ a r ∧ a r ≠ ⊤) (c : EReal) (r : Fin 8) : scan8 a d c r = rows a d 8 r.val c :=
  (holds_step a d 4 _ _ (holds_step a d 2 _ _ (holds_step a d 1 _ _ (holds_one a d ha))) r).2 c

/-- The recurrence the scan solves. -/
theorem scan8_rec (a d : Fin 8 → EReal) (ha : ∀ r, 0 ≤ a r ∧ a r ≠ ⊤) (c : EReal) (r : Fin 8) :
    scan8 a d c r = a r * (d r + if h : r.val + 1 < 8 then scan8 a d c ⟨r.val + 1, h⟩ else c) := by
  have e : ∀ n, 8 ≤ r.val + 1 + n → rows a d n (r.val + 1) c = rows a d (n + 1) (r.val + 1) c := fun n hn => by
    rw [rows_add, rows_past a d 1 _ hn]
  rw [scan8_rows a d ha]
  simp only [scan8_rows a d ha]
  rw [show rows a d 8 r.val c = a r * (d r + rows a d 7 (r.val + 1) c) from dif_pos r.isLt, e 7 (by omega)]
  by_cases h : r.val + 1 < 8
  · rw [dif_pos h]
  · rw [dif_neg h, rows_past a d _ _ (by omega)]

/-! ## The kernel's group -/

theorem rowNo_apply (r : Fin 8) (j : Fin 1024) : rowNo (ix2 r j) = BitVec.ofNat 32 r.val :=
  iota_single_apply _ _ _ _ _ _

theorem below (n : ℕ) (hn : n ≤ 8) (r : Fin 8) (j : Fin 1024) (x y : Vec Ideal S8x1024 .f32) :
    select (cmpi .slt rowNo (broadcast S8x1024 (BitVec.ofNat 32 n))) x y (ix2 r j) = if r.val < n then x (ix2 r j) else y (ix2 r j) := by
  show (if (cmpi .slt rowNo (broadcast S8x1024 (BitVec.ofNat 32 n))) (ix2 r j) = 1#1 then _ else _) = _
  have e : cmpi .slt rowNo (broadcast S8x1024 (BitVec.ofNat 32 n)) (ix2 r j)
      = BitVec.ofBool ((BitVec.ofNat 32 r.val).slt (BitVec.ofNat 32 n)) := by
    rw [← rowNo_apply r j]; rfl
  rw [e]
  interval_cases n <;> fin_cases r <;> rfl

theorem rolled (n : ℕ) (hn : 0 < n) (hn8 : n ≤ 8) (r : Fin 8) (h : r.val + n < 8) (j : Fin 1024) (x : Vec Ideal S8x1024 .f32) :
    dynamicRotate 0 (BitVec.ofNat 32 (8 - n)) none x rotates_S8x1024_d0 (ix2 r j) = x (ix2 ⟨r.val + n, h⟩ j) :=
  dynamicRotate_apply (s := S8x1024) (0 : Fin 2) _ _ _ _ _ (Fin.forall_fin_two.mpr ⟨by
    show r.val + n = (r.val + 8 - (BitVec.ofNat 32 (8 - n)).toNat % 8) % 8
    rw [BitVec.toNat_ofNat, Nat.mod_eq_of_lt (by omega : 8 - n < 2 ^ 32)]
    omega, rfl⟩)

/-- A doubling step of the sums, at a row of a column. -/
theorem rowB (n : ℕ) (hn : 0 < n) (hn8 : n ≤ 8) (A B : Vec Ideal S8x1024 .f32) (j : Fin 1024) (r : Fin 8) :
    select (cmpi .slt rowNo (broadcast S8x1024 (BitVec.ofNat 32 (8 - n))))
      (addf (F := Ideal) (φ := .f32) (mulf (F := Ideal) (φ := .f32) A (dynamicRotate 0 (BitVec.ofNat 32 (8 - n)) none B rotates_S8x1024_d0)) B) B (ix2 r j)
      = stepB n (fun r => A (ix2 r j)) (fun r => B (ix2 r j)) r := by
  rw [below (8 - n) (by omega) r j]
  unfold stepB
  by_cases h : r.val + n < 8
  · rw [if_pos (by omega), dif_pos h]
    show A (ix2 r j) * dynamicRotate 0 (BitVec.ofNat 32 (8 - n)) none B rotates_S8x1024_d0 (ix2 r j) + B (ix2 r j) = _
    rw [rolled n hn hn8 r h j B]
  · rw [if_neg (by omega), dif_neg h]

/-- The same step of the products. -/
theorem rowA (n : ℕ) (hn : 0 < n) (hn8 : n ≤ 8) (A : Vec Ideal S8x1024 .f32) (j : Fin 1024) (r : Fin 8) :
    select (cmpi .slt rowNo (broadcast S8x1024 (BitVec.ofNat 32 (8 - n))))
      (mulf (F := Ideal) (φ := .f32) A (dynamicRotate 0 (BitVec.ofNat 32 (8 - n)) none A rotates_S8x1024_d0)) A (ix2 r j)
      = stepA n (fun r => A (ix2 r j)) r := by
  rw [below (8 - n) (by omega) r j]
  unfold stepA
  by_cases h : r.val + n < 8
  · rw [if_pos (by omega), dif_pos h]
    show A (ix2 r j) * dynamicRotate 0 (BitVec.ofNat 32 (8 - n)) none A rotates_S8x1024_d0 (ix2 r j) = _
    rw [rolled n hn hn8 r h j A]
  · rw [if_neg (by omega), dif_neg h]

/-- The kernel's eight rows are `scan8` of each column. -/
theorem group_apply (A D C : Vec Ideal S8x1024 .f32) (r : Fin 8) (j : Fin 1024) :
    k0_pay4 rowNo C A D (ix2 r j) = scan8 (fun r => A (ix2 r j)) (fun r => D (ix2 r j)) (C (ix2 r j)) r := by
  unfold k0_pay4
  dsimp only
  rw [shapeCast_self]
  show _ + _ * C (ix2 r j) = _
  unfold scan8
  congr 1
  · refine (rowB 4 (by decide) (by decide) _ _ j r).trans ?_
    congr 1
    · funext r
      refine (rowA 2 (by decide) (by decide) _ j r).trans ?_
      congr 1
      funext r
      exact rowA 1 (by decide) (by decide) _ j r
    · funext r
      refine (rowB 2 (by decide) (by decide) _ _ j r).trans ?_
      congr 1
      · funext r
        exact rowA 1 (by decide) (by decide) _ j r
      · funext r
        exact rowB 1 (by decide) (by decide) _ _ j r
  · congr 1
    refine (rowA 4 (by decide) (by decide) _ j r).trans ?_
    congr 1
    funext r
    refine (rowA 2 (by decide) (by decide) _ j r).trans ?_
    congr 1
    funext r
    exact rowA 1 (by decide) (by decide) _ j r

/-- What the group stores: the incoming gradient plus the scan of the row below, the carried value below the last row. -/
theorem stored_apply (A D C : Vec Ideal S8x1024 .f32) (r : Fin 8) (j : Fin 1024) :
    k0_pay5 rowNo C A D (ix2 r j)
      = D (ix2 r j) + if h : r.val + 1 < 8 then k0_pay4 rowNo C A D (ix2 ⟨r.val + 1, h⟩ j) else C (ix2 r j) := by
  unfold k0_pay5
  dsimp only
  show D (ix2 r j) + select (cmpi .slt rowNo (broadcast S8x1024 (BitVec.ofNat 32 7))) _ _ (ix2 r j) = _
  rw [below 7 (by decide) r j]
  congr 1
  by_cases h : r.val + 1 < 8
  · rw [if_pos (by omega), dif_pos h]
    exact rolled 1 (by decide) (by decide) r h j _
  · rw [if_neg (by omega), dif_neg h]

/-- With one value carried into all rows of a column, the group is the recurrence: each row is its decay times what the
    group stores there. -/
theorem group_rec (A D C : Vec Ideal S8x1024 .f32) (hA : ∀ y, 0 ≤ A y ∧ A y ≠ ⊤) (j : Fin 1024) (c : EReal)
    (hC : ∀ r : Fin 8, C (ix2 r j) = c) (r : Fin 8) :
    k0_pay4 rowNo C A D (ix2 r j) = A (ix2 r j) * k0_pay5 rowNo C A D (ix2 r j) := by
  rw [stored_apply, group_apply, hC r, scan8_rec _ _ (fun r => hA (ix2 r j))]
  by_cases h : r.val + 1 < 8
  · rw [dif_pos h, dif_pos h, group_apply, hC]
  · rw [dif_neg h, dif_neg h]

/-- What the group hands on, in every row: its first row. -/
theorem handed_apply (X : Vec Ideal S8x1024 .f32) (r : Fin 8) (j : Fin 1024) : k0_pay2 (F := Ideal) X (ix2 r j) = X (ix2 0 j) := by
  unfold k0_pay2
  rw [shapeCast_self]
  refine congrArg X (funext fun a => ?_)
  match a with
  | ⟨0, _⟩ => rfl
  | ⟨1, _⟩ => exact Fin.ext (by show 0 + _ = _; simp)

/-- The value carried into every column starts at zero. -/
theorem zero_apply (y : S8x1024.Idx) : k0_pay1 (F := Ideal) y = 0 := by
  unfold k0_pay1
  rw [shapeCast_self]
  exact Ideal.ofBits_zero_f32

end Cert.ScanBwdIdeal.ScanGroup

end
-- ==== Proof.ScanArray.lean ====
/-
The backward scan over whole arrays: `G a d` is the gradient, row by row from the last, and the kernel's blocks are its blocks.
-/
module

public import proofs.«01_k».proof.Proof.ScanGroup

@[expose] public section

set_option maxRecDepth 16384

noncomputable section

namespace Cert.ScanBwdIdeal.ScanArray

open Cert.ScanBwdIdeal Cert.ScanBwdIdeal.Gen Cert.ScanBwdIdeal.ScanRun Cert.ScanBwdIdeal.ScanGroup
open Idealize.ShloMosaic Idealize.ShloMosaic.TcCoe Idealize.ShloMosaic.ValueIdx Idealize.SL.Sem

/-- The row `k` places before the last. -/
abbrev rowAt (k : ℕ) : Fin 4096 := ⟨4095 - k, by omega⟩

/-- The last `k` rows of the recurrence in column `j`: `tail (k + 1) = a · (d + tail k)` at the row `k` places before the last. -/
def tail (a d : Vec Ideal S4096x1024 .f32) (j : Fin 1024) : ℕ → EReal
  | 0 => 0
  | k + 1 => a (ix2 (rowAt k) j) * (d (ix2 (rowAt k) j) + tail a d j k)

/-- The gradient: each row's incoming gradient plus what the rows after it hand back. -/
def G (a d : Vec Ideal S4096x1024 .f32) : Vec Ideal S4096x1024 .f32 :=
  fun y => d y + tail a d (y 1) (4095 - (y 0).val)

/-- Block `n` counted from the end: rows `512 (7 - n) …`. -/
def rowsOf (x : Vec Ideal S4096x1024 .f32) (n : ℕ) : Vec Ideal S512x1024 .f32 :=
  fun y => x (ix2 (⟨512 * (7 - n) + (y 0).val, by have : (y 0).val < 512 := (y 0).isLt; omega⟩ : Fin 4096) (y 1))

theorem group_rowsOf (x : Vec Ideal S4096x1024 .f32) (n k : ℕ) (hn : n < 8) (hk : k < 64) (e : ℕ) (he : e < 8) (j : Fin 1024) :
    group (rowsOf x n) k (ix2 (⟨7 - e, by omega⟩ : Fin 8) j) = x (ix2 (rowAt (512 * n + 8 * k + e)) j) := by
  unfold group rowsOf
  refine congrArg x (congrArg (fun r => ix2 r j) (Fin.ext ?_))
  show 512 * (7 - n) + (504 - 8 * k + (7 - e)) = 4095 - (512 * n + 8 * k + e)
  omega

section Rows

variable (a d : Vec Ideal S4096x1024 .f32) (ha : ∀ y, 0 ≤ a y ∧ a y ≠ ⊤)
include ha

/-- A group of the scan, from the last row up: row `7 - e` of trip `k` of block `n`. -/
theorem group_tail (n k : ℕ) (hn : n < 8) (hk : k < 64) (C : Vec Ideal S8x1024 .f32) (j : Fin 1024)
    (hC : ∀ r : Fin 8, C (ix2 r j) = tail a d j (512 * n + 8 * k)) : ∀ e (he : e < 8),
    k0_pay5 rowNo C (group (rowsOf a n) k) (group (rowsOf d n) k) (ix2 (⟨7 - e, by omega⟩ : Fin 8) j)
        = d (ix2 (rowAt (512 * n + 8 * k + e)) j) + tail a d j (512 * n + 8 * k + e)
      ∧ k0_pay4 rowNo C (group (rowsOf a n) k) (group (rowsOf d n) k) (ix2 (⟨7 - e, by omega⟩ : Fin 8) j)
        = tail a d j (512 * n + 8 * k + e + 1) := by
  have hA : ∀ y, 0 ≤ group (rowsOf a n) k y ∧ group (rowsOf a n) k y ≠ ⊤ := fun y => ha _
  intro e
  induction e with
  | zero =>
    intro he
    have h5 : k0_pay5 rowNo C (group (rowsOf a n) k) (group (rowsOf d n) k) (ix2 (⟨7 - 0, by omega⟩ : Fin 8) j)
        = d (ix2 (rowAt (512 * n + 8 * k + 0)) j) + tail a d j (512 * n + 8 * k + 0) := by
      rw [stored_apply, dif_neg (by show ¬ 7 - 0 + 1 < 8; omega), hC, group_rowsOf d n k hn hk 0 he]
      rfl
    refine ⟨h5, ?_⟩
    rw [group_rec _ _ _ hA j _ hC, h5, group_rowsOf a n k hn hk 0 he]
    rfl
  | succ e ih =>
    intro he
    have h5 : k0_pay5 rowNo C (group (rowsOf a n) k) (group (rowsOf d n) k) (ix2 (⟨7 - (e + 1), by omega⟩ : Fin 8) j)
        = d (ix2 (rowAt (512 * n + 8 * k + (e + 1))) j) + tail a d j (512 * n + 8 * k + (e + 1)) := by
      rw [stored_apply, dif_pos (by show 7 - (e + 1) + 1 < 8; omega), group_rowsOf d n k hn hk (e + 1) he]
      congr 1
      refine Eq.trans ?_ (ih (by omega)).2
      exact congrArg (fun r => k0_pay4 rowNo C (group (rowsOf a n) k) (group (rowsOf d n) k) (ix2 r j))
        (Fin.ext (by show 7 - (e + 1) + 1 = 7 - e; omega))
    refine ⟨h5, ?_⟩
    rw [group_rec _ _ _ hA j _ hC, h5, group_rowsOf a n k hn hk (e + 1) he]
    rfl

/-- The value carried into trip `k` of block `n`. -/
theorem carried_tail (n : ℕ) (hn : n < 8) (C : Vec Ideal S8x1024 .f32) (j : Fin 1024)
    (hC : ∀ r : Fin 8, C (ix2 r j) = tail a d j (512 * n)) : ∀ k ≤ 64, ∀ r : Fin 8,
    carried (rowsOf a n) (rowsOf d n) C k (ix2 r j) = tail a d j (512 * n + 8 * k)
  | 0, _, r => hC r
  | k + 1, hk, r => by
    show k0_pay2 (F := Ideal) _ (ix2 r j) = _
    rw [handed_apply]
    exact (group_tail a d ha n k hn (by omega) _ j (carried_tail n hn C j hC k (by omega)) 7 (by omega)).2

/-- A block of the kernel's result is the gradient's. -/
theorem block_G (n : ℕ) (hn : n < 8) (C : Vec Ideal S8x1024 .f32)
    (hC : ∀ (j : Fin 1024) (r : Fin 8), C (ix2 r j) = tail a d j (512 * n)) :
    block (rowsOf a n) (rowsOf d n) C = rowsOf (G a d) n := by
  funext y
  have hy : (y 0).val < 512 := (y 0).isLt
  have e := (group_tail a d ha n (63 - (y 0).val / 8) hn (by omega) _ (y 1)
    (carried_tail a d ha n hn C (y 1) (hC (y 1)) (63 - (y 0).val / 8) (by omega)) (7 - (y 0).val % 8) (by omega)).1
  unfold block
  refine Eq.trans (congrArg (fun r => k0_pay5 rowNo _ _ _ (ix2 r (y 1))) (Fin.ext ?_)) (e.trans ?_)
  · show (y 0).val % 8 = 7 - (7 - (y 0).val % 8); omega
  · have h1 : rowAt (512 * n + 8 * (63 - (y 0).val / 8) + (7 - (y 0).val % 8)) = ⟨512 * (7 - n) + (y 0).val, by omega⟩ :=
      Fin.ext (by show 4095 - _ = 512 * (7 - n) + (y 0).val; omega)
    have h2 : 512 * n + 8 * (63 - (y 0).val / 8) + (7 - (y 0).val % 8) = 4095 - (512 * (7 - n) + (y 0).val) := by omega
    rw [h1, h2]
    rfl

end Rows

end Cert.ScanBwdIdeal.ScanArray

end
-- ==== Proof.ScanRef.lean ====
/-
The reference of the backward scan: 4096 trips of a host loop, from the last row to the first, each storing one row of the gradient.
-/
module

public import proofs.«01_k».proof.Proof.ScanArray
public import proofs.«01_k».proof.Proof.Gen.ScanBwdRefIdeal.Run
public import Idealize.ShloMosaic.Lib.ValueLayout
public import Idealize.ShloMosaic.Lib.Pointwise.ShapeOpsCore

@[expose] public section

set_option maxRecDepth 16384

noncomputable section

namespace Cert.ScanBwdRefIdeal.ScanRef

open Cert.ScanBwdRefIdeal Cert.ScanBwdRefIdeal.Gen Cert.ScanBwdRefIdeal.Value
open Idealize.ShloMosaic Idealize.ShloMosaic.TcCoe Idealize.ShloMosaic.StableHlo
open Cert.ScanBwdIdeal.ScanArray (rowAt tail G)

/-- The reference's carried buffers after `k` trips on the arrays `a` and `d`. -/
structure After (a d : Vec Ideal S4096x1024 .f32) (k : ℕ) (W : Valuation τ sig (Elt Ideal)) : Prop where
  dh : W (Proc.devRef .tc main_v16_0) = d
  decay : W (Proc.devRef .tc main_v16_1) = a
  count : W (Proc.devRef .tc main_v16_2) = fun _ => BitVec.ofNat 32 k
  carry : ∀ j : Fin 1024, W (Proc.devRef .tc main_v16_3) (ValueIdx.ix1 j) = tail a d j k
  out : ∀ y : S4096x1024.Idx, 4096 - k ≤ (y 0).val → W (Proc.devRef .tc main_v16_4) y = G a d y

/-- A dynamic update of one row. -/
theorem row_write (k : ℕ) (hk : k < 4096) (x : Vec Ideal S4096x1024 .f32) (u : Vec Ideal S1x1024 .f32) (st : Fin 2 → Int)
    (h0 : st 0 = ((4095 - k : ℕ) : Int)) (h1 : st 1 = 0) (y : S4096x1024.Idx) :
    Host.dynamicUpdateSlice x u st updateFits_S4096x1024_S1x1024 y = if (y 0).val = 4095 - k then u (ValueIdx.ix2 0 (y 1)) else x y := by
  have hs : S4096x1024.Slices ![4095 - k, 0] S1x1024 :=
    ⟨rfl, Fin.forall_fin_two.mpr ⟨by show 4095 - k + 1 ≤ 4096; omega, by show 0 + 1024 ≤ 1024; omega⟩⟩
  refine (congrFun (Host.dynamicUpdateSlice_eq_updateSlice (s := S4096x1024) (u := S1x1024) x u st updateFits_S4096x1024_S1x1024 ![4095 - k, 0]
    (Fin.forall_fin_two.mpr ⟨by
      show (min (max (st 0) 0) ((4096 - 1 : Nat) : Int)).toNat = 4095 - k
      rw [h0]
      omega, by
      show (min (max (st 1) 0) ((1024 - 1024 : Nat) : Int)).toNat = 0
      rw [h1]
      decide⟩) hs) y).trans ((updateSlice_apply x u ![4095 - k, 0] hs y).trans ?_)
  have hy1 : (y 1).val < 1024 := (y 1).isLt
  by_cases hr : (y 0).val = 4095 - k
  · rw [dif_pos (Fin.forall_fin_two.mpr ⟨⟨by show 4095 - k ≤ _; omega, by show _ < 4095 - k + 1; omega⟩,
        ⟨Nat.zero_le _, by show _ < 0 + 1024; omega⟩⟩), if_pos hr]
    refine congrArg u (funext fun b => Fin.ext ?_)
    match b with
    | ⟨0, _⟩ => show (y 0).val - (4095 - k) = 0; omega
    | ⟨1, _⟩ => show (y 1).val - 0 = (y 1).val; omega
  · rw [dif_neg (fun hin => hr (by
        have h0 := hin 0
        have h1 : 4095 - k ≤ (y 0).val := h0.1
        have h2 : (y 0).val < 4095 - k + 1 := h0.2
        omega)), if_neg hr]

section Step

variable {a d : Vec Ideal S4096x1024 .f32} {k : ℕ} {W : Valuation τ sig (Elt Ideal)}

/-- The row trip `k` works on, as the loop computes it. -/
theorem row_word (h : After a d k W) (hk : k < 4096) (i : S_.Idx) : (res_main_while0b_v18 W i).toInt = ((4095 - k : ℕ) : Int) := by
  unfold res_main_while0b_v18
  rw [h.count]
  show ((4096#32 - BitVec.ofNat 32 k) - 1#32).toInt = _
  rw [show (4096#32 - BitVec.ofNat 32 k) - 1#32 = BitVec.ofNat 32 (4095 - k) from by
    apply BitVec.eq_of_toNat_eq
    simp only [BitVec.toNat_sub, BitVec.toNat_ofNat]
    omega]
  rw [BitVec.toInt_ofNat', Int.bmod_def]
  omega

/-- A dynamic slice of one row there, flattened: the row. -/
theorem row_read (h : After a d k W) (hk : k < 4096) (x : Vec Ideal S4096x1024 .f32) (j : Fin 1024) :
    shapeCast S1024 (Host.dynamicSlice S1x1024 x (fun k => (((![res_main_while0b_v18 W, constantI S_ 32 0#32] : Fin 2 → (⟨S_, .i32⟩ : BufTy).Contents (Elt Ideal))) k
      (Shape.Idx.first h_S_)).toInt) sliceFits_S4096x1024_S1x1024) shapeCasts_S1x1024_S1024 (ValueIdx.ix1 j) = x (ValueIdx.ix2 (rowAt k) j) := by
  refine (ValueIdx.shapeCast_1a_a_apply _ _ j).trans ?_
  unfold Host.dynamicSlice
  refine congrArg x (funext fun b => Fin.ext ?_)
  match b with
  | ⟨0, _⟩ =>
    show (min (max (res_main_while0b_v18 W (Shape.Idx.first h_S_)).toInt 0) ((4096 - 1 : Nat) : Int)).toNat + 0 = 4095 - k
    rw [row_word h hk]
    omega
  | ⟨1, _⟩ =>
    show (min (max (BitVec.toInt (0#32 : BitVec 32)) 0) ((1024 - 1024 : Nat) : Int)).toNat + j.val = j.val
    rw [show (min (max (BitVec.toInt (0#32 : BitVec 32)) 0) ((1024 - 1024 : Nat) : Int)).toNat = 0 from by decide]
    omega

/-- The gradient row trip `k` computes. -/
theorem grad_row (h : After a d k W) (hk : k < 4096) (j : Fin 1024) :
    res_main_while0b_v21 W (ValueIdx.ix1 j) = G a d (ValueIdx.ix2 (rowAt k) j) := by
  unfold res_main_while0b_v21
  rw [h.dh]
  refine (congrArg₂ (fun x y : EReal => x + y) (h.carry j) (row_read h hk d j)).trans ?_
  rw [add_comm]
  unfold G
  show d _ + tail a d j k = d _ + tail a d j (4095 - (4095 - k))
  rw [show 4095 - (4095 - k) = k by omega]

/-- One trip. -/
theorem after_step (h : After a d k W) (hk : k < 4096) : After a d (k + 1) (STEP W) where
  dh := (STEP_main_v16_0 W).trans h.dh
  decay := (STEP_main_v16_1 W).trans h.decay
  count := by
    rw [STEP_main_v16_2]
    unfold step_main_v16_2
    rw [h.count]
    funext i
    show BitVec.ofNat 32 k + 1#32 = BitVec.ofNat 32 (k + 1)
    rw [BitVec.ofNat_add]
  carry := fun j => by
    rw [STEP_main_v16_3]
    unfold step_main_v16_3
    rw [h.decay]
    refine (congrArg₂ (fun x y : EReal => x * y) (row_read h hk a j) (grad_row h hk j)).trans ?_
    unfold G
    show _ * (d _ + tail a d j (4095 - (4095 - k))) = _
    rw [show 4095 - (4095 - k) = k by omega]
    rfl
  out := fun y hy => by
    rw [STEP_main_v16_4]
    have hw := row_write k hk (W (Proc.devRef .tc main_v16_4)) (broadcastInDim S1x1024 ![1] bcast_S1024_S1x1024_1 (res_main_while0b_v21 W))
      (fun k => (((![res_main_while0b_v18 W, constantI S_ 32 0#32] : Fin 2 → (⟨S_, .i32⟩ : BufTy).Contents (Elt Ideal))) k (Shape.Idx.first h_S_)).toInt)
      (row_word h hk _) rfl y
    unfold step_main_v16_4
    rw [id_eq]
    refine Eq.trans hw ?_
    by_cases hr : (y 0).val = 4095 - k
    · rw [if_pos hr]
      refine Eq.trans ?_ ((grad_row h hk (y 1)).trans (congrArg (G a d) ?_))
      · refine congrArg (res_main_while0b_v21 W) (funext fun b => ?_)
        match b with
        | ⟨0, _⟩ => rfl
      · funext b
        match b with
        | ⟨0, _⟩ => exact Fin.ext hr.symm
        | ⟨1, _⟩ => rfl
    · rw [if_neg hr]
      exact h.out y (by have : (y 0).val < 4096 := (y 0).isLt; omega)

end Step

/-- All trips. -/
theorem after_iter {a d : Vec Ideal S4096x1024 .f32} {W : Valuation τ sig (Elt Ideal)} (h : After a d 0 W) :
    ∀ k ≤ 4096, After a d k (STEP^[k] W)
  | 0, _ => h
  | k + 1, hk => by
    rw [Function.iterate_succ_apply']
    exact after_step (after_iter h k (by omega)) (by omega)

/-- The loop's result: the gradient. -/
theorem loop_G {a d : Vec Ideal S4096x1024 .f32} {W : Valuation τ sig (Elt Ideal)} (h : After a d 0 W) :
    (STEP^[4096] W) (Proc.devRef .tc main_v16_4) = G a d :=
  funext fun y => (after_iter h 4096 (le_refl _)).out y (by omega)

end Cert.ScanBwdRefIdeal.ScanRef

end
-- ==== Proof.ScanDecay.lean ====
/-
The decay of the recurrence, as both programs compute it from `pre` and `lam`: between zero and one, whatever the inputs.
-/
module

public import proofs.«01_k».proof.Proof.ScanArray
public import proofs.«01_k».proof.Proof.Gen.ScanBwdRefIdeal.Run
public import Idealize.ShloMosaic.Lib.IdealHost
public import Idealize.ShloMosaic.Lib.Pipeline.ValueKit

@[expose] public section

set_option maxRecDepth 16384

noncomputable section

namespace Cert.ScanBwdIdeal.ScanDecay

open Cert.ScanBwdIdeal Cert.ScanBwdIdeal.Gen
open Idealize.ShloMosaic Idealize.ShloMosaic.TcCoe Idealize.SL.Sem

/-- `log (1 + exp x)` of each entry, the way the programs write it. -/
def softplus (x : FVec Ideal S1x1024 .f32) : FVec Ideal S1x1024 .f32 :=
  let z : FVec Ideal S1x1024 .f32 := broadcastInDim S1x1024 ![] bcast_S_S1x1024 (constant S_ .f32 0x00000000#32)
  select (cmpf .une (subf x z) (subf x z)) (addf x z) (addf (maximumf x z) (Host.log1p (Host.exp (Host.negf (Host.absf (subf x z))))))

/-- The decay: `exp (-8 · sigmoid pre · softplus (-lam))`. -/
def decay (pre : FVec Ideal S4096x1024 .f32) (lam : FVec Ideal S1x1024 .f32) : FVec Ideal S4096x1024 .f32 :=
  let one : FVec Ideal S4096x1024 .f32 := broadcastInDim S4096x1024 ![] bcast_S_S4096x1024 (constant S_ .f32 0x3F800000#32)
  let c : FVec Ideal S4096x1024 .f32 := broadcastInDim S4096x1024 ![] bcast_S_S4096x1024 (constant S_ .f32 0xC1000000#32)
  Host.exp (mulf (mulf c (Host.divf one (addf one (Host.exp (Host.negf pre)))))
    (broadcastInDim S4096x1024 ![0, 1] bcast_S1x1024_S4096x1024_0_1 (softplus (Host.negf lam))))

theorem exp_nonneg (x : EReal) : 0 ≤ Ideal.exp x := by
  induction x with
  | bot => exact le_refl _
  | top => exact le_top
  | coe r => exact EReal.coe_nonneg.mpr (Real.exp_pos r).le

theorem exp_ne_top (x : EReal) (h : x ≤ 0) : Ideal.exp x ≠ ⊤ := by
  induction x with
  | bot => exact EReal.zero_ne_top
  | top => exact absurd h (by simp)
  | coe r => exact EReal.coe_ne_top _

theorem log1p_nonneg (x : EReal) (h : 0 ≤ x) : 0 ≤ Ideal.log1p x := by
  induction x with
  | bot => exact absurd h (by simp)
  | top => show 0 ≤ Ideal.log (1 + ⊤); rw [EReal.add_top_of_ne_bot (show (1 : EReal) ≠ ⊥ from EReal.coe_ne_bot 1)]; exact le_top
  | coe r =>
    have hr : 0 ≤ r := EReal.coe_nonneg.mp h
    show 0 ≤ Ideal.log (1 + (r : EReal))
    rw [← EReal.coe_one, ← EReal.coe_add]
    show 0 ≤ (if 1 + r ≤ 0 then (⊥ : EReal) else (Real.log (1 + r) : EReal))
    rw [if_neg (by linarith)]
    exact EReal.coe_nonneg.mpr (Real.log_nonneg (by linarith))

theorem sigmoid_nonneg (x : EReal) (h : 0 ≤ x) : 0 ≤ Ideal.div 1 (1 + x) := by
  have h1 : (0 : EReal) < 1 + x := lt_of_lt_of_le zero_lt_one (le_add_of_nonneg_right h)
  unfold Ideal.div
  rw [if_neg h1.ne', one_mul]
  exact EReal.inv_nonneg_of_nonneg h1.le

theorem softplus_nonneg (x : FVec Ideal S1x1024 .f32) (i : S1x1024.Idx) : (0 : EReal) ≤ softplus x i := by
  have hz : Ideal.ofBits .f32 0x00000000#32 = 0 := Ideal.ofBits_zero_f32
  have hc : (Ideal.cmp .une (x i - Ideal.ofBits .f32 0x00000000#32) (x i - Ideal.ofBits .f32 0x00000000#32)) = 0#1 := by
    simp [Ideal.cmp]
  show (0 : EReal) ≤ (if (Ideal.cmp .une (x i - Ideal.ofBits .f32 0x00000000#32) (x i - Ideal.ofBits .f32 0x00000000#32)) = 1#1
    then _ else max (x i) (Ideal.ofBits .f32 0x00000000#32) + Ideal.log1p (Ideal.exp _))
  rw [hc, if_neg (by decide), hz]
  exact add_nonneg (le_max_right _ _) (log1p_nonneg _ (exp_nonneg _))

theorem mul_le_zero {x y : EReal} (hx : x ≤ 0) (hy : 0 ≤ y) : x * y ≤ 0 := by
  have h : 0 ≤ -x * y := mul_nonneg (EReal.neg_nonneg.mpr hx) hy
  rw [neg_mul] at h
  exact EReal.neg_nonneg.mp h

/-- The decay is nonnegative and finite. -/
theorem decay_range (pre : FVec Ideal S4096x1024 .f32) (lam : FVec Ideal S1x1024 .f32) (y : S4096x1024.Idx) :
    (0 : EReal) ≤ decay pre lam y ∧ (decay pre lam y : EReal) ≠ ⊤ := by
  refine ⟨exp_nonneg _, exp_ne_top _ ?_⟩
  refine mul_le_zero (mul_le_zero ?_ ?_) (softplus_nonneg _ _)
  · show Ideal.ofBits .f32 0xC1000000#32 ≤ 0
    have : Ideal.ofBits .f32 0xC1000000#32 = ((-(8 : ℝ)) : EReal) := by
      simp [Ideal.ofBits, Ideal.ieee]
      norm_num
      rw [← EReal.coe_mul]
      norm_num
    rw [this]
    exact_mod_cast (by norm_num : (-(8 : ℝ)) ≤ 0)
  · show (0 : EReal) ≤ Ideal.div (Ideal.ofBits .f32 0x3F800000#32) (Ideal.ofBits .f32 0x3F800000#32 + Ideal.exp (-(pre y)))
    rw [Ideal.ofBits_one_f32]
    exact sigmoid_nonneg _ (exp_nonneg _)

/-- The kernel's program hands the decay to its launch. -/
theorem V_decay (m : (ℓ : Loc nD τ sig) → Buf (Elt Ideal) ℓ) (c : Dev nD) :
    V m c main_v12 = decay (m ((c : Thread nD τ).loc main_arg0)) (m ((c : Thread nD τ).loc main_arg1)) := by
  unfold_abbrev_sides
  after_reads_simp
  simp only [StableHlo.TRef.ofBuf, StableHlo.TRef.toBuf, cast_eq]
  rfl

end Cert.ScanBwdIdeal.ScanDecay

namespace Cert.ScanBwdRefIdeal.ScanDecay

open Cert.ScanBwdRefIdeal Cert.ScanBwdRefIdeal.Gen Cert.ScanBwdRefIdeal.Value
open Idealize.ShloMosaic Idealize.ShloMosaic.TcCoe Idealize.ShloMosaic.StableHlo Idealize.SL.Sem

variable (m : (ℓ : Loc nD τ sig) → Buf (Elt Ideal) ℓ) (c : Dev nD)

/-- The reference's loop starts with the same decay … -/
theorem entry_decay : entryContents preI m c (Proc.devRef .tc main_v16_1)
    = Cert.ScanBwdIdeal.ScanDecay.decay (m ((c.tc : Thread nD τ).loc main_arg0)) (m ((c.tc : Thread nD τ).loc main_arg1)) := by
  simp only [entryContents, afterL_cons, afterL_nil]
  after_reads_simp
  simp only [TRef.ofBuf, TRef.toBuf, cast_eq]
  rfl
/-- … the incoming gradient … -/
theorem entry_dh : entryContents preI m c (Proc.devRef .tc main_v16_0) = m ((c.tc : Thread nD τ).loc main_arg2) := by
  simp only [entryContents, afterL_cons, afterL_nil]
  after_reads_simp
  rfl
/-- … and nothing handed back. -/
theorem entry_carry (j : Fin 1024) : entryContents preI m c (Proc.devRef .tc main_v16_3) (ValueIdx.ix1 j) = (0 : EReal) := by
  simp only [entryContents, afterL_cons, afterL_nil]
  after_reads_simp
  exact Ideal.ofBits_zero_f32

end Cert.ScanBwdRefIdeal.ScanDecay

end
-- ==== Proof.ScanValue.lean ====
/-
The kernel of the backward scan leaves the gradient of the recurrence in its result, and so does the reference.
-/
module

public import proofs.«01_k».proof.Proof.ScanCert
public import proofs.«01_k».proof.Proof.ScanRef
public import proofs.«01_k».proof.Proof.ScanDecay
public import Idealize.ShloMosaic.Lib.Pipeline.ValueKit

@[expose] public section

set_option maxRecDepth 16384

noncomputable section

namespace Cert.ScanBwdIdeal.ScanValue

open Cert.ScanBwdIdeal Cert.ScanBwdIdeal.Gen Cert.ScanBwdIdeal.ScanRun Cert.ScanBwdIdeal.ScanGroup Cert.ScanBwdIdeal.ScanArray
  Cert.ScanBwdIdeal.ScanDecay
open Idealize.ShloMosaic Idealize.ShloMosaic.TcCoe Idealize.SL.Sem

/-- Point `t` works on block `7 - t`, in every window. -/
theorem index0 : ∀ t : Fin cfg0.N, win0_0.index t = ![7 - t.val, 0] := (by decide +kernel : ∀ t : Fin grid0.N, _)
theorem index1 : ∀ t : Fin cfg0.N, win0_1.index t = ![7 - t.val, 0] := (by decide +kernel : ∀ t : Fin grid0.N, _)
theorem index2 : ∀ t : Fin cfg0.N, win0_2.index t = ![7 - t.val, 0] := (by decide +kernel : ∀ t : Fin grid0.N, _)

variable (m : (ℓ : Loc nD τ sig) → Buf (Elt Ideal) ℓ) (ρ : Dev nD → PrngReg) (c : Dev nD)

theorem block0 (t : Fin cfg0.N) : iblk m c 0 t = rowsOf (V m c main_v12) t.val := by
  funext y
  blk_simp [iblk]
  unfold rowsOf
  refine congrArg (V m c main_v12) ?_
  blk_ext [index0 t]

theorem block1 (t : Fin cfg0.N) : iblk m c 1 t = rowsOf (V m c main_arg2) t.val := by
  funext y
  blk_simp [iblk]
  unfold rowsOf
  refine congrArg (V m c main_arg2) ?_
  blk_ext [index1 t]

theorem decay_ok (y : S4096x1024.Idx) : (0 : EReal) ≤ V m c main_v12 y ∧ (V m c main_v12 y : EReal) ≠ (⊤ : EReal) := by
  rw [V_decay m c]
  exact decay_range _ _ y

/-- What the scratch holds before point `n`: what the rows after block `n` hand back. -/
theorem start_tail : ∀ (n : ℕ) (hn : n ≤ cfg0.N) (j : Fin 1024) (r : Fin 8),
    start m c n hn (ValueIdx.ix2 r j) = tail (V m c main_v12) (V m c main_arg2) j (512 * n)
  | 0, _, j, r => zero_apply _
  | n + 1, hn, j, r => by
    have h8 : n < 8 := hn
    show carried (iblk m c 0 ⟨n, hn⟩) (iblk m c 1 ⟨n, hn⟩) (start m c n (Nat.le_of_succ_le hn)) 64 (ValueIdx.ix2 r j) = _
    rw [block0 m c ⟨n, hn⟩, block1 m c ⟨n, hn⟩,
      carried_tail _ _ (decay_ok m c) n h8 _ j (start_tail n (Nat.le_of_succ_le hn) j) 64 (le_refl _) r]
    rfl

/-- The result array: the gradient. -/
theorem result (c : Dev nD) : (dats m 0 c).arrAt 2 cfg0.N = G (V m c main_v12) (V m c main_arg2) := by
  refine (dats m 0 c).arrAt_eq_of_covers 2 _ (by decide +kernel) fun t hf y => ?_
  blk_simp
  rw [after2 m c t, block0 m c t, block1 m c t,
    block_G _ _ (decay_ok m c) t.val t.isLt _ (fun j r => start_tail m c t.val (Nat.le_of_lt t.isLt) j r)]
  unfold rowsOf
  refine congrArg (G _ _) ?_
  blk_ext [index2 t]

/-- A whole run: the result is the gradient, the arguments are kept. -/
theorem run : θ_run defs (onTc (τ := τ) main) (s₀ m ρ) (fun r => ∀ c : Dev nD,
    r.2.mem ((c.tc : Thread nD τ).loc main_v13)
      = G (decay (m ((c.tc : Thread nD τ).loc main_arg0)) (m ((c.tc : Thread nD τ).loc main_arg1))) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h.1 c).1 2).trans ((result m c).trans (congrArg₂ G (V_decay m c) (V_main_arg2 m c))),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).1 1).trans (((dats m 0 c).arrAt_in 1 rfl _).trans ((A_eq m c 1).trans (V_main_arg2 m c)))⟩) (run_main m ρ)

end Cert.ScanBwdIdeal.ScanValue

namespace Cert.ScanBwdRefIdeal.ScanValue

open Cert.ScanBwdRefIdeal Cert.ScanBwdRefIdeal.Gen Cert.ScanBwdRefIdeal.Value Cert.ScanBwdRefIdeal.ScanRef Cert.ScanBwdRefIdeal.ScanDecay
open Idealize.ShloMosaic Idealize.ShloMosaic.TcCoe Idealize.ShloMosaic.StableHlo Idealize.SL.Sem
open Cert.ScanBwdIdeal.ScanArray (G)
open Cert.ScanBwdIdeal.ScanDecay (decay)

variable (m : (ℓ : Loc nD τ sig) → Buf (Elt Ideal) ℓ) (c : Dev nD)

/-- The loop's carried buffers when it is entered. -/
theorem entry : After (decay (m ((c.tc : Thread nD τ).loc main_arg0)) (m ((c.tc : Thread nD τ).loc main_arg1))) (m ((c.tc : Thread nD τ).loc main_arg2)) 0
    (entryContents preI m c) where
  dh := entry_dh m c
  decay := entry_decay m c
  count := ctr_entry m c
  carry := entry_carry m c
  out := fun y hy => absurd hy (by have : (y 0).val < 4096 := (y 0).isLt; omega)

/-- The loop's result: the gradient. -/
theorem result : (STEP^[4096] (entryContents preI m c)) (Proc.devRef .tc main_v16_4)
    = G (decay (m ((c.tc : Thread nD τ).loc main_arg0)) (m ((c.tc : Thread nD τ).loc main_arg1))) (m ((c.tc : Thread nD τ).loc main_arg2)) :=
  loop_G (entry m c)

end Cert.ScanBwdRefIdeal.ScanValue

end
-- ==== Proof.ScanSame.lean ====
/-
The backward scan's program at bits is the one at the reals, word for word: the run proved for one serves the other.
-/
module

public import proofs.«01_k».proof.Defs
public import proofs.«01_k».proof.Proof.Gen.ScanBwd
public import proofs.«01_k».proof.Proof.ScanCert

@[expose] public section
set_option maxRecDepth 65536
namespace Cert.ScanBwd.ScanSame
open Idealize.ShloMosaic Idealize.SL.Sem Cert.ScanBwd
theorem same_loop : Cert.ScanBwd.k0_t1_loop = Cert.ScanBwdIdeal.k0_t1_loop := rfl
theorem same_part : (Cert.ScanBwd.k0_part1 (F := Bits)) = (Cert.ScanBwdIdeal.k0_part1 (F := Bits)) := rfl
theorem same_body : (Cert.ScanBwd.cc0_lru_scan_bwd (F := Bits)) = (Cert.ScanBwdIdeal.cc0_lru_scan_bwd (F := Bits)) := by
  unfold Cert.ScanBwd.cc0_lru_scan_bwd Cert.ScanBwdIdeal.cc0_lru_scan_bwd
  rfl
theorem same_defs₀ : (Cert.ScanBwd.defs₀ (F := Bits)) = (Cert.ScanBwdIdeal.defs₀ (F := Bits)) := by
  unfold Cert.ScanBwd.defs₀ Cert.ScanBwdIdeal.defs₀
  refine congrArg Defs.onTc (funext fun l => funext fun x => ?_)
  match l, x with
  | 0, (t, s) => exact congrFun (congrFun (congrFun (congrFun (congrFun (congrFun (congrFun (congrFun (congrFun same_body _) _) _) _) _) _) _) _) _

theorem same_defs : (Cert.ScanBwd.defs (F := Bits)) = (Cert.ScanBwdIdeal.defs (F := Bits)) :=
  congrArg (Pipeline.defs Cert.ScanBwdIdeal.pcfgs) same_defs₀
theorem same_main : (Cert.ScanBwd.main (F := Bits)) = (Cert.ScanBwdIdeal.main (F := Bits)) := rfl

/-- The frame of the program at bits. -/
theorem frame : Cert.quiescent_ScanBwd := fun m ρ _ => by
  have h := Cert.ScanBwdIdeal.ScanRun.frame (F := Bits) m ρ
  rw [← same_defs, ← same_main] at h
  exact h

end Cert.ScanBwd.ScanSame

end
-- ==== Proof.NormBackward.lean ====
module

public import Idealize.ShloMosaic.Lib.Pointwise

/-! The backward pass of a root-mean-square norm with a gain, a shift and a scale, one row of 1024 entries at a time.
With `r x` the reciprocal root of the mean square of the row `x` (plus a small constant), the forward entry is
`x j * r x * g j * (1 + s j) + shift j`. For a cotangent row `d` the definitions give the entry of the gradient with
respect to `x` on top of the residual cotangent (`entry`), and the row's contributions to the gradients of the gain
(`gainTerm`) and of the scale (`scaleTerm`); the contribution to the shift is `d j` itself. -/

@[expose] public section

noncomputable section

namespace Cert.NormBackward

open Idealize.ShloMosaic

/-- The mean square of a row plus the constant that keeps it away from zero. -/
def power (x : Fin 1024 → EReal) : EReal :=
  Ideal.div (∑ k, x k * x k) (Ideal.ofBits .f32 0x44800000#32) + Ideal.ofBits .f32 0x358637BD#32

/-- The reciprocal root of `power`. -/
def rate (x : Fin 1024 → EReal) : EReal := Ideal.rsqrt (power x)

/-- The derivative of the reciprocal root at `power x`. -/
def slope (x : Fin 1024 → EReal) : EReal := Ideal.ofBits .f32 0xBF000000#32 * Ideal.div (rate x) (power x)

/-- The cotangent of the normalised row. -/
def pulled (g s d : Fin 1024 → EReal) (j : Fin 1024) : EReal := d j * (1 + s j) * g j

/-- What the mean square passes back to every entry of the row, before the factor of that entry. -/
def drift (x g s d : Fin 1024 → EReal) : EReal :=
  Ideal.div ((∑ k, x k * pulled g s d k) * slope x) (Ideal.ofBits .f32 0x44800000#32)

/-- An entry of the gradient of the row. The mean square is a product of the row with itself, so `drift` comes twice. -/
def entry (x g s d : Fin 1024 → EReal) (res : EReal) (j : Fin 1024) : EReal :=
  res + pulled g s d j * rate x + x j * drift x g s d + drift x g s d * x j

def gainTerm (x s d : Fin 1024 → EReal) (j : Fin 1024) : EReal := x j * rate x * (d j * (1 + s j))

def scaleTerm (x g d : Fin 1024 → EReal) (j : Fin 1024) : EReal := x j * rate x * g j * d j

/-- The eight rows in which the three column sums are returned; the last five hold zeros. -/
def pack (n : ℕ) (a b c : EReal) : EReal :=
  if n < 1 then a else if n - 1 < 1 then b else if n - 1 - 1 < 1 then c else 0

theorem pack_add (n : ℕ) (a b c a' b' c' : EReal) : pack n a b c + pack n a' b' c' = pack n (a + a') (b + b') (c + c') := by
  unfold pack
  split_ifs <;> simp

theorem sum_pack {ι : Type} [Fintype ι] (n : ℕ) (a b c : ι → EReal) :
    ∑ i, pack n (a i) (b i) (c i) = pack n (∑ i, a i) (∑ i, b i) (∑ i, c i) := by
  unfold pack
  split_ifs <;> simp

end Cert.NormBackward

end
-- ==== Proof.FfnInput.lean ====
module

public import proofs.«01_k».proof.Proof.Gen.FfnDhIdeal.Value
public import proofs.«01_k».proof.Proof.Gen.FfnDhRefIdeal.Run
public import proofs.«01_k».proof.Proof.NormBackward
public import Idealize.ShloMosaic.Lib.Pipeline.ValueKit
public import Idealize.ShloMosaic.Lib.Pointwise

@[expose] public section

set_option maxRecDepth 16384

noncomputable section

namespace Cert.FfnDhIdeal.FfnInput

open Cert.FfnDhIdeal Cert.FfnDhIdeal.Gen
open Idealize.ShloMosaic Idealize.ShloMosaic.TcCoe Idealize.SL.Sem

/-- Row `l` of an array of 1024 columns. -/
def row (x : Vec Ideal S4096x1024 .f32) (l : Fin 4096) : Fin 1024 → EReal := fun k => x (ix2 l k)

/-- The entries of an array of one row. -/
def line (g : Vec Ideal S1x1024 .f32) : Fin 1024 → EReal := fun k => g (ix2 0 k)

/-- Row `l` of the cotangent of the normalised input: both halves against their rows of the weight. -/
def cotangent (dgu : Vec Ideal S2x4096x2816 .bf16) (w : Vec Ideal S5632x1024 .bf16) (l : Fin 4096) : Fin 1024 → EReal := fun k =>
  (∑ q : Fin 2816, (dgu (ix3 0 l q) : EReal) * w (ix2 ⟨q.val, by omega⟩ k) + ∑ q : Fin 2816, (dgu (ix3 1 l q) : EReal) * w (ix2 ⟨2816 + q.val, by omega⟩ k) : EReal)

/-- The gradient of the input. -/
def inputGrad (x : Vec Ideal S4096x1024 .f32) (g s : Vec Ideal S1x1024 .f32) (dgu : Vec Ideal S2x4096x2816 .bf16) (w : Vec Ideal S5632x1024 .bf16)
    (res : Vec Ideal S4096x1024 .f32) : Vec Ideal S4096x1024 .f32 := fun y =>
  NormBackward.entry (row x (y 0)) (line g) (line s) (cotangent dgu w (y 0)) (row res (y 0) (y 1)) (y 1)

/-- The gradients of the gain, the shift and the scale: sums over the 4096 rows. -/
def sumsGrad (x : Vec Ideal S4096x1024 .f32) (g s : Vec Ideal S1x1024 .f32) (dgu : Vec Ideal S2x4096x2816 .bf16) (w : Vec Ideal S5632x1024 .bf16) :
    Vec Ideal S8x1024 .f32 := fun y =>
  NormBackward.pack (y 0).val (∑ l : Fin 4096, NormBackward.gainTerm (row x l) (line s) (cotangent dgu w l) (y 1))
    (∑ l : Fin 4096, cotangent dgu w l (y 1)) (∑ l : Fin 4096, NormBackward.scaleTerm (row x l) (line g) (cotangent dgu w l) (y 1))

theorem block_entry (v8 : FVec Ideal S256x1024 .f32) (v9 v10 : Vec Ideal S1x1024 .f32) (v11 v56 : Vec Ideal S256x1024 .f32) (y : S256x1024.Idx) :
    k0_pay2 v8 v9 v11 (k0_pay7 v11) (k0_pay8 v11) (k0_pay10 v10) v56 y
      = NormBackward.entry (fun k => v11 (ix2 (y 0) k)) (fun k => v9 (ix2 0 k)) (fun k => v10 (ix2 0 k)) (fun k => v8 (ix2 (y 0) k)) (v56 (ix2 (y 0) (y 1))) (y 1) := by
  unfold NormBackward.entry NormBackward.drift NormBackward.slope NormBackward.rate NormBackward.power NormBackward.pulled
  pointwise [k0_pay1, k0_pay2, k0_pay6, k0_pay7, k0_pay8, k0_pay10]
  simp only [Finset.univ_unique, Finset.sum_singleton]
  rw [add_comm, ← add_assoc, ← add_assoc]

theorem block_sums (v0 : Vec Ideal S1x256x2816 .bf16) (v2 : Vec Ideal S2816x1024 .bf16) (v4 : Vec Ideal S1x256x2816 .bf16) (v6 : Vec Ideal S2816x1024 .bf16)
    (v9 v10 : Vec Ideal S1x1024 .f32) (v11 : Vec Ideal S256x1024 .f32) (y : S8x1024.Idx) :
    k0_pay3 (k0_pay5 v0 v2 v4 v6) (k0_pay9 v11) (k0_pay10 v10) (k0_pay11 v0 v2 v4 v6) (k0_pay12 v0 v2 v4 v6 v9 v11) y
      = NormBackward.pack (y 0).val
      (∑ l : Fin 256, NormBackward.gainTerm (fun k => v11 (ix2 l k)) (fun k => v10 (ix2 0 k)) (fun k => k0_pay5 v0 v2 v4 v6 (ix2 l k)) (y 1))
      (∑ l : Fin 256, (k0_pay5 v0 v2 v4 v6 (ix2 l (y 1)) : EReal))
      (∑ l : Fin 256, NormBackward.scaleTerm (fun k => v11 (ix2 l k)) (fun k => v9 (ix2 0 k)) (fun k => k0_pay5 v0 v2 v4 v6 (ix2 l k)) (y 1)) := by
  unfold NormBackward.pack NormBackward.gainTerm NormBackward.scaleTerm NormBackward.rate NormBackward.power k0_pay11 k0_pay12
  generalize k0_pay5 v0 v2 v4 v6 = d
  pointwise [k0_pay1, k0_pay3, k0_pay6, k0_pay7, k0_pay9, k0_pay10]
  simp only [dite_eq_ite]

/-- A later block adds its sums to those stored before. -/
theorem block_step (v8 v24 : FVec Ideal S256x1024 .f32) (v28 v30 v33 : FVec Ideal S1x1024 .f32) (v67 : Vec Ideal S8x1024 .f32) (y : S8x1024.Idx) :
    k0_pay4 v8 v24 v28 v30 v33 v67 y = (v67 y + k0_pay3 v8 v24 v28 v30 v33 y : EReal) := by
  unfold k0_pay4
  generalize k0_pay3 v8 v24 v28 v30 v33 = p
  pointwise []

theorem index0 : ∀ t : Fin cfg0.N, win0_0.index t = ![0, t.val, 0] := (by decide +kernel : ∀ t : Fin grid0.N, _)
theorem index1 : ∀ t : Fin cfg0.N, win0_1.index t = ![1, t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![0, 0] := (by decide +kernel : ∀ t : Fin grid0.N, _)

theorem points (t : Fin cfg0.N) : t.val < 16 := lt_of_lt_of_eq t.isLt N_0

/-- Row `l` of the block at point `t` is row `256 t + l` of the array. -/
def at_ (t : Fin cfg0.N) (l : Fin 256) : Fin 4096 := ⟨t.val * 256 + l.val, by have := points t; omega⟩

variable (m : (ℓ : Loc nD τ sig) → Buf (Elt Ideal) ℓ) (ρ : Dev nD → PrngReg) (c : Dev nD)

theorem block_x (t : Fin cfg0.N) (l : Fin 256) : (fun k => iblk m c 3 t (ix2 l k)) = row (V m c main_arg0) (at_ t l) := by
  funext k
  blk_simp [iblk]
  refine congrArg (V m c main_arg0) ?_
  blk_ext [index3 t, at_]

theorem block_res (t : Fin cfg0.N) (l : Fin 256) (k : Fin 1024) : iblk m c 4 t (ix2 l k) = row (V m c main_arg6) (at_ t l) k := by
  blk_simp [iblk]
  refine congrArg (V m c main_arg6) ?_
  blk_ext [index4 t, at_]

theorem block_g (t : Fin cfg0.N) : (fun k => iblk m c 5 t (ix2 0 k)) = line (V m c main_arg1) := by
  funext k
  blk_simp [iblk]
  refine congrArg (V m c main_arg1) ?_
  blk_ext [index5 t]

theorem block_s (t : Fin cfg0.N) : (fun k => iblk m c 7 t (ix2 0 k)) = line (V m c main_arg3) := by
  funext k
  blk_simp [iblk]
  refine congrArg (V m c main_arg3) ?_
  blk_ext [index7 t]

theorem block_d (t : Fin cfg0.N) (l : Fin 256) :
    (fun k => k0_pay5 (iblk m c 0 t) (View.ld (iblk m c 2 t) (Rect.unit ![0, 0] ![2816, 1024] inb_S5632x1024_S2816x1024_0_0))
        (iblk m c 1 t) (View.ld (iblk m c 2 t) (Rect.unit ![2816, 0] ![2816, 1024] inb_S5632x1024_S2816x1024_2816_0)) (ix2 l k))
      = cotangent (V m c main_arg5) (V m c main_arg4) (at_ t l) := by
  funext k
  pointwise [k0_pay5, cotangent]
  refine congrArg₂ (fun u v : EReal => u + v) (Fin.sum_fin_congr fun q => congrArg₂ (fun u v : EReal => u * v) ?_ ?_)
    (Fin.sum_fin_congr fun q => congrArg₂ (fun u v : EReal => u * v) ?_ ?_)
  · blk_simp [iblk]
    refine congrArg (V m c main_arg5) ?_
    blk_ext [index0 t, at_]
  · blk_simp [iblk]
    refine congrArg (V m c main_arg4) ?_
    blk_ext [index2 t]
  · blk_simp [iblk]
    refine congrArg (V m c main_arg5) ?_
    blk_ext [index1 t, at_]
  · blk_simp [iblk]
    refine congrArg (V m c main_arg4) ?_
    blk_ext [index2 t]

theorem block_input_at (t : Fin cfg0.N) (l : Fin 256) (j : Fin 1024) :
    NormBackward.entry (fun k => iblk m c 3 t (ix2 l k)) (fun k => iblk m c 5 t (ix2 0 k)) (fun k => iblk m c 7 t (ix2 0 k))
      (fun k => k0_pay5 (iblk m c 0 t) (View.ld (iblk m c 2 t) (Rect.unit ![0, 0] ![2816, 1024] inb_S5632x1024_S2816x1024_0_0))
        (iblk m c 1 t) (View.ld (iblk m c 2 t) (Rect.unit ![2816, 0] ![2816, 1024] inb_S5632x1024_S2816x1024_2816_0)) (ix2 l k))
      (iblk m c 4 t (ix2 l j)) j
      = inputGrad (V m c main_arg0) (V m c main_arg1) (V m c main_arg3) (V m c main_arg5) (V m c main_arg4) (V m c main_arg6) (ix2 (at_ t l) j) := by
  rw [block_x, block_g, block_s, block_d, block_res]
  rfl

/-- The block of the first result at point `t`. -/
theorem block_input (t : Fin cfg0.N) (y : S256x1024.Idx) :
    k0_pay2 (k0_pay5 (iblk m c 0 t) (View.ld (iblk m c 2 t) (Rect.unit ![0, 0] ![2816, 1024] inb_S5632x1024_S2816x1024_0_0))
        (iblk m c 1 t) (View.ld (iblk m c 2 t) (Rect.unit ![2816, 0] ![2816, 1024] inb_S5632x1024_S2816x1024_2816_0)))
      (iblk m c 5 t) (iblk m c 3 t) (k0_pay7 (iblk m c 3 t)) (k0_pay8 (iblk m c 3 t)) (k0_pay10 (iblk m c 7 t)) (iblk m c 4 t) y
      = inputGrad (V m c main_arg0) (V m c main_arg1) (V m c main_arg3) (V m c main_arg5) (V m c main_arg4) (V m c main_arg6) (ix2 (at_ t (y 0)) (y 1)) :=
  (block_entry _ _ _ _ _ y).trans (block_input_at m c t (y 0) (y 1))

/-- The first result of the kernel. -/
theorem result_input : (dats m 0 c).arrAt 8 cfg0.N
    = inputGrad (V m c main_arg0) (V m c main_arg1) (V m c main_arg3) (V m c main_arg5) (V m c main_arg4) (V m c main_arg6) := by
  refine (dats m 0 c).arrAt_eq_of_covers 8 _ (by decide +kernel) fun t hf y => ?_
  have ht := points t
  have hstored : (dats m 0 c).after 8 t y
      = inputGrad (V m c main_arg0) (V m c main_arg1) (V m c main_arg3) (V m c main_arg5) (V m c main_arg4) (V m c main_arg6) (ix2 (at_ t (y 0)) (y 1)) := by
    rw [after0_8 m c t]
    by_cases h : t.val % 16 = 0
    · rw [outsAt0_A m c t h (by omega)]
      dsimp only
      frame_out
      exact block_input m c t y
    · rw [outsAt0_B m c t h (by omega)]
      dsimp only
      frame_out
      exact block_input m c t y
  rw [hstored]
  blk_simp
  refine congrArg (inputGrad _ _ _ _ _ _) ?_
  blk_ext [index8 t, at_]

/-- What a block of 256 rows adds to the sums. -/
def part (t : Fin cfg0.N) (y : S8x1024.Idx) : EReal :=
  NormBackward.pack (y 0).val (∑ l : Fin 256, NormBackward.gainTerm (row (V m c main_arg0) (at_ t l)) (line (V m c main_arg3)) (cotangent (V m c main_arg5) (V m c main_arg4) (at_ t l)) (y 1))
    (∑ l : Fin 256, cotangent (V m c main_arg5) (V m c main_arg4) (at_ t l) (y 1))
    (∑ l : Fin 256, NormBackward.scaleTerm (row (V m c main_arg0) (at_ t l)) (line (V m c main_arg1)) (cotangent (V m c main_arg5) (V m c main_arg4) (at_ t l)) (y 1))

theorem block_part (t : Fin cfg0.N) (y : S8x1024.Idx) :
    k0_pay3 (k0_pay5 (iblk m c 0 t) (View.ld (iblk m c 2 t) (Rect.unit ![0, 0] ![2816, 1024] inb_S5632x1024_S2816x1024_0_0))
        (iblk m c 1 t) (View.ld (iblk m c 2 t) (Rect.unit ![2816, 0] ![2816, 1024] inb_S5632x1024_S2816x1024_2816_0)))
      (k0_pay9 (iblk m c 3 t)) (k0_pay10 (iblk m c 7 t))
      (k0_pay11 (iblk m c 0 t) (View.ld (iblk m c 2 t) (Rect.unit ![0, 0] ![2816, 1024] inb_S5632x1024_S2816x1024_0_0))
        (iblk m c 1 t) (View.ld (iblk m c 2 t) (Rect.unit ![2816, 0] ![2816, 1024] inb_S5632x1024_S2816x1024_2816_0)))
      (k0_pay12 (iblk m c 0 t) (View.ld (iblk m c 2 t) (Rect.unit ![0, 0] ![2816, 1024] inb_S5632x1024_S2816x1024_0_0))
        (iblk m c 1 t) (View.ld (iblk m c 2 t) (Rect.unit ![2816, 0] ![2816, 1024] inb_S5632x1024_S2816x1024_2816_0))
        (iblk m c 5 t) (iblk m c 3 t)) y = part m c t y := by
  rw [block_sums]
  unfold part
  rw [block_g, block_s]
  refine congrArg₂ (fun u v => u v) (congrArg₂ (fun u v => NormBackward.pack (y 0).val u v) ?_ ?_) ?_
  · exact Fin.sum_fin_congr fun l => by rw [block_x, block_d]
  · exact Fin.sum_fin_congr fun l => congrFun (block_d m c t l) (y 1)
  · exact Fin.sum_fin_congr fun l => by rw [block_x, block_d]

theorem sum_rows (f : Fin 4096 → EReal) : ∑ t : Fin cfg0.N, ∑ l : Fin 256, f (at_ t l) = ∑ l : Fin 4096, f l :=
  Fin.sum_mul_add_fin 16 256 f

theorem sum_part (y : S8x1024.Idx) :
    ∑ t : Fin cfg0.N, part m c t y = sumsGrad (V m c main_arg0) (V m c main_arg1) (V m c main_arg3) (V m c main_arg5) (V m c main_arg4) y :=
  (NormBackward.sum_pack _ _ _ _).trans (congr (congrArg₂ (NormBackward.pack (y 0).val)
    (sum_rows fun l => NormBackward.gainTerm (row (V m c main_arg0) l) (line (V m c main_arg3)) (cotangent (V m c main_arg5) (V m c main_arg4) l) (y 1))
    (sum_rows fun l => cotangent (V m c main_arg5) (V m c main_arg4) l (y 1)))
    (sum_rows fun l => NormBackward.scaleTerm (row (V m c main_arg0) l) (line (V m c main_arg1)) (cotangent (V m c main_arg5) (V m c main_arg4) l) (y 1)))

/-- The second result of the kernel. -/
theorem result_sums : (dats m 0 c).arrAt 9 cfg0.N
    = sumsGrad (V m c main_arg0) (V m c main_arg1) (V m c main_arg3) (V m c main_arg5) (V m c main_arg4) := by
  refine (dats m 0 c).arrAt_eq_of_covers 9 _ (by decide +kernel) fun t hf y => ?_
  have ht : t = t0_15 := Fin.ext (by have := (flush0_9 t).mp hf; have := points t; show t.val = 15; omega)
  subst ht
  blk_simp
  rw [after0_9, Pipeline.eq_sum_fin_of_reset_step_apply_last (fun n h => (outsAt0 m c n h).2) 16 (fun _ => (0 : EReal)) (part m c)
    (fun t h j => by
      have := points t
      rw [outsAt0_A m c t h (by omega)]
      dsimp only
      frame_out
      exact (block_part m c t j).trans (zero_add _).symm)
    (fun t h j => by
      have := points t
      rw [outsAt0_B m c t h (by omega)]
      dsimp only
      frame_out
      exact (block_step _ _ _ _ _ _ j).trans (congrArg (fun u : EReal => _ + u) (block_part m c t j)))
    (le_of_eq N_0) t0_15 rfl y, zero_add]
  refine Eq.trans ?_ (congrArg (sumsGrad _ _ _ _ _) (?_ : (y : S8x1024.Idx) = _))
  · exact sum_part m c y
  · blk_ext [index9 t0_15]

/-- A whole run of the kernel. -/
theorem run : θ_run defs (onTc (τ := τ) main) ⟨m, fun _ => 0, ρ⟩ fun r => ∀ c : Dev nD,
    r.2.mem ((c.tc : Thread nD τ).loc main_v0_0) = inputGrad (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6))
    ∧ r.2.mem ((c.tc : Thread nD τ).loc main_v0_1) = sumsGrad (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans ((result_input m c).trans (by rw [V_main_arg0, V_main_arg1, V_main_arg3, V_main_arg4, V_main_arg5, V_main_arg6])),
    (h c).2.1.trans ((result_sums m c).trans (by rw [V_main_arg0, V_main_arg1, V_main_arg3, V_main_arg4, V_main_arg5])), (h c).2.2⟩)
    (Value.run_blocks m ρ)

end Cert.FfnDhIdeal.FfnInput

namespace Cert.FfnDhRefIdeal.FfnInput

open Cert.FfnDhRefIdeal Cert.FfnDhRefIdeal.Gen Cert.FfnDhRefIdeal.Value
open Idealize.ShloMosaic Idealize.ShloMosaic.TcCoe Idealize.ShloMosaic.StableHlo Idealize.SL.Sem
open Cert.FfnDhIdeal.FfnInput (row line cotangent inputGrad sumsGrad)

/-- The cotangent of the normalised input: the cotangents of the two halves against the transposed weight. -/
def product (dgu : FVec Ideal S2x4096x2816 .bf16) (w : FVec Ideal S5632x1024 .bf16) : FVec Ideal S4096x1024 .f32 :=
  Host.dotGeneral dot_S4096x5632_S1024x5632_S4096x1024_1_1_0_0_n_n none
    (concatenate S4096x5632 1
      [⟨S4096x2816, shapeCast S4096x2816 (extractStridedSlice S1x4096x2816 ![0, 0, 0] (extf .f32 dgu bitsLt_bf16_f32) slices_S2x4096x2816_S1x4096x2816_0_0_0) shapeCasts_S1x4096x2816_S4096x2816⟩,
       ⟨S4096x2816, shapeCast S4096x2816 (extractStridedSlice S1x4096x2816 ![1, 0, 0] (extf .f32 dgu bitsLt_bf16_f32) slices_S2x4096x2816_S1x4096x2816_1_0_0) shapeCasts_S1x4096x2816_S4096x2816⟩]
      concatenates_S4096x2816_S4096x2816_S4096x5632_d1)
    (transpose S1024x5632 [1, 0] (extf .f32 w bitsLt_bf16_f32) transposes_S5632x1024_S1024x5632_1_0)

/-- A row laid out over all rows. -/
def rows (v : FVec Ideal S1x1024 .f32) : FVec Ideal S4096x1024 .f32 :=
  broadcastInDim S4096x1024 ![0, 1] bcast_S1x1024_S4096x1024_0_1 v

/-- One plus the scale. -/
def lifted (s : FVec Ideal S1x1024 .f32) : FVec Ideal S4096x1024 .f32 :=
  rows (addf (broadcastInDim S1x1024 ![] bcast_S_S1x1024 (constant S_ .f32 0x3F800000#32)) s)

def power (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

def rate (x : FVec Ideal S4096x1024 .f32) : FVec Ideal S4096x1024 .f32 :=
  broadcastInDim S4096x1024 ![0, 1] bcast_S4096x1_S4096x1024_0_1 (Host.rsqrt (power x))

def drift (x p : FVec Ideal S4096x1024 .f32) : FVec Ideal S4096x1024 .f32 :=
  broadcastInDim S4096x1024 ![0] bcast_S4096_S4096x1024_0 (Host.reduceAdd
    (Host.divf (mulf (shapeCast S4096x1 (Host.reduceAdd (mulf x p) (constant S_ .f32 0x00000000#32) reducesTo_S4096x1024_S4096_d1 h_S_) shapeCasts_S4096_S4096x1)
        (mulf (broadcastInDim S4096x1 ![] bcast_S_S4096x1 (constant S_ .f32 0xBF000000#32)) (Host.divf (Host.rsqrt (power x)) (power x))))
      (broadcastInDim S4096x1 ![] bcast_S_S4096x1 (constant S_ .f32 0x44800000#32)))
    (constant S_ .f32 0x00000000#32) reducesTo_S4096x1_S4096_d1 h_S_)

/-- The gradient of the input from the cotangent `d` of the normalised input. -/
def input (x : FVec Ideal S4096x1024 .f32) (g s : FVec Ideal S1x1024 .f32) (d res : FVec Ideal S4096x1024 .f32) : FVec Ideal S4096x1024 .f32 :=
  addf (addf (addf res (mulf (mulf (mulf d (lifted s)) (rows g)) (rate x)))
      (mulf x (drift x (mulf (mulf d (lifted s)) (rows g)))))
    (mulf (drift x (mulf (mulf d (lifted s)) (rows g))) x)

/-- The sum of every column, as a row. -/
def column (v : FVec Ideal S4096x1024 .f32) : FVec Ideal S1x1024 .f32 :=
  shapeCast S1x1024 (Host.reduceAdd v (constant S_ .f32 0x00000000#32) reducesTo_S4096x1024_S1024_d0 h_S_) shapeCasts_S1024_S1x1024

def sums (x : FVec Ideal S4096x1024 .f32) (g s : FVec Ideal S1x1024 .f32) (d : FVec Ideal S4096x1024 .f32) : FVec Ideal S8x1024 .f32 :=
  concatenate S8x1024 0
    [⟨S1x1024, column (mulf (mulf x (rate x)) (mulf d (lifted s)))⟩, ⟨S1x1024, column d⟩,
     ⟨S1x1024, column (mulf (mulf (mulf x (rate x)) (rows g)) d)⟩,
     ⟨S5x1024, broadcastInDim S5x1024 ![] bcast_S_S5x1024 (constant S_ .f32 0x00000000#32)⟩]
    concatenates_S1x1024_S1x1024_S1x1024_S5x1024_S8x1024_d0

theorem product_entry (dgu : FVec Ideal S2x4096x2816 .bf16) (w : FVec Ideal S5632x1024 .bf16) (y : S4096x1024.Idx) :
    product dgu w y = (∑ q : Fin 2816, (dgu (ix3 0 (y 0) q) : EReal) * w (ix2 ⟨q.val, by omega⟩ (y 1)) + ∑ q : Fin 2816, (dgu (ix3 1 (y 0) q) : EReal) * w (ix2 ⟨2816 + q.val, by omega⟩ (y 1)) : EReal) := by
  pointwise [product]

theorem input_entry (x : FVec Ideal S4096x1024 .f32) (g s : FVec Ideal S1x1024 .f32) (d res : FVec Ideal S4096x1024 .f32) (y : S4096x1024.Idx) :
    input x g s d res y = NormBackward.entry (fun k => x (ix2 (y 0) k)) (fun k => g (ix2 0 k)) (fun k => s (ix2 0 k)) (fun k => d (ix2 (y 0) k)) (res (ix2 (y 0) (y 1))) (y 1) := by
  unfold NormBackward.entry NormBackward.drift NormBackward.slope NormBackward.rate NormBackward.power NormBackward.pulled
  pointwise [input, drift, rate, power, lifted, rows]
  simp only [Finset.univ_unique, Finset.sum_singleton]

theorem sums_entry (x : FVec Ideal S4096x1024 .f32) (g s : FVec Ideal S1x1024 .f32) (d : FVec Ideal S4096x1024 .f32) (y : S8x1024.Idx) :
    sums x g s d y = NormBackward.pack (y 0).val
      (∑ l : Fin 4096, NormBackward.gainTerm (fun k => x (ix2 l k)) (fun k => s (ix2 0 k)) (fun k => d (ix2 l k)) (y 1))
      (∑ l : Fin 4096, (d (ix2 l (y 1)) : EReal))
      (∑ l : Fin 4096, NormBackward.scaleTerm (fun k => x (ix2 l k)) (fun k => g (ix2 0 k)) (fun k => d (ix2 l k)) (y 1)) := by
  unfold NormBackward.pack NormBackward.gainTerm NormBackward.scaleTerm NormBackward.rate NormBackward.power
  pointwise [sums, column, rate, power, lifted, rows]
  simp only [dite_eq_ite]

theorem product_row (dgu : FVec Ideal S2x4096x2816 .bf16) (w : FVec Ideal S5632x1024 .bf16) (l : Fin 4096) :
    (fun k => product dgu w (ix2 l k)) = cotangent dgu w l := funext fun k => product_entry dgu w (ix2 l k)

theorem input_eq (x : FVec Ideal S4096x1024 .f32) (g s : FVec Ideal S1x1024 .f32) (dgu : FVec Ideal S2x4096x2816 .bf16) (w : FVec Ideal S5632x1024 .bf16)
    (res : FVec Ideal S4096x1024 .f32) : input x g s (product dgu w) res = inputGrad x g s dgu w res :=
  funext fun y => (input_entry x g s (product dgu w) res y).trans
    (congrArg (fun d => NormBackward.entry (row x (y 0)) (line g) (line s) d (row res (y 0) (y 1)) (y 1)) (product_row dgu w (y 0)))

theorem sums_eq (x : FVec Ideal S4096x1024 .f32) (g s : FVec Ideal S1x1024 .f32) (dgu : FVec Ideal S2x4096x2816 .bf16) (w : FVec Ideal S5632x1024 .bf16) :
    sums x g s (product dgu w) = sumsGrad x g s dgu w :=
  funext fun y => (sums_entry x g s (product dgu w) y).trans
    (congrArg (fun d : Fin 4096 → Fin 1024 → EReal => NormBackward.pack (y 0).val (∑ l : Fin 4096, NormBackward.gainTerm (row x l) (line s) (d l) (y 1))
      (∑ l : Fin 4096, d l (y 1)) (∑ l : Fin 4096, NormBackward.scaleTerm (row x l) (line g) (d l) (y 1))) (funext (product_row dgu w)))

variable (m : (ℓ : Loc nD τ sig) → Buf (Elt Ideal) ℓ) (ρ : Dev nD → PrngReg) (c : Dev nD)

theorem first : res_out0 m c = input (m ((c.tc : Thread nD τ).loc main_arg0)) (m ((c.tc : Thread nD τ).loc main_arg1)) (m ((c.tc : Thread nD τ).loc main_arg3))
    (product (m ((c.tc : Thread nD τ).loc main_arg5)) (m ((c.tc : Thread nD τ).loc main_arg4))) (m ((c.tc : Thread nD τ).loc main_arg6)) := rfl

theorem second : res_out1 m c = sums (m ((c.tc : Thread nD τ).loc main_arg0)) (m ((c.tc : Thread nD τ).loc main_arg1)) (m ((c.tc : Thread nD τ).loc main_arg3))
    (product (m ((c.tc : Thread nD τ).loc main_arg5)) (m ((c.tc : Thread nD τ).loc main_arg4))) := rfl

/-- A whole run of the reference. -/
theorem run : θ_run defs (onTc (τ := τ) main) ⟨m, fun _ => 0, ρ⟩ fun r => ∀ c : Dev nD,
    r.2.mem ((c.tc : Thread nD τ).loc main_v59) = inputGrad (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6))
    ∧ r.2.mem ((c.tc : Thread nD τ).loc main_v61) = sumsGrad (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans ((first m c).trans (input_eq _ _ _ _ _ _)), (h c).2.1.trans ((second m c).trans (sums_eq _ _ _ _ _)), (h c).2.2⟩)
    (Value.run m ρ)

end Cert.FfnDhRefIdeal.FfnInput

end
-- ==== Proof.MixInput.lean ====
module

public import proofs.«01_k».proof.Proof.Gen.MixDhIdeal.Value
public import proofs.«01_k».proof.Proof.Gen.MixDhRefIdeal.Run
public import proofs.«01_k».proof.Proof.NormBackward
public import Idealize.ShloMosaic.Lib.Pipeline.ValueKit
public import Idealize.ShloMosaic.Lib.Pointwise

@[expose] public section

set_option maxRecDepth 16384

noncomputable section

namespace Cert.MixDhIdeal.MixInput

open Cert.MixDhIdeal Cert.MixDhIdeal.Gen
open Idealize.ShloMosaic Idealize.ShloMosaic.TcCoe Idealize.SL.Sem

/-- Row `l` of an array of 1024 columns. -/
def row (x : Vec Ideal S4096x1024 .f32) (l : Fin 4096) : Fin 1024 → EReal := fun k => x (ix2 l k)

/-- The entries of an array of one row. -/
def line (g : Vec Ideal S1x1024 .f32) : Fin 1024 → EReal := fun k => g (ix2 0 k)

/-- Row `l` of the cotangent of the normalised input: the row of the projection's cotangent against the weight. -/
def cotangent (dproj : Vec Ideal S4096x5632 .bf16) (w : Vec Ideal S5632x1024 .bf16) (l : Fin 4096) : Fin 1024 → EReal := fun k =>
  (∑ q : Fin 5632, (dproj (ix2 l q) : EReal) * w (ix2 q k) : EReal)

/-- The gradient of the input. -/
def inputGrad (x : Vec Ideal S4096x1024 .f32) (g s : Vec Ideal S1x1024 .f32) (dproj : Vec Ideal S4096x5632 .bf16) (w : Vec Ideal S5632x1024 .bf16)
    (res : Vec Ideal S4096x1024 .f32) : Vec Ideal S4096x1024 .f32 := fun y =>
  NormBackward.entry (row x (y 0)) (line g) (line s) (cotangent dproj w (y 0)) (row res (y 0) (y 1)) (y 1)

/-- The gradients of the gain, the shift and the scale: sums over the 4096 rows. -/
def sumsGrad (x : Vec Ideal S4096x1024 .f32) (g s : Vec Ideal S1x1024 .f32) (dproj : Vec Ideal S4096x5632 .bf16) (w : Vec Ideal S5632x1024 .bf16) :
    Vec Ideal S8x1024 .f32 := fun y =>
  NormBackward.pack (y 0).val (∑ l : Fin 4096, NormBackward.gainTerm (row x l) (line s) (cotangent dproj w l) (y 1))
    (∑ l : Fin 4096, cotangent dproj w l (y 1)) (∑ l : Fin 4096, NormBackward.scaleTerm (row x l) (line g) (cotangent dproj w l) (y 1))

/-- One block of the first result, from the block of the cotangent `k0_pay4 v0 v1`. -/
theorem block_entry (v0 : Vec Ideal S256x5632 .bf16) (v1 : Vec Ideal S5632x1024 .bf16) (v3 v4 : Vec Ideal S1x1024 .f32) (v5 v50 : Vec Ideal S256x1024 .f32) (y : S256x1024.Idx) :
    k0_pay1 v5 (k0_pay7 v5) (k0_pay13 v0 v1 v3 v4) (k0_pay14 v0 v1 v3 v4 v5) (k0_pay15 v5) v50 y
      = NormBackward.entry (fun k => v5 (ix2 (y 0) k)) (fun k => v3 (ix2 0 k)) (fun k => v4 (ix2 0 k)) (fun k => k0_pay4 v0 v1 (ix2 (y 0) k)) (v50 (ix2 (y 0) (y 1))) (y 1) := by
  unfold NormBackward.entry NormBackward.drift NormBackward.slope NormBackward.rate NormBackward.power NormBackward.pulled k0_pay14 k0_pay13 k0_pay11
  generalize k0_pay4 v0 v1 = d
  pointwise [k0_pay1, k0_pay5, k0_pay6, k0_pay7, k0_pay15]
  simp only [Finset.univ_unique, Finset.sum_singleton]
  rw [add_comm, ← add_assoc, ← add_assoc]

/-- What one block has for the sums. -/
theorem block_sums (v0 : Vec Ideal S256x5632 .bf16) (v1 : Vec Ideal S5632x1024 .bf16) (v3 v4 : Vec Ideal S1x1024 .f32) (v5 : Vec Ideal S256x1024 .f32) (y : S8x1024.Idx) :
    k0_pay2 (k0_pay9 v0 v1) (k0_pay10 v0 v1 v3 v5) (k0_pay12 v0 v1 v4 v5) y
      = NormBackward.pack (y 0).val
      (∑ l : Fin 256, NormBackward.gainTerm (fun k => v5 (ix2 l k)) (fun k => v4 (ix2 0 k)) (fun k => k0_pay4 v0 v1 (ix2 l k)) (y 1))
      (∑ l : Fin 256, (k0_pay4 v0 v1 (ix2 l (y 1)) : EReal))
      (∑ l : Fin 256, NormBackward.scaleTerm (fun k => v5 (ix2 l k)) (fun k => v3 (ix2 0 k)) (fun k => k0_pay4 v0 v1 (ix2 l k)) (y 1)) := by
  unfold NormBackward.pack NormBackward.gainTerm NormBackward.scaleTerm NormBackward.rate NormBackward.power k0_pay9 k0_pay10 k0_pay12 k0_pay11
  generalize k0_pay4 v0 v1 = d
  pointwise [k0_pay2, k0_pay5, k0_pay6, k0_pay8]
  simp only [dite_eq_ite]

/-- A later block adds its sums to those stored before. -/
theorem block_step (v24 v27 v32 : FVec Ideal S1x1024 .f32) (v61 : Vec Ideal S8x1024 .f32) (y : S8x1024.Idx) :
    k0_pay3 v24 v27 v32 v61 y = (v61 y + k0_pay2 v24 v27 v32 y : EReal) := by
  unfold k0_pay3
  generalize k0_pay2 v24 v27 v32 = p
  pointwise []

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)

theorem points (t : Fin cfg0.N) : t.val < 16 := lt_of_lt_of_eq t.isLt N_0

/-- Row `l` of the block at point `t` is row `256 t + l` of the array. -/
def at_ (t : Fin cfg0.N) (l : Fin 256) : Fin 4096 := ⟨t.val * 256 + l.val, by have := points t; omega⟩

variable (m : (ℓ : Loc nD τ sig) → Buf (Elt Ideal) ℓ) (ρ : Dev nD → PrngReg) (c : Dev nD)

theorem block_x (t : Fin cfg0.N) (l : Fin 256) : (fun k => iblk m c 2 t (ix2 l k)) = row (V m c main_arg0) (at_ t l) := by
  funext k
  blk_simp [iblk]
  refine congrArg (V m c main_arg0) ?_
  blk_ext [index2 t, at_]

theorem block_res (t : Fin cfg0.N) (l : Fin 256) (k : Fin 1024) : iblk m c 3 t (ix2 l k) = row (V m c main_arg6) (at_ t l) k := by
  blk_simp [iblk]
  refine congrArg (V m c main_arg6) ?_
  blk_ext [index3 t, at_]

theorem block_g (t : Fin cfg0.N) : (fun k => iblk m c 4 t (ix2 0 k)) = line (V m c main_arg1) := by
  funext k
  blk_simp [iblk]
  refine congrArg (V m c main_arg1) ?_
  blk_ext [index4 t]

theorem block_s (t : Fin cfg0.N) : (fun k => iblk m c 6 t (ix2 0 k)) = line (V m c main_arg3) := by
  funext k
  blk_simp [iblk]
  refine congrArg (V m c main_arg3) ?_
  blk_ext [index6 t]

theorem block_d (t : Fin cfg0.N) (l : Fin 256) :
    (fun k => k0_pay4 (iblk m c 0 t) (iblk m c 1 t) (ix2 l k)) = cotangent (V m c main_arg5) (V m c main_arg4) (at_ t l) := by
  funext k
  pointwise [k0_pay4, cotangent]
  refine Fin.sum_fin_congr fun q => congrArg₂ (fun u v : EReal => u * v) ?_ ?_
  · blk_simp [iblk]
    refine congrArg (V m c main_arg5) ?_
    blk_ext [index0 t, at_]
  · blk_simp [iblk]
    refine congrArg (V m c main_arg4) ?_
    blk_ext [index1 t]

theorem block_input_at (t : Fin cfg0.N) (l : Fin 256) (j : Fin 1024) :
    NormBackward.entry (fun k => iblk m c 2 t (ix2 l k)) (fun k => iblk m c 4 t (ix2 0 k)) (fun k => iblk m c 6 t (ix2 0 k))
      (fun k => k0_pay4 (iblk m c 0 t) (iblk m c 1 t) (ix2 l k)) (iblk m c 3 t (ix2 l j)) j
      = inputGrad (V m c main_arg0) (V m c main_arg1) (V m c main_arg3) (V m c main_arg5) (V m c main_arg4) (V m c main_arg6) (ix2 (at_ t l) j) := by
  rw [block_x, block_g, block_s, block_d, block_res]
  rfl

/-- The block of the first result at point `t`. -/
theorem block_input (t : Fin cfg0.N) (y : S256x1024.Idx) :
    k0_pay1 (iblk m c 2 t) (k0_pay7 (iblk m c 2 t)) (k0_pay13 (iblk m c 0 t) (iblk m c 1 t) (iblk m c 4 t) (iblk m c 6 t))
      (k0_pay14 (iblk m c 0 t) (iblk m c 1 t) (iblk m c 4 t) (iblk m c 6 t) (iblk m c 2 t)) (k0_pay15 (iblk m c 2 t)) (iblk m c 3 t) y
      = inputGrad (V m c main_arg0) (V m c main_arg1) (V m c main_arg3) (V m c main_arg5) (V m c main_arg4) (V m c main_arg6) (ix2 (at_ t (y 0)) (y 1)) :=
  (block_entry _ _ _ _ _ _ y).trans (block_input_at m c t (y 0) (y 1))

/-- The first result of the kernel. -/
theorem result_input : (dats m 0 c).arrAt 7 cfg0.N
    = inputGrad (V m c main_arg0) (V m c main_arg1) (V m c main_arg3) (V m c main_arg5) (V m c main_arg4) (V m c main_arg6) := by
  refine (dats m 0 c).arrAt_eq_of_covers 7 _ (by decide +kernel) fun t hf y => ?_
  have ht := points t
  have hstored : (dats m 0 c).after 7 t y
      = inputGrad (V m c main_arg0) (V m c main_arg1) (V m c main_arg3) (V m c main_arg5) (V m c main_arg4) (V m c main_arg6) (ix2 (at_ t (y 0)) (y 1)) := by
    rw [after0_7 m c t]
    by_cases h : t.val % 16 = 0
    · rw [outsAt0_A m c t h (by omega)]
      dsimp only
      frame_out
      exact block_input m c t y
    · rw [outsAt0_B m c t h (by omega)]
      dsimp only
      frame_out
      exact block_input m c t y
  rw [hstored]
  blk_simp
  refine congrArg (inputGrad _ _ _ _ _ _) ?_
  blk_ext [index7 t, at_]

/-- What a block of 256 rows adds to the sums. -/
def part (t : Fin cfg0.N) (y : S8x1024.Idx) : EReal :=
  NormBackward.pack (y 0).val (∑ l : Fin 256, NormBackward.gainTerm (row (V m c main_arg0) (at_ t l)) (line (V m c main_arg3)) (cotangent (V m c main_arg5) (V m c main_arg4) (at_ t l)) (y 1))
    (∑ l : Fin 256, cotangent (V m c main_arg5) (V m c main_arg4) (at_ t l) (y 1))
    (∑ l : Fin 256, NormBackward.scaleTerm (row (V m c main_arg0) (at_ t l)) (line (V m c main_arg1)) (cotangent (V m c main_arg5) (V m c main_arg4) (at_ t l)) (y 1))

theorem block_part (t : Fin cfg0.N) (y : S8x1024.Idx) :
    k0_pay2 (k0_pay9 (iblk m c 0 t) (iblk m c 1 t)) (k0_pay10 (iblk m c 0 t) (iblk m c 1 t) (iblk m c 4 t) (iblk m c 2 t))
      (k0_pay12 (iblk m c 0 t) (iblk m c 1 t) (iblk m c 6 t) (iblk m c 2 t)) y = part m c t y := by
  rw [block_sums]
  unfold part
  rw [block_g, block_s]
  refine congrArg₂ (fun u v => u v) (congrArg₂ (fun u v => NormBackward.pack (y 0).val u v) ?_ ?_) ?_
  · exact Fin.sum_fin_congr fun l => by rw [block_x, block_d]
  · exact Fin.sum_fin_congr fun l => congrFun (block_d m c t l) (y 1)
  · exact Fin.sum_fin_congr fun l => by rw [block_x, block_d]

theorem sum_rows (f : Fin 4096 → EReal) : ∑ t : Fin cfg0.N, ∑ l : Fin 256, f (at_ t l) = ∑ l : Fin 4096, f l :=
  Fin.sum_mul_add_fin 16 256 f

theorem sum_part (y : S8x1024.Idx) :
    ∑ t : Fin cfg0.N, part m c t y = sumsGrad (V m c main_arg0) (V m c main_arg1) (V m c main_arg3) (V m c main_arg5) (V m c main_arg4) y :=
  (NormBackward.sum_pack _ _ _ _).trans (congr (congrArg₂ (NormBackward.pack (y 0).val)
    (sum_rows fun l => NormBackward.gainTerm (row (V m c main_arg0) l) (line (V m c main_arg3)) (cotangent (V m c main_arg5) (V m c main_arg4) l) (y 1))
    (sum_rows fun l => cotangent (V m c main_arg5) (V m c main_arg4) l (y 1)))
    (sum_rows fun l => NormBackward.scaleTerm (row (V m c main_arg0) l) (line (V m c main_arg1)) (cotangent (V m c main_arg5) (V m c main_arg4) l) (y 1)))

/-- The second result of the kernel. -/
theorem result_sums : (dats m 0 c).arrAt 8 cfg0.N
    = sumsGrad (V m c main_arg0) (V m c main_arg1) (V m c main_arg3) (V m c main_arg5) (V m c main_arg4) := by
  refine (dats m 0 c).arrAt_eq_of_covers 8 _ (by decide +kernel) fun t hf y => ?_
  have ht : t = t0_15 := Fin.ext (by have := (flush0_8 t).mp hf; have := points t; show t.val = 15; omega)
  subst ht
  blk_simp
  rw [after0_8, Pipeline.eq_sum_fin_of_reset_step_apply_last (fun n h => (outsAt0 m c n h).2) 16 (fun _ => (0 : EReal)) (part m c)
    (fun t h j => by
      have := points t
      rw [outsAt0_A m c t h (by omega)]
      dsimp only
      frame_out
      exact (block_part m c t j).trans (zero_add _).symm)
    (fun t h j => by
      have := points t
      rw [outsAt0_B m c t h (by omega)]
      dsimp only
      frame_out
      exact (block_step _ _ _ _ j).trans (congrArg (fun u : EReal => _ + u) (block_part m c t j)))
    (le_of_eq N_0) t0_15 rfl y, zero_add]
  refine Eq.trans ?_ (congrArg (sumsGrad _ _ _ _ _) (?_ : (y : S8x1024.Idx) = _))
  · exact sum_part m c y
  · blk_ext [index8 t0_15]

/-- A whole run of the kernel. -/
theorem run : θ_run defs (onTc (τ := τ) main) ⟨m, fun _ => 0, ρ⟩ fun r => ∀ c : Dev nD,
    r.2.mem ((c.tc : Thread nD τ).loc main_v0_0) = inputGrad (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6))
    ∧ r.2.mem ((c.tc : Thread nD τ).loc main_v0_1) = sumsGrad (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans ((result_input m c).trans (by rw [V_main_arg0, V_main_arg1, V_main_arg3, V_main_arg4, V_main_arg5, V_main_arg6])),
    (h c).2.1.trans ((result_sums m c).trans (by rw [V_main_arg0, V_main_arg1, V_main_arg3, V_main_arg4, V_main_arg5])), (h c).2.2⟩)
    (Value.run_blocks m ρ)

end Cert.MixDhIdeal.MixInput

namespace Cert.MixDhRefIdeal.MixInput

open Cert.MixDhRefIdeal Cert.MixDhRefIdeal.Gen Cert.MixDhRefIdeal.Value
open Idealize.ShloMosaic Idealize.ShloMosaic.TcCoe Idealize.ShloMosaic.StableHlo Idealize.SL.Sem
open Cert.MixDhIdeal.MixInput (row line cotangent inputGrad sumsGrad)

/-- The cotangent of the normalised input: the cotangent of the projection against the transposed weight. -/
def product (dproj : FVec Ideal S4096x5632 .bf16) (w : FVec Ideal S5632x1024 .bf16) : FVec Ideal S4096x1024 .f32 :=
  Host.dotGeneral dot_S4096x5632_S1024x5632_S4096x1024_1_1_0_0_n_n none (extf .f32 dproj bitsLt_bf16_f32)
    (transpose S1024x5632 [1, 0] (extf .f32 w bitsLt_bf16_f32) transposes_S5632x1024_S1024x5632_1_0)

/-- A row laid out over all rows. -/
def rows (v : FVec Ideal S1x1024 .f32) : FVec Ideal S4096x1024 .f32 :=
  broadcastInDim S4096x1024 ![0, 1] bcast_S1x1024_S4096x1024_0_1 v

/-- One plus the scale. -/
def lifted (s : FVec Ideal S1x1024 .f32) : FVec Ideal S4096x1024 .f32 :=
  rows (addf (broadcastInDim S1x1024 ![] bcast_S_S1x1024 (constant S_ .f32 0x3F800000#32)) s)

def power (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

def rate (x : FVec Ideal S4096x1024 .f32) : FVec Ideal S4096x1024 .f32 :=
  broadcastInDim S4096x1024 ![0, 1] bcast_S4096x1_S4096x1024_0_1 (Host.rsqrt (power x))

def drift (x p : FVec Ideal S4096x1024 .f32) : FVec Ideal S4096x1024 .f32 :=
  broadcastInDim S4096x1024 ![0] bcast_S4096_S4096x1024_0 (Host.reduceAdd
    (Host.divf (mulf (shapeCast S4096x1 (Host.reduceAdd (mulf x p) (constant S_ .f32 0x00000000#32) reducesTo_S4096x1024_S4096_d1 h_S_) shapeCasts_S4096_S4096x1)
        (mulf (broadcastInDim S4096x1 ![] bcast_S_S4096x1 (constant S_ .f32 0xBF000000#32)) (Host.divf (Host.rsqrt (power x)) (power x))))
      (broadcastInDim S4096x1 ![] bcast_S_S4096x1 (constant S_ .f32 0x44800000#32)))
    (constant S_ .f32 0x00000000#32) reducesTo_S4096x1_S4096_d1 h_S_)

/-- The gradient of the input from the cotangent `d` of the normalised input. -/
def input (x : FVec Ideal S4096x1024 .f32) (g s : FVec Ideal S1x1024 .f32) (d res : FVec Ideal S4096x1024 .f32) : FVec Ideal S4096x1024 .f32 :=
  addf (addf (addf res (mulf (mulf (mulf d (lifted s)) (rows g)) (rate x)))
      (mulf x (drift x (mulf (mulf d (lifted s)) (rows g)))))
    (mulf (drift x (mulf (mulf d (lifted s)) (rows g))) x)

/-- The sum of every column, as a row. -/
def column (v : FVec Ideal S4096x1024 .f32) : FVec Ideal S1x1024 .f32 :=
  shapeCast S1x1024 (Host.reduceAdd v (constant S_ .f32 0x00000000#32) reducesTo_S4096x1024_S1024_d0 h_S_) shapeCasts_S1024_S1x1024

def sums (x : FVec Ideal S4096x1024 .f32) (g s : FVec Ideal S1x1024 .f32) (d : FVec Ideal S4096x1024 .f32) : FVec Ideal S8x1024 .f32 :=
  concatenate S8x1024 0
    [⟨S1x1024, column (mulf (mulf x (rate x)) (mulf d (lifted s)))⟩, ⟨S1x1024, column d⟩,
     ⟨S1x1024, column (mulf (mulf (mulf x (rate x)) (rows g)) d)⟩,
     ⟨S5x1024, broadcastInDim S5x1024 ![] bcast_S_S5x1024 (constant S_ .f32 0x00000000#32)⟩]
    concatenates_S1x1024_S1x1024_S1x1024_S5x1024_S8x1024_d0

theorem product_entry (dproj : FVec Ideal S4096x5632 .bf16) (w : FVec Ideal S5632x1024 .bf16) (y : S4096x1024.Idx) :
    product dproj w y = (∑ q : Fin 5632, (dproj (ix2 (y 0) q) : EReal) * w (ix2 q (y 1)) : EReal) := by
  pointwise [product]

theorem input_entry (x : FVec Ideal S4096x1024 .f32) (g s : FVec Ideal S1x1024 .f32) (d res : FVec Ideal S4096x1024 .f32) (y : S4096x1024.Idx) :
    input x g s d res y = NormBackward.entry (fun k => x (ix2 (y 0) k)) (fun k => g (ix2 0 k)) (fun k => s (ix2 0 k)) (fun k => d (ix2 (y 0) k)) (res (ix2 (y 0) (y 1))) (y 1) := by
  unfold NormBackward.entry NormBackward.drift NormBackward.slope NormBackward.rate NormBackward.power NormBackward.pulled
  pointwise [input, drift, rate, power, lifted, rows]
  simp only [Finset.univ_unique, Finset.sum_singleton]

theorem sums_entry (x : FVec Ideal S4096x1024 .f32) (g s : FVec Ideal S1x1024 .f32) (d : FVec Ideal S4096x1024 .f32) (y : S8x1024.Idx) :
    sums x g s d y = NormBackward.pack (y 0).val
      (∑ l : Fin 4096, NormBackward.gainTerm (fun k => x (ix2 l k)) (fun k => s (ix2 0 k)) (fun k => d (ix2 l k)) (y 1))
      (∑ l : Fin 4096, (d (ix2 l (y 1)) : EReal))
      (∑ l : Fin 4096, NormBackward.scaleTerm (fun k => x (ix2 l k)) (fun k => g (ix2 0 k)) (fun k => d (ix2 l k)) (y 1)) := by
  unfold NormBackward.pack NormBackward.gainTerm NormBackward.scaleTerm NormBackward.rate NormBackward.power
  pointwise [sums, column, rate, power, lifted, rows]
  simp only [dite_eq_ite]

theorem product_row (dproj : FVec Ideal S4096x5632 .bf16) (w : FVec Ideal S5632x1024 .bf16) (l : Fin 4096) :
    (fun k => product dproj w (ix2 l k)) = cotangent dproj w l := funext fun k => product_entry dproj w (ix2 l k)

theorem input_eq (x : FVec Ideal S4096x1024 .f32) (g s : FVec Ideal S1x1024 .f32) (dproj : FVec Ideal S4096x5632 .bf16) (w : FVec Ideal S5632x1024 .bf16)
    (res : FVec Ideal S4096x1024 .f32) : input x g s (product dproj w) res = inputGrad x g s dproj w res :=
  funext fun y => (input_entry x g s (product dproj w) res y).trans
    (congrArg (fun d => NormBackward.entry (row x (y 0)) (line g) (line s) d (row res (y 0) (y 1)) (y 1)) (product_row dproj w (y 0)))

theorem sums_eq (x : FVec Ideal S4096x1024 .f32) (g s : FVec Ideal S1x1024 .f32) (dproj : FVec Ideal S4096x5632 .bf16) (w : FVec Ideal S5632x1024 .bf16) :
    sums x g s (product dproj w) = sumsGrad x g s dproj w :=
  funext fun y => (sums_entry x g s (product dproj w) y).trans
    (congrArg (fun d : Fin 4096 → Fin 1024 → EReal => NormBackward.pack (y 0).val (∑ l : Fin 4096, NormBackward.gainTerm (row x l) (line s) (d l) (y 1))
      (∑ l : Fin 4096, d l (y 1)) (∑ l : Fin 4096, NormBackward.scaleTerm (row x l) (line g) (d l) (y 1))) (funext (product_row dproj w)))

variable (m : (ℓ : Loc nD τ sig) → Buf (Elt Ideal) ℓ) (ρ : Dev nD → PrngReg) (c : Dev nD)

theorem first : res_out0 m c = input (m ((c.tc : Thread nD τ).loc main_arg0)) (m ((c.tc : Thread nD τ).loc main_arg1)) (m ((c.tc : Thread nD τ).loc main_arg3))
    (product (m ((c.tc : Thread nD τ).loc main_arg5)) (m ((c.tc : Thread nD τ).loc main_arg4))) (m ((c.tc : Thread nD τ).loc main_arg6)) := rfl

/-- A whole run of the reference. -/
theorem run : θ_run defs (onTc (τ := τ) main) ⟨m, fun _ => 0, ρ⟩ fun r => ∀ c : Dev nD,
    r.2.mem ((c.tc : Thread nD τ).loc main_v52) = inputGrad (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4)) (m ((c.tc : Thread nD τ).loc main_arg6))
    ∧ r.2.mem ((c.tc : Thread nD τ).loc main_v54) = sumsGrad (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans ((first m c).trans (input_eq _ _ _ _ _ _)), (h c).2.1.trans (sums_eq (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg4))), (h c).2.2⟩)
    (Value.run m ρ)

end Cert.MixDhRefIdeal.MixInput

end
-- ==== Proof.GateUpWeight.lean ====
/-
The gradient of the gate's and the up projection's weights, stored transposed in one array: the gate's rows come first.
-/
module

public import proofs.«01_k».proof.Proof.Gen.DwGuIdeal.Value
public import proofs.«01_k».proof.Proof.Gen.DwGuRefIdeal.Run
public import Idealize.ShloMosaic.Lib.Pipeline.ValueKit
public import Idealize.ShloMosaic.Lib.Pointwise

@[expose] public section

set_option maxRecDepth 16384

noncomputable section

namespace Cert.DwGuIdeal.GateUpWeight

open Cert.DwGuIdeal Cert.DwGuIdeal.Gen
open Idealize.ShloMosaic Idealize.ShloMosaic.TcCoe Idealize.SL.Sem

/-- Entry (r, j) of the gradient: the sum over the 4096 positions. -/
def grad (dgu : Vec Ideal S2x4096x2816 .bf16) (h : Vec Ideal S4096x1024 .bf16) : Vec Ideal S5632x1024 .bf16 := fun y =>
  (∑ k : Fin 4096, (dgu (ix3 ⟨(y 0).val / 2816, by have : (y 0).val < 5632 := (y 0).isLt; omega⟩ k
    ⟨(y 0).val % 2816, Nat.mod_lt _ (by decide)⟩) : EReal) * h (ix2 k (y 1)) : EReal)

/-- One block of the kernel's product. -/
theorem block_product (a : Vec Ideal S1x4096x1408 .bf16) (b : Vec Ideal S4096x1024 .bf16) (y : S1408x1024.Idx) :
    k0_pay1 a b y = (∑ k : Fin 4096, (a (ix3 0 k (y 0)) : EReal) * b (ix2 k (y 1)) : EReal) := by
  pointwise [k0_pay1]

theorem index0 : ∀ t : Fin cfg0.N, win0_0.index t = ![t.val / 2, 0, t.val % 2] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

variable (m : (ℓ : Loc nD τ sig) → Buf (Elt Ideal) ℓ) (ρ : Dev nD → PrngReg) (c : Dev nD)

/-- The result array of the kernel. -/
theorem result : (dats m 0 c).arrAt 2 cfg0.N = grad (V m c main_arg0) (V m c main_arg1) := by
  refine (dats m 0 c).arrAt_eq_of_covers 2 _ (by decide +kernel) fun t hf y => ?_
  blk_simp
  rw [after0_2 m c t]
  frame_out
  rw [block_product]
  unfold grad
  refine Fin.sum_fin_congr fun k => congrArg₂ (fun u v : EReal => u * v) ?_ ?_
  · blk_simp [iblk]
    refine congrArg (V m c main_arg0) ?_
    blk_ext [index0 t, index2 t]
  · blk_simp [iblk]
    refine congrArg (V m c main_arg1) ?_
    blk_ext [index1 t, index2 t]

/-- A whole run of the kernel. -/
theorem run : θ_run defs (onTc (τ := τ) main) ⟨m, fun _ => 0, ρ⟩ fun r => ∀ c : Dev nD,
    r.2.mem ((c.tc : Thread nD τ).loc main_v0) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((result m c).trans (by rw [V_main_arg0, V_main_arg1])), (h c).2⟩)
    (Value.run_blocks m ρ)

end Cert.DwGuIdeal.GateUpWeight

namespace Cert.DwGuRefIdeal.GateUpWeight

open Cert.DwGuRefIdeal Cert.DwGuRefIdeal.Gen
open Idealize.ShloMosaic Idealize.ShloMosaic.TcCoe Idealize.ShloMosaic.StableHlo Idealize.SL.Sem
open Cert.DwGuIdeal.GateUpWeight (grad)

variable (m : (ℓ : Loc nD τ sig) → Buf (Elt Ideal) ℓ) (ρ : Dev nD → PrngReg) (c : Dev nD)

/-- The reference's product has the same entries. -/
theorem product (dgu : Vec Ideal S2x4096x2816 .bf16) (h : Vec Ideal S4096x1024 .bf16) :
    truncf .bf16 (transpose S5632x1024 [1, 0] (transpose S1024x5632 [1, 0] (Host.dotGeneral (F := Ideal) dot_S4096x5632_S4096x1024_S5632x1024_0_0_1_1_n_n none
      (concatenate S4096x5632 1 [⟨S4096x2816, shapeCast _ (extractStridedSlice S1x4096x2816 ![0, 0, 0] (extf .f32 dgu bitsLt_bf16_f32)
        slices_S2x4096x2816_S1x4096x2816_0_0_0) shapeCasts_S1x4096x2816_S4096x2816⟩, ⟨S4096x2816, shapeCast _ (extractStridedSlice S1x4096x2816 ![1, 0, 0]
        (extf .f32 dgu bitsLt_bf16_f32) slices_S2x4096x2816_S1x4096x2816_1_0_0) shapeCasts_S1x4096x2816_S4096x2816⟩]
        concatenates_S4096x2816_S4096x2816_S4096x5632_d1) (extf .f32 h bitsLt_bf16_f32)) transposes_S5632x1024_S1024x5632_1_0)
      transposes_S1024x5632_S5632x1024_1_0) bitsLt_bf16_f32
      = grad dgu h := by
  funext y
  have hy : (y 0).val < 5632 := (y 0).isLt
  pointwise [grad]
  refine Fin.sum_fin_congr fun k => congrArg (fun u : EReal => u * _) ?_
  split
  · refine congrArg dgu (congrArg₂ (fun (u : Fin 2) (v : Fin 2816) => ix3 u k v) (Fin.ext ?_) (Fin.ext ?_))
    · show 0 = (y 0).val / 2816
      omega
    · show (y 0).val = (y 0).val % 2816
      omega
  · refine congrArg dgu (congrArg₂ (fun (u : Fin 2) (v : Fin 2816) => ix3 u k v) (Fin.ext ?_) (Fin.ext ?_))
    · show 1 = (y 0).val / 2816
      omega
    · show (y 0).val - 2816 = (y 0).val % 2816
      omega

/-- A whole run of the reference. -/
theorem run : θ_run defs (onTc (τ := τ) main) ⟨m, fun _ => 0, ρ⟩ fun r => ∀ c : Dev nD,
    r.2.mem ((c.tc : Thread nD τ).loc main_v10) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (product _ _), (h c).2⟩) (Value.run m ρ)

end Cert.DwGuRefIdeal.GateUpWeight

end
-- ==== Proof.DownWeight.lean ====
/-
The gradient of the down projection: a product of the hidden activations, transposed, with the gradient at the block's output.
-/
module

public import proofs.«01_k».proof.Proof.Gen.DwDownIdeal.Value
public import proofs.«01_k».proof.Proof.Gen.DwDownRefIdeal.Run
public import Idealize.ShloMosaic.Lib.Pipeline.ValueKit
public import Idealize.ShloMosaic.Lib.Pointwise

@[expose] public section

set_option maxRecDepth 16384

noncomputable section

namespace Cert.DwDownIdeal.DownWeight

open Cert.DwDownIdeal Cert.DwDownIdeal.Gen
open Idealize.ShloMosaic Idealize.ShloMosaic.TcCoe Idealize.SL.Sem

/-- Entry (r, j) of the gradient: the sum over the 4096 positions. -/
def grad (a : Vec Ideal S4096x2816 .bf16) (df : Vec Ideal S4096x1024 .bf16) : Vec Ideal S2816x1024 .bf16 := fun y =>
  (∑ k : Fin 4096, (a (ix2 k (y 0)) : EReal) * df (ix2 k (y 1)) : EReal)

/-- One block of the kernel's product. -/
theorem block_product (a : Vec Ideal S4096x1408 .bf16) (b : Vec Ideal S4096x1024 .bf16) (y : S1408x1024.Idx) :
    k0_pay1 a b y = (∑ k : Fin 4096, (a (ix2 k (y 0)) : EReal) * b (ix2 k (y 1)) : EReal) := by
  pointwise [k0_pay1]

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

variable (m : (ℓ : Loc nD τ sig) → Buf (Elt Ideal) ℓ) (ρ : Dev nD → PrngReg) (c : Dev nD)

/-- The result array of the kernel. -/
theorem result : (dats m 0 c).arrAt 2 cfg0.N = grad (V m c main_arg0) (V m c main_arg1) := by
  refine (dats m 0 c).arrAt_eq_of_covers 2 _ (by decide +kernel) fun t hf y => ?_
  blk_simp
  rw [after0_2 m c t]
  frame_out
  rw [block_product]
  unfold grad
  refine Fin.sum_fin_congr fun k => congrArg₂ (fun u v : EReal => u * v) ?_ ?_
  · blk_simp [iblk]
    refine congrArg (V m c main_arg0) ?_
    blk_ext [index0 t, index2 t]
  · blk_simp [iblk]
    refine congrArg (V m c main_arg1) ?_
    blk_ext [index1 t, index2 t]

/-- A whole run of the kernel. -/
theorem run : θ_run defs (onTc (τ := τ) main) ⟨m, fun _ => 0, ρ⟩ fun r => ∀ c : Dev nD,
    r.2.mem ((c.tc : Thread nD τ).loc main_v0) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((result m c).trans (by rw [V_main_arg0, V_main_arg1])), (h c).2⟩)
    (Value.run_blocks m ρ)

end Cert.DwDownIdeal.DownWeight

namespace Cert.DwDownRefIdeal.DownWeight

open Cert.DwDownRefIdeal Cert.DwDownRefIdeal.Gen
open Idealize.ShloMosaic Idealize.ShloMosaic.TcCoe Idealize.ShloMosaic.StableHlo Idealize.SL.Sem
open Cert.DwDownIdeal.DownWeight (grad)

variable (m : (ℓ : Loc nD τ sig) → Buf (Elt Ideal) ℓ) (ρ : Dev nD → PrngReg) (c : Dev nD)

/-- The reference's product, transposed, has the same entries. -/
theorem product (a : Vec Ideal S4096x2816 .bf16) (df : Vec Ideal S4096x1024 .bf16) :
    truncf .bf16 (transpose S2816x1024 [1, 0] (Host.dotGeneral (F := Ideal) dot_S4096x1024_S4096x2816_S1024x2816_0_0_1_1_n_n none (extf .f32 df bitsLt_bf16_f32)
      (extf .f32 a bitsLt_bf16_f32)) transposes_S1024x2816_S2816x1024_1_0) bitsLt_bf16_f32 = grad a df := by
  funext y
  pointwise [grad]
  exact Finset.sum_congr rfl fun k _ => mul_comm (G := EReal) _ _

/-- A whole run of the reference. -/
theorem run : θ_run defs (onTc (τ := τ) main) ⟨m, fun _ => 0, ρ⟩ fun r => ∀ c : Dev nD,
    r.2.mem ((c.tc : Thread nD τ).loc main_v4) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (product _ _), (h c).2⟩) (Value.run m ρ)

end Cert.DwDownRefIdeal.DownWeight

end
-- ==== Proof.InWeight.lean ====
/-
The gradient of the mixers' input projection, stored transposed: a product of the projection's gradient, transposed, with its input.
-/
module

public import proofs.«01_k».proof.Proof.Gen.DwInIdeal.Value
public import proofs.«01_k».proof.Proof.Gen.DwInRefIdeal.Run
public import Idealize.ShloMosaic.Lib.Pipeline.ValueKit
public import Idealize.ShloMosaic.Lib.Pointwise

@[expose] public section

set_option maxRecDepth 16384

noncomputable section

namespace Cert.DwInIdeal.InWeight

open Cert.DwInIdeal Cert.DwInIdeal.Gen
open Idealize.ShloMosaic Idealize.ShloMosaic.TcCoe Idealize.SL.Sem

/-- Entry (r, j) of the gradient: the sum over the 4096 positions. -/
def grad (dproj : Vec Ideal S4096x5632 .bf16) (h : Vec Ideal S4096x1024 .bf16) : Vec Ideal S5632x1024 .bf16 := fun y =>
  (∑ k : Fin 4096, (dproj (ix2 k (y 0)) : EReal) * h (ix2 k (y 1)) : EReal)

/-- One block of the kernel's product. -/
theorem block_product (a : Vec Ideal S4096x1408 .bf16) (b : Vec Ideal S4096x1024 .bf16) (y : S1408x1024.Idx) :
    k0_pay1 a b y = (∑ k : Fin 4096, (a (ix2 k (y 0)) : EReal) * b (ix2 k (y 1)) : EReal) := by
  pointwise [k0_pay1]

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

variable (m : (ℓ : Loc nD τ sig) → Buf (Elt Ideal) ℓ) (ρ : Dev nD → PrngReg) (c : Dev nD)

/-- The result array of the kernel. -/
theorem result : (dats m 0 c).arrAt 2 cfg0.N = grad (V m c main_arg0) (V m c main_arg1) := by
  refine (dats m 0 c).arrAt_eq_of_covers 2 _ (by decide +kernel) fun t hf y => ?_
  blk_simp
  rw [after0_2 m c t]
  frame_out
  rw [block_product]
  unfold grad
  refine Fin.sum_fin_congr fun k => congrArg₂ (fun u v : EReal => u * v) ?_ ?_
  · blk_simp [iblk]
    refine congrArg (V m c main_arg0) ?_
    blk_ext [index0 t, index2 t]
  · blk_simp [iblk]
    refine congrArg (V m c main_arg1) ?_
    blk_ext [index1 t, index2 t]

/-- A whole run of the kernel. -/
theorem run : θ_run defs (onTc (τ := τ) main) ⟨m, fun _ => 0, ρ⟩ fun r => ∀ c : Dev nD,
    r.2.mem ((c.tc : Thread nD τ).loc main_v0) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((result m c).trans (by rw [V_main_arg0, V_main_arg1])), (h c).2⟩)
    (Value.run_blocks m ρ)

end Cert.DwInIdeal.InWeight

namespace Cert.DwInRefIdeal.InWeight

open Cert.DwInRefIdeal Cert.DwInRefIdeal.Gen
open Idealize.ShloMosaic Idealize.ShloMosaic.TcCoe Idealize.ShloMosaic.StableHlo Idealize.SL.Sem
open Cert.DwInIdeal.InWeight (grad)

variable (m : (ℓ : Loc nD τ sig) → Buf (Elt Ideal) ℓ) (ρ : Dev nD → PrngReg) (c : Dev nD)

/-- The reference's product has the same entries. -/
theorem product (dproj : Vec Ideal S4096x5632 .bf16) (h : Vec Ideal S4096x1024 .bf16) :
    truncf .bf16 (transpose S5632x1024 [1, 0] (transpose S1024x5632 [1, 0] (Host.dotGeneral (F := Ideal) dot_S4096x5632_S4096x1024_S5632x1024_0_0_1_1_n_n none
      (extf .f32 dproj bitsLt_bf16_f32) (extf .f32 h bitsLt_bf16_f32)) transposes_S5632x1024_S1024x5632_1_0) transposes_S1024x5632_S5632x1024_1_0) bitsLt_bf16_f32
      = grad dproj h := by
  funext y
  pointwise [grad]

/-- A whole run of the reference. -/
theorem run : θ_run defs (onTc (τ := τ) main) ⟨m, fun _ => 0, ρ⟩ fun r => ∀ c : Dev nD,
    r.2.mem ((c.tc : Thread nD τ).loc main_v5) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (product _ _), (h c).2⟩) (Value.run m ρ)

end Cert.DwInRefIdeal.InWeight

end
-- ==== Proof.PostNorm.lean ====
module

public import proofs.«01_k».proof.Proof.NormBackward

/-! The root-mean-square norm that follows a block: the block's output `f` (a row of 1024 entries) is normalised, multiplied by a
gain, by a gate and by the block's weight in the residual, and added to the residual. For a cotangent row `d` of the residual the
definitions give the entry of the gradient with respect to `f` (`back`), and the row's contributions to the gradients of the gain
(`gainTerm`) and of the gate (`gateTerm`, which the weight still multiplies). -/

@[expose] public section

noncomputable section

namespace Cert.PostNorm

open Idealize.ShloMosaic

/-- An entry of the residual after the block. -/
def entry (w : EReal) (f g gate : Fin 1024 → EReal) (x : EReal) (j : Fin 1024) : EReal :=
  x + w * gate j * (f j * NormBackward.rate f * g j)

/-- The cotangent before the gain. -/
def gated (w : EReal) (gate d : Fin 1024 → EReal) (j : Fin 1024) : EReal := w * gate j * d j

/-- What the mean square passes back to every entry of the row, before the factor of that entry. -/
def drift (w : EReal) (f g gate d : Fin 1024 → EReal) : EReal :=
  Ideal.div ((∑ k, f k * (gated w gate d k * g k)) * NormBackward.slope f) (Ideal.ofBits .f32 0x44800000#32)

/-- An entry of the gradient of the block's output. -/
def back (w : EReal) (f g gate d : Fin 1024 → EReal) (j : Fin 1024) : EReal :=
  gated w gate d j * g j * NormBackward.rate f + f j * drift w f g gate d + drift w f g gate d * f j

def gainTerm (w : EReal) (f gate d : Fin 1024 → EReal) (j : Fin 1024) : EReal := f j * NormBackward.rate f * gated w gate d j

def gateTerm (f g d : Fin 1024 → EReal) (j : Fin 1024) : EReal := d j * (f j * NormBackward.rate f * g j)

/-- The eight rows in which the two column sums are returned; the last six hold zeros. -/
def pack (n : ℕ) (a b : EReal) : EReal := if n < 1 then a else if n - 1 < 1 then b else 0

theorem pack_add (n : ℕ) (a b a' b' : EReal) : pack n a b + pack n a' b' = pack n (a + a') (b + b') := by
  unfold pack
  split_ifs <;> simp

theorem sum_pack {ι : Type} [Fintype ι] (n : ℕ) (a b : ι → EReal) : ∑ i, pack n (a i) (b i) = pack n (∑ i, a i) (∑ i, b i) := by
  unfold pack
  split_ifs <;> simp

end Cert.PostNorm

end
-- ==== Proof.MergeBackward.lean ====
/-
The output side of the mixing block, backward: the gradient passes through the norm after the block to the block's output,
through the output projection to the merged branches, and from there to the attention, the recurrence and the two gates.
-/
module

public import proofs.«01_k».proof.Proof.Gen.MergeBwdIdeal.Value
public import proofs.«01_k».proof.Proof.Gen.MergeBwdRefIdeal.Run
public import proofs.«01_k».proof.Proof.PostNorm
public import Idealize.ShloMosaic.Lib.Pipeline.ValueKit
public import Idealize.ShloMosaic.Lib.Pointwise

@[expose] public section

set_option maxRecDepth 16384

noncomputable section

namespace Cert.MergeBwdIdeal.MergeBackward

open Cert.MergeBwdIdeal Cert.MergeBwdIdeal.Gen
open Idealize.ShloMosaic Idealize.ShloMosaic.TcCoe Idealize.SL.Sem

/-- Row `l` of an array of 1024 columns. -/
def row (x : Vec Ideal S4096x1024 .f32) (l : Fin 4096) : Fin 1024 → EReal := fun k => x (ix2 l k)

/-- The entries of an array of one row. -/
def line (g : Vec Ideal S1x1024 .f32) : Fin 1024 → EReal := fun k => g (ix2 0 k)

/-- Row `l` of the gradient of the block's output. -/
def outer (f d : Vec Ideal S4096x1024 .f32) (g gate : Vec Ideal S1x1024 .f32) (l : Fin 4096) : Fin 1024 → EReal :=
  PostNorm.back 1 (row f l) (line g) (line gate) (row d l)

/-- Row `l` of the gradient of the merged branches. -/
def inner (f d : Vec Ideal S4096x1024 .f32) (g gate : Vec Ideal S1x1024 .f32) (w : Vec Ideal S1024x1024 .bf16) (l : Fin 4096) : Fin 1024 → EReal := fun j =>
  (∑ k : Fin 1024, outer f d g gate l k * (w (ix2 j k) : EReal) : EReal)

/-- The attention's gate: columns 2048 to 3071 of the input projection. -/
def gateA (p : Vec Ideal S4096x5632 .f32) (l : Fin 4096) (j : Fin 1024) : EReal := p (ix2 l ⟨2048 + j.val, by omega⟩)

/-- The recurrence's gate: columns 3072 to 4095 of the input projection. -/
def gateR (p : Vec Ideal S4096x5632 .f32) (l : Fin 4096) (j : Fin 1024) : EReal := p (ix2 l ⟨3072 + j.val, by omega⟩)

/-- The gradient of a branch for the cotangent `e`, its gate being `z`. -/
def branch (e z : EReal) : EReal := Ideal.logistic z * e

/-- The gradient of a gate `z` for the cotangent `e`, the branch being `b`. -/
def opening (e b z : EReal) : EReal := e * b * (Ideal.logistic z * (1 - Ideal.logistic z))

/-- The gradient of the block's output. -/
def outGrad (f d : Vec Ideal S4096x1024 .f32) (g gate : Vec Ideal S1x1024 .f32) : Vec Ideal S4096x1024 .bf16 := fun y => outer f d g gate (y 0) (y 1)

/-- The gradient of the attention. -/
def attGrad (f d : Vec Ideal S4096x1024 .f32) (g gate : Vec Ideal S1x1024 .f32) (w : Vec Ideal S1024x1024 .bf16) (p : Vec Ideal S4096x5632 .f32) :
    Vec Ideal S4096x1024 .bf16 := fun y => branch (inner f d g gate w (y 0) (y 1)) (gateA p (y 0) (y 1))

/-- The gradient of the recurrence. -/
def recGrad (f d : Vec Ideal S4096x1024 .f32) (g gate : Vec Ideal S1x1024 .f32) (w : Vec Ideal S1024x1024 .bf16) (p : Vec Ideal S4096x5632 .f32) :
    Vec Ideal S4096x1024 .bf16 := fun y => branch (inner f d g gate w (y 0) (y 1)) (gateR p (y 0) (y 1))

/-- The gradient of the attention's gate. -/
def gateAGrad (f d : Vec Ideal S4096x1024 .f32) (g gate : Vec Ideal S1x1024 .f32) (w : Vec Ideal S1024x1024 .bf16) (a : Vec Ideal S4096x1024 .f32)
    (p : Vec Ideal S4096x5632 .f32) : Vec Ideal S4096x1024 .bf16 := fun y =>
  opening (inner f d g gate w (y 0) (y 1)) (row a (y 0) (y 1)) (gateA p (y 0) (y 1))

/-- The gradient of the recurrence's gate. -/
def gateRGrad (f d : Vec Ideal S4096x1024 .f32) (g gate : Vec Ideal S1x1024 .f32) (w : Vec Ideal S1024x1024 .bf16) (r : Vec Ideal S4096x1024 .f32)
    (p : Vec Ideal S4096x5632 .f32) : Vec Ideal S4096x1024 .bf16 := fun y =>
  opening (inner f d g gate w (y 0) (y 1)) (row r (y 0) (y 1)) (gateR p (y 0) (y 1))

/-- The gradients of the gain and the gate: sums over the 4096 rows. -/
def sumsGrad (f d : Vec Ideal S4096x1024 .f32) (g gate : Vec Ideal S1x1024 .f32) : Vec Ideal S8x1024 .f32 := fun y =>
  PostNorm.pack (y 0).val (∑ l : Fin 4096, PostNorm.gainTerm 1 (row f l) (line gate) (row d l) (y 1))
    (∑ l : Fin 4096, PostNorm.gateTerm (row f l) (line g) (row d l) (y 1))

theorem block_outer (g gate : Vec Ideal S1x1024 .f32) (f d : Vec Ideal S256x1024 .f32) (y : S256x1024.Idx) :
    k0_pay14 f (k0_pay11 g gate f d) (k0_pay13 g gate f d) y
      = PostNorm.back 1 (fun k => f (ix2 (y 0) k)) (fun k => g (ix2 0 k)) (fun k => gate (ix2 0 k)) (fun k => d (ix2 (y 0) k)) (y 1) := by
  unfold PostNorm.back PostNorm.drift PostNorm.gated NormBackward.slope NormBackward.rate NormBackward.power
  pointwise [k0_pay14, k0_pay11, k0_pay13, k0_pay5, k0_pay6, k0_pay8, k0_pay10]
  simp only [Finset.univ_unique, Finset.sum_singleton]

theorem block_inner (f v35 : FVec Ideal S256x1024 .f32) (v40 : FVec Ideal S256x1 .f32) (w : Vec Ideal S1024x1024 .bf16) (y : S256x1024.Idx) :
    k0_pay17 f v35 v40 w y = (∑ k : Fin 1024, (k0_pay14 f v35 v40 (ix2 (y 0) k) : EReal) * w (ix2 (y 1) k) : EReal) := by
  unfold k0_pay17
  generalize k0_pay14 f v35 v40 = q
  pointwise []

theorem block_att (f v35 : FVec Ideal S256x1024 .f32) (v40 : FVec Ideal S256x1 .f32) (w : Vec Ideal S1024x1024 .bf16) (z : Vec Ideal S256x1024 .f32) (y : S256x1024.Idx) :
    k0_pay1 (k0_pay23 f v35 v40 w z) y = branch (k0_pay17 f v35 v40 w y) (z y) := by
  unfold branch k0_pay23
  generalize k0_pay17 f v35 v40 w = q
  pointwise [k0_pay1, k0_pay18]

theorem block_rec (f v35 : FVec Ideal S256x1024 .f32) (v40 : FVec Ideal S256x1 .f32) (w : Vec Ideal S1024x1024 .bf16) (z : Vec Ideal S256x1024 .f32) (y : S256x1024.Idx) :
    k0_pay2 (k0_pay21 f v35 v40 w z) y = branch (k0_pay17 f v35 v40 w y) (z y) := by
  unfold branch k0_pay21
  generalize k0_pay17 f v35 v40 w = q
  pointwise [k0_pay2, k0_pay20]

theorem block_gateA (f v35 : FVec Ideal S256x1024 .f32) (v40 : FVec Ideal S256x1 .f32) (w : Vec Ideal S1024x1024 .bf16) (b z : Vec Ideal S256x1024 .f32) (y : S256x1024.Idx) :
    k0_pay3 (k0_pay19 z) (k0_pay24 f v35 v40 w b) y = opening (k0_pay17 f v35 v40 w y) (b y) (z y) := by
  unfold opening k0_pay24
  generalize k0_pay17 f v35 v40 w = q
  pointwise [k0_pay3, k0_pay19, k0_pay18]

theorem block_gateR (f v35 : FVec Ideal S256x1024 .f32) (v40 : FVec Ideal S256x1 .f32) (w : Vec Ideal S1024x1024 .bf16) (b z : Vec Ideal S256x1024 .f32) (y : S256x1024.Idx) :
    k0_pay4 (k0_pay22 f v35 v40 w b z) y = opening (k0_pay17 f v35 v40 w y) (b y) (z y) := by
  unfold opening k0_pay22
  generalize k0_pay17 f v35 v40 w = q
  pointwise [k0_pay4, k0_pay20]

theorem block_sums (g gate : Vec Ideal S1x1024 .f32) (f d : Vec Ideal S256x1024 .f32) (y : S8x1024.Idx) :
    k0_pay15 (k0_pay9 gate f d) (k0_pay12 g f d) y
      = PostNorm.pack (y 0).val
      (∑ l : Fin 256, PostNorm.gainTerm 1 (fun k => f (ix2 l k)) (fun k => gate (ix2 0 k)) (fun k => d (ix2 l k)) (y 1))
      (∑ l : Fin 256, PostNorm.gateTerm (fun k => f (ix2 l k)) (fun k => g (ix2 0 k)) (fun k => d (ix2 l k)) (y 1)) := by
  unfold PostNorm.pack PostNorm.gainTerm PostNorm.gateTerm PostNorm.gated NormBackward.rate NormBackward.power
  pointwise [k0_pay15, k0_pay9, k0_pay12, k0_pay5, k0_pay6, k0_pay7, k0_pay8]
  simp only [dite_eq_ite, one_mul]

/-- A later block adds its sums to those stored before. -/
theorem block_step (v28 v37 : FVec Ideal S1x1024 .f32) (v86 : Vec Ideal S8x1024 .f32) (y : S8x1024.Idx) :
    k0_pay16 v28 v37 v86 y = (v86 y + k0_pay15 v28 v37 y : EReal) := by
  unfold k0_pay16
  generalize k0_pay15 v28 v37 = p
  pointwise []

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 2] := (by decide +kernel : ∀ t : Fin grid0.N, _)
theorem index8 : ∀ t : Fin cfg0.N, win0_8.index t = ![t.val, 3] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![t.val, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![0, 0] := (by decide +kernel : ∀ t : Fin grid0.N, _)

theorem points (t : Fin cfg0.N) : t.val < 16 := lt_of_lt_of_eq t.isLt N_0

/-- Row `l` of the block at point `t` is row `256 t + l` of the array. -/
def at_ (t : Fin cfg0.N) (l : Fin 256) : Fin 4096 := ⟨t.val * 256 + l.val, by have := points t; omega⟩

variable (m : (ℓ : Loc nD τ sig) → Buf (Elt Ideal) ℓ) (ρ : Dev nD → PrngReg) (c : Dev nD)

theorem block_f (t : Fin cfg0.N) (l : Fin 256) : (fun k => iblk m c 0 t (ix2 l k)) = row (V m c main_arg0) (at_ t l) := by
  funext k
  blk_simp [iblk]
  refine congrArg (V m c main_arg0) ?_
  blk_ext [index0 t, at_]

theorem block_d (t : Fin cfg0.N) (l : Fin 256) : (fun k => iblk m c 1 t (ix2 l k)) = row (V m c main_arg1) (at_ t l) := by
  funext k
  blk_simp [iblk]
  refine congrArg (V m c main_arg1) ?_
  blk_ext [index1 t, at_]

theorem block_a (t : Fin cfg0.N) (l : Fin 256) (k : Fin 1024) : iblk m c 5 t (ix2 l k) = row (V m c main_arg5) (at_ t l) k := by
  blk_simp [iblk]
  refine congrArg (V m c main_arg5) ?_
  blk_ext [index5 t, at_]

theorem block_r (t : Fin cfg0.N) (l : Fin 256) (k : Fin 1024) : iblk m c 6 t (ix2 l k) = row (V m c main_arg6) (at_ t l) k := by
  blk_simp [iblk]
  refine congrArg (V m c main_arg6) ?_
  blk_ext [index6 t, at_]

theorem block_u (t : Fin cfg0.N) (l : Fin 256) (k : Fin 1024) : X0_7 m c t (ix2 l k) = gateA (V m c main_arg7) (at_ t l) k := by
  unfold X0_7 Pipeline.Window.fill
  rw [dif_pos (moved0_7 t (ix2 l k))]
  unfold gateA
  blk_simp [iblk]
  refine congrArg (V m c main_arg7) ?_
  blk_ext [index7 t, at_]

theorem block_v (t : Fin cfg0.N) (l : Fin 256) (k : Fin 1024) : X0_8 m c t (ix2 l k) = gateR (V m c main_arg7) (at_ t l) k := by
  unfold X0_8 Pipeline.Window.fill
  rw [dif_pos (moved0_8 t (ix2 l k))]
  unfold gateR
  blk_simp [iblk]
  refine congrArg (V m c main_arg7) ?_
  blk_ext [index8 t, at_]

theorem block_g (t : Fin cfg0.N) : (fun k => iblk m c 2 t (ix2 0 k)) = line (V m c main_arg2) := by
  funext k
  blk_simp [iblk]
  refine congrArg (V m c main_arg2) ?_
  blk_ext [index2 t]

theorem block_gate (t : Fin cfg0.N) : (fun k => iblk m c 3 t (ix2 0 k)) = line (V m c main_arg3) := by
  funext k
  blk_simp [iblk]
  refine congrArg (V m c main_arg3) ?_
  blk_ext [index3 t]

theorem pair (y : S256x1024.Idx) : y = ix2 (y 0) (y 1) := by
  funext i
  fin_cases i <;> rfl

theorem at_outer (t : Fin cfg0.N) (l : Fin 256) (j : Fin 1024) :
    k0_pay14 (iblk m c 0 t) (k0_pay11 (iblk m c 2 t) (iblk m c 3 t) (iblk m c 0 t) (iblk m c 1 t)) (k0_pay13 (iblk m c 2 t) (iblk m c 3 t) (iblk m c 0 t) (iblk m c 1 t)) (ix2 l j) = outer (V m c main_arg0) (V m c main_arg1) (V m c main_arg2) (V m c main_arg3) (at_ t l) j := by
  refine (block_outer _ _ _ _ _).trans ?_
  show PostNorm.back 1 (fun k => iblk m c 0 t (ix2 l k)) (fun k => iblk m c 2 t (ix2 0 k)) (fun k => iblk m c 3 t (ix2 0 k)) (fun k => iblk m c 1 t (ix2 l k)) j = _
  rw [block_f, block_d, block_g, block_gate]
  rfl

theorem at_inner (t : Fin cfg0.N) (l : Fin 256) (j : Fin 1024) :
    k0_pay17 (iblk m c 0 t) (k0_pay11 (iblk m c 2 t) (iblk m c 3 t) (iblk m c 0 t) (iblk m c 1 t)) (k0_pay13 (iblk m c 2 t) (iblk m c 3 t) (iblk m c 0 t) (iblk m c 1 t)) (iblk m c 4 t) (ix2 l j) = inner (V m c main_arg0) (V m c main_arg1) (V m c main_arg2) (V m c main_arg3) (V m c main_arg4) (at_ t l) j := by
  refine (block_inner _ _ _ _ _).trans ?_
  unfold inner
  refine Fin.sum_fin_congr fun k => congrArg₂ (fun u v : EReal => u * v) ?_ ?_
  · exact at_outer m c t l k
  · blk_simp [iblk]
    refine congrArg (V m c main_arg4) ?_
    blk_ext [index4 t]

/-- The first result of the kernel. -/
theorem result_out : (dats m 0 c).arrAt 9 cfg0.N = outGrad (V m c main_arg0) (V m c main_arg1) (V m c main_arg2) (V m c main_arg3) := by
  refine (dats m 0 c).arrAt_eq_of_covers 9 _ (by decide +kernel) fun t hf y => ?_
  have ht := points t
  have hstored : (dats m 0 c).after 9 t y = outGrad (V m c main_arg0) (V m c main_arg1) (V m c main_arg2) (V m c main_arg3) (ix2 (at_ t (y 0)) (y 1)) := by
    rw [after0_9 m c t]
    by_cases h : t.val % 16 = 0
    · rw [outsAt0_A m c t h (by omega)]
      dsimp only
      frame_out
      exact (congrArg _ (pair y)).trans (at_outer m c t (y 0) (y 1))
    · rw [outsAt0_B m c t h (by omega)]
      dsimp only
      frame_out
      exact (congrArg _ (pair y)).trans (at_outer m c t (y 0) (y 1))
  rw [hstored]
  blk_simp
  refine congrArg (outGrad _ _ _ _) ?_
  blk_ext [index9 t, at_]

theorem at_att (t : Fin cfg0.N) (l : Fin 256) (j : Fin 1024) :
    k0_pay1 (k0_pay23 (iblk m c 0 t) (k0_pay11 (iblk m c 2 t) (iblk m c 3 t) (iblk m c 0 t) (iblk m c 1 t)) (k0_pay13 (iblk m c 2 t) (iblk m c 3 t) (iblk m c 0 t) (iblk m c 1 t)) (iblk m c 4 t) (X0_7 m c t)) (ix2 l j) = attGrad (V m c main_arg0) (V m c main_arg1) (V m c main_arg2) (V m c main_arg3) (V m c main_arg4) (V m c main_arg7) (ix2 (at_ t l) j) := by
  rw [block_att, at_inner, block_u]
  rfl

/-- The second result of the kernel. -/
theorem result_att : (dats m 0 c).arrAt 10 cfg0.N = attGrad (V m c main_arg0) (V m c main_arg1) (V m c main_arg2) (V m c main_arg3) (V m c main_arg4) (V m c main_arg7) := by
  refine (dats m 0 c).arrAt_eq_of_covers 10 _ (by decide +kernel) fun t hf y => ?_
  have ht := points t
  have hstored : (dats m 0 c).after 10 t y = attGrad (V m c main_arg0) (V m c main_arg1) (V m c main_arg2) (V m c main_arg3) (V m c main_arg4) (V m c main_arg7) (ix2 (at_ t (y 0)) (y 1)) := by
    rw [after0_10 m c t]
    by_cases h : t.val % 16 = 0
    · rw [outsAt0_A m c t h (by omega)]
      dsimp only
      frame_out
      exact (congrArg _ (pair y)).trans (at_att m c t (y 0) (y 1))
    · rw [outsAt0_B m c t h (by omega)]
      dsimp only
      frame_out
      exact (congrArg _ (pair y)).trans (at_att m c t (y 0) (y 1))
  rw [hstored]
  blk_simp
  refine congrArg (attGrad _ _ _ _ _ _) ?_
  blk_ext [index10 t, at_]

theorem at_rec (t : Fin cfg0.N) (l : Fin 256) (j : Fin 1024) :
    k0_pay2 (k0_pay21 (iblk m c 0 t) (k0_pay11 (iblk m c 2 t) (iblk m c 3 t) (iblk m c 0 t) (iblk m c 1 t)) (k0_pay13 (iblk m c 2 t) (iblk m c 3 t) (iblk m c 0 t) (iblk m c 1 t)) (iblk m c 4 t) (X0_8 m c t)) (ix2 l j) = recGrad (V m c main_arg0) (V m c main_arg1) (V m c main_arg2) (V m c main_arg3) (V m c main_arg4) (V m c main_arg7) (ix2 (at_ t l) j) := by
  rw [block_rec, at_inner, block_v]
  rfl

/-- The third result of the kernel. -/
theorem result_rec : (dats m 0 c).arrAt 11 cfg0.N = recGrad (V m c main_arg0) (V m c main_arg1) (V m c main_arg2) (V m c main_arg3) (V m c main_arg4) (V m c main_arg7) := by
  refine (dats m 0 c).arrAt_eq_of_covers 11 _ (by decide +kernel) fun t hf y => ?_
  have ht := points t
  have hstored : (dats m 0 c).after 11 t y = recGrad (V m c main_arg0) (V m c main_arg1) (V m c main_arg2) (V m c main_arg3) (V m c main_arg4) (V m c main_arg7) (ix2 (at_ t (y 0)) (y 1)) := by
    rw [after0_11 m c t]
    by_cases h : t.val % 16 = 0
    · rw [outsAt0_A m c t h (by omega)]
      dsimp only
      frame_out
      exact (congrArg _ (pair y)).trans (at_rec m c t (y 0) (y 1))
    · rw [outsAt0_B m c t h (by omega)]
      dsimp only
      frame_out
      exact (congrArg _ (pair y)).trans (at_rec m c t (y 0) (y 1))
  rw [hstored]
  blk_simp
  refine congrArg (recGrad _ _ _ _ _ _) ?_
  blk_ext [index11 t, at_]

theorem at_gateA (t : Fin cfg0.N) (l : Fin 256) (j : Fin 1024) :
    k0_pay3 (k0_pay19 (X0_7 m c t)) (k0_pay24 (iblk m c 0 t) (k0_pay11 (iblk m c 2 t) (iblk m c 3 t) (iblk m c 0 t) (iblk m c 1 t)) (k0_pay13 (iblk m c 2 t) (iblk m c 3 t) (iblk m c 0 t) (iblk m c 1 t)) (iblk m c 4 t) (iblk m c 5 t)) (ix2 l j) = gateAGrad (V m c main_arg0) (V m c main_arg1) (V m c main_arg2) (V m c main_arg3) (V m c main_arg4) (V m c main_arg5) (V m c main_arg7) (ix2 (at_ t l) j) := by
  rw [block_gateA, at_inner, block_u, block_a]
  rfl

/-- The fourth result of the kernel. -/
theorem result_gateA : (dats m 0 c).arrAt 12 cfg0.N = gateAGrad (V m c main_arg0) (V m c main_arg1) (V m c main_arg2) (V m c main_arg3) (V m c main_arg4) (V m c main_arg5) (V m c main_arg7) := by
  refine (dats m 0 c).arrAt_eq_of_covers 12 _ (by decide +kernel) fun t hf y => ?_
  have ht := points t
  have hstored : (dats m 0 c).after 12 t y = gateAGrad (V m c main_arg0) (V m c main_arg1) (V m c main_arg2) (V m c main_arg3) (V m c main_arg4) (V m c main_arg5) (V m c main_arg7) (ix2 (at_ t (y 0)) (y 1)) := by
    rw [after0_12 m c t]
    by_cases h : t.val % 16 = 0
    · rw [outsAt0_A m c t h (by omega)]
      dsimp only
      frame_out
      exact (congrArg _ (pair y)).trans (at_gateA m c t (y 0) (y 1))
    · rw [outsAt0_B m c t h (by omega)]
      dsimp only
      frame_out
      exact (congrArg _ (pair y)).trans (at_gateA m c t (y 0) (y 1))
  rw [hstored]
  blk_simp
  refine congrArg (gateAGrad _ _ _ _ _ _ _) ?_
  blk_ext [index12 t, at_]

theorem at_gateR (t : Fin cfg0.N) (l : Fin 256) (j : Fin 1024) :
    k0_pay4 (k0_pay22 (iblk m c 0 t) (k0_pay11 (iblk m c 2 t) (iblk m c 3 t) (iblk m c 0 t) (iblk m c 1 t)) (k0_pay13 (iblk m c 2 t) (iblk m c 3 t) (iblk m c 0 t) (iblk m c 1 t)) (iblk m c 4 t) (iblk m c 6 t) (X0_8 m c t)) (ix2 l j) = gateRGrad (V m c main_arg0) (V m c main_arg1) (V m c main_arg2) (V m c main_arg3) (V m c main_arg4) (V m c main_arg6) (V m c main_arg7) (ix2 (at_ t l) j) := by
  rw [block_gateR, at_inner, block_v, block_r]
  rfl

/-- The fifth result of the kernel. -/
theorem result_gateR : (dats m 0 c).arrAt 13 cfg0.N = gateRGrad (V m c main_arg0) (V m c main_arg1) (V m c main_arg2) (V m c main_arg3) (V m c main_arg4) (V m c main_arg6) (V m c main_arg7) := by
  refine (dats m 0 c).arrAt_eq_of_covers 13 _ (by decide +kernel) fun t hf y => ?_
  have ht := points t
  have hstored : (dats m 0 c).after 13 t y = gateRGrad (V m c main_arg0) (V m c main_arg1) (V m c main_arg2) (V m c main_arg3) (V m c main_arg4) (V m c main_arg6) (V m c main_arg7) (ix2 (at_ t (y 0)) (y 1)) := by
    rw [after0_13 m c t]
    by_cases h : t.val % 16 = 0
    · rw [outsAt0_A m c t h (by omega)]
      dsimp only
      frame_out
      exact (congrArg _ (pair y)).trans (at_gateR m c t (y 0) (y 1))
    · rw [outsAt0_B m c t h (by omega)]
      dsimp only
      frame_out
      exact (congrArg _ (pair y)).trans (at_gateR m c t (y 0) (y 1))
  rw [hstored]
  blk_simp
  refine congrArg (gateRGrad _ _ _ _ _ _ _) ?_
  blk_ext [index13 t, at_]

/-- What a block of 256 rows adds to the sums. -/
def part (t : Fin cfg0.N) (y : S8x1024.Idx) : EReal :=
  PostNorm.pack (y 0).val (∑ l : Fin 256, PostNorm.gainTerm 1 (row (V m c main_arg0) (at_ t l)) (line (V m c main_arg3)) (row (V m c main_arg1) (at_ t l)) (y 1))
    (∑ l : Fin 256, PostNorm.gateTerm (row (V m c main_arg0) (at_ t l)) (line (V m c main_arg2)) (row (V m c main_arg1) (at_ t l)) (y 1))

theorem block_part (t : Fin cfg0.N) (y : S8x1024.Idx) :
    k0_pay15 (k0_pay9 (iblk m c 3 t) (iblk m c 0 t) (iblk m c 1 t)) (k0_pay12 (iblk m c 2 t) (iblk m c 0 t) (iblk m c 1 t)) y = part m c t y := by
  rw [block_sums]
  unfold part
  rw [block_g, block_gate]
  refine congrArg₂ (fun u v => PostNorm.pack (y 0).val u v) ?_ ?_
  · exact Fin.sum_fin_congr fun l => by rw [block_f, block_d]
  · exact Fin.sum_fin_congr fun l => by rw [block_f, block_d]

theorem sum_rows (f : Fin 4096 → EReal) : ∑ t : Fin cfg0.N, ∑ l : Fin 256, f (at_ t l) = ∑ l : Fin 4096, f l :=
  Fin.sum_mul_add_fin 16 256 f

theorem sum_part (y : S8x1024.Idx) : ∑ t : Fin cfg0.N, part m c t y = sumsGrad (V m c main_arg0) (V m c main_arg1) (V m c main_arg2) (V m c main_arg3) y :=
  (PostNorm.sum_pack _ _ _).trans (congrArg₂ (PostNorm.pack (y 0).val)
    (sum_rows fun l => PostNorm.gainTerm 1 (row (V m c main_arg0) l) (line (V m c main_arg3)) (row (V m c main_arg1) l) (y 1))
    (sum_rows fun l => PostNorm.gateTerm (row (V m c main_arg0) l) (line (V m c main_arg2)) (row (V m c main_arg1) l) (y 1)))

/-- The sixth result of the kernel. -/
theorem result_sums : (dats m 0 c).arrAt 14 cfg0.N = sumsGrad (V m c main_arg0) (V m c main_arg1) (V m c main_arg2) (V m c main_arg3) := by
  refine (dats m 0 c).arrAt_eq_of_covers 14 _ (by decide +kernel) fun t hf y => ?_
  have ht : t = t0_15 := Fin.ext (by have := (flush0_14 t).mp hf; have := points t; show t.val = 15; omega)
  subst ht
  blk_simp
  rw [after0_14, Pipeline.eq_sum_fin_of_reset_step_apply_last (fun n h => (outsAt0 m c n h).2.2.2.2.2) 16 (fun _ => (0 : EReal)) (part m c)
    (fun t h j => by
      have := points t
      rw [outsAt0_A m c t h (by omega)]
      dsimp only
      frame_out
      exact (block_part m c t j).trans (zero_add _).symm)
    (fun t h j => by
      have := points t
      rw [outsAt0_B m c t h (by omega)]
      dsimp only
      frame_out
      exact (block_step _ _ _ j).trans (congrArg (fun u : EReal => _ + u) (block_part m c t j)))
    (le_of_eq N_0) t0_15 rfl y, zero_add]
  refine Eq.trans ?_ (congrArg (sumsGrad _ _ _ _) (?_ : (y : S8x1024.Idx) = _))
  · exact sum_part m c y
  · blk_ext [index14 t0_15]

/-- A whole run of the kernel. -/
theorem run : θ_run defs (onTc (τ := τ) main) ⟨m, fun _ => 0, ρ⟩ fun r => ∀ c : Dev nD,
    r.2.mem ((c.tc : Thread nD τ).loc main_v0_0) = outGrad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_1) = attGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
    ∧ r.2.mem ((c.tc : Thread nD τ).loc main_v0_2) = recGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
    ∧ r.2.mem ((c.tc : Thread nD τ).loc main_v0_3) = gateAGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
    ∧ r.2.mem ((c.tc : Thread nD τ).loc main_v0_4) = gateRGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7))
    ∧ r.2.mem ((c.tc : Thread nD τ).loc main_v0_5) = sumsGrad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => ⟨(h c).1.trans ((result_out m c).trans (by rw [V_main_arg0, V_main_arg1, V_main_arg2, V_main_arg3])),
    (h c).2.1.trans ((result_att m c).trans (by rw [V_main_arg0, V_main_arg1, V_main_arg2, V_main_arg3, V_main_arg4, V_main_arg7])),
    (h c).2.2.1.trans ((result_rec m c).trans (by rw [V_main_arg0, V_main_arg1, V_main_arg2, V_main_arg3, V_main_arg4, V_main_arg7])),
    (h c).2.2.2.1.trans ((result_gateA m c).trans (by rw [V_main_arg0, V_main_arg1, V_main_arg2, V_main_arg3, V_main_arg4, V_main_arg5, V_main_arg7])),
    (h c).2.2.2.2.1.trans ((result_gateR m c).trans (by rw [V_main_arg0, V_main_arg1, V_main_arg2, V_main_arg3, V_main_arg4, V_main_arg6, V_main_arg7])),
    (h c).2.2.2.2.2.1.trans ((result_sums m c).trans (by rw [V_main_arg0, V_main_arg1, V_main_arg2, V_main_arg3])),
    (h c).2.2.2.2.2.2⟩)
    (Value.run_blocks m ρ)

end Cert.MergeBwdIdeal.MergeBackward

namespace Cert.MergeBwdRefIdeal.MergeBackward

open Cert.MergeBwdRefIdeal Cert.MergeBwdRefIdeal.Gen Cert.MergeBwdRefIdeal.Value
open Idealize.ShloMosaic Idealize.ShloMosaic.TcCoe Idealize.ShloMosaic.StableHlo Idealize.SL.Sem
open Cert.MergeBwdIdeal.MergeBackward (row line outer inner gateA gateR branch opening outGrad attGrad recGrad gateAGrad gateRGrad sumsGrad)

/-- A row laid out over all rows. -/
def rows (v : FVec Ideal S1x1024 .f32) : FVec Ideal S4096x1024 .f32 :=
  broadcastInDim S4096x1024 ![0, 1] bcast_S1x1024_S4096x1024_0_1 v

/-- One in every entry. -/
def ones : FVec Ideal S4096x1024 .f32 := broadcastInDim S4096x1024 ![] bcast_S_S4096x1024 (constant S_ .f32 0x3F800000#32)

def power (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

def rate (x : FVec Ideal S4096x1024 .f32) : FVec Ideal S4096x1024 .f32 :=
  broadcastInDim S4096x1024 ![0, 1] bcast_S4096x1_S4096x1024_0_1 (Host.rsqrt (power x))

/-- The cotangent before the gain. -/
def gated (d : FVec Ideal S4096x1024 .f32) (gate : FVec Ideal S1x1024 .f32) : FVec Ideal S4096x1024 .f32 :=
  mulf (rows (mulf (broadcastInDim S1x1024 ![] bcast_S_S1x1024 (constant S_ .f32 0x3F800000#32)) gate)) d

def drift (x p : FVec Ideal S4096x1024 .f32) : FVec Ideal S4096x1024 .f32 :=
  broadcastInDim S4096x1024 ![0] bcast_S4096_S4096x1024_0 (Host.reduceAdd
    (Host.divf (mulf (shapeCast S4096x1 (Host.reduceAdd (mulf x p) (constant S_ .f32 0x00000000#32) reducesTo_S4096x1024_S4096_d1 h_S_) shapeCasts_S4096_S4096x1)
        (mulf (broadcastInDim S4096x1 ![] bcast_S_S4096x1 (constant S_ .f32 0xBF000000#32)) (Host.divf (Host.rsqrt (power x)) (power x))))
      (broadcastInDim S4096x1 ![] bcast_S_S4096x1 (constant S_ .f32 0x44800000#32)))
    (constant S_ .f32 0x00000000#32) reducesTo_S4096x1_S4096_d1 h_S_)

/-- The gradient of the block's output. -/
def outs (f d : FVec Ideal S4096x1024 .f32) (g gate : FVec Ideal S1x1024 .f32) : FVec Ideal S4096x1024 .f32 :=
  addf (addf (mulf (mulf (gated d gate) (rows g)) (rate f)) (mulf f (drift f (mulf (gated d gate) (rows g)))))
    (mulf (drift f (mulf (gated d gate) (rows g))) f)

/-- The gradient of the merged branches. -/
def merged (q : FVec Ideal S4096x1024 .f32) (w : FVec Ideal S1024x1024 .bf16) : FVec Ideal S4096x1024 .f32 :=
  Host.dotGeneral dot_S4096x1024_S1024x1024_S4096x1024_1_1_0_0_n_n none q (extf .f32 w bitsLt_bf16_f32)

/-- The reference's sigmoid. -/
def sigm (z : FVec Ideal S4096x1024 .f32) : FVec Ideal S4096x1024 .f32 := Host.divf ones (addf ones (Host.exp (Host.negf z)))

def branched (q z : FVec Ideal S4096x1024 .f32) : FVec Ideal S4096x1024 .bf16 := truncf .bf16 (mulf (sigm z) q) bitsLt_bf16_f32

def opened (q b z : FVec Ideal S4096x1024 .f32) : FVec Ideal S4096x1024 .bf16 :=
  truncf .bf16 (mulf (mulf q b) (mulf (sigm z) (subf ones (sigm z)))) bitsLt_bf16_f32

/-- The reference's column blocks. -/
def colsA (p : FVec Ideal S4096x5632 .f32) : FVec Ideal S4096x1024 .f32 := extractStridedSlice S4096x1024 ![0, 2048] p slices_S4096x5632_S4096x1024_0_2048

@[inherit_doc colsA]
def colsR (p : FVec Ideal S4096x5632 .f32) : FVec Ideal S4096x1024 .f32 := extractStridedSlice S4096x1024 ![0, 3072] p slices_S4096x5632_S4096x1024_0_3072

/-- The sum of every column, as a row. -/
def column (v : FVec Ideal S4096x1024 .f32) : FVec Ideal S1x1024 .f32 :=
  shapeCast S1x1024 (Host.reduceAdd v (constant S_ .f32 0x00000000#32) reducesTo_S4096x1024_S1024_d0 h_S_) shapeCasts_S1024_S1x1024

def sums (f d : FVec Ideal S4096x1024 .f32) (g gate : FVec Ideal S1x1024 .f32) : FVec Ideal S8x1024 .f32 :=
  concatenate S8x1024 0
    [⟨S1x1024, column (mulf (mulf f (rate f)) (gated d gate))⟩,
     ⟨S1x1024, mulf (broadcastInDim S1x1024 ![] bcast_S_S1x1024 (constant S_ .f32 0x3F800000#32)) (column (mulf d (mulf (mulf f (rate f)) (rows g))))⟩,
     ⟨S6x1024, broadcastInDim S6x1024 ![] bcast_S_S6x1024 (constant S_ .f32 0x00000000#32)⟩]
    concatenates_S1x1024_S1x1024_S6x1024_S8x1024_d0

theorem outs_at (f d : FVec Ideal S4096x1024 .f32) (g gate : FVec Ideal S1x1024 .f32) (y : S4096x1024.Idx) :
    outs f d g gate y = PostNorm.back 1 (fun k => f (ix2 (y 0) k)) (fun k => g (ix2 0 k)) (fun k => gate (ix2 0 k)) (fun k => d (ix2 (y 0) k)) (y 1) := by
  unfold PostNorm.back PostNorm.drift PostNorm.gated NormBackward.slope NormBackward.rate NormBackward.power
  pointwise [outs, drift, gated, rate, power, rows]
  simp only [Finset.univ_unique, Finset.sum_singleton]

theorem merged_at (q : FVec Ideal S4096x1024 .f32) (w : FVec Ideal S1024x1024 .bf16) (y : S4096x1024.Idx) :
    merged q w y = (∑ k : Fin 1024, (q (ix2 (y 0) k) : EReal) * w (ix2 (y 1) k) : EReal) := by
  pointwise [merged]

theorem branched_at (q z : FVec Ideal S4096x1024 .f32) (y : S4096x1024.Idx) : branched q z y = branch (q y) (z y) := by
  unfold branch Ideal.logistic
  pointwise [branched, sigm, ones]

theorem opened_at (q b z : FVec Ideal S4096x1024 .f32) (y : S4096x1024.Idx) : opened q b z y = opening (q y) (b y) (z y) := by
  unfold opening Ideal.logistic
  pointwise [opened, sigm, ones]

theorem colsA_at (p : FVec Ideal S4096x5632 .f32) (y : S4096x1024.Idx) : colsA p y = gateA p (y 0) (y 1) := by
  unfold gateA
  pointwise [colsA]

theorem colsR_at (p : FVec Ideal S4096x5632 .f32) (y : S4096x1024.Idx) : colsR p y = gateR p (y 0) (y 1) := by
  unfold gateR
  pointwise [colsR]

theorem sums_at (f d : FVec Ideal S4096x1024 .f32) (g gate : FVec Ideal S1x1024 .f32) (y : S8x1024.Idx) :
    sums f d g gate y = PostNorm.pack (y 0).val
      (∑ l : Fin 4096, PostNorm.gainTerm 1 (fun k => f (ix2 l k)) (fun k => gate (ix2 0 k)) (fun k => d (ix2 l k)) (y 1))
      (∑ l : Fin 4096, PostNorm.gateTerm (fun k => f (ix2 l k)) (fun k => g (ix2 0 k)) (fun k => d (ix2 l k)) (y 1)) := by
  unfold PostNorm.pack PostNorm.gainTerm PostNorm.gateTerm PostNorm.gated NormBackward.rate NormBackward.power
  pointwise [sums, column, gated, rate, power, rows]
  simp only [dite_eq_ite, one_mul]

theorem pair (y : S4096x1024.Idx) : y = ix2 (y 0) (y 1) := by
  funext i
  fin_cases i <;> rfl

theorem out_eq (f d : FVec Ideal S4096x1024 .f32) (g gate : FVec Ideal S1x1024 .f32) : truncf .bf16 (outs f d g gate) bitsLt_bf16_f32 = outGrad f d g gate :=
  funext fun y => outs_at f d g gate y

theorem inner_at (f d : FVec Ideal S4096x1024 .f32) (g gate : FVec Ideal S1x1024 .f32) (w : FVec Ideal S1024x1024 .bf16) (y : S4096x1024.Idx) :
    merged (outs f d g gate) w y = inner f d g gate w (y 0) (y 1) :=
  (merged_at _ _ y).trans (Fin.sum_fin_congr fun k => congrArg (fun u : EReal => u * w (ix2 (y 1) k)) (outs_at f d g gate (ix2 (y 0) k)))

theorem att_eq (f d : FVec Ideal S4096x1024 .f32) (g gate : FVec Ideal S1x1024 .f32) (w : FVec Ideal S1024x1024 .bf16) (p : FVec Ideal S4096x5632 .f32) :
    branched (merged (outs f d g gate) w) (colsA p) = attGrad f d g gate w p := by
  funext y
  rw [branched_at, inner_at, colsA_at]
  rfl

theorem rec_eq (f d : FVec Ideal S4096x1024 .f32) (g gate : FVec Ideal S1x1024 .f32) (w : FVec Ideal S1024x1024 .bf16) (p : FVec Ideal S4096x5632 .f32) :
    branched (merged (outs f d g gate) w) (colsR p) = recGrad f d g gate w p := by
  funext y
  rw [branched_at, inner_at, colsR_at]
  rfl

theorem gateA_eq (f d : FVec Ideal S4096x1024 .f32) (g gate : FVec Ideal S1x1024 .f32) (w : FVec Ideal S1024x1024 .bf16) (a : FVec Ideal S4096x1024 .f32)
    (p : FVec Ideal S4096x5632 .f32) : opened (merged (outs f d g gate) w) a (colsA p) = gateAGrad f d g gate w a p := by
  funext y
  rw [opened_at, inner_at, colsA_at, congrArg a (pair y)]
  rfl

theorem gateR_eq (f d : FVec Ideal S4096x1024 .f32) (g gate : FVec Ideal S1x1024 .f32) (w : FVec Ideal S1024x1024 .bf16) (r : FVec Ideal S4096x1024 .f32)
    (p : FVec Ideal S4096x5632 .f32) : opened (merged (outs f d g gate) w) r (colsR p) = gateRGrad f d g gate w r p := by
  funext y
  rw [opened_at, inner_at, colsR_at, congrArg r (pair y)]
  rfl

theorem sums_eq (f d : FVec Ideal S4096x1024 .f32) (g gate : FVec Ideal S1x1024 .f32) : sums f d g gate = sumsGrad f d g gate :=
  funext fun y => sums_at f d g gate y

variable (m : (ℓ : Loc nD τ sig) → Buf (Elt Ideal) ℓ) (ρ : Dev nD → PrngReg) (c : Dev nD)

theorem term0 : res_out0 m c = truncf .bf16 (outs (m ((c.tc : Thread nD τ).loc main_arg0)) (m ((c.tc : Thread nD τ).loc main_arg1)) (m ((c.tc : Thread nD τ).loc main_arg2)) (m ((c.tc : Thread nD τ).loc main_arg3))) bitsLt_bf16_f32 := rfl

theorem term1 : res_out1 m c = branched (merged (outs (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (colsA (m ((c.tc : Thread nD τ).loc main_arg7))) := rfl

theorem term2 : res_out2 m c = branched (merged (outs (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (colsR (m ((c.tc : Thread nD τ).loc main_arg7))) := rfl

theorem term3 : res_out3 m c = opened (merged (outs (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg5)) (colsA (m ((c.tc : Thread nD τ).loc main_arg7))) := rfl

theorem term4 : res_out4 m c = opened (merged (outs (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (m ((c.tc : Thread nD τ).loc main_arg6)) (colsR (m ((c.tc : Thread nD τ).loc main_arg7))) := rfl

/-- A whole run of the reference. -/
theorem run : θ_run defs (onTc (τ := τ) main) ⟨m, fun _ => 0, ρ⟩ fun r => ∀ c : Dev nD,
    r.2.mem ((c.tc : Thread nD τ).loc main_v77) = outGrad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v78) = attGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
    ∧ r.2.mem ((c.tc : Thread nD τ).loc main_v79) = recGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7))
    ∧ r.2.mem ((c.tc : Thread nD τ).loc main_v80) = gateAGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))
    ∧ r.2.mem ((c.tc : Thread nD τ).loc main_v81) = gateRGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7))
    ∧ r.2.mem ((c.tc : Thread nD τ).loc main_v83) = sumsGrad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c => ⟨(h c).1.trans ((term0 m c).trans (out_eq _ _ _ _)),
    (h c).2.1.trans ((term1 m c).trans (att_eq _ _ _ _ _ _)),
    (h c).2.2.1.trans ((term2 m c).trans (rec_eq _ _ _ _ _ _)),
    (h c).2.2.2.1.trans ((term3 m c).trans (gateA_eq _ _ _ _ _ _ _)),
    (h c).2.2.2.2.1.trans ((term4 m c).trans (gateR_eq _ _ _ _ _ _ _)),
    (h c).2.2.2.2.2.1.trans (sums_eq _ _ _ _),
    (h c).2.2.2.2.2.2⟩)
    (Value.run m ρ)

end Cert.MergeBwdRefIdeal.MergeBackward

end
-- ==== Proof.RecurrenceOutput.lean ====
/-
The output side of the recurrence, backward: the gradient passes through the output projection to the product of the
recurrence's states with their gate, the GELU of a column block of the input projection.
-/
module

public import proofs.«01_k».proof.Proof.Gen.RecinBwdIdeal.Value
public import proofs.«01_k».proof.Proof.Gen.RecinBwdRefIdeal.Run
public import Idealize.ShloMosaic.Lib.IdealHost
public import Idealize.ShloMosaic.Lib.Pipeline.ValueKit
public import Idealize.ShloMosaic.Lib.Pointwise

@[expose] public section

set_option maxRecDepth 16384

noncomputable section

namespace Cert.RecinBwdIdeal.RecurrenceOutput

open Cert.RecinBwdIdeal Cert.RecinBwdIdeal.Gen
open Idealize.ShloMosaic Idealize.ShloMosaic.TcCoe Idealize.SL.Sem

/-- The hyperbolic tangent inside the GELU at `z`. -/
def bend (z : EReal) : EReal :=
  Ideal.tanh (Ideal.ofBits .f32 0x3F4C422A#32 * (z + Ideal.ofBits .f32 0x3D372713#32 * (z * z * z)))

/-- The GELU. -/
def gelu (z : EReal) : EReal := z * (Ideal.ofBits .f32 0x3F000000#32 * (1 + bend z))

/-- What the cotangent `e` of the GELU passes through the hyperbolic tangent. -/
def bent (e z : EReal) : EReal :=
  Ideal.ofBits .f32 0x3F4C422A#32 * (Ideal.ofBits .f32 0x3F000000#32 * (z * e) * ((1 + bend z) * (1 - bend z)))

/-- The gradient of the GELU at `z` for the cotangent `e`. -/
def geluGrad (e z : EReal) : EReal :=
  e * (Ideal.ofBits .f32 0x3F000000#32 * (1 + bend z)) + bent e z
    + Ideal.ofBits .f32 0x3D372713#32 * bent e z * (Ideal.ofBits .f32 0x40400000#32 * (z * z))

/-- The cotangent of the gated states. -/
def cotangent (d : Vec Ideal S4096x1024 .bf16) (w : Vec Ideal S1024x1024 .bf16) (l : Fin 4096) (j : Fin 1024) : EReal :=
  (∑ k : Fin 1024, (d (ix2 l k) : EReal) * w (ix2 j k) : EReal)

/-- The gate's entries: columns 1024 to 2047 of the input projection. -/
def gate (p : Vec Ideal S4096x5632 .f32) (l : Fin 4096) (j : Fin 1024) : EReal := p (ix2 l ⟨1024 + j.val, by omega⟩)

/-- The gradient of the states. -/
def statesGrad (d : Vec Ideal S4096x1024 .bf16) (w : Vec Ideal S1024x1024 .bf16) (p : Vec Ideal S4096x5632 .f32) : Vec Ideal S4096x1024 .f32 := fun y =>
  cotangent d w (y 0) (y 1) * gelu (gate p (y 0) (y 1))

/-- The gradient of the gate's entries. -/
def gateGrad (d : Vec Ideal S4096x1024 .bf16) (w : Vec Ideal S1024x1024 .bf16) (h : Vec Ideal S4096x1024 .f32) (p : Vec Ideal S4096x5632 .f32) :
    Vec Ideal S4096x1024 .bf16 := fun y =>
  geluGrad ((h (ix2 (y 0) (y 1)) : EReal) * cotangent d w (y 0) (y 1)) (gate p (y 0) (y 1))

theorem three : Ideal.ofBits .f32 0x40400000#32 = 3 := by
  have h : Ideal.ofBits .f32 0x40400000#32 = ((3 : ℝ) : EReal) := by
    simp [Ideal.ofBits, Ideal.ieee, -EReal.coe_mul]; norm_num
  exact h

theorem three_mul (x : EReal) : 3 * x = x + x + x := by
  induction x with
  | bot => exact (EReal.mul_bot_of_pos (by norm_num)).trans (by simp)
  | top => exact (EReal.mul_top_of_pos (by norm_num)).trans (by simp)
  | coe r =>
    have h : ((3 : ℝ) : EReal) * (r : EReal) = r + r + r := by
      rw [← EReal.coe_mul, ← EReal.coe_add, ← EReal.coe_add]
      exact congrArg _ (by ring)
    exact h

/-- The derivative of the cube in three products, against the factor three. -/
theorem gather (v z u s e t : EReal) :
    v + z * z * u + z * (u * z) + u * z * z + s * (e * t) = e * (s * t) + v + u * (Ideal.ofBits .f32 0x40400000#32 * (z * z)) := by
  rw [three, show u * (3 * (z * z)) = 3 * (z * z * u) by ac_rfl, three_mul, show z * (u * z) = z * z * u by ac_rfl, show u * z * z = z * z * u by ac_rfl,
    show s * (e * t) = e * (s * t) by ac_rfl]
  ac_rfl

theorem block_product (d : Vec Ideal S256x1024 .bf16) (w : Vec Ideal S1024x1024 .bf16) (y : S256x1024.Idx) :
    k0_pay2 d w y = (∑ k : Fin 1024, (d (ix2 (y 0) k) : EReal) * w (ix2 (y 1) k) : EReal) := by
  pointwise [k0_pay2]

theorem block_states (d : Vec Ideal S256x1024 .bf16) (w : Vec Ideal S1024x1024 .bf16) (z : Vec Ideal S256x1024 .f32) (y : S256x1024.Idx) :
    k0_pay8 d w z y = ((k0_pay2 d w y : EReal) * gelu (z y) : EReal) := by
  unfold gelu bend k0_pay8
  generalize k0_pay2 d w = q
  pointwise [k0_pay3, k0_pay4, k0_pay5, k0_pay6]
  exact congrArg _ (by ac_rfl)

theorem block_gate (d : Vec Ideal S256x1024 .bf16) (w : Vec Ideal S1024x1024 .bf16) (h z : Vec Ideal S256x1024 .f32) (y : S256x1024.Idx) :
    k0_pay1 (k0_pay9 d w h z) (k0_pay10 d w h z) y = (geluGrad ((h y : EReal) * k0_pay2 d w y) (z y) : EReal) := by
  unfold geluGrad bent bend k0_pay9 k0_pay10 k0_pay7
  generalize k0_pay2 d w = q
  pointwise [k0_pay1, k0_pay3, k0_pay4, k0_pay5, k0_pay6]
  rw [show (Ideal.ofBits FTy.f32 1056964608#32 * z y * (h y * q y) : EReal) = Ideal.ofBits FTy.f32 1056964608#32 * (z y * (h y * q y)) from mul_assoc _ _ _]
  exact gather _ _ _ _ _ _

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 1] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

theorem points (t : Fin cfg0.N) : t.val < 16 := lt_of_lt_of_eq t.isLt N_0

/-- Row `l` of the block at point `t` is row `256 t + l` of the array. -/
def at_ (t : Fin cfg0.N) (l : Fin 256) : Fin 4096 := ⟨t.val * 256 + l.val, by have := points t; omega⟩

variable (m : (ℓ : Loc nD τ sig) → Buf (Elt Ideal) ℓ) (ρ : Dev nD → PrngReg) (c : Dev nD)

theorem block_cotangent (t : Fin cfg0.N) (l : Fin 256) (j : Fin 1024) :
    k0_pay2 (iblk m c 0 t) (iblk m c 1 t) (ix2 l j) = cotangent (V m c main_arg0) (V m c main_arg1) (at_ t l) j := by
  refine (block_product _ _ _).trans ?_
  unfold cotangent
  refine Fin.sum_fin_congr fun k => congrArg₂ (fun u v : EReal => u * v) ?_ ?_
  · blk_simp [iblk]
    refine congrArg (V m c main_arg0) ?_
    blk_ext [index0 t, at_]
  · blk_simp [iblk]
    refine congrArg (V m c main_arg1) ?_
    blk_ext [index1 t]

theorem block_h (t : Fin cfg0.N) (l : Fin 256) (k : Fin 1024) : iblk m c 2 t (ix2 l k) = V m c main_arg2 (ix2 (at_ t l) k) := by
  blk_simp [iblk]
  refine congrArg (V m c main_arg2) ?_
  blk_ext [index2 t, at_]

theorem block_z (t : Fin cfg0.N) (l : Fin 256) (k : Fin 1024) : X0_3 m c t (ix2 l k) = gate (V m c main_arg3) (at_ t l) k := by
  unfold X0_3 Pipeline.Window.fill
  rw [dif_pos (moved0_3 t (ix2 l k))]
  unfold gate
  blk_simp [iblk]
  refine congrArg (V m c main_arg3) ?_
  blk_ext [index3 t, at_]

theorem block_states_at (t : Fin cfg0.N) (l : Fin 256) (j : Fin 1024) :
    k0_pay8 (iblk m c 0 t) (iblk m c 1 t) (X0_3 m c t) (ix2 l j) = statesGrad (V m c main_arg0) (V m c main_arg1) (V m c main_arg3) (ix2 (at_ t l) j) := by
  rw [block_states, block_cotangent, block_z]
  rfl

theorem block_gate_at (t : Fin cfg0.N) (l : Fin 256) (j : Fin 1024) :
    k0_pay1 (k0_pay9 (iblk m c 0 t) (iblk m c 1 t) (iblk m c 2 t) (X0_3 m c t)) (k0_pay10 (iblk m c 0 t) (iblk m c 1 t) (iblk m c 2 t) (X0_3 m c t)) (ix2 l j)
      = gateGrad (V m c main_arg0) (V m c main_arg1) (V m c main_arg2) (V m c main_arg3) (ix2 (at_ t l) j) := by
  rw [block_gate, block_cotangent, block_z, block_h]
  rfl

theorem pair (y : S256x1024.Idx) : y = ix2 (y 0) (y 1) := by
  funext i
  fin_cases i <;> rfl

/-- The first result of the kernel. -/
theorem result_states : (dats m 0 c).arrAt 4 cfg0.N = statesGrad (V m c main_arg0) (V m c main_arg1) (V m c main_arg3) := by
  refine (dats m 0 c).arrAt_eq_of_covers 4 _ (by decide +kernel) fun t hf y => ?_
  have hstored : (dats m 0 c).after 4 t y = statesGrad (V m c main_arg0) (V m c main_arg1) (V m c main_arg3) (ix2 (at_ t (y 0)) (y 1)) := by
    rw [after0_4 m c t]
    unfold outsAt0
    dsimp only
    frame_out
    exact (congrArg _ (pair y)).trans (block_states_at m c t (y 0) (y 1))
  rw [hstored]
  blk_simp
  refine congrArg (statesGrad _ _ _) ?_
  blk_ext [index4 t, at_]

/-- The second result of the kernel. -/
theorem result_gate : (dats m 0 c).arrAt 5 cfg0.N = gateGrad (V m c main_arg0) (V m c main_arg1) (V m c main_arg2) (V m c main_arg3) := by
  refine (dats m 0 c).arrAt_eq_of_covers 5 _ (by decide +kernel) fun t hf y => ?_
  have hstored : (dats m 0 c).after 5 t y = gateGrad (V m c main_arg0) (V m c main_arg1) (V m c main_arg2) (V m c main_arg3) (ix2 (at_ t (y 0)) (y 1)) := by
    rw [after0_5 m c t]
    unfold outsAt0
    dsimp only
    frame_out
    exact (congrArg _ (pair y)).trans (block_gate_at m c t (y 0) (y 1))
  rw [hstored]
  blk_simp
  refine congrArg (gateGrad _ _ _ _) ?_
  blk_ext [index5 t, at_]

/-- A whole run of the kernel. -/
theorem run : θ_run defs (onTc (τ := τ) main) ⟨m, fun _ => 0, ρ⟩ fun r => ∀ c : Dev nD,
    r.2.mem ((c.tc : Thread nD τ).loc main_v0_0) = statesGrad (m ((c.tc : Thread nD τ).loc main_arg0)) (m ((c.tc : Thread nD τ).loc main_arg1)) (m ((c.tc : Thread nD τ).loc main_arg3))
    ∧ r.2.mem ((c.tc : Thread nD τ).loc main_v0_1) = gateGrad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans ((result_states m c).trans (by rw [V_main_arg0, V_main_arg1, V_main_arg3])),
    (h c).2.1.trans ((result_gate m c).trans (by rw [V_main_arg0, V_main_arg1, V_main_arg2, V_main_arg3])),
    (h c).2.2⟩)
    (Value.run_blocks m ρ)

end Cert.RecinBwdIdeal.RecurrenceOutput

namespace Cert.RecinBwdRefIdeal.RecurrenceOutput

open Cert.RecinBwdRefIdeal Cert.RecinBwdRefIdeal.Gen
open Idealize.ShloMosaic Idealize.ShloMosaic.TcCoe Idealize.ShloMosaic.StableHlo Idealize.SL.Sem
open Cert.RecinBwdIdeal.RecurrenceOutput (statesGrad gateGrad)

/-- The reference's cotangent of the gated states. -/
def dot (d : FVec Ideal S4096x1024 .bf16) (w : FVec Ideal S1024x1024 .bf16) : FVec Ideal S4096x1024 .f32 :=
  Host.dotGeneral dot_S4096x1024_S1024x1024_S4096x1024_1_1_0_0_n_n none (extf .f32 d bitsLt_bf16_f32) (extf .f32 w bitsLt_bf16_f32)

/-- A number in every entry. -/
def every (b : BitVec 32) : FVec Ideal S4096x1024 .f32 := broadcastInDim S4096x1024 ![] bcast_S_S4096x1024 (constant S_ .f32 b)

/-- The reference's hyperbolic tangent. -/
def tan (z : FVec Ideal S4096x1024 .f32) : FVec Ideal S4096x1024 .f32 :=
  Host.tanh (mulf (every 0x3F4C422A#32) (addf z (mulf (every 0x3D372713#32) (mulf (mulf z z) z))))

/-- The reference's gate column block. -/
def cols (p : FVec Ideal S4096x5632 .f32) : FVec Ideal S4096x1024 .f32 := extractStridedSlice S4096x1024 ![0, 1024] p slices_S4096x5632_S4096x1024_0_1024

/-- The reference's gradient of the states. -/
def states (q z : FVec Ideal S4096x1024 .f32) : FVec Ideal S4096x1024 .f32 := mulf q (mulf z (mulf (every 0x3F000000#32) (addf (every 0x3F800000#32) (tan z))))

/-- The reference's gradient of the gate. -/
def gated (q h z : FVec Ideal S4096x1024 .f32) : FVec Ideal S4096x1024 .bf16 :=
  truncf .bf16 (addf (addf (mulf (mulf h q) (mulf (every 0x3F000000#32) (addf (every 0x3F800000#32) (tan z)))) (mulf (every 0x3F4C422A#32) (mulf (mulf (every 0x3F000000#32) (mulf z (mulf h q))) (mulf (addf (every 0x3F800000#32) (tan z)) (subf (every 0x3F800000#32) (tan z)))))) (mulf (mulf (every 0x3D372713#32) (mulf (every 0x3F4C422A#32) (mulf (mulf (every 0x3F000000#32) (mulf z (mulf h q))) (mulf (addf (every 0x3F800000#32) (tan z)) (subf (every 0x3F800000#32) (tan z)))))) (mulf (every 0x40400000#32) (mulf z z)))) bitsLt_bf16_f32

theorem dot_at (d : FVec Ideal S4096x1024 .bf16) (w : FVec Ideal S1024x1024 .bf16) (y : S4096x1024.Idx) :
    dot d w y = Cert.RecinBwdIdeal.RecurrenceOutput.cotangent d w (y 0) (y 1) := by
  pointwise [dot, Cert.RecinBwdIdeal.RecurrenceOutput.cotangent]

theorem cols_at (p : FVec Ideal S4096x5632 .f32) (y : S4096x1024.Idx) : cols p y = Cert.RecinBwdIdeal.RecurrenceOutput.gate p (y 0) (y 1) := by
  unfold Cert.RecinBwdIdeal.RecurrenceOutput.gate
  pointwise [cols]

theorem states_at (q z : FVec Ideal S4096x1024 .f32) (y : S4096x1024.Idx) :
    states q z y = ((q y : EReal) * Cert.RecinBwdIdeal.RecurrenceOutput.gelu (z y) : EReal) := by
  unfold Cert.RecinBwdIdeal.RecurrenceOutput.gelu Cert.RecinBwdIdeal.RecurrenceOutput.bend
  pointwise [states, tan, every]

theorem gated_at (q h z : FVec Ideal S4096x1024 .f32) (y : S4096x1024.Idx) :
    gated q h z y = Cert.RecinBwdIdeal.RecurrenceOutput.geluGrad ((h y : EReal) * q y) (z y) := by
  unfold Cert.RecinBwdIdeal.RecurrenceOutput.geluGrad Cert.RecinBwdIdeal.RecurrenceOutput.bent Cert.RecinBwdIdeal.RecurrenceOutput.bend
  pointwise [gated, tan, every]

theorem pair (y : S4096x1024.Idx) : y = ix2 (y 0) (y 1) := by
  funext i
  fin_cases i <;> rfl

theorem states_eq (d : FVec Ideal S4096x1024 .bf16) (w : FVec Ideal S1024x1024 .bf16) (p : FVec Ideal S4096x5632 .f32) :
    states (dot d w) (cols p) = statesGrad d w p := by
  funext y
  rw [states_at, dot_at, cols_at]
  rfl

theorem gated_eq (d : FVec Ideal S4096x1024 .bf16) (w : FVec Ideal S1024x1024 .bf16) (h : FVec Ideal S4096x1024 .f32) (p : FVec Ideal S4096x5632 .f32) :
    gated (dot d w) h (cols p) = gateGrad d w h p := by
  funext y
  rw [gated_at, dot_at, cols_at, congrArg h (pair y)]
  rfl

variable (m : (ℓ : Loc nD τ sig) → Buf (Elt Ideal) ℓ) (ρ : Dev nD → PrngReg) (c : Dev nD)

/-- A whole run of the reference. -/
theorem run : θ_run defs (onTc (τ := τ) main) ⟨m, fun _ => 0, ρ⟩ fun r => ∀ c : Dev nD,
    r.2.mem ((c.tc : Thread nD τ).loc main_v28) = statesGrad (m ((c.tc : Thread nD τ).loc main_arg0)) (m ((c.tc : Thread nD τ).loc main_arg1)) (m ((c.tc : Thread nD τ).loc main_arg3))
    ∧ r.2.mem ((c.tc : Thread nD τ).loc main_v41) = gateGrad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans (states_eq (m ((c.tc : Thread nD τ).loc main_arg0)) (m ((c.tc : Thread nD τ).loc main_arg1)) (m ((c.tc : Thread nD τ).loc main_arg3))),
    (h c).2.1.trans (gated_eq (m ((c.tc : Thread nD τ).loc main_arg0)) (m ((c.tc : Thread nD τ).loc main_arg1)) (m ((c.tc : Thread nD τ).loc main_arg2)) (m ((c.tc : Thread nD τ).loc main_arg3))),
    (h c).2.2⟩)
    (Value.run m ρ)

end Cert.RecinBwdRefIdeal.RecurrenceOutput

end
-- ==== Proof.FfnOutput.lean ====
/-
The output side of a feed-forward block: the down projection of the hidden activations, and the residual with the norm of that product.
-/
module

public import proofs.«01_k».proof.Proof.Gen.MmPostIdeal.Value
public import proofs.«01_k».proof.Proof.Gen.MmPostRefIdeal.Run
public import proofs.«01_k».proof.Proof.PostNorm
public import Idealize.ShloMosaic.Lib.Pipeline.ValueKit
public import Idealize.ShloMosaic.Lib.Pointwise

@[expose] public section

set_option maxRecDepth 16384

noncomputable section

namespace Cert.MmPostIdeal.FfnOutput

open Cert.MmPostIdeal Cert.MmPostIdeal.Gen
open Idealize.ShloMosaic Idealize.ShloMosaic.TcCoe Idealize.SL.Sem

/-- Row `l` of the product. -/
def hidden (a : Vec Ideal S4096x2816 .bf16) (w : Vec Ideal S2816x1024 .bf16) (l : Fin 4096) : Fin 1024 → EReal := fun j =>
  (∑ k : Fin 2816, (a (ix2 l k) : EReal) * w (ix2 k j) : EReal)

/-- The product. -/
def product (a : Vec Ideal S4096x2816 .bf16) (w : Vec Ideal S2816x1024 .bf16) : Vec Ideal S4096x1024 .f32 := fun y => hidden a w (y 0) (y 1)

/-- The residual after the block. -/
def residual (a : Vec Ideal S4096x2816 .bf16) (w : Vec Ideal S2816x1024 .bf16) (x : Vec Ideal S4096x1024 .f32) (g gate : Vec Ideal S1x1024 .f32) :
    Vec Ideal S4096x1024 .f32 := fun y =>
  PostNorm.entry (Ideal.ofBits .f32 0x3F000000#32) (hidden a w (y 0)) (fun k => g (ix2 0 k)) (fun k => gate (ix2 0 k)) (x (ix2 (y 0) (y 1))) (y 1)

theorem block_product (a : Vec Ideal S512x2816 .bf16) (w : Vec Ideal S2816x1024 .bf16) (y : S512x1024.Idx) :
    k0_pay1 a w y = (∑ k : Fin 2816, (a (ix2 (y 0) k) : EReal) * w (ix2 k (y 1)) : EReal) := by
  pointwise [k0_pay1]

theorem block_entry (a : Vec Ideal S512x2816 .bf16) (w : Vec Ideal S2816x1024 .bf16) (g gate : Vec Ideal S1x1024 .f32) (x : Vec Ideal S512x1024 .f32) (y : S512x1024.Idx) :
    k0_pay2 a w g gate x y = PostNorm.entry (Ideal.ofBits .f32 0x3F000000#32) (fun k => k0_pay1 a w (ix2 (y 0) k)) (fun k => g (ix2 0 k)) (fun k => gate (ix2 0 k))
      (x (ix2 (y 0) (y 1))) (y 1) := by
  unfold PostNorm.entry NormBackward.rate NormBackward.power k0_pay2
  generalize k0_pay1 a w = d
  pointwise []

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)

theorem points (t : Fin cfg0.N) : t.val < 8 := lt_of_lt_of_eq t.isLt N_0

/-- Row `l` of the block at point `t` is row `512 t + l` of the array. -/
def at_ (t : Fin cfg0.N) (l : Fin 512) : Fin 4096 := ⟨t.val * 512 + l.val, by have := points t; omega⟩

variable (m : (ℓ : Loc nD τ sig) → Buf (Elt Ideal) ℓ) (ρ : Dev nD → PrngReg) (c : Dev nD)

theorem block_hidden (t : Fin cfg0.N) (l : Fin 512) (j : Fin 1024) :
    k0_pay1 (iblk m c 0 t) (iblk m c 1 t) (ix2 l j) = hidden (V m c main_arg0) (V m c main_arg1) (at_ t l) j := by
  refine (block_product _ _ _).trans ?_
  unfold hidden
  refine Fin.sum_fin_congr fun k => congrArg₂ (fun u v : EReal => u * v) ?_ ?_
  · blk_simp [iblk]
    refine congrArg (V m c main_arg0) ?_
    blk_ext [index0 t, at_]
  · blk_simp [iblk]
    refine congrArg (V m c main_arg1) ?_
    blk_ext [index1 t]

theorem block_x (t : Fin cfg0.N) (l : Fin 512) (k : Fin 1024) : iblk m c 2 t (ix2 l k) = V m c main_arg2 (ix2 (at_ t l) k) := by
  blk_simp [iblk]
  refine congrArg (V m c main_arg2) ?_
  blk_ext [index2 t, at_]

theorem block_g (t : Fin cfg0.N) : (fun k => iblk m c 3 t (ix2 0 k)) = fun k => V m c main_arg3 (ix2 0 k) := by
  funext k
  blk_simp [iblk]
  refine congrArg (V m c main_arg3) ?_
  blk_ext [index3 t]

theorem block_gate (t : Fin cfg0.N) : (fun k => iblk m c 4 t (ix2 0 k)) = fun k => V m c main_arg4 (ix2 0 k) := by
  funext k
  blk_simp [iblk]
  refine congrArg (V m c main_arg4) ?_
  blk_ext [index4 t]

theorem block_residual_at (t : Fin cfg0.N) (l : Fin 512) (j : Fin 1024) :
    PostNorm.entry (Ideal.ofBits .f32 0x3F000000#32) (fun k => k0_pay1 (iblk m c 0 t) (iblk m c 1 t) (ix2 l k)) (fun k => iblk m c 3 t (ix2 0 k))
      (fun k => iblk m c 4 t (ix2 0 k)) (iblk m c 2 t (ix2 l j)) j
      = residual (V m c main_arg0) (V m c main_arg1) (V m c main_arg2) (V m c main_arg3) (V m c main_arg4) (ix2 (at_ t l) j) := by
  rw [show (fun k => k0_pay1 (iblk m c 0 t) (iblk m c 1 t) (ix2 l k)) = hidden (V m c main_arg0) (V m c main_arg1) (at_ t l) from
    funext (block_hidden m c t l), block_g, block_gate, block_x]
  rfl

/-- The first result of the kernel. -/
theorem result_product : (dats m 0 c).arrAt 5 cfg0.N = product (V m c main_arg0) (V m c main_arg1) := by
  refine (dats m 0 c).arrAt_eq_of_covers 5 _ (by decide +kernel) fun t hf y => ?_
  have hstored : (dats m 0 c).after 5 t y = product (V m c main_arg0) (V m c main_arg1) (ix2 (at_ t (y 0)) (y 1)) := by
    rw [after0_5 m c t]
    frame_out
    exact (block_product _ _ y).trans ((block_product _ _ (ix2 (y 0) (y 1))).symm.trans (block_hidden m c t (y 0) (y 1)))
  rw [hstored]
  blk_simp
  refine congrArg (product _ _) ?_
  blk_ext [index5 t, at_]

/-- The second result of the kernel. -/
theorem result_residual : (dats m 0 c).arrAt 6 cfg0.N
    = residual (V m c main_arg0) (V m c main_arg1) (V m c main_arg2) (V m c main_arg3) (V m c main_arg4) := by
  refine (dats m 0 c).arrAt_eq_of_covers 6 _ (by decide +kernel) fun t hf y => ?_
  have hstored : (dats m 0 c).after 6 t y
      = residual (V m c main_arg0) (V m c main_arg1) (V m c main_arg2) (V m c main_arg3) (V m c main_arg4) (ix2 (at_ t (y 0)) (y 1)) := by
    rw [after0_6 m c t]
    frame_out
    exact (block_entry _ _ _ _ _ y).trans (block_residual_at m c t (y 0) (y 1))
  rw [hstored]
  blk_simp
  refine congrArg (residual _ _ _ _ _) ?_
  blk_ext [index6 t, at_]

/-- A whole run of the kernel. -/
theorem run : θ_run defs (onTc (τ := τ) main) ⟨m, fun _ => 0, ρ⟩ fun r => ∀ c : Dev nD,
    r.2.mem ((c.tc : Thread nD τ).loc main_v0_0) = product (m ((c.tc : Thread nD τ).loc main_arg0)) (m ((c.tc : Thread nD τ).loc main_arg1))
    ∧ r.2.mem ((c.tc : Thread nD τ).loc main_v0_1) = residual (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans ((result_product m c).trans (by rw [V_main_arg0, V_main_arg1])),
    (h c).2.1.trans ((result_residual m c).trans (by rw [V_main_arg0, V_main_arg1, V_main_arg2, V_main_arg3, V_main_arg4])), (h c).2.2⟩)
    (Value.run_blocks m ρ)

end Cert.MmPostIdeal.FfnOutput

namespace Cert.MmPostRefIdeal.FfnOutput

open Cert.MmPostRefIdeal Cert.MmPostRefIdeal.Gen
open Idealize.ShloMosaic Idealize.ShloMosaic.TcCoe Idealize.ShloMosaic.StableHlo Idealize.SL.Sem
open Cert.MmPostIdeal.FfnOutput (product residual)

/-- The reference's product. -/
def dot (a : FVec Ideal S4096x2816 .bf16) (w : FVec Ideal S2816x1024 .bf16) : FVec Ideal S4096x1024 .f32 :=
  Host.dotGeneral dot_S4096x2816_S2816x1024_S4096x1024_1_0_0_1_n_n none (extf .f32 a bitsLt_bf16_f32) (extf .f32 w bitsLt_bf16_f32)

/-- The reference's residual, from the product. -/
def after (f x : FVec Ideal S4096x1024 .f32) (g gate : FVec Ideal S1x1024 .f32) : FVec Ideal S4096x1024 .f32 :=
  addf x (mulf (broadcastInDim S4096x1024 ![0, 1] bcast_S1x1024_S4096x1024_0_1 (mulf (broadcastInDim S1x1024 ![] bcast_S_S1x1024 (constant S_ .f32 0x3F000000#32)) gate))
    (mulf (mulf f (broadcastInDim S4096x1024 ![0, 1] bcast_S4096x1_S4096x1024_0_1 (Host.rsqrt
        (addf (Host.divf (broadcastInDim S4096x1 ![0] bcast_S4096_S4096x1_0 (Host.reduceAdd (mulf f f) (constant S_ .f32 0x00000000#32) reducesTo_S4096x1024_S4096_d1 h_S_))
            (broadcastInDim S4096x1 ![] bcast_S_S4096x1 (constant S_ .f32 0x44800000#32)))
          (broadcastInDim S4096x1 ![] bcast_S_S4096x1 (constant S_ .f32 0x358637BD#32))))))
      (broadcastInDim S4096x1024 ![0, 1] bcast_S1x1024_S4096x1024_0_1 g)))

theorem dot_eq (a : FVec Ideal S4096x2816 .bf16) (w : FVec Ideal S2816x1024 .bf16) : dot a w = product a w := by
  funext y
  pointwise [dot, product, Cert.MmPostIdeal.FfnOutput.hidden]

theorem after_eq (f x : FVec Ideal S4096x1024 .f32) (g gate : FVec Ideal S1x1024 .f32) (y : S4096x1024.Idx) :
    after f x g gate y = PostNorm.entry (Ideal.ofBits .f32 0x3F000000#32) (fun k => f (ix2 (y 0) k)) (fun k => g (ix2 0 k)) (fun k => gate (ix2 0 k))
      (x (ix2 (y 0) (y 1))) (y 1) := by
  unfold PostNorm.entry NormBackward.rate NormBackward.power
  pointwise [after]

theorem residual_eq (a : FVec Ideal S4096x2816 .bf16) (w : FVec Ideal S2816x1024 .bf16) (x : FVec Ideal S4096x1024 .f32) (g gate : FVec Ideal S1x1024 .f32) :
    after (dot a w) x g gate = residual a w x g gate := by
  rw [dot_eq]
  exact funext fun y => after_eq _ _ _ _ y

variable (m : (ℓ : Loc nD τ sig) → Buf (Elt Ideal) ℓ) (ρ : Dev nD → PrngReg) (c : Dev nD)

/-- A whole run of the reference. -/
theorem run : θ_run defs (onTc (τ := τ) main) ⟨m, fun _ => 0, ρ⟩ fun r => ∀ c : Dev nD,
    r.2.mem ((c.tc : Thread nD τ).loc main_v2) = product (m ((c.tc : Thread nD τ).loc main_arg0)) (m ((c.tc : Thread nD τ).loc main_arg1))
    ∧ r.2.mem ((c.tc : Thread nD τ).loc main_v19) = residual (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (dot_eq (m ((c.tc : Thread nD τ).loc main_arg0)) (m ((c.tc : Thread nD τ).loc main_arg1))),
    (h c).2.1.trans (residual_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))), (h c).2.2⟩)
    (Value.run m ρ)

end Cert.MmPostRefIdeal.FfnOutput

end
-- ==== Proof.MixOutput.lean ====
/-
The output side of the mixing block: the attention's and the recurrence's outputs weighted by the sigmoids of two column
blocks of the input projection and added, their output projection, and the residual with the norm of that product.
-/
module

public import proofs.«01_k».proof.Proof.Gen.MergePostIdeal.Value
public import proofs.«01_k».proof.Proof.Gen.MergePostRefIdeal.Run
public import proofs.«01_k».proof.Proof.PostNorm
public import Idealize.ShloMosaic.Lib.Pipeline.ValueKit
public import Idealize.ShloMosaic.Lib.Pointwise

@[expose] public section

set_option maxRecDepth 16384

noncomputable section

namespace Cert.MergePostIdeal.MixOutput

open Cert.MergePostIdeal Cert.MergePostIdeal.Gen
open Idealize.ShloMosaic Idealize.ShloMosaic.TcCoe Idealize.SL.Sem

/-- The weighted sum of the attention `a` and the recurrence `r`, at the gates `u` and `v`. -/
def mix (a r u v : EReal) : EReal := Ideal.logistic u * a + Ideal.logistic v * r

/-- The attention's gate: columns 2048 to 3071 of the input projection. -/
def gateA (p : Vec Ideal S4096x5632 .f32) (l : Fin 4096) (j : Fin 1024) : EReal := p (ix2 l ⟨2048 + j.val, by omega⟩)

/-- The recurrence's gate: columns 3072 to 4095 of the input projection. -/
def gateR (p : Vec Ideal S4096x5632 .f32) (l : Fin 4096) (j : Fin 1024) : EReal := p (ix2 l ⟨3072 + j.val, by omega⟩)

/-- The merged branches at an entry. -/
def mixed (a r : Vec Ideal S4096x1024 .f32) (p : Vec Ideal S4096x5632 .f32) (l : Fin 4096) (j : Fin 1024) : EReal :=
  mix (a (ix2 l j)) (r (ix2 l j)) (gateA p l j) (gateR p l j)

/-- The merged branches. -/
def merged (a r : Vec Ideal S4096x1024 .f32) (p : Vec Ideal S4096x5632 .f32) : Vec Ideal S4096x1024 .bf16 := fun y => mixed a r p (y 0) (y 1)

/-- Row `l` of the output projection. -/
def hidden (a r : Vec Ideal S4096x1024 .f32) (p : Vec Ideal S4096x5632 .f32) (w : Vec Ideal S1024x1024 .bf16) (l : Fin 4096) : Fin 1024 → EReal := fun j =>
  (∑ k : Fin 1024, mixed a r p l k * (w (ix2 k j) : EReal) : EReal)

/-- The output projection. -/
def product (a r : Vec Ideal S4096x1024 .f32) (p : Vec Ideal S4096x5632 .f32) (w : Vec Ideal S1024x1024 .bf16) : Vec Ideal S4096x1024 .f32 := fun y =>
  hidden a r p w (y 0) (y 1)

/-- The residual after the block. -/
def residual (a r : Vec Ideal S4096x1024 .f32) (p : Vec Ideal S4096x5632 .f32) (w : Vec Ideal S1024x1024 .bf16) (x : Vec Ideal S4096x1024 .f32)
    (g gate : Vec Ideal S1x1024 .f32) : Vec Ideal S4096x1024 .f32 := fun y =>
  PostNorm.entry 1 (hidden a r p w (y 0)) (fun k => g (ix2 0 k)) (fun k => gate (ix2 0 k)) (x (ix2 (y 0) (y 1))) (y 1)

theorem block_mix (a r u v : Vec Ideal S256x1024 .f32) (y : S256x1024.Idx) : k0_pay2 a r u v y = mix (a y) (r y) (u y) (v y) := by
  unfold mix
  pointwise [k0_pay2]

theorem block_product (a r u v : Vec Ideal S256x1024 .f32) (w : Vec Ideal S1024x1024 .bf16) (y : S256x1024.Idx) :
    k0_pay3 a r u v w y = (∑ k : Fin 1024, (k0_pay2 a r u v (ix2 (y 0) k) : EReal) * w (ix2 k (y 1)) : EReal) := by
  unfold k0_pay3
  generalize k0_pay2 a r u v = q
  pointwise []

theorem block_entry (a r u v : Vec Ideal S256x1024 .f32) (w : Vec Ideal S1024x1024 .bf16) (g gate : Vec Ideal S1x1024 .f32) (x : Vec Ideal S256x1024 .f32)
    (y : S256x1024.Idx) :
    k0_pay1 x (k0_pay4 a r u v w g) (k0_pay5 gate) y
      = PostNorm.entry 1 (fun k => k0_pay3 a r u v w (ix2 (y 0) k)) (fun k => g (ix2 0 k)) (fun k => gate (ix2 0 k)) (x (ix2 (y 0) (y 1))) (y 1) := by
  unfold PostNorm.entry NormBackward.rate NormBackward.power k0_pay4
  generalize k0_pay3 a r u v w = d
  pointwise [k0_pay1, k0_pay5]

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 2] := (by decide +kernel : ∀ t : Fin grid0.N, _)
theorem index3 : ∀ t : Fin cfg0.N, win0_3.index t = ![t.val, 3] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![t.val, 0] := (by decide +kernel : ∀ t : Fin grid0.N, _)

theorem points (t : Fin cfg0.N) : t.val < 16 := lt_of_lt_of_eq t.isLt N_0

/-- Row `l` of the block at point `t` is row `256 t + l` of the array. -/
def at_ (t : Fin cfg0.N) (l : Fin 256) : Fin 4096 := ⟨t.val * 256 + l.val, by have := points t; omega⟩

variable (m : (ℓ : Loc nD τ sig) → Buf (Elt Ideal) ℓ) (ρ : Dev nD → PrngReg) (c : Dev nD)

theorem block_a (t : Fin cfg0.N) (l : Fin 256) (k : Fin 1024) : iblk m c 0 t (ix2 l k) = V m c main_arg0 (ix2 (at_ t l) k) := by
  blk_simp [iblk]
  refine congrArg (V m c main_arg0) ?_
  blk_ext [index0 t, at_]

theorem block_r (t : Fin cfg0.N) (l : Fin 256) (k : Fin 1024) : iblk m c 1 t (ix2 l k) = V m c main_arg1 (ix2 (at_ t l) k) := by
  blk_simp [iblk]
  refine congrArg (V m c main_arg1) ?_
  blk_ext [index1 t, at_]

theorem block_x (t : Fin cfg0.N) (l : Fin 256) (k : Fin 1024) : iblk m c 5 t (ix2 l k) = V m c main_arg4 (ix2 (at_ t l) k) := by
  blk_simp [iblk]
  refine congrArg (V m c main_arg4) ?_
  blk_ext [index5 t, at_]

theorem block_u (t : Fin cfg0.N) (l : Fin 256) (k : Fin 1024) : X0_2 m c t (ix2 l k) = gateA (V m c main_arg2) (at_ t l) k := by
  unfold X0_2 Pipeline.Window.fill
  rw [dif_pos (moved0_2 t (ix2 l k))]
  unfold gateA
  blk_simp [iblk]
  refine congrArg (V m c main_arg2) ?_
  blk_ext [index2 t, at_]

theorem block_v (t : Fin cfg0.N) (l : Fin 256) (k : Fin 1024) : X0_3 m c t (ix2 l k) = gateR (V m c main_arg2) (at_ t l) k := by
  unfold X0_3 Pipeline.Window.fill
  rw [dif_pos (moved0_3 t (ix2 l k))]
  unfold gateR
  blk_simp [iblk]
  refine congrArg (V m c main_arg2) ?_
  blk_ext [index3 t, at_]

theorem block_g (t : Fin cfg0.N) : (fun k => iblk m c 6 t (ix2 0 k)) = fun k => V m c main_arg5 (ix2 0 k) := by
  funext k
  blk_simp [iblk]
  refine congrArg (V m c main_arg5) ?_
  blk_ext [index6 t]

theorem block_gate (t : Fin cfg0.N) : (fun k => iblk m c 7 t (ix2 0 k)) = fun k => V m c main_arg6 (ix2 0 k) := by
  funext k
  blk_simp [iblk]
  refine congrArg (V m c main_arg6) ?_
  blk_ext [index7 t]

theorem pair (y : S256x1024.Idx) : y = ix2 (y 0) (y 1) := by
  funext i
  fin_cases i <;> rfl

theorem block_mixed (t : Fin cfg0.N) (l : Fin 256) (j : Fin 1024) :
    k0_pay2 (iblk m c 0 t) (iblk m c 1 t) (X0_2 m c t) (X0_3 m c t) (ix2 l j) = mixed (V m c main_arg0) (V m c main_arg1) (V m c main_arg2) (at_ t l) j := by
  rw [block_mix, block_a, block_r, block_u, block_v]
  rfl

theorem block_hidden (t : Fin cfg0.N) (l : Fin 256) (j : Fin 1024) :
    k0_pay3 (iblk m c 0 t) (iblk m c 1 t) (X0_2 m c t) (X0_3 m c t) (iblk m c 4 t) (ix2 l j) = hidden (V m c main_arg0) (V m c main_arg1) (V m c main_arg2) (V m c main_arg3) (at_ t l) j := by
  refine (block_product _ _ _ _ _ _).trans ?_
  unfold hidden
  refine Fin.sum_fin_congr fun k => congrArg₂ (fun u v : EReal => u * v) ?_ ?_
  · exact block_mixed m c t l k
  · blk_simp [iblk]
    refine congrArg (V m c main_arg3) ?_
    blk_ext [index4 t]

theorem block_residual_at (t : Fin cfg0.N) (l : Fin 256) (j : Fin 1024) :
    k0_pay1 (iblk m c 5 t) (k0_pay4 (iblk m c 0 t) (iblk m c 1 t) (X0_2 m c t) (X0_3 m c t) (iblk m c 4 t) (iblk m c 6 t)) (k0_pay5 (iblk m c 7 t)) (ix2 l j)
      = residual (V m c main_arg0) (V m c main_arg1) (V m c main_arg2) (V m c main_arg3) (V m c main_arg4) (V m c main_arg5) (V m c main_arg6) (ix2 (at_ t l) j) := by
  refine (block_entry _ _ _ _ _ _ _ _ _).trans ?_
  show PostNorm.entry 1 (fun k => k0_pay3 (iblk m c 0 t) (iblk m c 1 t) (X0_2 m c t) (X0_3 m c t) (iblk m c 4 t) (ix2 l k)) (fun k => iblk m c 6 t (ix2 0 k)) (fun k => iblk m c 7 t (ix2 0 k)) (iblk m c 5 t (ix2 l j)) j = _
  rw [show (fun k => k0_pay3 (iblk m c 0 t) (iblk m c 1 t) (X0_2 m c t) (X0_3 m c t) (iblk m c 4 t) (ix2 l k)) = hidden (V m c main_arg0) (V m c main_arg1) (V m c main_arg2) (V m c main_arg3) (at_ t l) from
    funext (block_hidden m c t l), block_g, block_gate, block_x]
  rfl

/-- The first result of the kernel. -/
theorem result_merged : (dats m 0 c).arrAt 8 cfg0.N = merged (V m c main_arg0) (V m c main_arg1) (V m c main_arg2) := by
  refine (dats m 0 c).arrAt_eq_of_covers 8 _ (by decide +kernel) fun t hf y => ?_
  have hstored : (dats m 0 c).after 8 t y = merged (V m c main_arg0) (V m c main_arg1) (V m c main_arg2) (ix2 (at_ t (y 0)) (y 1)) := by
    rw [after0_8 m c t]
    unfold outsAt0
    dsimp only
    frame_out
    exact (congrArg _ (pair y)).trans (block_mixed m c t (y 0) (y 1))
  rw [hstored]
  blk_simp
  refine congrArg (merged _ _ _) ?_
  blk_ext [index8 t, at_]

/-- The second result of the kernel. -/
theorem result_product : (dats m 0 c).arrAt 9 cfg0.N = product (V m c main_arg0) (V m c main_arg1) (V m c main_arg2) (V m c main_arg3) := by
  refine (dats m 0 c).arrAt_eq_of_covers 9 _ (by decide +kernel) fun t hf y => ?_
  have hstored : (dats m 0 c).after 9 t y = product (V m c main_arg0) (V m c main_arg1) (V m c main_arg2) (V m c main_arg3) (ix2 (at_ t (y 0)) (y 1)) := by
    rw [after0_9 m c t]
    unfold outsAt0
    dsimp only
    frame_out
    exact (congrArg _ (pair y)).trans (block_hidden m c t (y 0) (y 1))
  rw [hstored]
  blk_simp
  refine congrArg (product _ _ _ _) ?_
  blk_ext [index9 t, at_]

/-- The third result of the kernel. -/
theorem result_residual : (dats m 0 c).arrAt 10 cfg0.N = residual (V m c main_arg0) (V m c main_arg1) (V m c main_arg2) (V m c main_arg3) (V m c main_arg4) (V m c main_arg5) (V m c main_arg6) := by
  refine (dats m 0 c).arrAt_eq_of_covers 10 _ (by decide +kernel) fun t hf y => ?_
  have hstored : (dats m 0 c).after 10 t y = residual (V m c main_arg0) (V m c main_arg1) (V m c main_arg2) (V m c main_arg3) (V m c main_arg4) (V m c main_arg5) (V m c main_arg6) (ix2 (at_ t (y 0)) (y 1)) := by
    rw [after0_10 m c t]
    unfold outsAt0
    dsimp only
    frame_out
    exact (congrArg _ (pair y)).trans (block_residual_at m c t (y 0) (y 1))
  rw [hstored]
  blk_simp
  refine congrArg (residual _ _ _ _ _ _ _) ?_
  blk_ext [index10 t, at_]

/-- A whole run of the kernel. -/
theorem run : θ_run defs (onTc (τ := τ) main) ⟨m, fun _ => 0, ρ⟩ fun r => ∀ c : Dev nD,
    r.2.mem ((c.tc : Thread nD τ).loc main_v0_0) = merged (m ((c.tc : Thread nD τ).loc main_arg0)) (m ((c.tc : Thread nD τ).loc main_arg1)) (m ((c.tc : Thread nD τ).loc main_arg2))
    ∧ r.2.mem ((c.tc : Thread nD τ).loc main_v0_1) = product (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_2) = residual (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans ((result_merged m c).trans (by rw [V_main_arg0, V_main_arg1, V_main_arg2])),
    (h c).2.1.trans ((result_product m c).trans (by rw [V_main_arg0, V_main_arg1, V_main_arg2, V_main_arg3])),
    (h c).2.2.1.trans ((result_residual m c).trans (by rw [V_main_arg0, V_main_arg1, V_main_arg2, V_main_arg3, V_main_arg4, V_main_arg5, V_main_arg6])),
    (h c).2.2.2⟩)
    (Value.run_blocks m ρ)

end Cert.MergePostIdeal.MixOutput

namespace Cert.MergePostRefIdeal.MixOutput

open Cert.MergePostRefIdeal Cert.MergePostRefIdeal.Gen
open Idealize.ShloMosaic Idealize.ShloMosaic.TcCoe Idealize.ShloMosaic.StableHlo Idealize.SL.Sem
open Cert.MergePostIdeal.MixOutput (merged product residual)

/-- The reference's sigmoid. -/
def sigm (z : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf z)))

/-- The reference's merged branches. -/
def sums (a r u v : FVec Ideal S4096x1024 .f32) : FVec Ideal S4096x1024 .bf16 := truncf .bf16 (addf (mulf (sigm u) a) (mulf (sigm v) r)) bitsLt_bf16_f32

/-- The reference's column blocks. -/
def colsA (p : FVec Ideal S4096x5632 .f32) : FVec Ideal S4096x1024 .f32 := extractStridedSlice S4096x1024 ![0, 2048] p slices_S4096x5632_S4096x1024_0_2048

@[inherit_doc colsA]
def colsR (p : FVec Ideal S4096x5632 .f32) : FVec Ideal S4096x1024 .f32 := extractStridedSlice S4096x1024 ![0, 3072] p slices_S4096x5632_S4096x1024_0_3072

/-- The reference's output projection. -/
def dot (q : FVec Ideal S4096x1024 .bf16) (w : FVec Ideal S1024x1024 .bf16) : FVec Ideal S4096x1024 .f32 :=
  Host.dotGeneral dot_S4096x1024_S1024x1024_S4096x1024_1_0_0_1_n_n none (extf .f32 q bitsLt_bf16_f32) (extf .f32 w bitsLt_bf16_f32)

/-- The reference's residual, from the product. -/
def after (f x : FVec Ideal S4096x1024 .f32) (g gate : FVec Ideal S1x1024 .f32) : FVec Ideal S4096x1024 .f32 :=
  addf x (mulf (broadcastInDim S4096x1024 ![0, 1] bcast_S1x1024_S4096x1024_0_1 (mulf (broadcastInDim S1x1024 ![] bcast_S_S1x1024 (constant S_ .f32 0x3F800000#32)) gate))
    (mulf (mulf f (broadcastInDim S4096x1024 ![0, 1] bcast_S4096x1_S4096x1024_0_1 (Host.rsqrt
        (addf (Host.divf (broadcastInDim S4096x1 ![0] bcast_S4096_S4096x1_0 (Host.reduceAdd (mulf f f) (constant S_ .f32 0x00000000#32) reducesTo_S4096x1024_S4096_d1 h_S_))
            (broadcastInDim S4096x1 ![] bcast_S_S4096x1 (constant S_ .f32 0x44800000#32)))
          (broadcastInDim S4096x1 ![] bcast_S_S4096x1 (constant S_ .f32 0x358637BD#32))))))
      (broadcastInDim S4096x1024 ![0, 1] bcast_S1x1024_S4096x1024_0_1 g)))

theorem sums_at (a r u v : FVec Ideal S4096x1024 .f32) (y : S4096x1024.Idx) :
    sums a r u v y = Cert.MergePostIdeal.MixOutput.mix (a y) (r y) (u y) (v y) := by
  unfold Cert.MergePostIdeal.MixOutput.mix Ideal.logistic
  pointwise [sums, sigm]

theorem colsA_at (p : FVec Ideal S4096x5632 .f32) (y : S4096x1024.Idx) : colsA p y = Cert.MergePostIdeal.MixOutput.gateA p (y 0) (y 1) := by
  unfold Cert.MergePostIdeal.MixOutput.gateA
  pointwise [colsA]

theorem colsR_at (p : FVec Ideal S4096x5632 .f32) (y : S4096x1024.Idx) : colsR p y = Cert.MergePostIdeal.MixOutput.gateR p (y 0) (y 1) := by
  unfold Cert.MergePostIdeal.MixOutput.gateR
  pointwise [colsR]

theorem pair (y : S4096x1024.Idx) : y = ix2 (y 0) (y 1) := by
  funext i
  fin_cases i <;> rfl

theorem merged_eq (a r : FVec Ideal S4096x1024 .f32) (p : FVec Ideal S4096x5632 .f32) : sums a r (colsA p) (colsR p) = merged a r p := by
  funext y
  rw [sums_at, colsA_at, colsR_at, congrArg a (pair y), congrArg r (pair y)]
  rfl

theorem dot_at (q : FVec Ideal S4096x1024 .bf16) (w : FVec Ideal S1024x1024 .bf16) (y : S4096x1024.Idx) :
    dot q w y = (∑ k : Fin 1024, (q (ix2 (y 0) k) : EReal) * w (ix2 k (y 1)) : EReal) := by
  pointwise [dot]

theorem product_eq (a r : FVec Ideal S4096x1024 .f32) (p : FVec Ideal S4096x5632 .f32) (w : FVec Ideal S1024x1024 .bf16) :
    dot (sums a r (colsA p) (colsR p)) w = product a r p w := by
  funext y
  rw [merged_eq]
  exact dot_at _ _ y

theorem after_at (f x : FVec Ideal S4096x1024 .f32) (g gate : FVec Ideal S1x1024 .f32) (y : S4096x1024.Idx) :
    after f x g gate y = PostNorm.entry 1 (fun k => f (ix2 (y 0) k)) (fun k => g (ix2 0 k)) (fun k => gate (ix2 0 k)) (x (ix2 (y 0) (y 1))) (y 1) := by
  unfold PostNorm.entry NormBackward.rate NormBackward.power
  pointwise [after]

theorem residual_eq (a r : FVec Ideal S4096x1024 .f32) (p : FVec Ideal S4096x5632 .f32) (w : FVec Ideal S1024x1024 .bf16) (x : FVec Ideal S4096x1024 .f32)
    (g gate : FVec Ideal S1x1024 .f32) : after (dot (sums a r (colsA p) (colsR p)) w) x g gate = residual a r p w x g gate := by
  rw [product_eq]
  exact funext fun y => after_at _ _ _ _ y

variable (m : (ℓ : Loc nD τ sig) → Buf (Elt Ideal) ℓ) (ρ : Dev nD → PrngReg) (c : Dev nD)

/-- A whole run of the reference. -/
theorem run : θ_run defs (onTc (τ := τ) main) ⟨m, fun _ => 0, ρ⟩ fun r => ∀ c : Dev nD,
    r.2.mem ((c.tc : Thread nD τ).loc main_v17) = merged (m ((c.tc : Thread nD τ).loc main_arg0)) (m ((c.tc : Thread nD τ).loc main_arg1)) (m ((c.tc : Thread nD τ).loc main_arg2))
    ∧ r.2.mem ((c.tc : Thread nD τ).loc main_v20) = product (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v37) = residual (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans (merged_eq (m ((c.tc : Thread nD τ).loc main_arg0)) (m ((c.tc : Thread nD τ).loc main_arg1)) (m ((c.tc : Thread nD τ).loc main_arg2))),
    (h c).2.1.trans (product_eq (m ((c.tc : Thread nD τ).loc main_arg0)) (m ((c.tc : Thread nD τ).loc main_arg1)) (m ((c.tc : Thread nD τ).loc main_arg2)) (m ((c.tc : Thread nD τ).loc main_arg3))),
    (h c).2.2.1.trans (residual_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))),
    (h c).2.2.2⟩)
    (Value.run m ρ)

end Cert.MergePostRefIdeal.MixOutput

end
-- ==== Proof.OutWeight.lean ====
/-
The gradient of the mixing block's output projection: a product of the merged branches, transposed, with the gradient at its output.
-/
module

public import proofs.«01_k».proof.Proof.Gen.DwOutIdeal.Value
public import proofs.«01_k».proof.Proof.Gen.DwOutRefIdeal.Run
public import Idealize.ShloMosaic.Lib.Pipeline.ValueKit
public import Idealize.ShloMosaic.Lib.Pointwise

@[expose] public section

set_option maxRecDepth 16384

noncomputable section

namespace Cert.DwOutIdeal.OutWeight

open Cert.DwOutIdeal Cert.DwOutIdeal.Gen
open Idealize.ShloMosaic Idealize.ShloMosaic.TcCoe Idealize.SL.Sem

/-- Entry (r, j) of the gradient: the sum over the 4096 positions. -/
def grad (a : Vec Ideal S4096x1024 .bf16) (df : Vec Ideal S4096x1024 .bf16) : Vec Ideal S1024x1024 .bf16 := fun y =>
  (∑ k : Fin 4096, (a (ix2 k (y 0)) : EReal) * df (ix2 k (y 1)) : EReal)

/-- One block of the kernel's product. -/
theorem block_product (a : Vec Ideal S4096x1024 .bf16) (b : Vec Ideal S4096x1024 .bf16) (y : S1024x1024.Idx) :
    k0_pay1 a b y = (∑ k : Fin 4096, (a (ix2 k (y 0)) : EReal) * b (ix2 k (y 1)) : EReal) := by
  pointwise [k0_pay1]

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

variable (m : (ℓ : Loc nD τ sig) → Buf (Elt Ideal) ℓ) (ρ : Dev nD → PrngReg) (c : Dev nD)

/-- The result array of the kernel. -/
theorem result : (dats m 0 c).arrAt 2 cfg0.N = grad (V m c main_arg0) (V m c main_arg1) := by
  refine (dats m 0 c).arrAt_eq_of_covers 2 _ (by decide +kernel) fun t hf y => ?_
  blk_simp
  rw [after0_2 m c t]
  frame_out
  rw [block_product]
  unfold grad
  refine Fin.sum_fin_congr fun k => congrArg₂ (fun u v : EReal => u * v) ?_ ?_
  · blk_simp [iblk]
    refine congrArg (V m c main_arg0) ?_
    blk_ext [index0 t, index2 t]
  · blk_simp [iblk]
    refine congrArg (V m c main_arg1) ?_
    blk_ext [index1 t, index2 t]

/-- A whole run of the kernel. -/
theorem run : θ_run defs (onTc (τ := τ) main) ⟨m, fun _ => 0, ρ⟩ fun r => ∀ c : Dev nD,
    r.2.mem ((c.tc : Thread nD τ).loc main_v0) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((result m c).trans (by rw [V_main_arg0, V_main_arg1])), (h c).2⟩)
    (Value.run_blocks m ρ)

end Cert.DwOutIdeal.OutWeight

namespace Cert.DwOutRefIdeal.OutWeight

open Cert.DwOutRefIdeal Cert.DwOutRefIdeal.Gen
open Idealize.ShloMosaic Idealize.ShloMosaic.TcCoe Idealize.ShloMosaic.StableHlo Idealize.SL.Sem
open Cert.DwOutIdeal.OutWeight (grad)

variable (m : (ℓ : Loc nD τ sig) → Buf (Elt Ideal) ℓ) (ρ : Dev nD → PrngReg) (c : Dev nD)

/-- The reference's product, transposed, has the same entries. -/
theorem product (a : Vec Ideal S4096x1024 .bf16) (df : Vec Ideal S4096x1024 .bf16) :
    truncf .bf16 (transpose S1024x1024 [1, 0] (Host.dotGeneral (F := Ideal) dot_S4096x1024_S4096x1024_S1024x1024_0_0_1_1_n_n none (extf .f32 df bitsLt_bf16_f32)
      (extf .f32 a bitsLt_bf16_f32)) transposes_S1024x1024_S1024x1024_1_0) bitsLt_bf16_f32 = grad a df := by
  funext y
  pointwise [grad]
  exact Finset.sum_congr rfl fun k _ => mul_comm (G := EReal) _ _

/-- A whole run of the reference. -/
theorem run : θ_run defs (onTc (τ := τ) main) ⟨m, fun _ => 0, ρ⟩ fun r => ∀ c : Dev nD,
    r.2.mem ((c.tc : Thread nD τ).loc main_v4) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (product _ _), (h c).2⟩) (Value.run m ρ)

end Cert.DwOutRefIdeal.OutWeight

end
-- ==== Proof.RecurrenceWeight.lean ====
/-
The gradient of the recurrence's output projection: a product of the gated states, transposed, with the gradient at its output.
-/
module

public import proofs.«01_k».proof.Proof.Gen.DwRecOIdeal.Value
public import proofs.«01_k».proof.Proof.Gen.DwRecORefIdeal.Run
public import Idealize.ShloMosaic.Lib.Pipeline.ValueKit
public import Idealize.ShloMosaic.Lib.Pointwise

@[expose] public section

set_option maxRecDepth 16384

noncomputable section

namespace Cert.DwRecOIdeal.RecurrenceWeight

open Cert.DwRecOIdeal Cert.DwRecOIdeal.Gen
open Idealize.ShloMosaic Idealize.ShloMosaic.TcCoe Idealize.SL.Sem

/-- Entry (r, j) of the gradient: the sum over the 4096 positions. -/
def grad (a : Vec Ideal S4096x1024 .bf16) (df : Vec Ideal S4096x1024 .bf16) : Vec Ideal S1024x1024 .bf16 := fun y =>
  (∑ k : Fin 4096, (a (ix2 k (y 0)) : EReal) * df (ix2 k (y 1)) : EReal)

/-- One block of the kernel's product. -/
theorem block_product (a : Vec Ideal S4096x1024 .bf16) (b : Vec Ideal S4096x1024 .bf16) (y : S1024x1024.Idx) :
    k0_pay1 a b y = (∑ k : Fin 4096, (a (ix2 k (y 0)) : EReal) * b (ix2 k (y 1)) : EReal) := by
  pointwise [k0_pay1]

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

variable (m : (ℓ : Loc nD τ sig) → Buf (Elt Ideal) ℓ) (ρ : Dev nD → PrngReg) (c : Dev nD)

/-- The result array of the kernel. -/
theorem result : (dats m 0 c).arrAt 2 cfg0.N = grad (V m c main_arg0) (V m c main_arg1) := by
  refine (dats m 0 c).arrAt_eq_of_covers 2 _ (by decide +kernel) fun t hf y => ?_
  blk_simp
  rw [after0_2 m c t]
  frame_out
  rw [block_product]
  unfold grad
  refine Fin.sum_fin_congr fun k => congrArg₂ (fun u v : EReal => u * v) ?_ ?_
  · blk_simp [iblk]
    refine congrArg (V m c main_arg0) ?_
    blk_ext [index0 t, index2 t]
  · blk_simp [iblk]
    refine congrArg (V m c main_arg1) ?_
    blk_ext [index1 t, index2 t]

/-- A whole run of the kernel. -/
theorem run : θ_run defs (onTc (τ := τ) main) ⟨m, fun _ => 0, ρ⟩ fun r => ∀ c : Dev nD,
    r.2.mem ((c.tc : Thread nD τ).loc main_v0) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((result m c).trans (by rw [V_main_arg0, V_main_arg1])), (h c).2⟩)
    (Value.run_blocks m ρ)

end Cert.DwRecOIdeal.RecurrenceWeight

namespace Cert.DwRecORefIdeal.RecurrenceWeight

open Cert.DwRecORefIdeal Cert.DwRecORefIdeal.Gen
open Idealize.ShloMosaic Idealize.ShloMosaic.TcCoe Idealize.ShloMosaic.StableHlo Idealize.SL.Sem
open Cert.DwRecOIdeal.RecurrenceWeight (grad)

variable (m : (ℓ : Loc nD τ sig) → Buf (Elt Ideal) ℓ) (ρ : Dev nD → PrngReg) (c : Dev nD)

/-- The reference's product, transposed, has the same entries. -/
theorem product (a : Vec Ideal S4096x1024 .bf16) (df : Vec Ideal S4096x1024 .bf16) :
    truncf .bf16 (transpose S1024x1024 [1, 0] (Host.dotGeneral (F := Ideal) dot_S4096x1024_S4096x1024_S1024x1024_0_0_1_1_n_n none (extf .f32 df bitsLt_bf16_f32)
      (extf .f32 a bitsLt_bf16_f32)) transposes_S1024x1024_S1024x1024_1_0) bitsLt_bf16_f32 = grad a df := by
  funext y
  pointwise [grad]
  exact Finset.sum_congr rfl fun k _ => mul_comm (G := EReal) _ _

/-- A whole run of the reference. -/
theorem run : θ_run defs (onTc (τ := τ) main) ⟨m, fun _ => 0, ρ⟩ fun r => ∀ c : Dev nD,
    r.2.mem ((c.tc : Thread nD τ).loc main_v4) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (product _ _), (h c).2⟩) (Value.run m ρ)

end Cert.DwRecORefIdeal.RecurrenceWeight

end
-- ==== Proof.AttentionWeight.lean ====
/-
The gradient of the attention's output projection: a product of the heads' outputs, transposed, with the gradient at its output.
-/
module

public import proofs.«01_k».proof.Proof.Gen.DwAttOIdeal.Value
public import proofs.«01_k».proof.Proof.Gen.DwAttORefIdeal.Run
public import Idealize.ShloMosaic.Lib.Pipeline.ValueKit
public import Idealize.ShloMosaic.Lib.Pointwise

@[expose] public section

set_option maxRecDepth 16384

noncomputable section

namespace Cert.DwAttOIdeal.AttentionWeight

open Cert.DwAttOIdeal Cert.DwAttOIdeal.Gen
open Idealize.ShloMosaic Idealize.ShloMosaic.TcCoe Idealize.SL.Sem

/-- Entry (r, j) of the gradient: the sum over the 4096 positions. -/
def grad (a : Vec Ideal S4096x512 .bf16) (df : Vec Ideal S4096x1024 .bf16) : Vec Ideal S512x1024 .bf16 := fun y =>
  (∑ k : Fin 4096, (a (ix2 k (y 0)) : EReal) * df (ix2 k (y 1)) : EReal)

/-- One block of the kernel's product. -/
theorem block_product (a : Vec Ideal S4096x512 .bf16) (b : Vec Ideal S4096x1024 .bf16) (y : S512x1024.Idx) :
    k0_pay1 a b y = (∑ k : Fin 4096, (a (ix2 k (y 0)) : EReal) * b (ix2 k (y 1)) : EReal) := by
  pointwise [k0_pay1]

theorem index0 : ∀ t : Fin cfg0.N, win0_0.index t = ![0, t.val] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

variable (m : (ℓ : Loc nD τ sig) → Buf (Elt Ideal) ℓ) (ρ : Dev nD → PrngReg) (c : Dev nD)

/-- The result array of the kernel. -/
theorem result : (dats m 0 c).arrAt 2 cfg0.N = grad (V m c main_arg0) (V m c main_arg1) := by
  refine (dats m 0 c).arrAt_eq_of_covers 2 _ (by decide +kernel) fun t hf y => ?_
  blk_simp
  rw [after0_2 m c t]
  frame_out
  rw [block_product]
  unfold grad
  refine Fin.sum_fin_congr fun k => congrArg₂ (fun u v : EReal => u * v) ?_ ?_
  · blk_simp [iblk]
    refine congrArg (V m c main_arg0) ?_
    blk_ext [index0 t, index2 t]
  · blk_simp [iblk]
    refine congrArg (V m c main_arg1) ?_
    blk_ext [index1 t, index2 t]

/-- A whole run of the kernel. -/
theorem run : θ_run defs (onTc (τ := τ) main) ⟨m, fun _ => 0, ρ⟩ fun r => ∀ c : Dev nD,
    r.2.mem ((c.tc : Thread nD τ).loc main_v0) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((result m c).trans (by rw [V_main_arg0, V_main_arg1])), (h c).2⟩)
    (Value.run_blocks m ρ)

end Cert.DwAttOIdeal.AttentionWeight

namespace Cert.DwAttORefIdeal.AttentionWeight

open Cert.DwAttORefIdeal Cert.DwAttORefIdeal.Gen
open Idealize.ShloMosaic Idealize.ShloMosaic.TcCoe Idealize.ShloMosaic.StableHlo Idealize.SL.Sem
open Cert.DwAttOIdeal.AttentionWeight (grad)

variable (m : (ℓ : Loc nD τ sig) → Buf (Elt Ideal) ℓ) (ρ : Dev nD → PrngReg) (c : Dev nD)

/-- The reference's product, transposed, has the same entries. -/
theorem product (a : Vec Ideal S4096x512 .bf16) (df : Vec Ideal S4096x1024 .bf16) :
    truncf .bf16 (transpose S512x1024 [1, 0] (Host.dotGeneral (F := Ideal) dot_S4096x1024_S4096x512_S1024x512_0_0_1_1_n_n none (extf .f32 df bitsLt_bf16_f32)
      (extf .f32 a bitsLt_bf16_f32)) transposes_S1024x512_S512x1024_1_0) bitsLt_bf16_f32 = grad a df := by
  funext y
  pointwise [grad]
  exact Finset.sum_congr rfl fun k _ => mul_comm (G := EReal) _ _

/-- A whole run of the reference. -/
theorem run : θ_run defs (onTc (τ := τ) main) ⟨m, fun _ => 0, ρ⟩ fun r => ∀ c : Dev nD,
    r.2.mem ((c.tc : Thread nD τ).loc main_v4) = grad (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (product _ _), (h c).2⟩) (Value.run m ρ)

end Cert.DwAttORefIdeal.AttentionWeight

end
-- ==== Proof.WholeBlock.lean ====
/-
A buffer read or written whole, in one piece: the load finds the contents, the store leaves its payload.
-/
module

public import Idealize.ShloMosaic.Lib.Pipeline.Value
public import Idealize.ShloMosaic.Lib.WritesUnit
public import Idealize.ShloMosaic.Lib.WholeRead

@[expose] public section

namespace Cert.WholeBlock

open Idealize.ShloMosaic

variable {sig : RefSig} {S : Shape} {e : EltTy} {Val : EltTy → Type} [∀ e, Nonempty (Val e)]

theorem origin : (![0, 0] : Fin 2 → ℕ) = fun _ => 0 := by decide

variable {a b : ℕ}

/-- A load of everything from a whole memref holding `x` reads `x`. -/
theorem load_all {M : Memref sig .tc .vmem ⟨2, ![a, b]⟩ e} (hM : M.IsWhole)
    (inb : ∀ k, (![0, 0] : Fin 2 → ℕ) k + (![a, b] : Fin 2 → ℕ) k ≤ (![a, b] : Fin 2 → ℕ) k) (x : (⟨2, ![a, b]⟩ : Shape).Idx → Val e) :
    View.readAt Val M.view (Rect.unit (s := ⟨2, ![a, b]⟩) ![0, 0] ![a, b] inb).toLoadRect (hM.unread x) = x := by
  rw [View.readAt_eq_ld, hM.read_unread]
  exact View.ld_unit_zero (S := ⟨2, ![a, b]⟩) origin inb x

/-- A store of everything, read back, is its payload. -/
theorem store_all {M : Memref sig .tc .vmem ⟨2, ![a, b]⟩ e}
    (inb : ∀ k, (![0, 0] : Fin 2 → ℕ) k + (![a, b] : Fin 2 → ℕ) k ≤ (![a, b] : Fin 2 → ℕ) k)
    (f : BufTy.Contents Val M.view.ty) (w : (⟨2, ![a, b]⟩ : Shape).Idx → Val e) (L : List (View.Piece Val ⟨2, ![a, b]⟩ e)) :
    M.view.read Val (M.view.writes Val f (⟨Rect.unit (s := ⟨2, ![a, b]⟩) ![0, 0] ![a, b] inb, w⟩ :: L)) = w :=
  funext fun y => View.read_writes_cons_unit_of_mem (s := ⟨2, ![a, b]⟩) M.view f (size := ![a, b]) inb w L y y rfl
    (Fin.forall_fin_two.mpr ⟨by show (y 0).val = 0 + (y 0).val; omega, by show (y 1).val = 0 + (y 1).val; omega⟩)

/-- A load of everything after a store of everything reads the payload. -/
theorem reload_all (v : View sig .tc .vmem ⟨2, ![a, b]⟩ e)
    (inb : ∀ k, (![0, 0] : Fin 2 → ℕ) k + (![a, b] : Fin 2 → ℕ) k ≤ (![a, b] : Fin 2 → ℕ) k) (w : (⟨2, ![a, b]⟩ : Shape).Idx → Val e) :
    v.readCov [(⟨Rect.unit (s := ⟨2, ![a, b]⟩) ![0, 0] ![a, b] inb, w⟩ : View.Piece Val ⟨2, ![a, b]⟩ e)]
      (Rect.unit (s := ⟨2, ![a, b]⟩) ![0, 0] ![a, b] inb).toLoadRect = w :=
  View.readCov_unit_zero (S := ⟨2, ![a, b]⟩) v origin inb w

end Cert.WholeBlock
-- ==== Proof.FfnUpRun.lean ====
/-
One grid point of `ffn_up`: the body's triple in its two cases, with what every buffer is left holding NAMED.

The grid goes through the blocks of rows and, for each, through the column blocks of the weight. At the first column
block the rows are normalised, and kept in a scratch which the other column blocks read.
-/
module

public import proofs.«01_k».proof.Proof.Gen.PreUpIdeal.Frame
public import proofs.«01_k».proof.Proof.Gen.PreUpIdeal.Skeleton
public import proofs.«01_k».proof.Proof.WholeBlock

@[expose] public section

set_option maxRecDepth 16384

noncomputable section

namespace Cert.PreUpIdeal.FfnUpRun

open Cert.PreUpIdeal Cert.PreUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WholeBlock

variable {F : FTy → Type} [FloatOps F]

local notation "𝕄" => MT nD τ sig Unit (Elt F) ℕ (UR sig nD τ) ℕ

/-- The condition of the body's `scf.if`: the column block is the first. -/
abbrev first (i : grid0.Coords) : Prop := k0_cond1 i = 1#1

/-- It holds at the points that start a row of blocks. -/
theorem first_iff : ∀ t : Fin cfg0.N, first (grid0.coords t) ↔ t.val % 2 = 0 :=
  (fun t => by
    have e1 : (grid0.coords t 1).val = t.val / 1 % 2 := Pipeline.Grid.coords_val t 1 (by decide) rfl
    rw [Nat.div_one] at e1
    simp only [first, k0_cond1, e1]
    have h : t.val % 2 < 2 := Nat.mod_lt _ (by decide)
    word_cmp
   : ∀ t : Fin grid0.N, first (grid0.coords t) ↔ t.val % 2 = 0)

/-- What is kept is what is stored as the result. -/
theorem kept_eq (x1 x2 x3 : Vec F S1x1024 .f32) (x0 : Vec F S512x1024 .f32) : k0_pay2 x1 x2 x3 x0 = k0_pay1 x1 x2 x3 x0 := by
  unfold k0_pay2; rw [shapeCast_self]

set_option maxHeartbeats 1600000 in
/-- The body at the first point of a row of blocks: it normalises the rows and keeps them. -/
theorem run_first (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1408x1024 .bf16) (harg6 : arg6.IsWhole) (arg7 : Memref sig .tc .vmem S1408x1024 .bf16) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole)
    (hc : first i) (x0 : Vec F S512x1024 .f32) (x1 : Vec F S1x1024 .f32) (x2 : Vec F S1x1024 .f32) (x3 : Vec F S1x1024 .f32) (x4 : Vec F S1408x1024 .bf16) (x5 : Vec F S1408x1024 .bf16)
    (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (k0_pay1 x1 x2 x3 x0) ∗ owns (c : Thread nD τ) arg9 fullShare (k0_pay5 (k0_pay1 x1 x2 x3 x0) x4 x5) ∗ owns (c : Thread nD τ) arg10 fullShare (k0_pay6 (k0_pay1 x1 x2 x3 x0) x4) ∗ owns (c : Thread nD τ) arg11 fullShare (k0_pay7 (k0_pay1 x1 x2 x3 x0) x5) ∗ owns (c : Thread nD τ) arg12 fullShare ((k0_pay1 x1 x2 x3 x0))) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words; rw [store_all]; simp only [load_all, reload_all, kept_eq]
  isplitl [H7]
  · iexists _; isplitr
    swap; · iexact H7
    ipureintro
    sl_unfold_words; rw [store_all]; simp only [load_all, reload_all, kept_eq]
  isplitl [H8]
  · iexists _; isplitr
    swap; · iexact H8
    ipureintro
    sl_unfold_words; rw [store_all]; simp only [load_all, reload_all, kept_eq]
  isplitl [H9]
  · iexists _; isplitr
    swap; · iexact H9
    ipureintro
    sl_unfold_words; rw [store_all]; simp only [load_all, reload_all, kept_eq]
  iexists _; isplitr
  swap; · iexact HS
  ipureintro
  sl_unfold_words; rw [store_all]; simp only [load_all, reload_all, kept_eq]

set_option maxHeartbeats 1600000 in
/-- The body at any other point, the scratch holding the normalised rows `xs`. -/
theorem run_later (c : Dev nD) (i : grid0.Coords) (arg2 : Memref sig .tc .vmem S512x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1408x1024 .bf16) (harg6 : arg6.IsWhole) (arg7 : Memref sig .tc .vmem S1408x1024 .bf16) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .bf16) (harg12 : arg12.IsWhole)
    (hc : ¬first i) (x0 : Vec F S512x1024 .f32) (x1 : Vec F S1x1024 .f32) (x2 : Vec F S1x1024 .f32) (x3 : Vec F S1x1024 .f32) (x4 : Vec F S1408x1024 .bf16) (x5 : Vec F S1408x1024 .bf16) (xs : Vec F S512x1024 .bf16)
    (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare (xs)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg9 fullShare (k0_pay5 xs x4 x5) ∗ owns (c : Thread nD τ) arg10 fullShare (k0_pay6 xs x4) ∗ owns (c : Thread nD τ) arg11 fullShare (k0_pay7 xs x5) ∗ owns (c : Thread nD τ) arg12 fullShare (xs)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg12.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H7]
  · iexists _; isplitr
    swap; · iexact H7
    ipureintro
    sl_unfold_words; rw [store_all]; simp only [load_all]
  isplitl [H8]
  · iexists _; isplitr
    swap; · iexact H8
    ipureintro
    sl_unfold_words; rw [store_all]; simp only [load_all]
  isplitl [H9]
  · iexists _; isplitr
    swap; · iexact H9
    ipureintro
    sl_unfold_words; rw [store_all]; simp only [load_all]
  iexists _; isplitr
  swap; · iexact HS
  ipureintro
  exact harg12.read_unread _

end Cert.PreUpIdeal.FfnUpRun

end
-- ==== Proof.FfnUpCert.lean ====
/-
The whole run of `ffn_up`: from the body's triple at one grid point to what every result array is left holding, over
any values.
-/
module

public import proofs.«01_k».proof.Proof.FfnUpRun
public import Idealize.ShloMosaic.Lib.Pipeline.TableIdle
public import Idealize.ShloMosaic.Lib.Claim

@[expose] public section

set_option maxRecDepth 16384

noncomputable section

namespace Cert.PreUpIdeal.FfnUpRun

open Cert.PreUpIdeal Cert.PreUpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds -/

/-- The scratch of normalised rows. -/
abbrev scratch : Memref sig .tc .vmem S512x1024 .bf16 := Memref.whole cc0_scratch0

/-- The region's invariant with the scratch as a memref owned at some contents. -/
theorem rest_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The point that starts `t`'s row of blocks. -/
def start (t : Fin cfg0.N) : Fin cfg0.N := ⟨t.val - t.val % 2, Nat.lt_of_le_of_lt (Nat.sub_le _ _) t.isLt⟩

theorem start_first (t : Fin cfg0.N) (h : t.val % 2 = 0) : start t = t := Fin.ext (by show t.val - t.val % 2 = t.val; omega)

theorem start_later (t : Fin cfg0.N) (h : ¬t.val % 2 = 0) : start ⟨t.val - 1, Nat.lt_of_le_of_lt (Nat.sub_le _ _) t.isLt⟩ = start t :=
  Fin.ext (by show t.val - 1 - (t.val - 1) % 2 = t.val - t.val % 2; omega)

/-- The normalised rows of `t`'s row of blocks. -/
def rows (c : Dev nD) (t : Fin cfg0.N) : Vec F S512x1024 .bf16 := k0_pay1 (iblk m c 1 (start t)) (iblk m c 2 (start t)) (iblk m c 3 (start t)) (iblk m c 0 (start t))

theorem rows_first (c : Dev nD) (t : Fin cfg0.N) (h : t.val % 2 = 0) :
    rows m c t = k0_pay1 (iblk m c 1 t) (iblk m c 2 t) (iblk m c 3 t) (iblk m c 0 t) := by
  unfold rows; rw [start_first t h]

theorem rows_later (c : Dev nD) (t : Fin cfg0.N) (h : ¬t.val % 2 = 0) :
    rows m c ⟨t.val - 1, Nat.lt_of_le_of_lt (Nat.sub_le _ _) t.isLt⟩ = rows m c t := by
  unfold rows; rw [start_later t h]

/-- The region's invariant before point `n`: after any point the scratch holds that point's rows. -/
def held (c : Dev nD) : (n : ℕ) → n ≤ cfg0.N → sProp 𝕄
  | 0, _ => Pipeline.ΦA spec0 c
  | n + 1, hn => iprop(owns (c : Thread nD τ) scratch fullShare (rows m c ⟨n, hn⟩) ∗ (∃ r, prngReg c r))

theorem held_pos (c : Dev nD) (t : Fin cfg0.N) (hz : t.val ≠ 0) :
    held m c t.val (Nat.le_of_lt t.isLt) = iprop(owns (c : Thread nD τ) scratch fullShare
      (rows m c ⟨t.val - 1, Nat.lt_of_le_of_lt (Nat.sub_le _ _) t.isLt⟩) ∗ (∃ r, prngReg c r)) := by
  obtain ⟨n, hn⟩ := t
  cases n with
  | zero => exact absurd rfl hz
  | succ n => rfl

/-- Whatever the point, the scratch holds something. -/
theorem held_some (c : Dev nD) : ∀ (n : ℕ) (hn : n ≤ cfg0.N),
    held m c n hn ⊢ iprop(iprop((∃ d, owns (c : Thread nD τ) scratch fullShare d)) ∗ (∃ r, prngReg c r))
  | 0, _ => by rw [show held m c 0 (Nat.zero_le _) = Pipeline.ΦA spec0 c from rfl, rest_eq]
  | n + 1, hn => by
    rw [show held m c (n + 1) hn = iprop(owns (c : Thread nD τ) scratch fullShare (rows m c ⟨n, hn⟩) ∗ (∃ r, prngReg c r)) from rfl]
    iintro ⟨HS, Hg⟩
    isplitl [HS]
    · iexists _; iexact HS
    iexact Hg

/-- The proof data: the inputs' buffers keep their blocks; the results' hold the rows and what is made of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rows m c t
    | ⟨7, _⟩ => k0_pay5 (rows m c t) (iblk m c 4 t) (iblk m c 5 t)
    | ⟨8, _⟩ => k0_pay6 (rows m c t) (iblk m c 4 t)
    | ⟨9, _⟩ => k0_pay7 (rows m c t) (iblk m c 5 t)
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = rows m c t := by dsimp only [dats]
theorem after7 (c : Dev nD) (t : Fin cfg0.N) : (dats m 0 c).after 7 t = k0_pay5 (rows m c t) (iblk m c 4 t) (iblk m c 5 t) := by dsimp only [dats]
theorem after8 (c : Dev nD) (t : Fin cfg0.N) : (dats m 0 c).after 8 t = k0_pay6 (rows m c t) (iblk m c 4 t) := by dsimp only [dats]
theorem after9 (c : Dev nD) (t : Fin cfg0.N) : (dats m 0 c).after 9 t = k0_pay7 (rows m c t) (iblk m c 5 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The result of normalised rows, stored once per row of blocks -/

/-- Where the rows are stored the window counts as written, -/
theorem live : ∀ t : Fin cfg0.N, first (grid0.coords t) → cfg0.idle 6 (grid0.coords t) = false := by decide +kernel

/-- and elsewhere its buffer still holds what was stored: the block moves on only at the row's last point. -/
theorem kept : ∀ t : Fin cfg0.N, ¬first (grid0.coords t) → cfg0.fresh 6 t.val = false := by decide +kernel

/-- The rows do not change along a row of blocks. -/
theorem carried (c : Dev nD) (t : Fin cfg0.N) (_ : t.val ≠ 0) (hi : cfg0.idle 6 (grid0.coords t) = true)
    (_ : cfg0.fresh 6 t.val = false) : (dats m 0 c).after 6 t = (dats m 0 c).after 6 ⟨t.val - 1, by omega⟩ := by
  rw [after6, after6]
  by_cases h : t.val % 2 = 0
  · rw [live t ((first_iff t).mpr h)] at hi
    exact absurd hi Bool.false_ne_true
  · exact (rows_later m c t h).symm

/-- Past the first point of a row, the body finds the rows there. -/
theorem before6 (c : Dev nD) (t : Fin cfg0.N) (h : ¬t.val % 2 = 0) (d) : (dats m 0 c).before 6 t d = rows m c t := by
  rw [Dat.before_out_traj _ 6 rfl (fun _ _ => rfl) (carried m c) t.val t rfl d,
    if_neg (by rw [kept t (fun e => h ((first_iff t).mp e))]; exact Bool.false_ne_true), after6]
  exact rows_later m c t h

/-- A buffer that holds what it is to hold, and that the body finds so, is as the pipeline asks. -/
theorem leaves_of_owns (c : Dev nD) (t : Fin cfg0.N) (d) (h : (dats m 0 c).before 6 t d = rows m c t) :
    owns (c : Thread nD τ) (st0_6 t) fullShare (rows m c t) ⊢ (dats m 0 c).leavesExact 6 t := by
  unfold Dat.leavesExact
  split
  · split
    · iintro H0
      iexists d
      rw [h]; iexact H0
    · rw [after6]
  · rw [after6]

/-! ## The body at every point -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl, after0, after1, after2, after3, after4, after5, after7, after8, after9]
  rw [show (dats m 0 c).Φ t.succ = iprop(owns (c : Thread nD τ) scratch fullShare (rows m c t) ∗ (∃ r, prngReg c r)) from rfl,
    held_castSucc m c t]
  by_cases hz : t.val % 2 = 0
  · rw [show (dats m 0 c).leavesExact 6 t = owns (c : Thread nD τ) (st0_6 t) fullShare ((dats m 0 c).after 6 t) from by
      unfold Dat.leavesExact; rw [live t ((first_iff t).mpr hz)], after6, rows_first m c t hz]
    refine (sep_mono_left (held_some m c _ _)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ ((first_iff t).mpr hz) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before6 m c t hz]
    rw [held_pos m c t (fun e => hz (by rw [e])), rows_later m c t hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_later c (grid0.coords t) _ _ _ _ _ _ _ _ _ _ _ _ _ _ _ _ _ _ _ _ _ _ (fun h => hz ((first_iff t).mp h)) (iblk m c 0 t) (iblk m c 1 t) (iblk m c 2 t) (iblk m c 3 t) (iblk m c 4 t) (iblk m c 5 t) (rows m c t) Set.univ _)
    isplitl [H0]; · iexact H0
    isplitl [H1]; · iexact H1
    isplitl [H2]; · iexact H2
    isplitl [H3]; · iexact H3
    isplitl [H4]; · iexact H4
    isplitl [H5]; · iexact H5
    isplitl [H7]; · iexists _; iexact H7
    isplitl [H8]; · iexists _; iexact H8
    isplitl [H9]; · iexists _; iexact H9
    isplitl [HS]; · iexact HS
    iintro ⟨H0, H1, H2, H3, H4, H5, H7, H8, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (leaves_of_owns m c t d6 (before6 m c t hz d6)); iexact H6
    isplitl [H7]; · iexact H7
    isplitl [H8]; · iexact H8
    iexact H9

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem held_first (c : Dev nD) : Pipeline.ΦA spec0 c ⊢ (dats m 0 c).Φ 0 := by
  rw [show (dats m 0 c).Φ 0 = Pipeline.ΦA spec0 c from rfl]

theorem held_last (c : Dev nD) : (dats m 0 c).Φ (Fin.last cfg0.N) ⊢ Pipeline.ΦA spec0 c := by
  rw [show (dats m 0 c).Φ (Fin.last cfg0.N) = held m c cfg0.N (le_refl _) from rfl, rest_eq]
  exact held_some m c _ _

/-! ## The run -/

set_option backward.isDefEq.respectTransparency.types false in
/-- Every execution ends with the arrays at what the points' blocks make of them, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := held_first m) (hout := held_last m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.PreUpIdeal.FfnUpRun

end
-- ==== Proof.PreNorm.lean ====
module

public import proofs.«01_k».proof.Proof.NormBackward

/-! The norm at the head of a block, one row of 1024 entries at a time: the row over its root mean square, times a gain,
times one plus a scale, plus a shift. -/

@[expose] public section

noncomputable section

namespace Cert.PreNorm

open Idealize.ShloMosaic

/-- An entry of the normalised row. -/
def entry (x g shift s : Fin 1024 → EReal) (j : Fin 1024) : EReal := x j * NormBackward.rate x * g j * (1 + s j) + shift j

end Cert.PreNorm
-- ==== Proof.FfnUp.lean ====
/-
The input side of the feed-forward block: the normalised rows, their products with the two halves of the input weight,
and the gated hidden activations.
-/
module

public import proofs.«01_k».proof.Proof.FfnUpCert
public import proofs.«01_k».proof.Proof.Gen.PreUpRefIdeal.Run
public import proofs.«01_k».proof.Proof.PreNorm
public import Idealize.ShloMosaic.Lib.Pipeline.ValueKit
public import Idealize.ShloMosaic.Lib.Pointwise

@[expose] public section

set_option maxRecDepth 16384

noncomputable section

namespace Cert.PreUpIdeal.FfnUp

open Cert.PreUpIdeal Cert.PreUpIdeal.Gen Cert.PreUpIdeal.FfnUpRun
open Idealize.ShloMosaic Idealize.ShloMosaic.TcCoe Idealize.SL.Sem

/-- A row of the block's input, normalised. -/
def normRow (x : Vec Ideal S4096x1024 .f32) (g shift s : Vec Ideal S1x1024 .f32) (l : Fin 4096) : Fin 1024 → EReal :=
  PreNorm.entry (fun k => x (ix2 l k)) (fun k => g (ix2 0 k)) (fun k => shift (ix2 0 k)) (fun k => s (ix2 0 k))

/-- The normalised rows. -/
def normed (x : Vec Ideal S4096x1024 .f32) (g shift s : Vec Ideal S1x1024 .f32) : Vec Ideal S4096x1024 .bf16 := fun y =>
  normRow x g shift s (y 0) (y 1)

/-- The row of the weight behind a column of the gate. -/
def lower (n : Fin 2816) : Fin 5632 := ⟨n.val, by omega⟩

/-- The row of the weight behind a column of the other factor. -/
def upper (n : Fin 2816) : Fin 5632 := ⟨2816 + n.val, by omega⟩

/-- An entry of the product with the weight. -/
def entry (x : Vec Ideal S4096x1024 .f32) (g shift s : Vec Ideal S1x1024 .f32) (w : Vec Ideal S5632x1024 .bf16) (l : Fin 4096) (j : Fin 5632) : EReal :=
  ∑ k : Fin 1024, normRow x g shift s l k * (w (ix2 j k) : EReal)

/-- The gate before its activation. -/
def gates (x : Vec Ideal S4096x1024 .f32) (g shift s : Vec Ideal S1x1024 .f32) (w : Vec Ideal S5632x1024 .bf16) : Vec Ideal S4096x2816 .bf16 := fun y =>
  entry x g shift s w (y 0) (lower (y 1))

/-- The factor it gates. -/
def factors (x : Vec Ideal S4096x1024 .f32) (g shift s : Vec Ideal S1x1024 .f32) (w : Vec Ideal S5632x1024 .bf16) : Vec Ideal S4096x2816 .bf16 := fun y =>
  entry x g shift s w (y 0) (upper (y 1))

/-- A number times its logistic, times another. -/
def swiglu (a b : EReal) : EReal := a * Ideal.logistic a * b

/-- The hidden activations. -/
def hidden (x : Vec Ideal S4096x1024 .f32) (g shift s : Vec Ideal S1x1024 .f32) (w : Vec Ideal S5632x1024 .bf16) : Vec Ideal S4096x2816 .bf16 := fun y =>
  swiglu (entry x g shift s w (y 0) (lower (y 1))) (entry x g shift s w (y 0) (upper (y 1)))

theorem block_norm (x : Vec Ideal S512x1024 .f32) (g shift s : Vec Ideal S1x1024 .f32) (y : S512x1024.Idx) :
    k0_pay1 g shift s x y
      = PreNorm.entry (fun k => x (ix2 (y 0) k)) (fun k => g (ix2 0 k)) (fun k => shift (ix2 0 k)) (fun k => s (ix2 0 k)) (y 1) := by
  unfold PreNorm.entry NormBackward.rate NormBackward.power
  pointwise [k0_pay1]

theorem block_gate (h : Vec Ideal S512x1024 .bf16) (w : Vec Ideal S1408x1024 .bf16) (y : S512x1408.Idx) :
    k0_pay3 h w y = (∑ k : Fin 1024, (h (ix2 (y 0) k) : EReal) * w (ix2 (y 1) k) : EReal) := by
  pointwise [k0_pay3]

theorem block_factor (h : Vec Ideal S512x1024 .bf16) (w : Vec Ideal S1408x1024 .bf16) (y : S512x1408.Idx) :
    k0_pay4 h w y = (∑ k : Fin 1024, (h (ix2 (y 0) k) : EReal) * w (ix2 (y 1) k) : EReal) := by
  pointwise [k0_pay4]

theorem block_hidden (h : Vec Ideal S512x1024 .bf16) (w w' : Vec Ideal S1408x1024 .bf16) (y : S512x1408.Idx) :
    k0_pay5 h w w' y = swiglu (k0_pay3 h w y) (k0_pay4 h w' y) := by
  unfold k0_pay5 swiglu
  generalize k0_pay3 h w = a
  generalize k0_pay4 h w' = b
  pointwise

theorem index0 : ∀ t : Fin cfg0.N, win0_0.index t = ![t.val / 2, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val % 2, 0] := (by decide +kernel : ∀ t : Fin grid0.N, _)
theorem index5 : ∀ t : Fin cfg0.N, win0_5.index t = ![2 + t.val % 2, 0] := (by decide +kernel : ∀ t : Fin grid0.N, _)
theorem index6 : ∀ t : Fin cfg0.N, win0_6.index t = ![t.val / 2, 0] := (by decide +kernel : ∀ t : Fin grid0.N, _)
theorem index7 : ∀ t : Fin cfg0.N, win0_7.index t = ![t.val / 2, t.val % 2] := (by decide +kernel : ∀ t : Fin grid0.N, _)
theorem index8 : ∀ t : Fin cfg0.N, win0_8.index t = ![t.val / 2, t.val % 2] := (by decide +kernel : ∀ t : Fin grid0.N, _)
theorem index9 : ∀ t : Fin cfg0.N, win0_9.index t = ![t.val / 2, t.val % 2] := (by decide +kernel : ∀ t : Fin grid0.N, _)

theorem points (t : Fin cfg0.N) : t.val < 16 := lt_of_lt_of_eq t.isLt N_0

/-- Row `l` of the row block of point `t`, in the array. -/
def at_ (t : Fin cfg0.N) (l : Fin 512) : Fin 4096 := ⟨t.val / 2 * 512 + l.val, by have := points t; omega⟩

/-- Column `l` of the column block of point `t`, in the array. -/
def col (t : Fin cfg0.N) (l : Fin 1408) : Fin 2816 := ⟨t.val % 2 * 1408 + l.val, by omega⟩

theorem at_start (t : Fin cfg0.N) (l : Fin 512) : at_ (start t) l = at_ t l :=
  Fin.ext (by show (t.val - t.val % 2) / 2 * 512 + l.val = t.val / 2 * 512 + l.val; omega)

variable (m : (ℓ : Loc nD τ sig) → Buf (Elt Ideal) ℓ) (ρ : Dev nD → PrngReg) (c : Dev nD)

theorem block_x (t : Fin cfg0.N) (l : Fin 512) (k : Fin 1024) : iblk m c 0 t (ix2 l k) = V m c main_arg0 (ix2 (at_ t l) k) := by
  blk_simp [iblk]
  refine congrArg (V m c main_arg0) ?_
  blk_ext [index0 t, at_]

theorem block_g (t : Fin cfg0.N) (k : Fin 1024) : iblk m c 1 t (ix2 0 k) = V m c main_arg1 (ix2 0 k) := by
  blk_simp [iblk]
  refine congrArg (V m c main_arg1) ?_
  blk_ext [index1 t]

theorem block_shift (t : Fin cfg0.N) (k : Fin 1024) : iblk m c 2 t (ix2 0 k) = V m c main_arg2 (ix2 0 k) := by
  blk_simp [iblk]
  refine congrArg (V m c main_arg2) ?_
  blk_ext [index2 t]

theorem block_s (t : Fin cfg0.N) (k : Fin 1024) : iblk m c 3 t (ix2 0 k) = V m c main_arg3 (ix2 0 k) := by
  blk_simp [iblk]
  refine congrArg (V m c main_arg3) ?_
  blk_ext [index3 t]

theorem block_lower (t : Fin cfg0.N) (l : Fin 1408) (k : Fin 1024) : iblk m c 4 t (ix2 l k) = V m c main_arg4 (ix2 (lower (col t l)) k) := by
  blk_simp [iblk]
  refine congrArg (V m c main_arg4) ?_
  blk_ext [index4 t, lower, col]

theorem block_upper (t : Fin cfg0.N) (l : Fin 1408) (k : Fin 1024) : iblk m c 5 t (ix2 l k) = V m c main_arg4 (ix2 (upper (col t l)) k) := by
  have h : upper (col t l) = ⟨(2 + t.val % 2) * 1408 + l.val, by omega⟩ :=
    Fin.ext (by show 2816 + (t.val % 2 * 1408 + l.val) = (2 + t.val % 2) * 1408 + l.val; omega)
  rw [h]
  blk_simp [iblk]
  refine congrArg (V m c main_arg4) ?_
  blk_ext [index5 t]

theorem rows_at (t : Fin cfg0.N) (l : Fin 512) (k : Fin 1024) :
    rows m c t (ix2 l k) = normRow (V m c main_arg0) (V m c main_arg1) (V m c main_arg2) (V m c main_arg3) (at_ t l) k := by
  unfold rows
  refine (block_norm _ _ _ _ _).trans ?_
  show PreNorm.entry (fun k => iblk m c 0 (start t) (ix2 l k)) (fun k => iblk m c 1 (start t) (ix2 0 k)) (fun k => iblk m c 2 (start t) (ix2 0 k))
    (fun k => iblk m c 3 (start t) (ix2 0 k)) k = _
  simp only [block_x, block_g, block_shift, block_s, at_start]
  rfl

/-- The entries of the product, of the arrays as the kernel finds them. -/
abbrev entries (l : Fin 4096) (j : Fin 5632) : EReal :=
  entry (V m c main_arg0) (V m c main_arg1) (V m c main_arg2) (V m c main_arg3) (V m c main_arg4) l j

theorem gate_at (t : Fin cfg0.N) (l : Fin 512) (j : Fin 1408) :
    k0_pay3 (rows m c t) (iblk m c 4 t) (ix2 l j) = entries m c (at_ t l) (lower (col t j)) := by
  refine (block_gate _ _ _).trans ?_
  exact Fin.sum_fin_congr fun k => congrArg₂ (fun u v : EReal => u * v) (rows_at m c t l k) (block_lower m c t j k)

theorem factor_at (t : Fin cfg0.N) (l : Fin 512) (j : Fin 1408) :
    k0_pay4 (rows m c t) (iblk m c 5 t) (ix2 l j) = entries m c (at_ t l) (upper (col t j)) := by
  refine (block_factor _ _ _).trans ?_
  exact Fin.sum_fin_congr fun k => congrArg₂ (fun u v : EReal => u * v) (rows_at m c t l k) (block_upper m c t j k)

theorem hidden_at (t : Fin cfg0.N) (l : Fin 512) (j : Fin 1408) :
    k0_pay5 (rows m c t) (iblk m c 4 t) (iblk m c 5 t) (ix2 l j)
      = swiglu (entries m c (at_ t l) (lower (col t j))) (entries m c (at_ t l) (upper (col t j))) :=
  (block_hidden _ _ _ _).trans (congrArg₂ swiglu (gate_at m c t l j) (factor_at m c t l j))

theorem pair (y : S512x1024.Idx) : y = ix2 (y 0) (y 1) := by
  funext i
  fin_cases i <;> rfl

theorem pair' (y : S512x1408.Idx) : y = ix2 (y 0) (y 1) := by
  funext i
  fin_cases i <;> rfl

/-- The first result of the kernel. -/
theorem result_normed : (dats m 0 c).arrAt 6 cfg0.N = normed (V m c main_arg0) (V m c main_arg1) (V m c main_arg2) (V m c main_arg3) := by
  refine (dats m 0 c).arrAt_eq_of_covers 6 _ (by decide +kernel) fun t hf y => ?_
  have hstored : (dats m 0 c).after 6 t y = normed (V m c main_arg0) (V m c main_arg1) (V m c main_arg2) (V m c main_arg3) (ix2 (at_ t (y 0)) (y 1)) := by
    rw [after6 m c t]
    exact (congrArg _ (pair y)).trans (rows_at m c t (y 0) (y 1))
  rw [hstored]
  blk_simp
  refine congrArg (normed _ _ _ _) ?_
  blk_ext [index6 t, at_]

/-- The second result of the kernel. -/
theorem result_hidden : (dats m 0 c).arrAt 7 cfg0.N = hidden (V m c main_arg0) (V m c main_arg1) (V m c main_arg2) (V m c main_arg3) (V m c main_arg4) := by
  refine (dats m 0 c).arrAt_eq_of_covers 7 _ (by decide +kernel) fun t hf y => ?_
  have hstored : (dats m 0 c).after 7 t y = hidden (V m c main_arg0) (V m c main_arg1) (V m c main_arg2) (V m c main_arg3) (V m c main_arg4)
      (ix2 (at_ t (y 0)) (col t (y 1))) := by
    rw [after7 m c t]
    exact (congrArg _ (pair' y)).trans (hidden_at m c t (y 0) (y 1))
  rw [hstored]
  blk_simp
  refine congrArg (hidden _ _ _ _ _) ?_
  blk_ext [index7 t, at_, col]

/-- The third result of the kernel. -/
theorem result_gates : (dats m 0 c).arrAt 8 cfg0.N = gates (V m c main_arg0) (V m c main_arg1) (V m c main_arg2) (V m c main_arg3) (V m c main_arg4) := by
  refine (dats m 0 c).arrAt_eq_of_covers 8 _ (by decide +kernel) fun t hf y => ?_
  have hstored : (dats m 0 c).after 8 t y = gates (V m c main_arg0) (V m c main_arg1) (V m c main_arg2) (V m c main_arg3) (V m c main_arg4)
      (ix2 (at_ t (y 0)) (col t (y 1))) := by
    rw [after8 m c t]
    exact (congrArg _ (pair' y)).trans (gate_at m c t (y 0) (y 1))
  rw [hstored]
  blk_simp
  refine congrArg (gates _ _ _ _ _) ?_
  blk_ext [index8 t, at_, col]

/-- The fourth result of the kernel. -/
theorem result_factors : (dats m 0 c).arrAt 9 cfg0.N = factors (V m c main_arg0) (V m c main_arg1) (V m c main_arg2) (V m c main_arg3) (V m c main_arg4) := by
  refine (dats m 0 c).arrAt_eq_of_covers 9 _ (by decide +kernel) fun t hf y => ?_
  have hstored : (dats m 0 c).after 9 t y = factors (V m c main_arg0) (V m c main_arg1) (V m c main_arg2) (V m c main_arg3) (V m c main_arg4)
      (ix2 (at_ t (y 0)) (col t (y 1))) := by
    rw [after9 m c t]
    exact (congrArg _ (pair' y)).trans (factor_at m c t (y 0) (y 1))
  rw [hstored]
  blk_simp
  refine congrArg (factors _ _ _ _ _) ?_
  blk_ext [index9 t, at_, col]

/-- A whole run of the kernel. -/
theorem run : θ_run defs (onTc (τ := τ) main) (s₀ m ρ) fun r => ∀ c : Dev nD,
    r.2.mem ((c.tc : Thread nD τ).loc main_v0_0) = normed (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_1) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v0_2) = gates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v0_3) = factors (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨((h.1 c).1 6).trans ((result_normed m c).trans (by rw [V_main_arg0, V_main_arg1, V_main_arg2, V_main_arg3])),
    ((h.1 c).1 7).trans ((result_hidden m c).trans (by rw [V_main_arg0, V_main_arg1, V_main_arg2, V_main_arg3, V_main_arg4])),
    ((h.1 c).1 8).trans ((result_gates m c).trans (by rw [V_main_arg0, V_main_arg1, V_main_arg2, V_main_arg3, V_main_arg4])),
    ((h.1 c).1 9).trans ((result_factors m c).trans (by rw [V_main_arg0, V_main_arg1, V_main_arg2, V_main_arg3, V_main_arg4])),
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c)))⟩) (run_main m ρ)

end Cert.PreUpIdeal.FfnUp

namespace Cert.PreUpRefIdeal.FfnUp

open Cert.PreUpRefIdeal Cert.PreUpRefIdeal.Gen
open Idealize.ShloMosaic Idealize.ShloMosaic.TcCoe Idealize.ShloMosaic.StableHlo Idealize.SL.Sem
open Cert.PreUpIdeal.FfnUp (normRow normed entry lower upper gates factors swiglu hidden)

/-- The reference's normalised rows, before they are rounded. -/
def norm (x : FVec Ideal S4096x1024 .f32) (g shift s : FVec Ideal S1x1024 .f32) : FVec Ideal S4096x1024 .f32 :=
  addf (mulf (mulf (mulf x (broadcastInDim S4096x1024 ![0, 1] bcast_S4096x1_S4096x1024_0_1
    (Host.rsqrt (addf (Host.divf (broadcastInDim S4096x1 ![0] bcast_S4096_S4096x1_0
        (Host.reduceAdd (mulf x x) (constant S_ .f32 0x00000000#32) reducesTo_S4096x1024_S4096_d1 h_S_))
        (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 g))
    (broadcastInDim S4096x1024 ![0, 1] bcast_S1x1024_S4096x1024_0_1
      (addf (broadcastInDim S1x1024 ![] bcast_S_S1x1024 (constant S_ .f32 0x3F800000#32)) s)))
    (broadcastInDim S4096x1024 ![0, 1] bcast_S1x1024_S4096x1024_0_1 shift)

/-- The reference's product. -/
def dot (h : FVec Ideal S4096x1024 .f32) (w : FVec Ideal S5632x1024 .bf16) : FVec Ideal S4096x5632 .f32 :=
  Host.dotGeneral dot_S4096x1024_S1024x5632_S4096x5632_1_0_0_1_n_n none h
    (transpose S1024x5632 [1, 0] (extf .f32 w bitsLt_bf16_f32) transposes_S5632x1024_S1024x5632_1_0)

/-- The first half of its columns. -/
def left (p : FVec Ideal S4096x5632 .f32) : FVec Ideal S4096x2816 .f32 := extractStridedSlice S4096x2816 ![0, 0] p slices_S4096x5632_S4096x2816_0_0

/-- The second half. -/
def right (p : FVec Ideal S4096x5632 .f32) : FVec Ideal S4096x2816 .f32 := extractStridedSlice S4096x2816 ![0, 2816] p slices_S4096x5632_S4096x2816_0_2816

/-- The reference's gated product. -/
def gated (a b : FVec Ideal S4096x2816 .f32) : FVec Ideal S4096x2816 .f32 :=
  mulf (mulf a (Host.divf (broadcastInDim S4096x2816 ![] bcast_S_S4096x2816 (constant S_ .f32 0x3F800000#32))
    (addf (broadcastInDim S4096x2816 ![] bcast_S_S4096x2816 (constant S_ .f32 0x3F800000#32)) (Host.exp (Host.negf a))))) b

theorem norm_at (x : FVec Ideal S4096x1024 .f32) (g shift s : FVec Ideal S1x1024 .f32) (y : S4096x1024.Idx) :
    norm x g shift s y = normRow x g shift s (y 0) (y 1) := by
  unfold Cert.PreUpIdeal.FfnUp.normRow PreNorm.entry NormBackward.rate NormBackward.power
  pointwise [norm]

theorem dot_at (h : FVec Ideal S4096x1024 .f32) (w : FVec Ideal S5632x1024 .bf16) (y : S4096x5632.Idx) :
    dot h w y = (∑ k : Fin 1024, (h (ix2 (y 0) k) : EReal) * w (ix2 (y 1) k) : EReal) := by
  pointwise [dot]

theorem left_at (p : FVec Ideal S4096x5632 .f32) (y : S4096x2816.Idx) : left p y = p (ix2 (y 0) (lower (y 1))) := by
  unfold Cert.PreUpIdeal.FfnUp.lower
  pointwise [left]

theorem right_at (p : FVec Ideal S4096x5632 .f32) (y : S4096x2816.Idx) : right p y = p (ix2 (y 0) (upper (y 1))) := by
  unfold Cert.PreUpIdeal.FfnUp.upper
  pointwise [right]

theorem gated_at (a b : FVec Ideal S4096x2816 .f32) (y : S4096x2816.Idx) : gated a b y = swiglu (a y) (b y) := by
  unfold Cert.PreUpIdeal.FfnUp.swiglu Ideal.logistic
  pointwise [gated]

theorem product_at (x : FVec Ideal S4096x1024 .f32) (g shift s : FVec Ideal S1x1024 .f32) (w : FVec Ideal S5632x1024 .bf16) (y : S4096x5632.Idx) :
    dot (norm x g shift s) w y = entry x g shift s w (y 0) (y 1) :=
  (dot_at _ _ _).trans (Fin.sum_fin_congr fun k => congrArg₂ (fun u v : EReal => u * v) (norm_at x g shift s _) rfl)

theorem normed_eq (x : FVec Ideal S4096x1024 .f32) (g shift s : FVec Ideal S1x1024 .f32) :
    truncf .bf16 (norm x g shift s) bitsLt_bf16_f32 = normed x g shift s := by
  funext y
  exact norm_at x g shift s y

theorem gates_eq (x : FVec Ideal S4096x1024 .f32) (g shift s : FVec Ideal S1x1024 .f32) (w : FVec Ideal S5632x1024 .bf16) :
    truncf .bf16 (left (dot (norm x g shift s) w)) bitsLt_bf16_f32 = gates x g shift s w := by
  funext y
  exact (left_at _ y).trans (product_at x g shift s w _)

theorem factors_eq (x : FVec Ideal S4096x1024 .f32) (g shift s : FVec Ideal S1x1024 .f32) (w : FVec Ideal S5632x1024 .bf16) :
    truncf .bf16 (right (dot (norm x g shift s) w)) bitsLt_bf16_f32 = factors x g shift s w := by
  funext y
  exact (right_at _ y).trans (product_at x g shift s w _)

theorem hidden_eq (x : FVec Ideal S4096x1024 .f32) (g shift s : FVec Ideal S1x1024 .f32) (w : FVec Ideal S5632x1024 .bf16) :
    truncf .bf16 (gated (left (dot (norm x g shift s) w)) (right (dot (norm x g shift s) w))) bitsLt_bf16_f32 = hidden x g shift s w := by
  funext y
  exact (gated_at _ _ y).trans (congrArg₂ swiglu ((left_at _ y).trans (product_at x g shift s w _)) ((right_at _ y).trans (product_at x g shift s w _)))

variable (m : (ℓ : Loc nD τ sig) → Buf (Elt Ideal) ℓ) (ρ : Dev nD → PrngReg) (c : Dev nD)

/-- A whole run of the reference. -/
theorem run : θ_run defs (onTc (τ := τ) main) ⟨m, fun _ => 0, ρ⟩ fun r => ∀ c : Dev nD,
    r.2.mem ((c.tc : Thread nD τ).loc main_v25) = normed (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v26) = hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v27) = gates (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_v28) = factors (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (normed_eq (m ((c.tc : Thread nD τ).loc main_arg0)) (m ((c.tc : Thread nD τ).loc main_arg1)) (m ((c.tc : Thread nD τ).loc main_arg2)) (m ((c.tc : Thread nD τ).loc main_arg3))),
    (h c).2.1.trans (hidden_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (h c).2.2.1.trans (gates_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (h c).2.2.2.1.trans (factors_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (h c).2.2.2.2⟩) (Value.run m ρ)

end Cert.PreUpRefIdeal.FfnUp

end
-- ==== Proof.FfnUpSame.lean ====
/-
The program of the gated projection at bits is the one at the reals, word for word: the run proved for one serves the other.
-/
module

public import proofs.«01_k».proof.Defs
public import proofs.«01_k».proof.Proof.Gen.PreUp
public import proofs.«01_k».proof.Proof.FfnUpCert

@[expose] public section
set_option maxRecDepth 65536
namespace Cert.PreUp.FfnUpSame
open Idealize.ShloMosaic Idealize.SL.Sem Cert.PreUp
theorem same_body : (Cert.PreUp.cc0_ffn_up (F := Bits)) = (Cert.PreUpIdeal.cc0_ffn_up (F := Bits)) := by
  unfold Cert.PreUp.cc0_ffn_up Cert.PreUpIdeal.cc0_ffn_up
  rfl
theorem same_defs₀ : (Cert.PreUp.defs₀ (F := Bits)) = (Cert.PreUpIdeal.defs₀ (F := Bits)) := by
  unfold Cert.PreUp.defs₀ Cert.PreUpIdeal.defs₀
  refine congrArg Defs.onTc (funext fun l => funext fun x => ?_)
  match l, x with
  | 0, (t, s) =>
    simp only [same_body]
    rfl

theorem same_defs : (Cert.PreUp.defs (F := Bits)) = (Cert.PreUpIdeal.defs (F := Bits)) :=
  congrArg (Pipeline.defs Cert.PreUpIdeal.pcfgs) same_defs₀
theorem same_main : (Cert.PreUp.main (F := Bits)) = (Cert.PreUpIdeal.main (F := Bits)) := rfl

/-- The frame of the program at bits. -/
theorem frame : Cert.quiescent_PreUp := fun m ρ _ => by
  have h := Cert.PreUpIdeal.FfnUpRun.frame (F := Bits) m ρ
  rw [← same_defs, ← same_main] at h
  exact h

end Cert.PreUp.FfnUpSame

end
-- ==== Proof.MixInRun.lean ====
/-
One grid point of `mix_in`: the body's triple in its two cases, with what every buffer is left holding NAMED.

The grid goes through the blocks of rows and, for each, through the column blocks of the weight. At the first column
block the rows are normalised, and kept in a scratch which the other column blocks read.
-/
module

public import proofs.«01_k».proof.Proof.Gen.PreMmIdeal.Frame
public import proofs.«01_k».proof.Proof.Gen.PreMmIdeal.Skeleton
public import proofs.«01_k».proof.Proof.WholeBlock

@[expose] public section

set_option maxRecDepth 16384

noncomputable section

namespace Cert.PreMmIdeal.MixInRun

open Cert.PreMmIdeal Cert.PreMmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WholeBlock

variable {F : FTy → Type} [FloatOps F]

local notation "𝕄" => MT nD τ sig Unit (Elt F) ℕ (UR sig nD τ) ℕ

/-- The condition of the body's `scf.if`: the column block is the first. -/
abbrev first (i : grid0.Coords) : Prop := k0_cond1 i = 1#1

/-- It holds at the points that start a row of blocks. -/
theorem first_iff : ∀ t : Fin cfg0.N, first (grid0.coords t) ↔ t.val % 11 = 0 :=
  (fun t => by
    have e1 : (grid0.coords t 1).val = t.val / 1 % 11 := Pipeline.Grid.coords_val t 1 (by decide) rfl
    rw [Nat.div_one] at e1
    simp only [first, k0_cond1, e1]
    have h : t.val % 11 < 11 := Nat.mod_lt _ (by decide)
    word_cmp
   : ∀ t : Fin grid0.N, first (grid0.coords t) ↔ t.val % 11 = 0)

/-- What is kept is what is stored as the result. -/
theorem kept_eq (x1 x2 x3 : Vec F S1x1024 .f32) (x0 : Vec F S1024x1024 .f32) : k0_pay2 x1 x2 x3 x0 = k0_pay1 x1 x2 x3 x0 := by
  unfold k0_pay2; rw [shapeCast_self]

set_option maxHeartbeats 1600000 in
/-- The body at the first point of a row of blocks: it normalises the rows and keeps them. -/
theorem run_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1024x512 .f32) (harg8 : arg8.IsWhole) (arg9 : Memref sig .tc .vmem S1024x1024 .bf16) (harg9 : arg9.IsWhole)
    (hc : first i) (x0 : Vec F S1024x1024 .f32) (x1 : Vec F S1x1024 .f32) (x2 : Vec F S1x1024 .f32) (x3 : Vec F S1x1024 .f32) (x4 : Vec F S512x1024 .bf16)
    (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (k0_pay1 x1 x2 x3 x0) ∗ owns (c : Thread nD τ) arg8 fullShare (k0_pay3 (k0_pay1 x1 x2 x3 x0) x4) ∗ owns (c : Thread nD τ) arg9 fullShare ((k0_pay1 x1 x2 x3 x0))) -∗ K ⟨⟩))
      ⊢ wp frame (wpE (defs₀ (F := F)) Variants.none c none) E (cc0_mix_in i arg2 harg2 arg3 harg3 arg4 harg4 arg5 harg5 arg6 harg6 arg7 harg7 arg8 harg8 arg9 harg9) K := by
  simp only [cc0_mix_in_eq_skeleton]; unfold cc0_mix_in_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_words; rw [store_all]; simp only [load_all, reload_all, kept_eq]
  isplitl [H6]
  · iexists _; isplitr
    swap; · iexact H6
    ipureintro
    sl_unfold_words; rw [store_all]; simp only [load_all, reload_all, kept_eq]
  iexists _; isplitr
  swap; · iexact HS
  ipureintro
  sl_unfold_words; rw [store_all]; simp only [load_all, reload_all, kept_eq]

set_option maxHeartbeats 1600000 in
/-- The body at any other point, the scratch holding the normalised rows `xs`. -/
theorem run_later (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S1024x1024 .bf16) (harg7 : arg7.IsWhole) (arg8 : Memref sig .tc .vmem S1024x512 .f32) (harg8 : arg8.IsWhole) (arg9 : Memref sig .tc .vmem S1024x1024 .bf16) (harg9 : arg9.IsWhole)
    (hc : ¬first i) (x0 : Vec F S1024x1024 .f32) (x1 : Vec F S1x1024 .f32) (x2 : Vec F S1x1024 .f32) (x3 : Vec F S1x1024 .f32) (x4 : Vec F S512x1024 .bf16) (xs : Vec F S1024x1024 .bf16)
    (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ (∃ d, owns (c : Thread nD τ) arg8 fullShare d) ∗ owns (c : Thread nD τ) arg9 fullShare (xs)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg8 fullShare (k0_pay3 xs x4) ∗ owns (c : Thread nD τ) arg9 fullShare (xs)) -∗ K ⟨⟩))
      ⊢ wp frame (wpE (defs₀ (F := F)) Variants.none c none) E (cc0_mix_in i arg2 harg2 arg3 harg3 arg4 harg4 arg5 harg5 arg6 harg6 arg7 harg7 arg8 harg8 arg9 harg9) K := by
  simp only [cc0_mix_in_eq_skeleton]; unfold cc0_mix_in_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg9.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H6]
  · iexists _; isplitr
    swap; · iexact H6
    ipureintro
    sl_unfold_words; rw [store_all]; simp only [load_all]
  iexists _; isplitr
  swap; · iexact HS
  ipureintro
  exact harg9.read_unread _

end Cert.PreMmIdeal.MixInRun

end
-- ==== Proof.MixInCert.lean ====
/-
The whole run of `mix_in`: from the body's triple at one grid point to what every result array is left holding, over
any values.
-/
module

public import proofs.«01_k».proof.Proof.MixInRun
public import Idealize.ShloMosaic.Lib.Pipeline.TableIdle
public import Idealize.ShloMosaic.Lib.Claim

@[expose] public section

set_option maxRecDepth 16384

noncomputable section

namespace Cert.PreMmIdeal.MixInRun

open Cert.PreMmIdeal Cert.PreMmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds -/

/-- The scratch of normalised rows. -/
abbrev scratch : Memref sig .tc .vmem S1024x1024 .bf16 := Memref.whole cc0_scratch0

/-- The region's invariant with the scratch as a memref owned at some contents. -/
theorem rest_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The point that starts `t`'s row of blocks. -/
def start (t : Fin cfg0.N) : Fin cfg0.N := ⟨t.val - t.val % 11, Nat.lt_of_le_of_lt (Nat.sub_le _ _) t.isLt⟩

theorem start_first (t : Fin cfg0.N) (h : t.val % 11 = 0) : start t = t := Fin.ext (by show t.val - t.val % 11 = t.val; omega)

theorem start_later (t : Fin cfg0.N) (h : ¬t.val % 11 = 0) : start ⟨t.val - 1, Nat.lt_of_le_of_lt (Nat.sub_le _ _) t.isLt⟩ = start t :=
  Fin.ext (by show t.val - 1 - (t.val - 1) % 11 = t.val - t.val % 11; omega)

/-- The normalised rows of `t`'s row of blocks. -/
def rows (c : Dev nD) (t : Fin cfg0.N) : Vec F S1024x1024 .bf16 := k0_pay1 (iblk m c 1 (start t)) (iblk m c 2 (start t)) (iblk m c 3 (start t)) (iblk m c 0 (start t))

theorem rows_first (c : Dev nD) (t : Fin cfg0.N) (h : t.val % 11 = 0) :
    rows m c t = k0_pay1 (iblk m c 1 t) (iblk m c 2 t) (iblk m c 3 t) (iblk m c 0 t) := by
  unfold rows; rw [start_first t h]

theorem rows_later (c : Dev nD) (t : Fin cfg0.N) (h : ¬t.val % 11 = 0) :
    rows m c ⟨t.val - 1, Nat.lt_of_le_of_lt (Nat.sub_le _ _) t.isLt⟩ = rows m c t := by
  unfold rows; rw [start_later t h]

/-- The region's invariant before point `n`: after any point the scratch holds that point's rows. -/
def held (c : Dev nD) : (n : ℕ) → n ≤ cfg0.N → sProp 𝕄
  | 0, _ => Pipeline.ΦA spec0 c
  | n + 1, hn => iprop(owns (c : Thread nD τ) scratch fullShare (rows m c ⟨n, hn⟩) ∗ (∃ r, prngReg c r))

theorem held_pos (c : Dev nD) (t : Fin cfg0.N) (hz : t.val ≠ 0) :
    held m c t.val (Nat.le_of_lt t.isLt) = iprop(owns (c : Thread nD τ) scratch fullShare
      (rows m c ⟨t.val - 1, Nat.lt_of_le_of_lt (Nat.sub_le _ _) t.isLt⟩) ∗ (∃ r, prngReg c r)) := by
  obtain ⟨n, hn⟩ := t
  cases n with
  | zero => exact absurd rfl hz
  | succ n => rfl

/-- Whatever the point, the scratch holds something. -/
theorem held_some (c : Dev nD) : ∀ (n : ℕ) (hn : n ≤ cfg0.N),
    held m c n hn ⊢ iprop(iprop((∃ d, owns (c : Thread nD τ) scratch fullShare d)) ∗ (∃ r, prngReg c r))
  | 0, _ => by rw [show held m c 0 (Nat.zero_le _) = Pipeline.ΦA spec0 c from rfl, rest_eq]
  | n + 1, hn => by
    rw [show held m c (n + 1) hn = iprop(owns (c : Thread nD τ) scratch fullShare (rows m c ⟨n, hn⟩) ∗ (∃ r, prngReg c r)) from rfl]
    iintro ⟨HS, Hg⟩
    isplitl [HS]
    · iexists _; iexact HS
    iexact Hg

/-- The proof data: the inputs' buffers keep their blocks; the results' hold the rows and what is made of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rows m c t
    | ⟨6, _⟩ => k0_pay3 (rows m c t) (iblk m c 4 t)
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = rows m c t := by dsimp only [dats]
theorem after6 (c : Dev nD) (t : Fin cfg0.N) : (dats m 0 c).after 6 t = k0_pay3 (rows m c t) (iblk m c 4 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The result of normalised rows, stored once per row of blocks -/

/-- Where the rows are stored the window counts as written, -/
theorem live : ∀ t : Fin cfg0.N, first (grid0.coords t) → cfg0.idle 5 (grid0.coords t) = false := by decide +kernel

/-- and elsewhere its buffer still holds what was stored: the block moves on only at the row's last point. -/
theorem kept : ∀ t : Fin cfg0.N, ¬first (grid0.coords t) → cfg0.fresh 5 t.val = false := by decide +kernel

/-- The rows do not change along a row of blocks. -/
theorem carried (c : Dev nD) (t : Fin cfg0.N) (_ : t.val ≠ 0) (hi : cfg0.idle 5 (grid0.coords t) = true)
    (_ : cfg0.fresh 5 t.val = false) : (dats m 0 c).after 5 t = (dats m 0 c).after 5 ⟨t.val - 1, by omega⟩ := by
  rw [after5, after5]
  by_cases h : t.val % 11 = 0
  · rw [live t ((first_iff t).mpr h)] at hi
    exact absurd hi Bool.false_ne_true
  · exact (rows_later m c t h).symm

/-- Past the first point of a row, the body finds the rows there. -/
theorem before5 (c : Dev nD) (t : Fin cfg0.N) (h : ¬t.val % 11 = 0) (d) : (dats m 0 c).before 5 t d = rows m c t := by
  rw [Dat.before_out_traj _ 5 rfl (fun _ _ => rfl) (carried m c) t.val t rfl d,
    if_neg (by rw [kept t (fun e => h ((first_iff t).mp e))]; exact Bool.false_ne_true), after5]
  exact rows_later m c t h

/-- A buffer that holds what it is to hold, and that the body finds so, is as the pipeline asks. -/
theorem leaves_of_owns (c : Dev nD) (t : Fin cfg0.N) (d) (h : (dats m 0 c).before 5 t d = rows m c t) :
    owns (c : Thread nD τ) (st0_5 t) fullShare (rows m c t) ⊢ (dats m 0 c).leavesExact 5 t := by
  unfold Dat.leavesExact
  split
  · split
    · iintro H0
      iexists d
      rw [h]; iexact H0
    · rw [after5]
  · rw [after5]

/-! ## The body at every point -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ owns (c : Thread nD τ) (st0_6 t) fullShare ((dats m 0 c).after 6 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl, after0, after1, after2, after3, after4, after6]
  rw [show (dats m 0 c).Φ t.succ = iprop(owns (c : Thread nD τ) scratch fullShare (rows m c t) ∗ (∃ r, prngReg c r)) from rfl,
    held_castSucc m c t]
  by_cases hz : t.val % 11 = 0
  · rw [show (dats m 0 c).leavesExact 5 t = owns (c : Thread nD τ) (st0_5 t) fullShare ((dats m 0 c).after 5 t) from by
      unfold Dat.leavesExact; rw [live t ((first_iff t).mpr hz)], after5, rows_first m c t hz]
    refine (sep_mono_left (held_some m c _ _)).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ ((first_iff t).mpr hz) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before5 m c t hz]
    rw [held_pos m c t (fun e => hz (by rw [e])), rows_later m c t hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (fun h => hz ((first_iff t).mp h)) (iblk m c 0 t) (iblk m c 1 t) (iblk m c 2 t) (iblk m c 3 t) (iblk m c 4 t) (rows m c t) Set.univ _)
    isplitl [H0]; · iexact H0
    isplitl [H1]; · iexact H1
    isplitl [H2]; · iexact H2
    isplitl [H3]; · iexact H3
    isplitl [H4]; · iexact H4
    isplitl [H6]; · iexists _; iexact H6
    isplitl [HS]; · iexact HS
    iintro ⟨H0, H1, H2, H3, H4, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves_of_owns m c t d5 (before5 m c t hz d5)); iexact H5
    iexact H6

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem held_first (c : Dev nD) : Pipeline.ΦA spec0 c ⊢ (dats m 0 c).Φ 0 := by
  rw [show (dats m 0 c).Φ 0 = Pipeline.ΦA spec0 c from rfl]

theorem held_last (c : Dev nD) : (dats m 0 c).Φ (Fin.last cfg0.N) ⊢ Pipeline.ΦA spec0 c := by
  rw [show (dats m 0 c).Φ (Fin.last cfg0.N) = held m c cfg0.N (le_refl _) from rfl, rest_eq]
  exact held_some m c _ _

/-! ## The run -/

set_option backward.isDefEq.respectTransparency.types false in
/-- Every execution ends with the arrays at what the points' blocks make of them, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := held_first m) (hout := held_last m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.PreMmIdeal.MixInRun

end
-- ==== Proof.MixIn.lean ====
/-
The input side of the mixing block: the normalised rows, and their product with the input weight. The product's columns
come rotated: the 1536 columns that feed the attention last, the 4096 others first.
-/
module

public import proofs.«01_k».proof.Proof.MixInCert
public import proofs.«01_k».proof.Proof.Gen.PreMmRefIdeal.Run
public import proofs.«01_k».proof.Proof.PreNorm
public import Idealize.ShloMosaic.Lib.Pipeline.ValueKit
public import Idealize.ShloMosaic.Lib.Pointwise

@[expose] public section

set_option maxRecDepth 16384

noncomputable section

namespace Cert.PreMmIdeal.MixIn

open Cert.PreMmIdeal Cert.PreMmIdeal.Gen Cert.PreMmIdeal.MixInRun
open Idealize.ShloMosaic Idealize.ShloMosaic.TcCoe Idealize.SL.Sem

/-- A row of the block's input, normalised. -/
def normRow (x : Vec Ideal S4096x1024 .f32) (g shift s : Vec Ideal S1x1024 .f32) (l : Fin 4096) : Fin 1024 → EReal :=
  PreNorm.entry (fun k => x (ix2 l k)) (fun k => g (ix2 0 k)) (fun k => shift (ix2 0 k)) (fun k => s (ix2 0 k))

/-- The normalised rows. -/
def normed (x : Vec Ideal S4096x1024 .f32) (g shift s : Vec Ideal S1x1024 .f32) : Vec Ideal S4096x1024 .bf16 := fun y =>
  normRow x g shift s (y 0) (y 1)

/-- The row of the weight behind a column of the result. -/
def source (n : Fin 5632) : Fin 5632 :=
  if n.val < 4096 then ⟨(1536 + n.val) % 5632, Nat.mod_lt _ (by decide)⟩ else ⟨n.val - 4096, by omega⟩

/-- The projection. -/
def projected (x : Vec Ideal S4096x1024 .f32) (g shift s : Vec Ideal S1x1024 .f32) (w : Vec Ideal S5632x1024 .bf16) : Vec Ideal S4096x5632 .f32 := fun y =>
  (∑ k : Fin 1024, normRow x g shift s (y 0) k * (w (ix2 (source (y 1)) k) : EReal) : EReal)

theorem block_norm (x : Vec Ideal S1024x1024 .f32) (g shift s : Vec Ideal S1x1024 .f32) (y : S1024x1024.Idx) :
    k0_pay1 g shift s x y
      = PreNorm.entry (fun k => x (ix2 (y 0) k)) (fun k => g (ix2 0 k)) (fun k => shift (ix2 0 k)) (fun k => s (ix2 0 k)) (y 1) := by
  unfold PreNorm.entry NormBackward.rate NormBackward.power
  pointwise [k0_pay1]

theorem block_product (h : Vec Ideal S1024x1024 .bf16) (w : Vec Ideal S512x1024 .bf16) (y : S1024x512.Idx) :
    k0_pay3 h w y = (∑ k : Fin 1024, (h (ix2 (y 0) k) : EReal) * w (ix2 (y 1) k) : EReal) := by
  pointwise [k0_pay3]

theorem index0 : ∀ t : Fin cfg0.N, win0_0.index t = ![t.val / 11, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![(t.val % 11 + 3) % 11, 0] := (by decide +kernel : ∀ t : Fin grid0.N, _)
theorem index5 : ∀ t : Fin cfg0.N, win0_5.index t = ![t.val / 11, 0] := (by decide +kernel : ∀ t : Fin grid0.N, _)
theorem index6 : ∀ t : Fin cfg0.N, win0_6.index t = ![t.val / 11, t.val % 11] := (by decide +kernel : ∀ t : Fin grid0.N, _)

theorem points (t : Fin cfg0.N) : t.val < 44 := lt_of_lt_of_eq t.isLt N_0

/-- Row `l` of the row block of point `t`, in the array. -/
def at_ (t : Fin cfg0.N) (l : Fin 1024) : Fin 4096 := ⟨t.val / 11 * 1024 + l.val, by have := points t; omega⟩

/-- Column `l` of the column block of point `t`, in the array. -/
def col (t : Fin cfg0.N) (l : Fin 512) : Fin 5632 := ⟨t.val % 11 * 512 + l.val, by omega⟩

theorem at_start (t : Fin cfg0.N) (l : Fin 1024) : at_ (start t) l = at_ t l :=
  Fin.ext (by show (t.val - t.val % 11) / 11 * 1024 + l.val = t.val / 11 * 1024 + l.val; omega)

variable (m : (ℓ : Loc nD τ sig) → Buf (Elt Ideal) ℓ) (ρ : Dev nD → PrngReg) (c : Dev nD)

theorem block_x (t : Fin cfg0.N) (l k : Fin 1024) : iblk m c 0 t (ix2 l k) = V m c main_arg0 (ix2 (at_ t l) k) := by
  blk_simp [iblk]
  refine congrArg (V m c main_arg0) ?_
  blk_ext [index0 t, at_]

theorem block_g (t : Fin cfg0.N) (k : Fin 1024) : iblk m c 1 t (ix2 0 k) = V m c main_arg1 (ix2 0 k) := by
  blk_simp [iblk]
  refine congrArg (V m c main_arg1) ?_
  blk_ext [index1 t]

theorem block_shift (t : Fin cfg0.N) (k : Fin 1024) : iblk m c 2 t (ix2 0 k) = V m c main_arg2 (ix2 0 k) := by
  blk_simp [iblk]
  refine congrArg (V m c main_arg2) ?_
  blk_ext [index2 t]

theorem block_s (t : Fin cfg0.N) (k : Fin 1024) : iblk m c 3 t (ix2 0 k) = V m c main_arg3 (ix2 0 k) := by
  blk_simp [iblk]
  refine congrArg (V m c main_arg3) ?_
  blk_ext [index3 t]

theorem block_w (t : Fin cfg0.N) (l : Fin 512) (k : Fin 1024) : iblk m c 4 t (ix2 l k) = V m c main_arg4 (ix2 (source (col t l)) k) := by
  have h : source (col t l) = ⟨(t.val % 11 + 3) % 11 * 512 + l.val, by omega⟩ := by
    unfold source col
    dsimp only
    split_ifs with h
    · exact Fin.ext (by dsimp only; omega)
    · exact Fin.ext (by dsimp only; omega)
  rw [h]
  blk_simp [iblk]
  refine congrArg (V m c main_arg4) ?_
  blk_ext [index4 t]

theorem rows_at (t : Fin cfg0.N) (l k : Fin 1024) :
    rows m c t (ix2 l k) = normRow (V m c main_arg0) (V m c main_arg1) (V m c main_arg2) (V m c main_arg3) (at_ t l) k := by
  unfold rows
  refine (block_norm _ _ _ _ _).trans ?_
  show PreNorm.entry (fun k => iblk m c 0 (start t) (ix2 l k)) (fun k => iblk m c 1 (start t) (ix2 0 k)) (fun k => iblk m c 2 (start t) (ix2 0 k))
    (fun k => iblk m c 3 (start t) (ix2 0 k)) k = _
  simp only [block_x, block_g, block_shift, block_s, at_start]
  rfl

theorem product_at (t : Fin cfg0.N) (l : Fin 1024) (j : Fin 512) :
    k0_pay3 (rows m c t) (iblk m c 4 t) (ix2 l j)
      = projected (V m c main_arg0) (V m c main_arg1) (V m c main_arg2) (V m c main_arg3) (V m c main_arg4) (ix2 (at_ t l) (col t j)) := by
  refine (block_product _ _ _).trans ?_
  refine Fin.sum_fin_congr fun k => congrArg₂ (fun u v : EReal => u * v) ?_ ?_
  · exact rows_at m c t l k
  · exact block_w m c t j k

theorem pair (y : S1024x1024.Idx) : y = ix2 (y 0) (y 1) := by
  funext i
  fin_cases i <;> rfl

theorem pair' (y : S1024x512.Idx) : y = ix2 (y 0) (y 1) := by
  funext i
  fin_cases i <;> rfl

/-- The first result of the kernel. -/
theorem result_normed : (dats m 0 c).arrAt 5 cfg0.N = normed (V m c main_arg0) (V m c main_arg1) (V m c main_arg2) (V m c main_arg3) := by
  refine (dats m 0 c).arrAt_eq_of_covers 5 _ (by decide +kernel) fun t hf y => ?_
  have hstored : (dats m 0 c).after 5 t y = normed (V m c main_arg0) (V m c main_arg1) (V m c main_arg2) (V m c main_arg3) (ix2 (at_ t (y 0)) (y 1)) := by
    rw [after5 m c t]
    exact (congrArg _ (pair y)).trans (rows_at m c t (y 0) (y 1))
  rw [hstored]
  blk_simp
  refine congrArg (normed _ _ _ _) ?_
  blk_ext [index5 t, at_]

/-- The second result of the kernel. -/
theorem result_projected : (dats m 0 c).arrAt 6 cfg0.N
    = projected (V m c main_arg0) (V m c main_arg1) (V m c main_arg2) (V m c main_arg3) (V m c main_arg4) := by
  refine (dats m 0 c).arrAt_eq_of_covers 6 _ (by decide +kernel) fun t hf y => ?_
  have hstored : (dats m 0 c).after 6 t y = projected (V m c main_arg0) (V m c main_arg1) (V m c main_arg2) (V m c main_arg3) (V m c main_arg4)
      (ix2 (at_ t (y 0)) (col t (y 1))) := by
    rw [after6 m c t]
    exact (congrArg _ (pair' y)).trans (product_at m c t (y 0) (y 1))
  rw [hstored]
  blk_simp
  refine congrArg (projected _ _ _ _ _) ?_
  blk_ext [index6 t, at_, col]

/-- A whole run of the kernel. -/
theorem run : θ_run defs (onTc (τ := τ) main) (s₀ m ρ) fun r => ∀ c : Dev nD,
    r.2.mem ((c.tc : Thread nD τ).loc main_v0_0) = normed (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_1) = projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨((h.1 c).1 5).trans ((result_normed m c).trans (by rw [V_main_arg0, V_main_arg1, V_main_arg2, V_main_arg3])),
    ((h.1 c).1 6).trans ((result_projected m c).trans (by rw [V_main_arg0, V_main_arg1, V_main_arg2, V_main_arg3, V_main_arg4])),
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c)))⟩) (run_main m ρ)

end Cert.PreMmIdeal.MixIn

namespace Cert.PreMmRefIdeal.MixIn

open Cert.PreMmRefIdeal Cert.PreMmRefIdeal.Gen
open Idealize.ShloMosaic Idealize.ShloMosaic.TcCoe Idealize.ShloMosaic.StableHlo Idealize.SL.Sem
open Cert.PreMmIdeal.MixIn (normRow normed projected source)

/-- The reference's normalised rows, before they are rounded. -/
def norm (x : FVec Ideal S4096x1024 .f32) (g shift s : FVec Ideal S1x1024 .f32) : FVec Ideal S4096x1024 .f32 :=
  addf (mulf (mulf (mulf x (broadcastInDim S4096x1024 ![0, 1] bcast_S4096x1_S4096x1024_0_1
    (Host.rsqrt (addf (Host.divf (broadcastInDim S4096x1 ![0] bcast_S4096_S4096x1_0
        (Host.reduceAdd (mulf x x) (constant S_ .f32 0x00000000#32) reducesTo_S4096x1024_S4096_d1 h_S_))
        (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 g))
    (broadcastInDim S4096x1024 ![0, 1] bcast_S1x1024_S4096x1024_0_1
      (addf (broadcastInDim S1x1024 ![] bcast_S_S1x1024 (constant S_ .f32 0x3F800000#32)) s)))
    (broadcastInDim S4096x1024 ![0, 1] bcast_S1x1024_S4096x1024_0_1 shift)

/-- The reference's product. -/
def dot (h : FVec Ideal S4096x1024 .f32) (w : FVec Ideal S5632x1024 .bf16) : FVec Ideal S4096x5632 .f32 :=
  Host.dotGeneral dot_S4096x1024_S1024x5632_S4096x5632_1_0_0_1_n_n none h
    (transpose S1024x5632 [1, 0] (extf .f32 w bitsLt_bf16_f32) transposes_S5632x1024_S1024x5632_1_0)

/-- The reference's rotated columns. -/
def rotate (p : FVec Ideal S4096x5632 .f32) : FVec Ideal S4096x5632 .f32 :=
  concatenate S4096x5632 1 [⟨S4096x4096, (extractStridedSlice S4096x4096 ![0, 1536] p slices_S4096x5632_S4096x4096_0_1536)⟩,
    ⟨S4096x1536, (extractStridedSlice S4096x1536 ![0, 0] p slices_S4096x5632_S4096x1536_0_0)⟩] concatenates_S4096x4096_S4096x1536_S4096x5632_d1

theorem norm_at (x : FVec Ideal S4096x1024 .f32) (g shift s : FVec Ideal S1x1024 .f32) (y : S4096x1024.Idx) :
    norm x g shift s y = normRow x g shift s (y 0) (y 1) := by
  unfold Cert.PreMmIdeal.MixIn.normRow PreNorm.entry NormBackward.rate NormBackward.power
  pointwise [norm]

theorem dot_at (h : FVec Ideal S4096x1024 .f32) (w : FVec Ideal S5632x1024 .bf16) (y : S4096x5632.Idx) :
    dot h w y = (∑ k : Fin 1024, (h (ix2 (y 0) k) : EReal) * w (ix2 (y 1) k) : EReal) := by
  pointwise [dot]

theorem rotate_at (p : FVec Ideal S4096x5632 .f32) (y : S4096x5632.Idx) : rotate p y = p (ix2 (y 0) (source (y 1))) := by
  unfold Cert.PreMmIdeal.MixIn.source
  pointwise [rotate]
  split_ifs with h
  · refine congrArg (fun q => p (ix2 (y 0) q)) (Fin.ext ?_)
    dsimp only
    omega
  all_goals rfl

theorem normed_eq (x : FVec Ideal S4096x1024 .f32) (g shift s : FVec Ideal S1x1024 .f32) :
    truncf .bf16 (norm x g shift s) bitsLt_bf16_f32 = normed x g shift s := by
  funext y
  exact norm_at x g shift s y

theorem projected_eq (x : FVec Ideal S4096x1024 .f32) (g shift s : FVec Ideal S1x1024 .f32) (w : FVec Ideal S5632x1024 .bf16) :
    rotate (dot (norm x g shift s) w) = projected x g shift s w := by
  funext y
  refine (rotate_at _ y).trans ((dot_at _ _ _).trans ?_)
  exact Fin.sum_fin_congr fun k => congrArg₂ (fun u v : EReal => u * v) (norm_at x g shift s _) rfl

variable (m : (ℓ : Loc nD τ sig) → Buf (Elt Ideal) ℓ) (ρ : Dev nD → PrngReg) (c : Dev nD)

/-- A whole run of the reference. -/
theorem run : θ_run defs (onTc (τ := τ) main) ⟨m, fun _ => 0, ρ⟩ fun r => ∀ c : Dev nD,
    r.2.mem ((c.tc : Thread nD τ).loc main_v23) = normed (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v24) = projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h c).1.trans (normed_eq (m ((c.tc : Thread nD τ).loc main_arg0)) (m ((c.tc : Thread nD τ).loc main_arg1)) (m ((c.tc : Thread nD τ).loc main_arg2)) (m ((c.tc : Thread nD τ).loc main_arg3))),
    (h c).2.1.trans (projected_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))),
    (h c).2.2⟩) (Value.run m ρ)

end Cert.PreMmRefIdeal.MixIn

end
-- ==== Proof.MixInSame.lean ====
/-
The program of the mixer's projection at bits is the one at the reals, word for word: the run proved for one serves the other.
-/
module

public import proofs.«01_k».proof.Defs
public import proofs.«01_k».proof.Proof.Gen.PreMm
public import proofs.«01_k».proof.Proof.MixInCert

@[expose] public section
set_option maxRecDepth 65536
namespace Cert.PreMm.MixInSame
open Idealize.ShloMosaic Idealize.SL.Sem Cert.PreMm
theorem same_body : (Cert.PreMm.cc0_mix_in (F := Bits)) = (Cert.PreMmIdeal.cc0_mix_in (F := Bits)) := by
  unfold Cert.PreMm.cc0_mix_in Cert.PreMmIdeal.cc0_mix_in
  rfl
theorem same_defs₀ : (Cert.PreMm.defs₀ (F := Bits)) = (Cert.PreMmIdeal.defs₀ (F := Bits)) := by
  unfold Cert.PreMm.defs₀ Cert.PreMmIdeal.defs₀
  refine congrArg Defs.onTc (funext fun l => funext fun x => ?_)
  match l, x with
  | 0, (t, s) =>
    simp only [same_body]
    rfl

theorem same_defs : (Cert.PreMm.defs (F := Bits)) = (Cert.PreMmIdeal.defs (F := Bits)) :=
  congrArg (Pipeline.defs Cert.PreMmIdeal.pcfgs) same_defs₀
theorem same_main : (Cert.PreMm.main (F := Bits)) = (Cert.PreMmIdeal.main (F := Bits)) := rfl

/-- The frame of the program at bits. -/
theorem frame : Cert.quiescent_PreMm := fun m ρ _ => by
  have h := Cert.PreMmIdeal.MixInRun.frame (F := Bits) m ρ
  rw [← same_defs, ← same_main] at h
  exact h

end Cert.PreMm.MixInSame

end
-- ==== Proof.UpBackRun.lean ====
/-
One grid point of `ffn_up_bwd`: the body's triple in its three cases, with what every buffer is left holding NAMED.

The grid goes through the blocks of rows and, for each, through the column blocks of the weight. At the first column block
the gradient is passed back through the norm and kept in a scratch, which the other column blocks read; the column sums
for the gain and the gate are added up in one buffer, over all the blocks of rows.
-/
module

public import proofs.«01_k».proof.Proof.Gen.UpBwdIdeal.Frame
public import proofs.«01_k».proof.Proof.Gen.UpBwdIdeal.Skeleton
public import proofs.«01_k».proof.Proof.WholeBlock
public import Idealize.ShloMosaic.Lib.Pointwise

@[expose] public section

set_option maxRecDepth 16384

noncomputable section

namespace Cert.UpBwdIdeal.UpBackRun

open Cert.UpBwdIdeal Cert.UpBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.WholeBlock

/-! ## Two payloads stored side by side -/

/-- An array of two planes. -/
def planes {Val : EltTy → Type} {e : EltTy} {a b : ℕ} (w0 w1 : (⟨3, ![1, a, b]⟩ : Shape).Idx → Val e) : (⟨3, ![2, a, b]⟩ : Shape).Idx → Val e := fun y =>
  if (y 0).val = 0 then w0 (ix3 0 (y 1) (y 2)) else w1 (ix3 0 (y 1) (y 2))

/-- The two planes stored one after the other, read back. -/
theorem store_two {Val : EltTy → Type} {e : EltTy} {a b : ℕ} {M : Memref sig .tc .vmem ⟨3, ![2, a, b]⟩ e}
    (inb1 : ∀ k, (![1, 0, 0] : Fin 3 → ℕ) k + (![1, a, b] : Fin 3 → ℕ) k ≤ (![2, a, b] : Fin 3 → ℕ) k)
    (inb0 : ∀ k, (![0, 0, 0] : Fin 3 → ℕ) k + (![1, a, b] : Fin 3 → ℕ) k ≤ (![2, a, b] : Fin 3 → ℕ) k)
    (f : BufTy.Contents Val M.view.ty) (w0 w1 : (⟨3, ![1, a, b]⟩ : Shape).Idx → Val e) (L : List (View.Piece Val ⟨3, ![2, a, b]⟩ e)) :
    M.view.read Val (M.view.writes Val f (⟨Rect.unit (s := ⟨3, ![2, a, b]⟩) ![1, 0, 0] ![1, a, b] inb1, w1⟩
      :: ⟨Rect.unit (s := ⟨3, ![2, a, b]⟩) ![0, 0, 0] ![1, a, b] inb0, w0⟩ :: L)) = planes w0 w1 := by
  funext y
  have hy : (y 0).val < 2 := (y 0).isLt
  unfold planes
  by_cases h : (y 0).val = 0
  · rw [if_pos h]
    refine (View.read_writes_cons_unit_of_not_mem (s := ⟨3, ![2, a, b]⟩) M.view f (size := ![1, a, b]) inb1 w1 _ y rfl (0 : Fin 3)
      (Or.inl (by show (y 0).val < 1; omega))).trans ?_
    refine View.read_writes_cons_unit_of_mem (s := ⟨3, ![2, a, b]⟩) M.view f (size := ![1, a, b]) inb0 w0 L y (ix3 0 (y 1) (y 2)) rfl fun k => ?_
    fin_cases k
    · show (y 0).val = 0 + 0; omega
    · show (y 1).val = 0 + (y 1).val; omega
    · show (y 2).val = 0 + (y 2).val; omega
  · rw [if_neg h]
    refine View.read_writes_cons_unit_of_mem (s := ⟨3, ![2, a, b]⟩) M.view f (size := ![1, a, b]) inb1 w1 _ y (ix3 0 (y 1) (y 2)) rfl fun k => ?_
    fin_cases k
    · show (y 0).val = 1 + 0; omega
    · show (y 1).val = 0 + (y 1).val; omega
    · show (y 2).val = 0 + (y 2).val; omega

variable {F : FTy → Type} [FloatOps F]

local notation "𝕄" => MT nD τ sig Unit (Elt F) ℕ (UR sig nD τ) ℕ

/-! ## What the body computes -/

/-- The gradient of a block of rows, passed back through the norm. -/
def back (x0 x1 : Vec F S512x1024 .f32) (x2 x3 : Vec F S1x1024 .f32) : Vec F S512x1024 .bf16 :=
  k0_pay1 x0 (k0_pay15 x2 x3 x0 x1) (k0_pay17 x2 x3 x0 x1)

/-- The gradients of the gate and of the other factor. -/
def halves (h : Vec F S512x1024 .bf16) (x4 : Vec F S1408x1024 .bf16) (x5 x6 : Vec F S512x1408 .bf16) : Vec F S2x512x1408 .bf16 :=
  planes (k0_pay7 h x4 x5 x6) (k0_pay8 h x4 x5)

/-- The column sums of a block of rows. -/
def sums (x0 x1 : Vec F S512x1024 .f32) (x2 x3 : Vec F S1x1024 .f32) : Vec F S8x1024 .f32 :=
  k0_pay2 (k0_pay13 x3 x0 x1) (k0_pay16 x2 x0 x1)

/-- The same on top of the sums so far. -/
def added (x0 x1 : Vec F S512x1024 .f32) (x2 x3 : Vec F S1x1024 .f32) (xp : Vec F S8x1024 .f32) : Vec F S8x1024 .f32 :=
  k0_pay3 (k0_pay13 x3 x0 x1) (k0_pay16 x2 x0 x1) xp

/-! ## The cases -/

/-- The column block is the first. -/
abbrev first (i : grid0.Coords) : Prop := k0_cond1 i = 1#1

/-- The block of rows is the first. -/
abbrev opening (i : grid0.Coords) : Prop := k0_cond2 i = 1#1

/-- The block of rows is a later one. -/
abbrev following (i : grid0.Coords) : Prop := k0_cond3 i = 1#1

theorem first_iff : ∀ t : Fin cfg0.N, first (grid0.coords t) ↔ t.val % 2 = 0 := (by decide +kernel : ∀ t : Fin grid0.N, _)

theorem opening_iff : ∀ t : Fin cfg0.N, opening (grid0.coords t) ↔ t.val / 2 = 0 := (by decide +kernel : ∀ t : Fin grid0.N, _)

theorem following_iff : ∀ t : Fin cfg0.N, following (grid0.coords t) ↔ ¬t.val / 2 = 0 := (by decide +kernel : ∀ t : Fin grid0.N, _)

set_option maxHeartbeats 3200000 in
/-- The body at the first point: it passes the gradient back through the norm, keeps it, and starts the column sums. -/
theorem run_start (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1408x1024 .bf16) (harg6 : arg6.IsWhole) (arg7 : Memref sig .tc .vmem S512x1408 .bf16) (harg7 : arg7.IsWhole) (arg8 : Memref sig .tc .vmem S512x1408 .bf16) (harg8 : arg8.IsWhole) (arg9 : Memref sig .tc .vmem S512x1024 .bf16) (harg9 : arg9.IsWhole) (arg10 : Memref sig .tc .vmem S2x512x1408 .bf16) (harg10 : arg10.IsWhole) (arg11 : Memref sig .tc .vmem S8x1024 .f32) (harg11 : arg11.IsWhole) (arg12 : Memref sig .tc .vmem S512x1024 .bf16) (harg12 : arg12.IsWhole)
    (hc : first i) (h2 : opening i) (h3 : ¬following i) (x0 : Vec F S512x1024 .f32) (x1 : Vec F S512x1024 .f32) (x2 : Vec F S1x1024 .f32) (x3 : Vec F S1x1024 .f32) (x4 : Vec F S1408x1024 .bf16) (x5 : Vec F S512x1408 .bf16) (x6 : Vec F S512x1408 .bf16)
    (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (back x0 x1 x2 x3) ∗ owns (c : Thread nD τ) arg10 fullShare (halves (back x0 x1 x2 x3) x4 x5 x6) ∗ owns (c : Thread nD τ) arg11 fullShare (sums x0 x1 x2 x3) ∗ owns (c : Thread nD τ) arg12 fullShare (back x0 x1 x2 x3)) -∗ K ⟨⟩))
      ⊢ wp frame (wpE (defs₀ (F := F)) Variants.none c none) E (cc0_ffn_up_bwd i arg2 harg2 arg3 harg3 arg4 harg4 arg5 harg5 arg6 harg6 arg7 harg7 arg8 harg8 arg9 harg9 arg10 harg10 arg11 harg11 arg12 harg12) K := by
  simp only [cc0_ffn_up_bwd_eq_skeleton]; unfold cc0_ffn_up_bwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_words; rw [store_all]; simp only [load_all, reload_all]; rfl
  isplitl [H8]
  · iexists _; isplitr
    swap; · iexact H8
    ipureintro
    sl_unfold_words; rw [store_two]; simp only [load_all, reload_all]; rfl
  isplitl [H9]
  · iexists _; isplitr
    swap; · iexact H9
    ipureintro
    sl_unfold_words; rw [store_all]; simp only [load_all, reload_all]; rfl
  iexists _; isplitr
  swap; · iexact HS
  ipureintro
  sl_unfold_words; rw [store_all]; simp only [load_all, reload_all]; rfl

set_option maxHeartbeats 3200000 in
/-- The body at the first point of a later row of blocks, the column sums so far being `xp`. -/
theorem run_row (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1408x1024 .bf16) (harg6 : arg6.IsWhole) (arg7 : Memref sig .tc .vmem S512x1408 .bf16) (harg7 : arg7.IsWhole) (arg8 : Memref sig .tc .vmem S512x1408 .bf16) (harg8 : arg8.IsWhole) (arg9 : Memref sig .tc .vmem S512x1024 .bf16) (harg9 : arg9.IsWhole) (arg10 : Memref sig .tc .vmem S2x512x1408 .bf16) (harg10 : arg10.IsWhole) (arg11 : Memref sig .tc .vmem S8x1024 .f32) (harg11 : arg11.IsWhole) (arg12 : Memref sig .tc .vmem S512x1024 .bf16) (harg12 : arg12.IsWhole)
    (hc : first i) (h2 : ¬opening i) (h3 : following i) (x0 : Vec F S512x1024 .f32) (x1 : Vec F S512x1024 .f32) (x2 : Vec F S1x1024 .f32) (x3 : Vec F S1x1024 .f32) (x4 : Vec F S1408x1024 .bf16) (x5 : Vec F S512x1408 .bf16) (x6 : Vec F S512x1408 .bf16) (xp : Vec F S8x1024 .f32)
    (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ (∃ d, owns (c : Thread nD τ) arg9 fullShare d) ∗ (∃ d, owns (c : Thread nD τ) arg10 fullShare d) ∗ owns (c : Thread nD τ) arg11 fullShare (xp) ∗ (∃ d, owns (c : Thread nD τ) arg12 fullShare d)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (back x0 x1 x2 x3) ∗ owns (c : Thread nD τ) arg10 fullShare (halves (back x0 x1 x2 x3) x4 x5 x6) ∗ owns (c : Thread nD τ) arg11 fullShare (added x0 x1 x2 x3 xp) ∗ owns (c : Thread nD τ) arg12 fullShare (back x0 x1 x2 x3)) -∗ K ⟨⟩))
      ⊢ wp frame (wpE (defs₀ (F := F)) Variants.none c none) E (cc0_ffn_up_bwd i arg2 harg2 arg3 harg3 arg4 harg4 arg5 harg5 arg6 harg6 arg7 harg7 arg8 harg8 arg9 harg9 arg10 harg10 arg11 harg11 arg12 harg12) K := by
  simp only [cc0_ffn_up_bwd_eq_skeleton]; unfold cc0_ffn_up_bwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%ds, %fs, -, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9
  sl_exec (disch := first | sl_exact hc | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    sl_unfold_words; rw [store_all]; simp only [load_all, reload_all]; rfl
  isplitl [H8]
  · iexists _; isplitr
    swap; · iexact H8
    ipureintro
    sl_unfold_words; rw [store_two]; simp only [load_all, reload_all]; rfl
  isplitl [H9]
  · iexists _; isplitr
    swap; · iexact H9
    ipureintro
    sl_unfold_words; rw [store_all]; simp only [load_all, reload_all]; rfl
  iexists _; isplitr
  swap; · iexact HS
  ipureintro
  sl_unfold_words; rw [store_all]; simp only [load_all, reload_all]; rfl

set_option maxHeartbeats 3200000 in
/-- The body at any other point, the scratch holding the gradient `xs`. -/
theorem run_later (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1408x1024 .bf16) (harg6 : arg6.IsWhole) (arg7 : Memref sig .tc .vmem S512x1408 .bf16) (harg7 : arg7.IsWhole) (arg8 : Memref sig .tc .vmem S512x1408 .bf16) (harg8 : arg8.IsWhole) (arg9 : Memref sig .tc .vmem S512x1024 .bf16) (harg9 : arg9.IsWhole) (arg10 : Memref sig .tc .vmem S2x512x1408 .bf16) (harg10 : arg10.IsWhole) (arg11 : Memref sig .tc .vmem S8x1024 .f32) (harg11 : arg11.IsWhole) (arg12 : Memref sig .tc .vmem S512x1024 .bf16) (harg12 : arg12.IsWhole)
    (hc : ¬first i) (x0 : Vec F S512x1024 .f32) (x1 : Vec F S512x1024 .f32) (x2 : Vec F S1x1024 .f32) (x3 : Vec F S1x1024 .f32) (x4 : Vec F S1408x1024 .bf16) (x5 : Vec F S512x1408 .bf16) (x6 : Vec F S512x1408 .bf16) (xs : Vec F S512x1024 .bf16)
    (E : Set ℕ) (K : PUnit → sProp 𝕄) :
    iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ (∃ d, owns (c : Thread nD τ) arg10 fullShare d) ∗ owns (c : Thread nD τ) arg12 fullShare (xs)
        ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg10 fullShare (halves xs x4 x5 x6) ∗ owns (c : Thread nD τ) arg12 fullShare (xs)) -∗ K ⟨⟩))
      ⊢ wp frame (wpE (defs₀ (F := F)) Variants.none c none) E (cc0_ffn_up_bwd i arg2 harg2 arg3 harg3 arg4 harg4 arg5 harg5 arg6 harg6 arg7 harg7 arg8 harg8 arg9 harg9 arg10 harg10 arg11 harg11 arg12 harg12) K := by
  simp only [cc0_ffn_up_bwd_eq_skeleton]; unfold cc0_ffn_up_bwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d8, %f8, -, H8⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H8]
  · iexists _; isplitr
    swap; · iexact H8
    ipureintro
    sl_unfold_words; rw [store_two]; simp only [load_all, reload_all]; rfl
  iexists _; isplitr
  swap; · iexact HS
  ipureintro
  exact harg12.read_unread _

end Cert.UpBwdIdeal.UpBackRun

end
-- ==== Proof.UpBackCert.lean ====
/-
The whole run of `ffn_up_bwd`: from the body's triples at one grid point to what every result array is left holding, over
any values.
-/
module

public import proofs.«01_k».proof.Proof.UpBackRun
public import Idealize.ShloMosaic.Lib.Pipeline.TableIdle
public import Idealize.ShloMosaic.Lib.Claim

@[expose] public section

set_option maxRecDepth 16384

noncomputable section

namespace Cert.UpBwdIdeal.UpBackRun

open Cert.UpBwdIdeal Cert.UpBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds -/

/-- The scratch of gradient rows. -/
abbrev scratch : Memref sig .tc .vmem S512x1024 .bf16 := Memref.whole cc0_scratch0

/-- The region's invariant with the scratch as a memref owned at some contents. -/
theorem rest_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The point that starts `t`'s row of blocks. -/
def start (t : Fin cfg0.N) : Fin cfg0.N := ⟨t.val - t.val % 2, Nat.lt_of_le_of_lt (Nat.sub_le _ _) t.isLt⟩

/-- The point before `t`. -/
def prior (t : Fin cfg0.N) : Fin cfg0.N := ⟨t.val - 1, Nat.lt_of_le_of_lt (Nat.sub_le _ _) t.isLt⟩

theorem start_first (t : Fin cfg0.N) (h : t.val % 2 = 0) : start t = t := Fin.ext (by show t.val - t.val % 2 = t.val; omega)

theorem start_later (t : Fin cfg0.N) (h : ¬t.val % 2 = 0) : start (prior t) = start t :=
  Fin.ext (by show t.val - 1 - (t.val - 1) % 2 = t.val - t.val % 2; omega)

/-- The gradient rows of `t`'s row of blocks. -/
def rows (c : Dev nD) (t : Fin cfg0.N) : Vec F S512x1024 .bf16 := back (iblk m c 0 (start t)) (iblk m c 1 (start t)) (iblk m c 2 (start t)) (iblk m c 3 (start t))

theorem rows_first (c : Dev nD) (t : Fin cfg0.N) (h : t.val % 2 = 0) :
    rows m c t = back (iblk m c 0 t) (iblk m c 1 t) (iblk m c 2 t) (iblk m c 3 t) := by
  unfold rows; rw [start_first t h]

theorem rows_later (c : Dev nD) (t : Fin cfg0.N) (h : ¬t.val % 2 = 0) :
    rows m c (prior t) = rows m c t := by
  unfold rows; rw [start_later t h]

/-- The column sums after point `n`: every block of rows adds its own at the first column block. -/
def total (c : Dev nD) : (n : ℕ) → n < cfg0.N → Vec F S8x1024 .f32
  | 0, h => sums (iblk m c 0 ⟨0, h⟩) (iblk m c 1 ⟨0, h⟩) (iblk m c 2 ⟨0, h⟩) (iblk m c 3 ⟨0, h⟩)
  | n + 1, h =>
    if (n + 1) % 2 = 0 then added (iblk m c 0 ⟨n + 1, h⟩) (iblk m c 1 ⟨n + 1, h⟩) (iblk m c 2 ⟨n + 1, h⟩) (iblk m c 3 ⟨n + 1, h⟩) (total c n (Nat.lt_of_succ_lt h))
    else total c n (Nat.lt_of_succ_lt h)

theorem total_zero (c : Dev nD) (t : Fin cfg0.N) (h : t.val = 0) : total m c t.val t.isLt = sums (iblk m c 0 t) (iblk m c 1 t) (iblk m c 2 t) (iblk m c 3 t) := by
  obtain ⟨n, hn⟩ := t
  obtain rfl : n = 0 := h
  rfl

theorem total_row (c : Dev nD) (t : Fin cfg0.N) (h : t.val % 2 = 0) (hz : ¬t.val = 0) :
    total m c t.val t.isLt = added (iblk m c 0 t) (iblk m c 1 t) (iblk m c 2 t) (iblk m c 3 t) (total m c (prior t).val (prior t).isLt) := by
  obtain ⟨n, hn⟩ := t
  cases n with
  | zero => exact absurd rfl hz
  | succ n => exact if_pos h

theorem total_later (c : Dev nD) (t : Fin cfg0.N) (h : ¬t.val % 2 = 0) :
    total m c t.val t.isLt = total m c (prior t).val (prior t).isLt := by
  obtain ⟨n, hn⟩ := t
  cases n with
  | zero => exact absurd rfl h
  | succ n => exact if_neg h

/-- The region's invariant before point `n`: after any point the scratch holds that point's rows. -/
def held (c : Dev nD) : (n : ℕ) → n ≤ cfg0.N → sProp 𝕄
  | 0, _ => Pipeline.ΦA spec0 c
  | n + 1, hn => iprop(owns (c : Thread nD τ) scratch fullShare (rows m c ⟨n, hn⟩) ∗ (∃ r, prngReg c r))

theorem held_pos (c : Dev nD) (t : Fin cfg0.N) (hz : t.val ≠ 0) :
    held m c t.val (Nat.le_of_lt t.isLt) = iprop(owns (c : Thread nD τ) scratch fullShare
      (rows m c (prior t)) ∗ (∃ r, prngReg c r)) := by
  obtain ⟨n, hn⟩ := t
  cases n with
  | zero => exact absurd rfl hz
  | succ n => rfl

/-- Whatever the point, the scratch holds something. -/
theorem held_some (c : Dev nD) : ∀ (n : ℕ) (hn : n ≤ cfg0.N),
    held m c n hn ⊢ iprop(iprop((∃ d, owns (c : Thread nD τ) scratch fullShare d)) ∗ (∃ r, prngReg c r))
  | 0, _ => by rw [show held m c 0 (Nat.zero_le _) = Pipeline.ΦA spec0 c from rfl, rest_eq]
  | n + 1, hn => by
    rw [show held m c (n + 1) hn = iprop(owns (c : Thread nD τ) scratch fullShare (rows m c ⟨n, hn⟩) ∗ (∃ r, prngReg c r)) from rfl]
    iintro ⟨HS, Hg⟩
    isplitl [HS]
    · iexists _; iexact HS
    iexact Hg

/-- The proof data: the inputs' buffers keep their blocks; the results' hold the rows, what is made of them, and the sums so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rows m c t
    | ⟨8, _⟩ => halves (rows m c t) (iblk m c 4 t) (iblk m c 5 t) (iblk m c 6 t)
    | ⟨9, _⟩ => total m c t.val t.isLt
  Φ t := held m c t.val (Nat.le_of_lt_succ t.isLt)
  q _ := fullShare
  owed _ := 0

theorem A_eq (c : Dev nD) (w : Fin cfg0.W) : (dats m 0 c).A w = V m c (Pipeline.arrRef spec0 w) := by
  dsimp only [dats]

theorem held_castSucc (c : Dev nD) (t : Fin cfg0.N) :
    (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = rows m c t := by dsimp only [dats]
theorem after8 (c : Dev nD) (t : Fin cfg0.N) : (dats m 0 c).after 8 t = halves (rows m c t) (iblk m c 4 t) (iblk m c 5 t) (iblk m c 6 t) := by dsimp only [dats]
theorem after9 (c : Dev nD) (t : Fin cfg0.N) : (dats m 0 c).after 9 t = total m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-! ## The results stored once per row of blocks -/

theorem live7 : ∀ t : Fin cfg0.N, first (grid0.coords t) → cfg0.idle 7 (grid0.coords t) = false := by decide +kernel
theorem live9 : ∀ t : Fin cfg0.N, first (grid0.coords t) → cfg0.idle 9 (grid0.coords t) = false := by decide +kernel

/-- The block of rows moves on only at the row's last point, -/
theorem kept7 : ∀ t : Fin cfg0.N, ¬first (grid0.coords t) → cfg0.fresh 7 t.val = false := by decide +kernel

/-- the block of sums never. -/
theorem kept9 : ∀ t : Fin cfg0.N, ¬t.val = 0 → cfg0.fresh 9 t.val = false := by decide +kernel

/-- The rows do not change along a row of blocks, -/
theorem carried7 (c : Dev nD) (t : Fin cfg0.N) (_ : t.val ≠ 0) (hi : cfg0.idle 7 (grid0.coords t) = true)
    (_ : cfg0.fresh 7 t.val = false) : (dats m 0 c).after 7 t = (dats m 0 c).after 7 ⟨t.val - 1, by omega⟩ := by
  rw [after7, after7]
  by_cases h : t.val % 2 = 0
  · rw [live7 t ((first_iff t).mpr h)] at hi
    exact absurd hi Bool.false_ne_true
  · exact (rows_later m c t h).symm

/-- nor do the sums. -/
theorem carried9 (c : Dev nD) (t : Fin cfg0.N) (_ : t.val ≠ 0) (hi : cfg0.idle 9 (grid0.coords t) = true)
    (_ : cfg0.fresh 9 t.val = false) : (dats m 0 c).after 9 t = (dats m 0 c).after 9 ⟨t.val - 1, by omega⟩ := by
  rw [after9, after9]
  by_cases h : t.val % 2 = 0
  · rw [live9 t ((first_iff t).mpr h)] at hi
    exact absurd hi Bool.false_ne_true
  · exact total_later m c t h

/-- Past the first point of a row, the body finds the rows there. -/
theorem before7 (c : Dev nD) (t : Fin cfg0.N) (h : ¬t.val % 2 = 0) (d) : (dats m 0 c).before 7 t d = rows m c t := by
  rw [Dat.before_out_traj _ 7 rfl (fun _ _ => rfl) (carried7 m c) t.val t rfl d,
    if_neg (by rw [kept7 t (fun e => h ((first_iff t).mp e))]; exact Bool.false_ne_true), after7]
  exact rows_later m c t h

/-- Past the first point of all, it finds the sums so far. -/
theorem before9 (c : Dev nD) (t : Fin cfg0.N) (h : ¬t.val = 0) (d) :
    (dats m 0 c).before 9 t d = total m c (prior t).val (prior t).isLt := by
  rw [Dat.before_out_traj _ 9 rfl (fun _ _ => rfl) (carried9 m c) t.val t rfl d,
    if_neg (by rw [kept9 t h]; exact Bool.false_ne_true), after9]
  rfl

/-- A buffer that holds what it is to hold, and that the body finds so, is as the pipeline asks. -/
theorem leaves7 (c : Dev nD) (t : Fin cfg0.N) (d) (h : (dats m 0 c).before 7 t d = rows m c t) :
    owns (c : Thread nD τ) (st0_7 t) fullShare (rows m c t) ⊢ (dats m 0 c).leavesExact 7 t := by
  unfold Dat.leavesExact
  split
  · split
    · iintro H0
      iexists d
      rw [h]; iexact H0
    · rw [after7]
  · rw [after7]

theorem leaves9 (c : Dev nD) (t : Fin cfg0.N) (d) (h : (dats m 0 c).before 9 t d = total m c t.val t.isLt) :
    owns (c : Thread nD τ) (st0_9 t) fullShare (total m c t.val t.isLt) ⊢ (dats m 0 c).leavesExact 9 t := by
  unfold Dat.leavesExact
  split
  · split
    · iintro H0
      iexists d
      rw [h]; iexact H0
    · rw [after9]
  · rw [after9]

/-! ## The body at every point -/

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ owns (c : Thread nD τ) (st0_8 t) fullShare ((dats m 0 c).after 8 t)
    ∗ (dats m 0 c).leavesExact 9 t)

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl, after0, after1, after2, after3, after4, after5, after6, after8]
  rw [show (dats m 0 c).Φ t.succ = iprop(owns (c : Thread nD τ) scratch fullShare (rows m c t) ∗ (∃ r, prngReg c r)) from rfl,
    held_castSucc m c t]
  by_cases hz : t.val % 2 = 0
  · rw [show (dats m 0 c).leavesExact 7 t = owns (c : Thread nD τ) (st0_7 t) fullShare ((dats m 0 c).after 7 t) from by
      unfold Dat.leavesExact; rw [live7 t ((first_iff t).mpr hz)], after7]
    rw [show (dats m 0 c).leavesExact 9 t = owns (c : Thread nD τ) (st0_9 t) fullShare ((dats m 0 c).after 9 t) from by
      unfold Dat.leavesExact; rw [live9 t ((first_iff t).mpr hz)], after9]
    rw [rows_first m c t hz]
    refine (sep_mono_left (held_some m c _ _)).trans ?_
    by_cases h0 : t.val = 0
    · rw [total_zero m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_start c (grid0.coords t) _ _ _ _ _ _ _ _ _ _ _ _ _ _ _ _ _ _ _ _ _ _ ((first_iff t).mpr hz) ((opening_iff t).mpr (by omega)) (fun h => (following_iff t).mp h (by omega)) (iblk m c 0 t) (iblk m c 1 t) (iblk m c 2 t) (iblk m c 3 t) (iblk m c 4 t) (iblk m c 5 t) (iblk m c 6 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [total_row m c t hz h0]
      simp only [before9 m c t h0]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_row c (grid0.coords t) _ _ _ _ _ _ _ _ _ _ _ _ _ _ _ _ _ _ _ _ _ _ ((first_iff t).mpr hz) (fun h => h0 (by have := (opening_iff t).mp h; omega)) ((following_iff t).mpr (by omega)) (iblk m c 0 t) (iblk m c 1 t) (iblk m c 2 t) (iblk m c 3 t) (iblk m c 4 t) (iblk m c 5 t) (iblk m c 6 t) (total m c (prior t).val (prior t).isLt) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexact H9
      isplitl [HS]; · iexact HS
      iintro ⟨H0, H1, H2, H3, H4, H5, H6, H7, H8, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · simp only [before7 m c t hz, before9 m c t (fun e => hz (by rw [e]))]
    rw [held_pos m c t (fun e => hz (by rw [e])), rows_later m c t hz]
    rw [← total_later m c t hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_later c (grid0.coords t) _ _ _ _ _ _ _ _ _ _ _ _ _ _ _ _ _ _ _ _ _ _ (fun h => hz ((first_iff t).mp h)) (iblk m c 0 t) (iblk m c 1 t) (iblk m c 2 t) (iblk m c 3 t) (iblk m c 4 t) (iblk m c 5 t) (iblk m c 6 t) (rows m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexists _; iexact H8
    isplitl [HS]; · iexact HS
    iintro ⟨H0, H1, H2, H3, H4, H5, H6, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves7 m c t d7 (before7 m c t hz d7)); iexact H7
    isplitl [H8]; · iexact H8
    iapply (leaves9 m c t d9 (by rw [before9 m c t (fun e => hz (by rw [e])) d9, total_later m c t hz])); iexact H9

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem held_first (c : Dev nD) : Pipeline.ΦA spec0 c ⊢ (dats m 0 c).Φ 0 := by
  rw [show (dats m 0 c).Φ 0 = Pipeline.ΦA spec0 c from rfl]

theorem held_last (c : Dev nD) : (dats m 0 c).Φ (Fin.last cfg0.N) ⊢ Pipeline.ΦA spec0 c := by
  rw [show (dats m 0 c).Φ (Fin.last cfg0.N) = held m c cfg0.N (le_refl _) from rfl, rest_eq]
  exact held_some m c _ _

/-! ## The run -/

set_option backward.isDefEq.respectTransparency.types false in
/-- Every execution ends with the arrays at what the points' blocks make of them, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := held_first m) (hout := held_last m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.UpBwdIdeal.UpBackRun

end
-- ==== Proof.UpBack.lean ====
/-
The feed-forward block's output side, backward: the gradient passes through the norm after the block to the block's output,
through the output weight to the hidden activations, and from there to the gate and to the factor it gates.
-/
module

public import proofs.«01_k».proof.Proof.UpBackCert
public import proofs.«01_k».proof.Proof.Gen.UpBwdRefIdeal.Run
public import proofs.«01_k».proof.Proof.PostNorm
public import Idealize.ShloMosaic.Lib.Pipeline.ValueKit
public import Idealize.ShloMosaic.Lib.Pointwise

@[expose] public section

set_option maxRecDepth 16384

noncomputable section

namespace Cert.UpBwdIdeal.UpBack

open Cert.UpBwdIdeal Cert.UpBwdIdeal.Gen Cert.UpBwdIdeal.UpBackRun
open Idealize.ShloMosaic Idealize.ShloMosaic.TcCoe Idealize.SL.Sem

/-- The block's weight in the residual: one half. -/
def half : EReal := Ideal.ofBits .f32 0x3F000000#32

theorem half_eq : half = ((1 / 2 : ℝ) : EReal) := by
  unfold half
  simp [Ideal.ofBits, Ideal.ieee, -EReal.coe_mul]
  norm_num

/-- The weight passes in and out of a sum: it is neither negative nor infinite. -/
theorem half_sum {ι : Type} (s : Finset ι) (f : ι → EReal) : ∑ i ∈ s, half * f i = half * ∑ i ∈ s, f i := by
  classical
  induction s using Finset.induction_on with
  | empty => simp
  | insert i s hi ih =>
    rw [Finset.sum_insert hi, Finset.sum_insert hi, ih,
      EReal.left_distrib_of_nonneg_of_ne_top (by rw [half_eq]; exact EReal.coe_nonneg.mpr (by norm_num)) (by rw [half_eq]; exact EReal.coe_ne_top _)]

/-- Row `l` of an array of 1024 columns. -/
def row (x : Vec Ideal S4096x1024 .f32) (l : Fin 4096) : Fin 1024 → EReal := fun k => x (ix2 l k)

/-- The entries of an array of one row. -/
def line (g : Vec Ideal S1x1024 .f32) : Fin 1024 → EReal := fun k => g (ix2 0 k)

/-- Row `l` of the gradient of the block's output. -/
def outer (f d : Vec Ideal S4096x1024 .f32) (g gate : Vec Ideal S1x1024 .f32) (l : Fin 4096) : Fin 1024 → EReal :=
  PostNorm.back half (row f l) (line g) (line gate) (row d l)

/-- An entry of the gradient of the hidden activations. -/
def inner (f d : Vec Ideal S4096x1024 .f32) (g gate : Vec Ideal S1x1024 .f32) (w : Vec Ideal S2816x1024 .bf16) (l : Fin 4096) (j : Fin 2816) : EReal :=
  ∑ k : Fin 1024, outer f d g gate l k * (w (ix2 j k) : EReal)

/-- The gradient of the gate `a`, for the cotangent `e`, the factor it gates being `b`. -/
def gateBack (e a b : EReal) : EReal :=
  e * b * Ideal.logistic a + a * (e * b) * (Ideal.logistic a * (1 - Ideal.logistic a))

/-- The gradient of the factor. -/
def factorBack (e a : EReal) : EReal := a * Ideal.logistic a * e

/-- The gradient of the block's output. -/
def outGrad (f d : Vec Ideal S4096x1024 .f32) (g gate : Vec Ideal S1x1024 .f32) : Vec Ideal S4096x1024 .bf16 := fun y => outer f d g gate (y 0) (y 1)

/-- The gradients of the gate and of the factor, one plane each. -/
def pairGrad (f d : Vec Ideal S4096x1024 .f32) (g gate : Vec Ideal S1x1024 .f32) (w : Vec Ideal S2816x1024 .bf16) (a b : Vec Ideal S4096x2816 .bf16) :
    Vec Ideal S2x4096x2816 .bf16 := fun y =>
  if (y 0).val < 1 then gateBack (inner f d g gate w (y 1) (y 2)) (a (ix2 (y 1) (y 2))) (b (ix2 (y 1) (y 2)))
  else factorBack (inner f d g gate w (y 1) (y 2)) (a (ix2 (y 1) (y 2)))

/-- The gradients of the gain and the residual's gate: sums over the 4096 rows. -/
def sumsGrad (f d : Vec Ideal S4096x1024 .f32) (g gate : Vec Ideal S1x1024 .f32) : Vec Ideal S8x1024 .f32 := fun y =>
  PostNorm.pack (y 0).val (∑ l : Fin 4096, PostNorm.gainTerm half (row f l) (line gate) (row d l) (y 1))
    (half * ∑ l : Fin 4096, PostNorm.gateTerm (row f l) (line g) (row d l) (y 1))

theorem block_back (f d : Vec Ideal S512x1024 .f32) (g gate : Vec Ideal S1x1024 .f32) (y : S512x1024.Idx) :
    back f d g gate y
      = PostNorm.back half (fun k => f (ix2 (y 0) k)) (fun k => g (ix2 0 k)) (fun k => gate (ix2 0 k)) (fun k => d (ix2 (y 0) k)) (y 1) := by
  unfold PostNorm.back PostNorm.drift PostNorm.gated NormBackward.slope NormBackward.rate NormBackward.power half
  pointwise [back, k0_pay1, k0_pay15, k0_pay17, k0_pay14, k0_pay12, k0_pay10, k0_pay9]
  simp only [Finset.univ_unique, Finset.sum_singleton]

theorem block_sums (f d : Vec Ideal S512x1024 .f32) (g gate : Vec Ideal S1x1024 .f32) (y : S8x1024.Idx) :
    sums f d g gate y
      = PostNorm.pack (y 0).val
      (∑ l : Fin 512, PostNorm.gainTerm half (fun k => f (ix2 l k)) (fun k => gate (ix2 0 k)) (fun k => d (ix2 l k)) (y 1))
      (half * ∑ l : Fin 512, PostNorm.gateTerm (fun k => f (ix2 l k)) (fun k => g (ix2 0 k)) (fun k => d (ix2 l k)) (y 1)) := by
  unfold PostNorm.pack PostNorm.gainTerm PostNorm.gateTerm PostNorm.gated NormBackward.rate NormBackward.power half
  pointwise [sums, k0_pay2, k0_pay13, k0_pay16, k0_pay11, k0_pay12, k0_pay10, k0_pay9]
  simp only [dite_eq_ite]

/-- A later block adds its sums to those so far. -/
theorem block_added (f d : Vec Ideal S512x1024 .f32) (g gate : Vec Ideal S1x1024 .f32) (p : Vec Ideal S8x1024 .f32) (y : S8x1024.Idx) :
    added f d g gate p y = (p y + sums f d g gate y : EReal) := by
  unfold added sums k0_pay3
  generalize k0_pay2 (k0_pay13 gate f d) (k0_pay16 g f d) = q
  pointwise []

theorem block_inner (h : Vec Ideal S512x1024 .bf16) (w : Vec Ideal S1408x1024 .bf16) (y : S512x1408.Idx) :
    k0_pay4 h w y = (∑ k : Fin 1024, (h (ix2 (y 0) k) : EReal) * w (ix2 (y 1) k) : EReal) := by
  pointwise [k0_pay4]

theorem block_gate (h : Vec Ideal S512x1024 .bf16) (w : Vec Ideal S1408x1024 .bf16) (a b : Vec Ideal S512x1408 .bf16) (y : S1x512x1408.Idx) :
    k0_pay7 h w a b y = gateBack (k0_pay4 h w (ix2 (y 1) (y 2))) (a (ix2 (y 1) (y 2))) (b (ix2 (y 1) (y 2))) := by
  unfold k0_pay7 gateBack
  generalize k0_pay4 h w = e
  pointwise [k0_pay5, k0_pay6]

theorem block_factor (h : Vec Ideal S512x1024 .bf16) (w : Vec Ideal S1408x1024 .bf16) (a : Vec Ideal S512x1408 .bf16) (y : S1x512x1408.Idx) :
    k0_pay8 h w a y = factorBack (k0_pay4 h w (ix2 (y 1) (y 2))) (a (ix2 (y 1) (y 2))) := by
  unfold k0_pay8 factorBack
  generalize k0_pay4 h w = e
  pointwise [k0_pay5, k0_pay6]

theorem index0 : ∀ t : Fin cfg0.N, win0_0.index t = ![t.val / 2, 0] := (by decide +kernel : ∀ t : Fin grid0.N, _)
theorem index1 : ∀ t : Fin cfg0.N, win0_1.index t = ![t.val / 2, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val % 2, 0] := (by decide +kernel : ∀ t : Fin grid0.N, _)
theorem index5 : ∀ t : Fin cfg0.N, win0_5.index t = ![t.val / 2, t.val % 2] := (by decide +kernel : ∀ t : Fin grid0.N, _)
theorem index6 : ∀ t : Fin cfg0.N, win0_6.index t = ![t.val / 2, t.val % 2] := (by decide +kernel : ∀ t : Fin grid0.N, _)
theorem index7 : ∀ t : Fin cfg0.N, win0_7.index t = ![t.val / 2, 0] := (by decide +kernel : ∀ t : Fin grid0.N, _)
theorem index8 : ∀ t : Fin cfg0.N, win0_8.index t = ![0, t.val / 2, t.val % 2] := (by decide +kernel : ∀ t : Fin grid0.N, _)
theorem index9 : ∀ t : Fin cfg0.N, win0_9.index t = ![0, 0] := (by decide +kernel : ∀ t : Fin grid0.N, _)

theorem points (t : Fin cfg0.N) : t.val < 16 := lt_of_lt_of_eq t.isLt N_0

/-- Row `l` of the row block `i`, in the array. -/
def rowAt (i : Fin 8) (l : Fin 512) : Fin 4096 := ⟨i.val * 512 + l.val, by omega⟩

/-- The row block of point `t`. -/
def block (t : Fin cfg0.N) : Fin 8 := ⟨t.val / 2, by have := points t; omega⟩

/-- Row `l` of the row block of point `t`, in the array. -/
def at_ (t : Fin cfg0.N) (l : Fin 512) : Fin 4096 := rowAt (block t) l

/-- Column `l` of the column block of point `t`, in the array. -/
def col (t : Fin cfg0.N) (l : Fin 1408) : Fin 2816 := ⟨t.val % 2 * 1408 + l.val, by omega⟩

theorem at_start (t : Fin cfg0.N) (l : Fin 512) : at_ (start t) l = at_ t l :=
  Fin.ext (by show (t.val - t.val % 2) / 2 * 512 + l.val = t.val / 2 * 512 + l.val; omega)

variable (m : (ℓ : Loc nD τ sig) → Buf (Elt Ideal) ℓ) (ρ : Dev nD → PrngReg) (c : Dev nD)

theorem block_f (t : Fin cfg0.N) (l : Fin 512) : (fun k => iblk m c 0 t (ix2 l k)) = row (V m c main_arg0) (at_ t l) := by
  funext k
  blk_simp [iblk]
  refine congrArg (V m c main_arg0) ?_
  blk_ext [index0 t, at_, rowAt, block]

theorem block_d (t : Fin cfg0.N) (l : Fin 512) : (fun k => iblk m c 1 t (ix2 l k)) = row (V m c main_arg1) (at_ t l) := by
  funext k
  blk_simp [iblk]
  refine congrArg (V m c main_arg1) ?_
  blk_ext [index1 t, at_, rowAt, block]

theorem block_g (t : Fin cfg0.N) : (fun k => iblk m c 2 t (ix2 0 k)) = line (V m c main_arg2) := by
  funext k
  blk_simp [iblk]
  refine congrArg (V m c main_arg2) ?_
  blk_ext [index2 t]

theorem block_line (t : Fin cfg0.N) : (fun k => iblk m c 3 t (ix2 0 k)) = line (V m c main_arg3) := by
  funext k
  blk_simp [iblk]
  refine congrArg (V m c main_arg3) ?_
  blk_ext [index3 t]

theorem block_w (t : Fin cfg0.N) (j : Fin 1408) (k : Fin 1024) : iblk m c 4 t (ix2 j k) = V m c main_arg4 (ix2 (col t j) k) := by
  blk_simp [iblk]
  refine congrArg (V m c main_arg4) ?_
  blk_ext [index4 t, col]

theorem block_a (t : Fin cfg0.N) (l : Fin 512) (j : Fin 1408) : iblk m c 5 t (ix2 l j) = V m c main_arg5 (ix2 (at_ t l) (col t j)) := by
  blk_simp [iblk]
  refine congrArg (V m c main_arg5) ?_
  blk_ext [index5 t, at_, rowAt, block, col]

theorem block_b (t : Fin cfg0.N) (l : Fin 512) (j : Fin 1408) : iblk m c 6 t (ix2 l j) = V m c main_arg6 (ix2 (at_ t l) (col t j)) := by
  blk_simp [iblk]
  refine congrArg (V m c main_arg6) ?_
  blk_ext [index6 t, at_, rowAt, block, col]

theorem rows_at (t : Fin cfg0.N) (l : Fin 512) (k : Fin 1024) :
    rows m c t (ix2 l k) = outer (V m c main_arg0) (V m c main_arg1) (V m c main_arg2) (V m c main_arg3) (at_ t l) k := by
  unfold rows
  refine (block_back _ _ _ _ _).trans ?_
  show PostNorm.back half (fun k => iblk m c 0 (start t) (ix2 l k)) (fun k => iblk m c 2 (start t) (ix2 0 k)) (fun k => iblk m c 3 (start t) (ix2 0 k))
    (fun k => iblk m c 1 (start t) (ix2 l k)) k = _
  rw [block_f, block_d, block_g, block_line, at_start]
  rfl

theorem inner_at (t : Fin cfg0.N) (l : Fin 512) (j : Fin 1408) :
    k0_pay4 (rows m c t) (iblk m c 4 t) (ix2 l j) = inner (V m c main_arg0) (V m c main_arg1) (V m c main_arg2) (V m c main_arg3) (V m c main_arg4) (at_ t l) (col t j) := by
  refine (block_inner _ _ _).trans ?_
  exact Fin.sum_fin_congr fun k => congrArg₂ (fun u v : EReal => u * v) (rows_at m c t l k) (block_w m c t j k)

theorem pair (y : S512x1024.Idx) : y = ix2 (y 0) (y 1) := by
  funext i
  fin_cases i <;> rfl

/-- The first result of the kernel. -/
theorem result_out : (dats m 0 c).arrAt 7 cfg0.N = outGrad (V m c main_arg0) (V m c main_arg1) (V m c main_arg2) (V m c main_arg3) := by
  refine (dats m 0 c).arrAt_eq_of_covers 7 _ (by decide +kernel) fun t hf y => ?_
  have hstored : (dats m 0 c).after 7 t y = outGrad (V m c main_arg0) (V m c main_arg1) (V m c main_arg2) (V m c main_arg3) (ix2 (at_ t (y 0)) (y 1)) := by
    rw [after7 m c t]
    exact (congrArg _ (pair y)).trans (rows_at m c t (y 0) (y 1))
  rw [hstored]
  blk_simp
  refine congrArg (outGrad _ _ _ _) ?_
  blk_ext [index7 t, at_, rowAt, block]

theorem gate_at (t : Fin cfg0.N) (l : Fin 512) (j : Fin 1408) :
    k0_pay7 (rows m c t) (iblk m c 4 t) (iblk m c 5 t) (iblk m c 6 t) (ix3 0 l j)
      = gateBack (inner (V m c main_arg0) (V m c main_arg1) (V m c main_arg2) (V m c main_arg3) (V m c main_arg4) (at_ t l) (col t j)) (V m c main_arg5 (ix2 (at_ t l) (col t j))) (V m c main_arg6 (ix2 (at_ t l) (col t j))) := by
  refine (block_gate _ _ _ _ _).trans ?_
  exact congr (congrArg₂ gateBack (inner_at m c t l j) (block_a m c t l j)) (block_b m c t l j)

theorem factor_at (t : Fin cfg0.N) (l : Fin 512) (j : Fin 1408) :
    k0_pay8 (rows m c t) (iblk m c 4 t) (iblk m c 5 t) (ix3 0 l j)
      = factorBack (inner (V m c main_arg0) (V m c main_arg1) (V m c main_arg2) (V m c main_arg3) (V m c main_arg4) (at_ t l) (col t j)) (V m c main_arg5 (ix2 (at_ t l) (col t j))) := by
  refine (block_factor _ _ _ _).trans ?_
  exact congrArg₂ factorBack (inner_at m c t l j) (block_a m c t l j)

theorem halves_at (t : Fin cfg0.N) (y : S2x512x1408.Idx) :
    halves (rows m c t) (iblk m c 4 t) (iblk m c 5 t) (iblk m c 6 t) y = pairGrad (V m c main_arg0) (V m c main_arg1) (V m c main_arg2) (V m c main_arg3) (V m c main_arg4) (V m c main_arg5) (V m c main_arg6) (ix3 (y 0) (at_ t (y 1)) (col t (y 2))) := by
  unfold halves planes pairGrad
  by_cases h : (y 0).val = 0
  · rw [if_pos h, if_pos (by show (y 0).val < 1; omega)]
    exact gate_at m c t (y 1) (y 2)
  · rw [if_neg h, if_neg (by show ¬(y 0).val < 1; omega)]
    exact factor_at m c t (y 1) (y 2)

/-- The second result of the kernel. -/
theorem result_pair : (dats m 0 c).arrAt 8 cfg0.N = pairGrad (V m c main_arg0) (V m c main_arg1) (V m c main_arg2) (V m c main_arg3) (V m c main_arg4) (V m c main_arg5) (V m c main_arg6) := by
  refine (dats m 0 c).arrAt_eq_of_covers 8 _ (by decide +kernel) fun t hf y => ?_
  have hstored : (dats m 0 c).after 8 t y = pairGrad (V m c main_arg0) (V m c main_arg1) (V m c main_arg2) (V m c main_arg3) (V m c main_arg4) (V m c main_arg5) (V m c main_arg6) (ix3 (y 0) (at_ t (y 1)) (col t (y 2))) := by
    rw [after8 m c t]
    exact halves_at m c t y
  rw [hstored]
  blk_simp
  refine congrArg (pairGrad _ _ _ _ _ _ _) ?_
  blk_ext [index8 t, at_, rowAt, block, col]

/-- What a block of 512 rows adds to the sums. -/
def part (i : Fin 8) (y : S8x1024.Idx) : EReal :=
  PostNorm.pack (y 0).val (∑ l : Fin 512, PostNorm.gainTerm half (row (V m c main_arg0) (rowAt i l)) (line (V m c main_arg3)) (row (V m c main_arg1) (rowAt i l)) (y 1))
    (half * ∑ l : Fin 512, PostNorm.gateTerm (row (V m c main_arg0) (rowAt i l)) (line (V m c main_arg2)) (row (V m c main_arg1) (rowAt i l)) (y 1))

theorem block_part (t : Fin cfg0.N) (y : S8x1024.Idx) :
    sums (iblk m c 0 t) (iblk m c 1 t) (iblk m c 2 t) (iblk m c 3 t) y = part m c (block t) y := by
  rw [block_sums]
  unfold part
  rw [block_g, block_line]
  refine congrArg₂ (fun u v => PostNorm.pack (y 0).val u (half * v)) ?_ ?_
  · exact Fin.sum_fin_congr fun l => by rw [block_f, block_d]; rfl
  · exact Fin.sum_fin_congr fun l => by rw [block_f, block_d]; rfl

/-- What block `i` adds, nothing past the last one. -/
def share (y : S8x1024.Idx) (i : ℕ) : EReal := if h : i < 8 then part m c ⟨i, h⟩ y else 0

theorem share_at (t : Fin cfg0.N) (n : ℕ) (h : t.val / 2 = n) (y : S8x1024.Idx) : part m c (block t) y = share m c y n := by
  have := points t
  unfold share
  rw [dif_pos (by omega)]
  exact congrArg (fun i => part m c i y) (Fin.ext h)

/-- The sums so far are those of the blocks met. -/
theorem total_at (y : S8x1024.Idx) (n : ℕ) : ∀ t : Fin cfg0.N, t.val = n → total m c t.val t.isLt y = ∑ i ∈ Finset.range (n / 2 + 1), share m c y i := by
  induction n with
  | zero =>
    intro t ht
    rw [total_zero m c t ht, block_part, share_at m c t 0 (by omega)]
    exact (Finset.sum_range_one _).symm
  | succ n ih =>
    intro t ht
    have hp : (prior t).val = n := by show t.val - 1 = n; omega
    by_cases e : t.val % 2 = 0
    · rw [total_row m c t e (by omega), block_added, block_part, share_at m c t (n / 2 + 1) (by omega), ih (prior t) hp,
        show (n + 1) / 2 + 1 = (n / 2 + 1) + 1 by omega]
      exact (Finset.sum_range_succ _ _).symm
    · rw [total_later m c t e, ih (prior t) hp, show (n + 1) / 2 + 1 = n / 2 + 1 by omega]

theorem sum_rows (f : Fin 4096 → EReal) : ∑ i : Fin 8, ∑ l : Fin 512, f (rowAt i l) = ∑ l : Fin 4096, f l :=
  Fin.sum_mul_add_fin 8 512 f

theorem sum_part (y : S8x1024.Idx) : ∑ i : Fin 8, part m c i y = sumsGrad (V m c main_arg0) (V m c main_arg1) (V m c main_arg2) (V m c main_arg3) y :=
  (PostNorm.sum_pack _ _ _).trans (congrArg₂ (PostNorm.pack (y 0).val)
    (sum_rows fun l => PostNorm.gainTerm half (row (V m c main_arg0) l) (line (V m c main_arg3)) (row (V m c main_arg1) l) (y 1))
    ((half_sum _ _).trans (congrArg (fun u => half * u)
      (sum_rows fun l => PostNorm.gateTerm (row (V m c main_arg0) l) (line (V m c main_arg2)) (row (V m c main_arg1) l) (y 1)))))

theorem total_last (y : S8x1024.Idx) (t : Fin cfg0.N) (h : t.val = 15) : total m c t.val t.isLt y = sumsGrad (V m c main_arg0) (V m c main_arg1) (V m c main_arg2) (V m c main_arg3) y := by
  rw [total_at m c y 15 t h, show 15 / 2 + 1 = 8 from rfl, Finset.sum_range, ← sum_part m c y]
  exact Finset.sum_congr rfl fun i _ => dif_pos i.isLt

theorem last : ∀ t : Fin cfg0.N, (cfg0.win 9).flush t = true → t.val = 15 := by decide +kernel

/-- The third result of the kernel. -/
theorem result_sums : (dats m 0 c).arrAt 9 cfg0.N = sumsGrad (V m c main_arg0) (V m c main_arg1) (V m c main_arg2) (V m c main_arg3) := by
  refine (dats m 0 c).arrAt_eq_of_covers 9 _ (by decide +kernel) fun t hf y => ?_
  have hstored : (dats m 0 c).after 9 t y = sumsGrad (V m c main_arg0) (V m c main_arg1) (V m c main_arg2) (V m c main_arg3) y := by
    rw [after9 m c t]
    exact total_last m c y t (last t hf)
  rw [hstored]
  blk_simp
  refine congrArg (sumsGrad _ _ _ _) ?_
  blk_ext [index9 t]

/-- A whole run of the kernel. -/
theorem run : θ_run defs (onTc (τ := τ) main) (s₀ m ρ) fun r => ∀ c : Dev nD,
    r.2.mem ((c.tc : Thread nD τ).loc main_v0_0) = outGrad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_1) = pairGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_v0_2) = sumsGrad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨((h.1 c).1 7).trans ((result_out m c).trans (by rw [V_main_arg0, V_main_arg1, V_main_arg2, V_main_arg3])),
    ((h.1 c).1 8).trans ((result_pair m c).trans (by rw [V_main_arg0, V_main_arg1, V_main_arg2, V_main_arg3, V_main_arg4, V_main_arg5, V_main_arg6])),
    ((h.1 c).1 9).trans ((result_sums m c).trans (by rw [V_main_arg0, V_main_arg1, V_main_arg2, V_main_arg3])),
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c))),
    ((h.1 c).1 4).trans (((dats m 0 c).arrAt_in 4 rfl _).trans ((A_eq m c 4).trans (V_main_arg4 m c))),
    ((h.1 c).1 5).trans (((dats m 0 c).arrAt_in 5 rfl _).trans ((A_eq m c 5).trans (V_main_arg5 m c))),
    ((h.1 c).1 6).trans (((dats m 0 c).arrAt_in 6 rfl _).trans ((A_eq m c 6).trans (V_main_arg6 m c)))⟩) (run_main m ρ)

end Cert.UpBwdIdeal.UpBack

namespace Cert.UpBwdRefIdeal.UpBack

open Cert.UpBwdRefIdeal Cert.UpBwdRefIdeal.Gen Cert.UpBwdRefIdeal.Value
open Idealize.ShloMosaic Idealize.ShloMosaic.TcCoe Idealize.ShloMosaic.StableHlo Idealize.SL.Sem
open Cert.UpBwdIdeal.UpBack (half row line outer inner gateBack factorBack outGrad pairGrad sumsGrad)

/-- A row laid out over all rows. -/
def spread (v : FVec Ideal S1x1024 .f32) : FVec Ideal S4096x1024 .f32 :=
  broadcastInDim S4096x1024 ![0, 1] bcast_S1x1024_S4096x1024_0_1 v

/-- One in every entry. -/
def ones : FVec Ideal S4096x2816 .f32 := broadcastInDim S4096x2816 ![] bcast_S_S4096x2816 (constant S_ .f32 0x3F800000#32)

def power (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))

def rate (x : FVec Ideal S4096x1024 .f32) : FVec Ideal S4096x1024 .f32 :=
  broadcastInDim S4096x1024 ![0, 1] bcast_S4096x1_S4096x1024_0_1 (Host.rsqrt (power x))

/-- The cotangent before the gain. -/
def gated (d : FVec Ideal S4096x1024 .f32) (gate : FVec Ideal S1x1024 .f32) : FVec Ideal S4096x1024 .f32 :=
  mulf (spread (mulf (broadcastInDim S1x1024 ![] bcast_S_S1x1024 (constant S_ .f32 0x3F000000#32)) gate)) d

def drift (x p : FVec Ideal S4096x1024 .f32) : FVec Ideal S4096x1024 .f32 :=
  broadcastInDim S4096x1024 ![0] bcast_S4096_S4096x1024_0 (Host.reduceAdd
    (Host.divf (mulf (shapeCast S4096x1 (Host.reduceAdd (mulf x p) (constant S_ .f32 0x00000000#32) reducesTo_S4096x1024_S4096_d1 h_S_) shapeCasts_S4096_S4096x1)
        (mulf (broadcastInDim S4096x1 ![] bcast_S_S4096x1 (constant S_ .f32 0xBF000000#32)) (Host.divf (Host.rsqrt (power x)) (power x))))
      (broadcastInDim S4096x1 ![] bcast_S_S4096x1 (constant S_ .f32 0x44800000#32)))
    (constant S_ .f32 0x00000000#32) reducesTo_S4096x1_S4096_d1 h_S_)

/-- The gradient of the block's output. -/
def outs (f d : FVec Ideal S4096x1024 .f32) (g gate : FVec Ideal S1x1024 .f32) : FVec Ideal S4096x1024 .f32 :=
  addf (addf (mulf (mulf (gated d gate) (spread g)) (rate f)) (mulf f (drift f (mulf (gated d gate) (spread g)))))
    (mulf (drift f (mulf (gated d gate) (spread g))) f)

/-- The gradient of the hidden activations. -/
def product (q : FVec Ideal S4096x1024 .f32) (w : FVec Ideal S2816x1024 .bf16) : FVec Ideal S4096x2816 .f32 :=
  Host.dotGeneral dot_S4096x1024_S2816x1024_S4096x2816_1_1_0_0_n_n none q (extf .f32 w bitsLt_bf16_f32)

/-- The reference's sigmoid. -/
def sigm (z : FVec Ideal S4096x2816 .f32) : FVec Ideal S4096x2816 .f32 := Host.divf ones (addf ones (Host.exp (Host.negf z)))

def gateRows (e a b : FVec Ideal S4096x2816 .f32) : FVec Ideal S4096x2816 .f32 :=
  addf (mulf (mulf e b) (sigm a)) (mulf (mulf a (mulf e b)) (mulf (sigm a) (subf ones (sigm a))))

def factorRows (e a : FVec Ideal S4096x2816 .f32) : FVec Ideal S4096x2816 .f32 := mulf (mulf a (sigm a)) e

/-- Two arrays as the planes of one. -/
def stacked (a b : FVec Ideal S4096x2816 .f32) : FVec Ideal S2x4096x2816 .bf16 :=
  truncf .bf16 (concatenate S2x4096x2816 0 [⟨S1x4096x2816, broadcastInDim S1x4096x2816 ![1, 2] bcast_S4096x2816_S1x4096x2816_1_2 a⟩,
    ⟨S1x4096x2816, broadcastInDim S1x4096x2816 ![1, 2] bcast_S4096x2816_S1x4096x2816_1_2 b⟩] concatenates_S1x4096x2816_S1x4096x2816_S2x4096x2816_d0) bitsLt_bf16_f32

/-- The sum of every column, as a row. -/
def column (v : FVec Ideal S4096x1024 .f32) : FVec Ideal S1x1024 .f32 :=
  shapeCast S1x1024 (Host.reduceAdd v (constant S_ .f32 0x00000000#32) reducesTo_S4096x1024_S1024_d0 h_S_) shapeCasts_S1024_S1x1024

def sums (f d : FVec Ideal S4096x1024 .f32) (g gate : FVec Ideal S1x1024 .f32) : FVec Ideal S8x1024 .f32 :=
  concatenate S8x1024 0
    [⟨S1x1024, column (mulf (mulf f (rate f)) (gated d gate))⟩,
     ⟨S1x1024, mulf (broadcastInDim S1x1024 ![] bcast_S_S1x1024 (constant S_ .f32 0x3F000000#32)) (column (mulf d (mulf (mulf f (rate f)) (spread g))))⟩,
     ⟨S6x1024, broadcastInDim S6x1024 ![] bcast_S_S6x1024 (constant S_ .f32 0x00000000#32)⟩]
    concatenates_S1x1024_S1x1024_S6x1024_S8x1024_d0

theorem outs_at (f d : FVec Ideal S4096x1024 .f32) (g gate : FVec Ideal S1x1024 .f32) (y : S4096x1024.Idx) :
    outs f d g gate y = outer f d g gate (y 0) (y 1) := by
  unfold Cert.UpBwdIdeal.UpBack.outer Cert.UpBwdIdeal.UpBack.row Cert.UpBwdIdeal.UpBack.line PostNorm.back PostNorm.drift PostNorm.gated NormBackward.slope NormBackward.rate NormBackward.power Cert.UpBwdIdeal.UpBack.half
  pointwise [outs, drift, gated, rate, power, spread]
  simp only [Finset.univ_unique, Finset.sum_singleton]

theorem product_at (q : FVec Ideal S4096x1024 .f32) (w : FVec Ideal S2816x1024 .bf16) (y : S4096x2816.Idx) :
    product q w y = (∑ k : Fin 1024, (q (ix2 (y 0) k) : EReal) * w (ix2 (y 1) k) : EReal) := by
  pointwise [product]

theorem gateRows_at (e a b : FVec Ideal S4096x2816 .f32) (y : S4096x2816.Idx) : gateRows e a b y = gateBack (e y) (a y) (b y) := by
  unfold Cert.UpBwdIdeal.UpBack.gateBack Ideal.logistic
  pointwise [gateRows, sigm, ones]

theorem factorRows_at (e a : FVec Ideal S4096x2816 .f32) (y : S4096x2816.Idx) : factorRows e a y = factorBack (e y) (a y) := by
  unfold Cert.UpBwdIdeal.UpBack.factorBack Ideal.logistic
  pointwise [factorRows, sigm, ones]

theorem stacked_at (a b : FVec Ideal S4096x2816 .f32) (y : S2x4096x2816.Idx) :
    stacked a b y = if (y 0).val < 1 then a (ix2 (y 1) (y 2)) else b (ix2 (y 1) (y 2)) := by
  pointwise [stacked]
  simp only [dite_eq_ite]

theorem sums_at (f d : FVec Ideal S4096x1024 .f32) (g gate : FVec Ideal S1x1024 .f32) (y : S8x1024.Idx) :
    sums f d g gate y = sumsGrad f d g gate y := by
  unfold Cert.UpBwdIdeal.UpBack.sumsGrad Cert.UpBwdIdeal.UpBack.row Cert.UpBwdIdeal.UpBack.line Cert.UpBwdIdeal.UpBack.half PostNorm.pack PostNorm.gainTerm PostNorm.gateTerm PostNorm.gated NormBackward.rate NormBackward.power
  pointwise [sums, column, gated, rate, power, spread]
  simp only [dite_eq_ite]

theorem inner_at (f d : FVec Ideal S4096x1024 .f32) (g gate : FVec Ideal S1x1024 .f32) (w : FVec Ideal S2816x1024 .bf16) (y : S4096x2816.Idx) :
    product (outs f d g gate) w y = inner f d g gate w (y 0) (y 1) :=
  (product_at _ _ y).trans (Fin.sum_fin_congr fun k => congrArg (fun u : EReal => u * w (ix2 (y 1) k)) (outs_at f d g gate (ix2 (y 0) k)))

theorem out_eq (f d : FVec Ideal S4096x1024 .f32) (g gate : FVec Ideal S1x1024 .f32) : truncf .bf16 (outs f d g gate) bitsLt_bf16_f32 = outGrad f d g gate :=
  funext fun y => outs_at f d g gate y

theorem pair_eq (f d : FVec Ideal S4096x1024 .f32) (g gate : FVec Ideal S1x1024 .f32) (w : FVec Ideal S2816x1024 .bf16) (a b : FVec Ideal S4096x2816 .bf16) :
    stacked (gateRows (product (outs f d g gate) w) (extf .f32 a bitsLt_bf16_f32) (extf .f32 b bitsLt_bf16_f32))
      (factorRows (product (outs f d g gate) w) (extf .f32 a bitsLt_bf16_f32)) = pairGrad f d g gate w a b := by
  funext y
  rw [stacked_at, gateRows_at, factorRows_at, inner_at]
  rfl

variable (m : (ℓ : Loc nD τ sig) → Buf (Elt Ideal) ℓ) (ρ : Dev nD → PrngReg) (c : Dev nD)

theorem term0 : res_out0 m c = truncf .bf16 (outs (m ((c.tc : Thread nD τ).loc main_arg0)) (m ((c.tc : Thread nD τ).loc main_arg1)) (m ((c.tc : Thread nD τ).loc main_arg2)) (m ((c.tc : Thread nD τ).loc main_arg3))) bitsLt_bf16_f32 := rfl

theorem term1 : res_out1 m c = stacked (gateRows (product (outs (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (extf .f32 (m ((c.tc : Thread nD τ).loc main_arg5)) bitsLt_bf16_f32) (extf .f32 (m ((c.tc : Thread nD τ).loc main_arg6)) bitsLt_bf16_f32))
    (factorRows (product (outs (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))) (extf .f32 (m ((c.tc : Thread nD τ).loc main_arg5)) bitsLt_bf16_f32)) := rfl

/-- A whole run of the reference. -/
theorem run : θ_run defs (onTc (τ := τ) main) ⟨m, fun _ => 0, ρ⟩ fun r => ∀ c : Dev nD,
    r.2.mem ((c.tc : Thread nD τ).loc main_v55) = outGrad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v59) = pairGrad (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_v61) = sumsGrad (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(h c).1.trans ((term0 m c).trans (out_eq _ _ _ _)),
    (h c).2.1.trans ((term1 m c).trans (pair_eq _ _ _ _ _ _ _)),
    (h c).2.2.1.trans (funext fun y => sums_at (m ((c.tc : Thread nD τ).loc main_arg0)) (m ((c.tc : Thread nD τ).loc main_arg1)) (m ((c.tc : Thread nD τ).loc main_arg2)) (m ((c.tc : Thread nD τ).loc main_arg3)) y),
    (h c).2.2.2⟩) (Value.run m ρ)

end Cert.UpBwdRefIdeal.UpBack

end
-- ==== Proof.UpBackSame.lean ====
/-
The program of the gated projection's backward at bits is the one at the reals, word for word: the run proved for one serves the other.
-/
module

public import proofs.«01_k».proof.Defs
public import proofs.«01_k».proof.Proof.Gen.UpBwd
public import proofs.«01_k».proof.Proof.UpBackCert

@[expose] public section
set_option maxRecDepth 65536
namespace Cert.UpBwd.UpBackSame
open Idealize.ShloMosaic Idealize.SL.Sem Cert.UpBwd
theorem same_body : (Cert.UpBwd.cc0_ffn_up_bwd (F := Bits)) = (Cert.UpBwdIdeal.cc0_ffn_up_bwd (F := Bits)) := by
  unfold Cert.UpBwd.cc0_ffn_up_bwd Cert.UpBwdIdeal.cc0_ffn_up_bwd
  rfl
theorem same_defs₀ : (Cert.UpBwd.defs₀ (F := Bits)) = (Cert.UpBwdIdeal.defs₀ (F := Bits)) := by
  unfold Cert.UpBwd.defs₀ Cert.UpBwdIdeal.defs₀
  refine congrArg Defs.onTc (funext fun l => funext fun x => ?_)
  match l, x with
  | 0, (t, s) =>
    simp only [same_body]
    rfl

theorem same_defs : (Cert.UpBwd.defs (F := Bits)) = (Cert.UpBwdIdeal.defs (F := Bits)) :=
  congrArg (Pipeline.defs Cert.UpBwdIdeal.pcfgs) same_defs₀
theorem same_main : (Cert.UpBwd.main (F := Bits)) = (Cert.UpBwdIdeal.main (F := Bits)) := rfl

/-- The frame of the program at bits. -/
theorem frame : Cert.quiescent_UpBwd := fun m ρ _ => by
  have h := Cert.UpBwdIdeal.UpBackRun.frame (F := Bits) m ρ
  rw [← same_defs, ← same_main] at h
  exact h

end Cert.UpBwd.UpBackSame

end
-- ==== Proof.LossOutput.lean ====
/-
The output side of the second feed-forward block: the down projection of the hidden activations, the residual with the norm of that
product, the gradient of the loss at the residual, and the sums of the squared error over the rows.
-/
module

public import proofs.«01_k».proof.Proof.Gen.MmLossIdeal.Value
public import proofs.«01_k».proof.Proof.Gen.MmLossRefIdeal.Run
public import proofs.«01_k».proof.Proof.PostNorm
public import Idealize.ShloMosaic.Lib.Pipeline.ValueKit
public import Idealize.ShloMosaic.Lib.Pointwise

@[expose] public section

set_option maxRecDepth 16384

noncomputable section

namespace Cert.MmLossIdeal.LossOutput

open Cert.MmLossIdeal Cert.MmLossIdeal.Gen
open Idealize.ShloMosaic Idealize.ShloMosaic.TcCoe Idealize.SL.Sem

/-- Row `l` of the product. -/
def hidden (a : Vec Ideal S4096x2816 .bf16) (w : Vec Ideal S2816x1024 .bf16) (l : Fin 4096) : Fin 1024 → EReal := fun j =>
  (∑ k : Fin 2816, (a (ix2 l k) : EReal) * w (ix2 k j) : EReal)

/-- The product. -/
def product (a : Vec Ideal S4096x2816 .bf16) (w : Vec Ideal S2816x1024 .bf16) : Vec Ideal S4096x1024 .f32 := fun y => hidden a w (y 0) (y 1)

/-- The residual after the block minus the target. -/
def error (a : Vec Ideal S4096x2816 .bf16) (w : Vec Ideal S2816x1024 .bf16) (x : Vec Ideal S4096x1024 .f32) (g gate : Vec Ideal S1x1024 .f32) (r : Vec Ideal S4096x1024 .f32) (l : Fin 4096) (j : Fin 1024) : EReal :=
  PostNorm.entry (Ideal.ofBits .f32 0x3F000000#32) (hidden a w l) (fun k => g (ix2 0 k)) (fun k => gate (ix2 0 k)) (x (ix2 l j)) j - r (ix2 l j)

/-- The gradient of the loss at the residual. -/
def gradient (a : Vec Ideal S4096x2816 .bf16) (w : Vec Ideal S2816x1024 .bf16) (x : Vec Ideal S4096x1024 .f32) (g gate : Vec Ideal S1x1024 .f32) (r : Vec Ideal S4096x1024 .f32) : Vec Ideal S4096x1024 .f32 := fun y =>
  error a w x g gate r (y 0) (y 1) * Ideal.ofBits .f32 0x3A800000#32

/-- The squared error, summed over the rows. -/
def squares (a : Vec Ideal S4096x2816 .bf16) (w : Vec Ideal S2816x1024 .bf16) (x : Vec Ideal S4096x1024 .f32) (g gate : Vec Ideal S1x1024 .f32) (r : Vec Ideal S4096x1024 .f32) : Vec Ideal S1x1024 .f32 := fun y =>
  (∑ l : Fin 4096, error a w x g gate r l (y 1) * error a w x g gate r l (y 1) : EReal)

theorem block_product (a : Vec Ideal S512x2816 .bf16) (w : Vec Ideal S2816x1024 .bf16) (y : S512x1024.Idx) :
    k0_pay2 a w y = (∑ k : Fin 2816, (a (ix2 (y 0) k) : EReal) * w (ix2 k (y 1)) : EReal) := by
  pointwise [k0_pay2]

theorem block_error (a : Vec Ideal S512x2816 .bf16) (w : Vec Ideal S2816x1024 .bf16) (g gate : Vec Ideal S1x1024 .f32) (x r : Vec Ideal S512x1024 .f32) (y : S512x1024.Idx) :
    k0_pay3 a w g gate x r y = (PostNorm.entry (Ideal.ofBits .f32 0x3F000000#32) (fun k => k0_pay2 a w (ix2 (y 0) k)) (fun k => g (ix2 0 k)) (fun k => gate (ix2 0 k))
      (x (ix2 (y 0) (y 1))) (y 1) - r (ix2 (y 0) (y 1)) : EReal) := by
  unfold PostNorm.entry NormBackward.rate NormBackward.power k0_pay3
  generalize k0_pay2 a w = d
  pointwise []

theorem block_gradient (a : Vec Ideal S512x2816 .bf16) (w : Vec Ideal S2816x1024 .bf16) (g gate : Vec Ideal S1x1024 .f32) (x r : Vec Ideal S512x1024 .f32) (y : S512x1024.Idx) :
    k0_pay4 a w g gate x r y = (k0_pay3 a w g gate x r y * Ideal.ofBits .f32 0x3A800000#32 : EReal) := by
  unfold k0_pay4
  generalize k0_pay3 a w g gate x r = d
  pointwise []

theorem block_squares (a : Vec Ideal S512x2816 .bf16) (w : Vec Ideal S2816x1024 .bf16) (g gate : Vec Ideal S1x1024 .f32) (x r : Vec Ideal S512x1024 .f32) (y : S1x1024.Idx) :
    k0_pay5 a w g gate x r y = (∑ l : Fin 512, (k0_pay3 a w g gate x r (ix2 l (y 1)) : EReal) * k0_pay3 a w g gate x r (ix2 l (y 1)) : EReal) := by
  unfold k0_pay5
  generalize k0_pay3 a w g gate x r = d
  pointwise []

/-- A later block adds its sums to those stored before. -/
theorem block_step (p : FVec Ideal S1x1024 .f32) (q : Vec Ideal S1x1024 .f32) (y : S1x1024.Idx) : k0_pay1 p q y = (q y + p y : EReal) := by
  pointwise [k0_pay1]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)

theorem points (t : Fin cfg0.N) : t.val < 8 := lt_of_lt_of_eq t.isLt N_0

/-- Row `l` of the block at point `t` is row `512 t + l` of the array. -/
def at_ (t : Fin cfg0.N) (l : Fin 512) : Fin 4096 := ⟨t.val * 512 + l.val, by have := points t; omega⟩

variable (m : (ℓ : Loc nD τ sig) → Buf (Elt Ideal) ℓ) (ρ : Dev nD → PrngReg) (c : Dev nD)

theorem block_hidden (t : Fin cfg0.N) (l : Fin 512) (j : Fin 1024) :
    k0_pay2 (iblk m c 0 t) (iblk m c 1 t) (ix2 l j) = hidden (V m c main_arg0) (V m c main_arg1) (at_ t l) j := by
  refine (block_product _ _ _).trans ?_
  unfold hidden
  refine Fin.sum_fin_congr fun k => congrArg₂ (fun u v : EReal => u * v) ?_ ?_
  · blk_simp [iblk]
    refine congrArg (V m c main_arg0) ?_
    blk_ext [index0 t, at_]
  · blk_simp [iblk]
    refine congrArg (V m c main_arg1) ?_
    blk_ext [index1 t]

theorem block_x (t : Fin cfg0.N) (l : Fin 512) (k : Fin 1024) : iblk m c 2 t (ix2 l k) = V m c main_arg2 (ix2 (at_ t l) k) := by
  blk_simp [iblk]
  refine congrArg (V m c main_arg2) ?_
  blk_ext [index2 t, at_]

theorem block_g (t : Fin cfg0.N) : (fun k => iblk m c 3 t (ix2 0 k)) = fun k => V m c main_arg3 (ix2 0 k) := by
  funext k
  blk_simp [iblk]
  refine congrArg (V m c main_arg3) ?_
  blk_ext [index3 t]

theorem block_gate (t : Fin cfg0.N) : (fun k => iblk m c 4 t (ix2 0 k)) = fun k => V m c main_arg4 (ix2 0 k) := by
  funext k
  blk_simp [iblk]
  refine congrArg (V m c main_arg4) ?_
  blk_ext [index4 t]

theorem block_target (t : Fin cfg0.N) (l : Fin 512) (k : Fin 1024) : iblk m c 5 t (ix2 l k) = V m c main_arg5 (ix2 (at_ t l) k) := by
  blk_simp [iblk]
  refine congrArg (V m c main_arg5) ?_
  blk_ext [index5 t, at_]

theorem block_error_at (t : Fin cfg0.N) (l : Fin 512) (j : Fin 1024) :
    k0_pay3 (iblk m c 0 t) (iblk m c 1 t) (iblk m c 3 t) (iblk m c 4 t) (iblk m c 2 t) (iblk m c 5 t) (ix2 l j) = error (V m c main_arg0) (V m c main_arg1) (V m c main_arg2) (V m c main_arg3) (V m c main_arg4) (V m c main_arg5) (at_ t l) j := by
  refine (block_error _ _ _ _ _ _ _).trans ?_
  show (PostNorm.entry (Ideal.ofBits .f32 0x3F000000#32) (fun k => k0_pay2 (iblk m c 0 t) (iblk m c 1 t) (ix2 l k)) (fun k => iblk m c 3 t (ix2 0 k))
      (fun k => iblk m c 4 t (ix2 0 k)) (iblk m c 2 t (ix2 l j)) j - iblk m c 5 t (ix2 l j) : EReal) = _
  rw [show (fun k => k0_pay2 (iblk m c 0 t) (iblk m c 1 t) (ix2 l k)) = hidden (V m c main_arg0) (V m c main_arg1) (at_ t l) from
    funext (block_hidden m c t l), block_g, block_gate, block_x, block_target]
  rfl

/-- The first result of the kernel. -/
theorem result_product : (dats m 0 c).arrAt 6 cfg0.N = product (V m c main_arg0) (V m c main_arg1) := by
  refine (dats m 0 c).arrAt_eq_of_covers 6 _ (by decide +kernel) fun t hf y => ?_
  have hstored : (dats m 0 c).after 6 t y = product (V m c main_arg0) (V m c main_arg1) (ix2 (at_ t (y 0)) (y 1)) := by
    have ht := points t
    have hy := (block_product (iblk m c 0 t) (iblk m c 1 t) y).trans ((block_product _ _ (ix2 (y 0) (y 1))).symm.trans (block_hidden m c t (y 0) (y 1)))
    rw [after0_6 m c t]
    by_cases h : t.val % 8 = 0
    · rw [outsAt0_A m c t h (by omega)]
      dsimp only
      frame_out
      exact hy
    · rw [outsAt0_B m c t h (by omega)]
      dsimp only
      frame_out
      exact hy
  rw [hstored]
  blk_simp
  refine congrArg (product _ _) ?_
  blk_ext [index6 t, at_]

/-- The second result of the kernel. -/
theorem result_gradient : (dats m 0 c).arrAt 7 cfg0.N
    = gradient (V m c main_arg0) (V m c main_arg1) (V m c main_arg2) (V m c main_arg3) (V m c main_arg4) (V m c main_arg5) := by
  refine (dats m 0 c).arrAt_eq_of_covers 7 _ (by decide +kernel) fun t hf y => ?_
  have hstored : (dats m 0 c).after 7 t y = gradient (V m c main_arg0) (V m c main_arg1) (V m c main_arg2) (V m c main_arg3) (V m c main_arg4) (V m c main_arg5) (ix2 (at_ t (y 0)) (y 1)) := by
    have ht := points t
    have hy : k0_pay4 (iblk m c 0 t) (iblk m c 1 t) (iblk m c 3 t) (iblk m c 4 t) (iblk m c 2 t) (iblk m c 5 t) y = gradient (V m c main_arg0) (V m c main_arg1) (V m c main_arg2) (V m c main_arg3) (V m c main_arg4) (V m c main_arg5) (ix2 (at_ t (y 0)) (y 1)) :=
      (block_gradient _ _ _ _ _ _ y).trans (congrArg (fun u : EReal => u * Ideal.ofBits .f32 0x3A800000#32)
        ((block_error _ _ _ _ _ _ y).trans ((block_error _ _ _ _ _ _ (ix2 (y 0) (y 1))).symm.trans (block_error_at m c t (y 0) (y 1)))))
    rw [after0_7 m c t]
    by_cases h : t.val % 8 = 0
    · rw [outsAt0_A m c t h (by omega)]
      dsimp only
      frame_out
      exact hy
    · rw [outsAt0_B m c t h (by omega)]
      dsimp only
      frame_out
      exact hy
  rw [hstored]
  blk_simp
  refine congrArg (gradient _ _ _ _ _ _) ?_
  blk_ext [index7 t, at_]

/-- What a block of 512 rows adds to the sums. -/
def part (t : Fin cfg0.N) (y : S1x1024.Idx) : EReal :=
  ∑ l : Fin 512, error (V m c main_arg0) (V m c main_arg1) (V m c main_arg2) (V m c main_arg3) (V m c main_arg4) (V m c main_arg5) (at_ t l) (y 1) * error (V m c main_arg0) (V m c main_arg1) (V m c main_arg2) (V m c main_arg3) (V m c main_arg4) (V m c main_arg5) (at_ t l) (y 1)

theorem block_part (t : Fin cfg0.N) (y : S1x1024.Idx) : k0_pay5 (iblk m c 0 t) (iblk m c 1 t) (iblk m c 3 t) (iblk m c 4 t) (iblk m c 2 t) (iblk m c 5 t) y = part m c t y :=
  (block_squares _ _ _ _ _ _ y).trans (Fin.sum_fin_congr fun l => congrArg (fun u : EReal => u * u) (block_error_at m c t l (y 1)))

theorem sum_part (y : S1x1024.Idx) : ∑ t : Fin cfg0.N, part m c t y = squares (V m c main_arg0) (V m c main_arg1) (V m c main_arg2) (V m c main_arg3) (V m c main_arg4) (V m c main_arg5) y :=
  Fin.sum_mul_add_fin 8 512 fun l => error (V m c main_arg0) (V m c main_arg1) (V m c main_arg2) (V m c main_arg3) (V m c main_arg4) (V m c main_arg5) l (y 1) * error (V m c main_arg0) (V m c main_arg1) (V m c main_arg2) (V m c main_arg3) (V m c main_arg4) (V m c main_arg5) l (y 1)

/-- The third result of the kernel. -/
theorem result_squares : (dats m 0 c).arrAt 8 cfg0.N = squares (V m c main_arg0) (V m c main_arg1) (V m c main_arg2) (V m c main_arg3) (V m c main_arg4) (V m c main_arg5) := by
  refine (dats m 0 c).arrAt_eq_of_covers 8 _ (by decide +kernel) fun t hf y => ?_
  have ht : t = t0_7 := Fin.ext (by have := (flush0_8 t).mp hf; have := points t; show t.val = 7; omega)
  subst ht
  blk_simp
  rw [after0_8, Pipeline.eq_sum_fin_of_reset_step_apply_last (fun n h => (outsAt0 m c n h).2.2) 8 (fun _ => (0 : EReal)) (part m c)
    (fun t h j => by
      have := points t
      rw [outsAt0_A m c t h (by omega)]
      dsimp only
      frame_out
      exact (block_part m c t j).trans (zero_add _).symm)
    (fun t h j => by
      have := points t
      rw [outsAt0_B m c t h (by omega)]
      dsimp only
      frame_out
      exact (block_step _ _ j).trans (congrArg (fun u : EReal => _ + u) (block_part m c t j)))
    (le_of_eq N_0) t0_7 rfl y, zero_add]
  refine Eq.trans ?_ (congrArg (squares _ _ _ _ _ _) (?_ : (y : S1x1024.Idx) = _))
  · exact sum_part m c y
  · blk_ext [index8 t0_7]

/-- A whole run of the kernel. -/
theorem run : θ_run defs (onTc (τ := τ) main) ⟨m, fun _ => 0, ρ⟩ fun r => ∀ c : Dev nD,
    r.2.mem ((c.tc : Thread nD τ).loc main_v0_0) = product (m ((c.tc : Thread nD τ).loc main_arg0)) (m ((c.tc : Thread nD τ).loc main_arg1))
    ∧ r.2.mem ((c.tc : Thread nD τ).loc main_v0_1) = gradient (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_v0_2) = squares (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => ⟨(h c).1.trans ((result_product m c).trans (by rw [V_main_arg0, V_main_arg1])),
    (h c).2.1.trans ((result_gradient m c).trans (by rw [V_main_arg0, V_main_arg1, V_main_arg2, V_main_arg3, V_main_arg4, V_main_arg5])),
    (h c).2.2.1.trans ((result_squares m c).trans (by rw [V_main_arg0, V_main_arg1, V_main_arg2, V_main_arg3, V_main_arg4, V_main_arg5])), (h c).2.2.2⟩)
    (Value.run_blocks m ρ)

end Cert.MmLossIdeal.LossOutput

namespace Cert.MmLossRefIdeal.LossOutput

open Cert.MmLossRefIdeal Cert.MmLossRefIdeal.Gen
open Idealize.ShloMosaic Idealize.ShloMosaic.TcCoe Idealize.ShloMosaic.StableHlo Idealize.SL.Sem
open Cert.MmLossIdeal.LossOutput (product error gradient squares)

/-- The reference's product. -/
def dot (a : FVec Ideal S4096x2816 .bf16) (w : FVec Ideal S2816x1024 .bf16) : FVec Ideal S4096x1024 .f32 :=
  Host.dotGeneral dot_S4096x2816_S2816x1024_S4096x1024_1_0_0_1_n_n none (extf .f32 a bitsLt_bf16_f32) (extf .f32 w bitsLt_bf16_f32)

/-- The reference's residual minus the target, from the product. -/
def after (f x : FVec Ideal S4096x1024 .f32) (g gate : FVec Ideal S1x1024 .f32) (r : FVec Ideal S4096x1024 .f32) : FVec Ideal S4096x1024 .f32 :=
  subf (addf x (mulf (broadcastInDim S4096x1024 ![0, 1] bcast_S1x1024_S4096x1024_0_1 (mulf (broadcastInDim S1x1024 ![] bcast_S_S1x1024 (constant S_ .f32 0x3F000000#32)) gate))
    (mulf (mulf f (broadcastInDim S4096x1024 ![0, 1] bcast_S4096x1_S4096x1024_0_1 (Host.rsqrt
        (addf (Host.divf (broadcastInDim S4096x1 ![0] bcast_S4096_S4096x1_0 (Host.reduceAdd (mulf f f) (constant S_ .f32 0x00000000#32) reducesTo_S4096x1024_S4096_d1 h_S_))
            (broadcastInDim S4096x1 ![] bcast_S_S4096x1 (constant S_ .f32 0x44800000#32)))
          (broadcastInDim S4096x1 ![] bcast_S_S4096x1 (constant S_ .f32 0x358637BD#32))))))
      (broadcastInDim S4096x1024 ![0, 1] bcast_S1x1024_S4096x1024_0_1 g)))) r

/-- The reference's gradient of the loss, from the error. -/
def slope (e : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32)))
    (broadcastInDim S4096 ![] bcast_S_S4096 (constant S_ .f32 0x44800000#32)))) (mulf (broadcastInDim S4096x1024 ![] bcast_S_S4096x1024 (constant S_ .f32 0x40000000#32)) e)

/-- The reference's sums of squares, from the error. -/
def sums (e : FVec Ideal S4096x1024 .f32) : FVec Ideal S1x1024 .f32 :=
  broadcastInDim S1x1024 ![1] bcast_S1024_S1x1024_1 (Host.reduceAdd (mulf e e) (constant S_ .f32 0x00000000#32) reducesTo_S4096x1024_S1024_d0 h_S_)

theorem dot_eq (a : FVec Ideal S4096x2816 .bf16) (w : FVec Ideal S2816x1024 .bf16) : dot a w = product a w := by
  funext y
  pointwise [dot, product, Cert.MmLossIdeal.LossOutput.hidden]

theorem after_eq (f x : FVec Ideal S4096x1024 .f32) (g gate : FVec Ideal S1x1024 .f32) (r : FVec Ideal S4096x1024 .f32) (y : S4096x1024.Idx) :
    after f x g gate r y = (PostNorm.entry (Ideal.ofBits .f32 0x3F000000#32) (fun k => f (ix2 (y 0) k)) (fun k => g (ix2 0 k)) (fun k => gate (ix2 0 k))
      (x (ix2 (y 0) (y 1))) (y 1) - r (ix2 (y 0) (y 1)) : EReal) := by
  unfold PostNorm.entry NormBackward.rate NormBackward.power
  pointwise [after]

theorem error_eq (a : FVec Ideal S4096x2816 .bf16) (w : FVec Ideal S2816x1024 .bf16) (x : FVec Ideal S4096x1024 .f32) (g gate : FVec Ideal S1x1024 .f32) (r : FVec Ideal S4096x1024 .f32) (l : Fin 4096) (j : Fin 1024) :
    after (dot a w) x g gate r (ix2 l j) = error a w x g gate r l j := by
  rw [dot_eq]
  exact after_eq _ _ _ _ _ (ix2 l j)

theorem bits_half : Ideal.ofBits .f32 0x3F000000#32 = ((1 / 2 : ℝ) : EReal) := by
  simp [Ideal.ofBits, Ideal.ieee, -EReal.coe_mul]
  norm_num

theorem bits_one : Ideal.ofBits .f32 0x3F800000#32 = ((1 : ℝ) : EReal) := by
  simp [Ideal.ofBits, Ideal.ieee, -EReal.coe_mul]
  norm_num

theorem bits_two : Ideal.ofBits .f32 0x40000000#32 = ((2 : ℝ) : EReal) := by
  simp [Ideal.ofBits, Ideal.ieee, -EReal.coe_mul]
  norm_num

theorem bits_width : Ideal.ofBits .f32 0x44800000#32 = ((1024 : ℝ) : EReal) := by
  simp [Ideal.ofBits, Ideal.ieee, -EReal.coe_mul]
  norm_num

theorem bits_share : Ideal.ofBits .f32 0x3A800000#32 = ((1 / 1024 : ℝ) : EReal) := by
  simp [Ideal.ofBits, Ideal.ieee, -EReal.coe_mul]
  norm_num

/-- Half of the mean's share of a square's derivative is the share itself. -/
theorem share (e : EReal) : Ideal.div (Ideal.ofBits .f32 0x3F000000#32 * Ideal.ofBits .f32 0x3F800000#32) (Ideal.ofBits .f32 0x44800000#32) * (Ideal.ofBits .f32 0x40000000#32 * e)
    = e * Ideal.ofBits .f32 0x3A800000#32 := by
  rw [bits_half, bits_one, bits_two, bits_width, bits_share, Ideal.div_coe (by norm_num), ← mul_assoc, mul_comm e]
  refine congrArg (fun u : EReal => u * e) ?_
  rw [← EReal.coe_mul, ← EReal.coe_mul, ← EReal.coe_mul]
  norm_num

theorem slope_apply (e : FVec Ideal S4096x1024 .f32) (y : S4096x1024.Idx) : slope e y = (e (ix2 (y 0) (y 1)) * Ideal.ofBits .f32 0x3A800000#32 : EReal) := by
  refine Eq.trans ?_ (share (e (ix2 (y 0) (y 1))))
  pointwise [slope]

theorem slope_eq (a : FVec Ideal S4096x2816 .bf16) (w : FVec Ideal S2816x1024 .bf16) (x : FVec Ideal S4096x1024 .f32) (g gate : FVec Ideal S1x1024 .f32) (r : FVec Ideal S4096x1024 .f32) :
    slope (after (dot a w) x g gate r) = gradient a w x g gate r :=
  funext fun y => (slope_apply _ y).trans (congrArg (fun u : EReal => u * Ideal.ofBits .f32 0x3A800000#32) (error_eq a w x g gate r (y 0) (y 1)))

theorem sums_apply (e : FVec Ideal S4096x1024 .f32) (y : S1x1024.Idx) : sums e y = (∑ l : Fin 4096, (e (ix2 l (y 1)) : EReal) * e (ix2 l (y 1)) : EReal) := by
  pointwise [sums]

theorem sums_eq (a : FVec Ideal S4096x2816 .bf16) (w : FVec Ideal S2816x1024 .bf16) (x : FVec Ideal S4096x1024 .f32) (g gate : FVec Ideal S1x1024 .f32) (r : FVec Ideal S4096x1024 .f32) :
    sums (after (dot a w) x g gate r) = squares a w x g gate r :=
  funext fun y => (sums_apply _ y).trans (Fin.sum_fin_congr fun l => congrArg (fun u : EReal => u * u) (error_eq a w x g gate r l (y 1)))

variable (m : (ℓ : Loc nD τ sig) → Buf (Elt Ideal) ℓ) (ρ : Dev nD → PrngReg) (c : Dev nD)

/-- A whole run of the reference. -/
theorem run : θ_run defs (onTc (τ := τ) main) ⟨m, fun _ => 0, ρ⟩ fun r => ∀ c : Dev nD,
    r.2.mem ((c.tc : Thread nD τ).loc main_v2) = product (m ((c.tc : Thread nD τ).loc main_arg0)) (m ((c.tc : Thread nD τ).loc main_arg1))
    ∧ r.2.mem ((c.tc : Thread nD τ).loc main_v34) = gradient (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_v38) = squares (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c => ⟨(h c).1.trans (dot_eq (m ((c.tc : Thread nD τ).loc main_arg0)) (m ((c.tc : Thread nD τ).loc main_arg1))),
    (h c).2.1.trans (slope_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))),
    (h c).2.2.1.trans (sums_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))), (h c).2.2.2⟩)
    (Value.run m ρ)

end Cert.MmLossRefIdeal.LossOutput

end
-- ==== Proof.RecurrenceProduct.lean ====
/-
The recurrence's output projection: a product of the gated states with its weight.
-/
module

public import proofs.«01_k».proof.Proof.Gen.RecOutIdeal.Value
public import proofs.«01_k».proof.Proof.Gen.RecOutRefIdeal.Run
public import Idealize.ShloMosaic.Lib.Pipeline.ValueKit
public import Idealize.ShloMosaic.Lib.Pointwise

@[expose] public section

set_option maxRecDepth 16384

noncomputable section

namespace Cert.RecOutIdeal.RecurrenceProduct

open Cert.RecOutIdeal Cert.RecOutIdeal.Gen
open Idealize.ShloMosaic Idealize.ShloMosaic.TcCoe Idealize.SL.Sem

/-- Entry (l, j) of the product: the sum over the 1024 columns of the gated states. -/
def product (a : Vec Ideal S4096x1024 .bf16) (w : Vec Ideal S1024x1024 .bf16) : Vec Ideal S4096x1024 .f32 := fun y =>
  (∑ k : Fin 1024, (a (ix2 (y 0) k) : EReal) * w (ix2 k (y 1)) : EReal)

/-- One block of the kernel's product. -/
theorem block_product (a : Vec Ideal S1024x1024 .bf16) (b : Vec Ideal S1024x512 .bf16) (y : S1024x512.Idx) :
    k0_pay1 a b y = (∑ k : Fin 1024, (a (ix2 (y 0) k) : EReal) * b (ix2 k (y 1)) : EReal) := by
  pointwise [k0_pay1]

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

variable (m : (ℓ : Loc nD τ sig) → Buf (Elt Ideal) ℓ) (ρ : Dev nD → PrngReg) (c : Dev nD)

/-- The result array of the kernel. -/
theorem result : (dats m 0 c).arrAt 2 cfg0.N = product (V m c main_arg0) (V m c main_arg1) := by
  refine (dats m 0 c).arrAt_eq_of_covers 2 _ (by decide +kernel) fun t hf y => ?_
  blk_simp
  rw [after0_2 m c t]
  frame_out
  rw [block_product]
  unfold product
  refine Fin.sum_fin_congr fun k => congrArg₂ (fun u v : EReal => u * v) ?_ ?_
  · blk_simp [iblk]
    refine congrArg (V m c main_arg0) ?_
    blk_ext [index0 t, index2 t]
  · blk_simp [iblk]
    refine congrArg (V m c main_arg1) ?_
    blk_ext [index1 t, index2 t]

/-- A whole run of the kernel. -/
theorem run : θ_run defs (onTc (τ := τ) main) ⟨m, fun _ => 0, ρ⟩ fun r => ∀ c : Dev nD,
    r.2.mem ((c.tc : Thread nD τ).loc main_v0) = product (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((result m c).trans (by rw [V_main_arg0, V_main_arg1])), (h c).2⟩)
    (Value.run_blocks m ρ)

end Cert.RecOutIdeal.RecurrenceProduct

namespace Cert.RecOutRefIdeal.RecurrenceProduct

open Cert.RecOutRefIdeal Cert.RecOutRefIdeal.Gen
open Idealize.ShloMosaic Idealize.ShloMosaic.TcCoe Idealize.ShloMosaic.StableHlo Idealize.SL.Sem
open Cert.RecOutIdeal.RecurrenceProduct (product)

variable (m : (ℓ : Loc nD τ sig) → Buf (Elt Ideal) ℓ) (ρ : Dev nD → PrngReg) (c : Dev nD)

/-- The reference's product has the same entries. -/
theorem whole (a : Vec Ideal S4096x1024 .bf16) (w : Vec Ideal S1024x1024 .bf16) :
    Host.dotGeneral (F := Ideal) dot_S4096x1024_S1024x1024_S4096x1024_1_0_0_1_n_n none (extf .f32 a bitsLt_bf16_f32) (extf .f32 w bitsLt_bf16_f32) = product a w := by
  funext y
  pointwise [product]

/-- A whole run of the reference. -/
theorem run : θ_run defs (onTc (τ := τ) main) ⟨m, fun _ => 0, ρ⟩ fun r => ∀ c : Dev nD,
    r.2.mem ((c.tc : Thread nD τ).loc main_v2) = product (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (whole _ _), (h c).2⟩) (Value.run m ρ)

end Cert.RecOutRefIdeal.RecurrenceProduct

end
-- ==== Proof.AttentionProduct.lean ====
/-
The attention's output projection: a product of the heads' outputs with its weight.
-/
module

public import proofs.«01_k».proof.Proof.Gen.AttOutIdeal.Value
public import proofs.«01_k».proof.Proof.Gen.AttOutRefIdeal.Run
public import Idealize.ShloMosaic.Lib.Pipeline.ValueKit
public import Idealize.ShloMosaic.Lib.Pointwise

@[expose] public section

set_option maxRecDepth 16384

noncomputable section

namespace Cert.AttOutIdeal.AttentionProduct

open Cert.AttOutIdeal Cert.AttOutIdeal.Gen
open Idealize.ShloMosaic Idealize.ShloMosaic.TcCoe Idealize.SL.Sem

/-- Entry (l, j) of the product: the sum over the 512 columns of the heads. -/
def product (a : Vec Ideal S4096x512 .bf16) (w : Vec Ideal S512x1024 .bf16) : Vec Ideal S4096x1024 .f32 := fun y =>
  (∑ k : Fin 512, (a (ix2 (y 0) k) : EReal) * w (ix2 k (y 1)) : EReal)

/-- One block of the kernel's product. -/
theorem block_product (a : Vec Ideal S1024x512 .bf16) (b : Vec Ideal S512x512 .bf16) (y : S1024x512.Idx) :
    k0_pay1 a b y = (∑ k : Fin 512, (a (ix2 (y 0) k) : EReal) * b (ix2 k (y 1)) : EReal) := by
  pointwise [k0_pay1]

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)

variable (m : (ℓ : Loc nD τ sig) → Buf (Elt Ideal) ℓ) (ρ : Dev nD → PrngReg) (c : Dev nD)

/-- The result array of the kernel. -/
theorem result : (dats m 0 c).arrAt 2 cfg0.N = product (V m c main_arg0) (V m c main_arg1) := by
  refine (dats m 0 c).arrAt_eq_of_covers 2 _ (by decide +kernel) fun t hf y => ?_
  blk_simp
  rw [after0_2 m c t]
  frame_out
  rw [block_product]
  unfold product
  refine Fin.sum_fin_congr fun k => congrArg₂ (fun u v : EReal => u * v) ?_ ?_
  · blk_simp [iblk]
    refine congrArg (V m c main_arg0) ?_
    blk_ext [index0 t, index2 t]
  · blk_simp [iblk]
    refine congrArg (V m c main_arg1) ?_
    blk_ext [index1 t, index2 t]

/-- A whole run of the kernel. -/
theorem run : θ_run defs (onTc (τ := τ) main) ⟨m, fun _ => 0, ρ⟩ fun r => ∀ c : Dev nD,
    r.2.mem ((c.tc : Thread nD τ).loc main_v0) = product (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans ((result m c).trans (by rw [V_main_arg0, V_main_arg1])), (h c).2⟩)
    (Value.run_blocks m ρ)

end Cert.AttOutIdeal.AttentionProduct

namespace Cert.AttOutRefIdeal.AttentionProduct

open Cert.AttOutRefIdeal Cert.AttOutRefIdeal.Gen
open Idealize.ShloMosaic Idealize.ShloMosaic.TcCoe Idealize.ShloMosaic.StableHlo Idealize.SL.Sem
open Cert.AttOutIdeal.AttentionProduct (product)

variable (m : (ℓ : Loc nD τ sig) → Buf (Elt Ideal) ℓ) (ρ : Dev nD → PrngReg) (c : Dev nD)

/-- The reference's product has the same entries. -/
theorem whole (a : Vec Ideal S4096x512 .bf16) (w : Vec Ideal S512x1024 .bf16) :
    Host.dotGeneral (F := Ideal) dot_S4096x512_S512x1024_S4096x1024_1_0_0_1_n_n none (extf .f32 a bitsLt_bf16_f32) (extf .f32 w bitsLt_bf16_f32) = product a w := by
  funext y
  pointwise [product]

/-- A whole run of the reference. -/
theorem run : θ_run defs (onTc (τ := τ) main) ⟨m, fun _ => 0, ρ⟩ fun r => ∀ c : Dev nD,
    r.2.mem ((c.tc : Thread nD τ).loc main_v2) = product (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (whole _ _), (h c).2⟩) (Value.run m ρ)

end Cert.AttOutRefIdeal.AttentionProduct

end
-- ==== Proof.Adam.lean ====
/-
One step of the optimiser on one entry: the two moving averages and the change of the weight.
-/
module

public import Idealize.ShloMosaic.Lib.Pointwise

@[expose] public section

noncomputable section

namespace Adam

open Idealize.ShloMosaic

/-- The moving average of the gradient. -/
def mean (g m : EReal) : EReal := Ideal.ofBits .f32 0x3F666666#32 * m + Ideal.ofBits .f32 0x3DCCCCCD#32 * g

/-- The moving average of the gradient's square. -/
def square (g v : EReal) : EReal := Ideal.ofBits .f32 0x3F7FBE77#32 * v + Ideal.ofBits .f32 0x3A83126F#32 * (g * g)

/-- The change of the weight. -/
def change (g w m v : EReal) : EReal := Ideal.ofBits .f32 0xBA83126F#32 * (Ideal.div (Ideal.div (mean g m) (Ideal.ofBits .f32 0x3F26BD02#32))
  (Ideal.sqrt (Ideal.div (square g v) (Ideal.ofBits .f32 0x3C231ACC#32)) + Ideal.ofBits .f32 0x322BCC77#32) + Ideal.ofBits .f32 0x3C23D70A#32 * w)

end Adam

end
-- ==== Proof.AdaStep.lean ====
/-
One step of the optimiser on a device's columns of the modulation's weight.
-/
module

public import proofs.«01_k».proof.Proof.Gen.AdamAdaIdeal.Value
public import proofs.«01_k».proof.Proof.Gen.AdamAdaRefIdeal.Run
public import proofs.«01_k».proof.Proof.Adam
public import Idealize.ShloMosaic.Lib.Pipeline.ValueKit
public import Idealize.ShloMosaic.Lib.Pointwise

@[expose] public section

set_option maxRecDepth 16384

noncomputable section

namespace Cert.AdamAdaIdeal.AdaStep

open Cert.AdamAdaIdeal Cert.AdamAdaIdeal.Gen
open Idealize.ShloMosaic Idealize.ShloMosaic.TcCoe Idealize.SL.Sem

/-- The new average of the gradient. -/
def means (g a : Vec Ideal S1024x1152 .f32) : Vec Ideal S1024x1152 .f32 := fun y => Adam.mean (g y) (a y)

/-- The new average of the gradient's square. -/
def squares (g a : Vec Ideal S1024x1152 .f32) : Vec Ideal S1024x1152 .f32 := fun y => Adam.square (g y) (a y)

/-- The change of the weight. -/
def changes (g w a b : Vec Ideal S1024x1152 .f32) : Vec Ideal S1024x1152 .f32 := fun y => Adam.change (g y) (w y) (a y) (b y)

theorem block_mean (g a : Vec Ideal S256x1152 .f32) (y : S256x1152.Idx) : k0_pay1 g a y = Adam.mean (g y) (a y) := by
  unfold Adam.mean
  pointwise [k0_pay1]

theorem block_square (g a : Vec Ideal S256x1152 .f32) (y : S256x1152.Idx) : k0_pay2 g a y = Adam.square (g y) (a y) := by
  unfold Adam.square
  pointwise [k0_pay2]

theorem block_change (g w a b : Vec Ideal S256x1152 .f32) (y : S256x1152.Idx) : k0_pay3 g a b w y = Adam.change (g y) (w y) (a y) (b y) := by
  unfold Adam.change
  rw [← block_mean g a y, ← block_square g b y]
  unfold k0_pay3
  generalize k0_pay1 g a = d
  generalize k0_pay2 g b = e
  pointwise []

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

theorem points (t : Fin cfg0.N) : t.val < 4 := lt_of_lt_of_eq t.isLt N_0

/-- The entry of the array that is entry `y` of the block at point `t`. -/
def at_ (t : Fin cfg0.N) (y : S256x1152.Idx) : S1024x1152.Idx :=
  ix2 ⟨t.val * 256 + (y 0).val, by have := points t; have : (y 0).val < 256 := (y 0).isLt; omega⟩ (y 1)

variable (m : (ℓ : Loc nD τ sig) → Buf (Elt Ideal) ℓ) (ρ : Dev nD → PrngReg) (c : Dev nD)

theorem read_gradient (t : Fin cfg0.N) (y : S256x1152.Idx) : iblk m c 0 t y = V m c main_arg0 (at_ t y) := by
  blk_simp [iblk]
  refine congrArg (V m c main_arg0) ?_
  blk_ext [index0 t, at_]

theorem read_weight (t : Fin cfg0.N) (y : S256x1152.Idx) : iblk m c 1 t y = V m c main_arg1 (at_ t y) := by
  blk_simp [iblk]
  refine congrArg (V m c main_arg1) ?_
  blk_ext [index1 t, at_]

theorem read_mean (t : Fin cfg0.N) (y : S256x1152.Idx) : iblk m c 2 t y = V m c main_arg2 (at_ t y) := by
  blk_simp [iblk]
  refine congrArg (V m c main_arg2) ?_
  blk_ext [index2 t, at_]

theorem read_square (t : Fin cfg0.N) (y : S256x1152.Idx) : iblk m c 3 t y = V m c main_arg3 (at_ t y) := by
  blk_simp [iblk]
  refine congrArg (V m c main_arg3) ?_
  blk_ext [index3 t, at_]

/-- The first result of the kernel is the gradient. -/
theorem result_gradient : (dats m 0 c).arrAt 4 cfg0.N = (V m c main_arg0) := by
  refine (dats m 0 c).arrAt_eq_of_covers 4 _ (by decide +kernel) fun t hf y => ?_
  have hstored : (dats m 0 c).after 4 t y = (V m c main_arg0) (at_ t y) := by
    rw [after0_4 m c t]
    frame_out
    exact read_gradient m c t y
  rw [hstored]
  blk_simp
  refine congrArg (V m c main_arg0) ?_
  blk_ext [index4 t, at_]

/-- The second result of the kernel. -/
theorem result_change : (dats m 0 c).arrAt 5 cfg0.N = changes (V m c main_arg0) (V m c main_arg1) (V m c main_arg2) (V m c main_arg3) := by
  refine (dats m 0 c).arrAt_eq_of_covers 5 _ (by decide +kernel) fun t hf y => ?_
  have hstored : (dats m 0 c).after 5 t y = changes (V m c main_arg0) (V m c main_arg1) (V m c main_arg2) (V m c main_arg3) (at_ t y) := by
    rw [after0_5 m c t]
    frame_out
    exact (block_change _ _ _ _ y).trans (by rw [read_gradient, read_weight, read_mean, read_square]; rfl)
  rw [hstored]
  blk_simp
  refine congrArg (changes _ _ _ _) ?_
  blk_ext [index5 t, at_]

/-- The third result of the kernel. -/
theorem result_mean : (dats m 0 c).arrAt 6 cfg0.N = means (V m c main_arg0) (V m c main_arg2) := by
  refine (dats m 0 c).arrAt_eq_of_covers 6 _ (by decide +kernel) fun t hf y => ?_
  have hstored : (dats m 0 c).after 6 t y = means (V m c main_arg0) (V m c main_arg2) (at_ t y) := by
    rw [after0_6 m c t]
    frame_out
    exact (block_mean _ _ y).trans (by rw [read_gradient, read_mean]; rfl)
  rw [hstored]
  blk_simp
  refine congrArg (means _ _) ?_
  blk_ext [index6 t, at_]

/-- The fourth result of the kernel. -/
theorem result_square : (dats m 0 c).arrAt 7 cfg0.N = squares (V m c main_arg0) (V m c main_arg3) := by
  refine (dats m 0 c).arrAt_eq_of_covers 7 _ (by decide +kernel) fun t hf y => ?_
  have hstored : (dats m 0 c).after 7 t y = squares (V m c main_arg0) (V m c main_arg3) (at_ t y) := by
    rw [after0_7 m c t]
    frame_out
    exact (block_square _ _ y).trans (by rw [read_gradient, read_square]; rfl)
  rw [hstored]
  blk_simp
  refine congrArg (squares _ _) ?_
  blk_ext [index7 t, at_]

/-- A whole run of the kernel. -/
theorem run : θ_run defs (onTc (τ := τ) main) ⟨m, fun _ => 0, ρ⟩ fun r => ∀ c : Dev nD,
    r.2.mem ((c.tc : Thread nD τ).loc main_v0_0) = m ((c.tc : Thread nD τ).loc main_arg0)
    ∧ r.2.mem ((c.tc : Thread nD τ).loc main_v0_1) = changes (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_2) = means (m ((c.tc : Thread nD τ).loc main_arg0)) (m ((c.tc : Thread nD τ).loc main_arg2))
    ∧ r.2.mem ((c.tc : Thread nD τ).loc main_v0_3) = squares (m ((c.tc : Thread nD τ).loc main_arg0)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans ((result_gradient m c).trans (by rw [V_main_arg0])),
    (h c).2.1.trans ((result_change m c).trans (by rw [V_main_arg0, V_main_arg1, V_main_arg2, V_main_arg3])),
    (h c).2.2.1.trans ((result_mean m c).trans (by rw [V_main_arg0, V_main_arg2])),
    (h c).2.2.2.1.trans ((result_square m c).trans (by rw [V_main_arg0, V_main_arg3])), (h c).2.2.2.2⟩)
    (Value.run_blocks m ρ)

end Cert.AdamAdaIdeal.AdaStep

namespace Cert.AdamAdaRefIdeal.AdaStep

open Cert.AdamAdaRefIdeal Cert.AdamAdaRefIdeal.Gen
open Idealize.ShloMosaic Idealize.ShloMosaic.TcCoe Idealize.ShloMosaic.StableHlo Idealize.SL.Sem
open Cert.AdamAdaIdeal.AdaStep (means squares changes)

/-- A constant array of the reference. -/
def fill (k : BitVec 32) : FVec Ideal S1024x1152 .f32 := broadcastInDim S1024x1152 ![] bcast_S_S1024x1152 (constant S_ .f32 k)

/-- The reference's average of the gradient. -/
def mean (g a : FVec Ideal S1024x1152 .f32) : FVec Ideal S1024x1152 .f32 := addf (mulf (fill 0x3F666666#32) a) (mulf (fill 0x3DCCCCCD#32) g)

/-- The reference's average of the gradient's square. -/
def square (g a : FVec Ideal S1024x1152 .f32) : FVec Ideal S1024x1152 .f32 := addf (mulf (fill 0x3F7FBE77#32) a) (mulf (fill 0x3A83126F#32) (mulf g g))

/-- The reference's change of the weight. -/
def change (p q w : FVec Ideal S1024x1152 .f32) : FVec Ideal S1024x1152 .f32 :=
  mulf (fill 0xBA83126F#32) (addf (Host.divf (Host.divf p (fill 0x3F26BD02#32)) (addf (Host.sqrt (Host.divf q (fill 0x3C231ACC#32))) (fill 0x322BCC77#32)))
    (mulf (fill 0x3C23D70A#32) w))

theorem mean_eq (g a : FVec Ideal S1024x1152 .f32) : mean g a = means g a := by
  funext y
  unfold Cert.AdamAdaIdeal.AdaStep.means Adam.mean
  pointwise [mean, fill]

theorem square_eq (g a : FVec Ideal S1024x1152 .f32) : square g a = squares g a := by
  funext y
  unfold Cert.AdamAdaIdeal.AdaStep.squares Adam.square
  pointwise [square, fill]

theorem change_eq (g w a b : FVec Ideal S1024x1152 .f32) : change (mean g a) (square g b) w = changes g w a b := by
  funext y
  show _ = Adam.change (g y) (w y) (a y) (b y)
  unfold Adam.change
  rw [show Adam.mean (g y) (a y) = mean g a y from (congrFun (mean_eq g a) y).symm, show Adam.square (g y) (b y) = square g b y from (congrFun (square_eq g b) y).symm]
  generalize mean g a = d
  generalize square g b = e
  pointwise [change, fill]

variable (m : (ℓ : Loc nD τ sig) → Buf (Elt Ideal) ℓ) (ρ : Dev nD → PrngReg) (c : Dev nD)

/-- A whole run of the reference. -/
theorem run : θ_run defs (onTc (τ := τ) main) ⟨m, fun _ => 0, ρ⟩ fun r => ∀ c : Dev nD,
    r.2.mem ((c.tc : Thread nD τ).loc main_arg0) = m ((c.tc : Thread nD τ).loc main_arg0)
    ∧ r.2.mem ((c.tc : Thread nD τ).loc main_v23) = changes (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v4) = means (m ((c.tc : Thread nD τ).loc main_arg0)) (m ((c.tc : Thread nD τ).loc main_arg2))
    ∧ r.2.mem ((c.tc : Thread nD τ).loc main_v10) = squares (m ((c.tc : Thread nD τ).loc main_arg0)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1,
    (h c).2.1.trans (change_eq (m ((c.tc : Thread nD τ).loc main_arg0)) (m ((c.tc : Thread nD τ).loc main_arg1)) (m ((c.tc : Thread nD τ).loc main_arg2)) (m ((c.tc : Thread nD τ).loc main_arg3))),
    (h c).2.2.1.trans (mean_eq (m ((c.tc : Thread nD τ).loc main_arg0)) (m ((c.tc : Thread nD τ).loc main_arg2))),
    (h c).2.2.2.1.trans (square_eq (m ((c.tc : Thread nD τ).loc main_arg0)) (m ((c.tc : Thread nD τ).loc main_arg3))), (h c).2.2.2.2⟩)
    (Value.run m ρ)

end Cert.AdamAdaRefIdeal.AdaStep

end
-- ==== Proof.AdaWeight.lean ====
/-
The gradient of the modulation's weight: the activated conditioning against the gradient of the modulation, over the sequences.
-/
module

public import proofs.«01_k».proof.Proof.Gen.AdaBwdIdeal.Value
public import proofs.«01_k».proof.Proof.Gen.AdaBwdRefIdeal.Run
public import Idealize.ShloMosaic.Lib.Pointwise

@[expose] public section

set_option maxRecDepth 16384

noncomputable section

namespace Cert.AdaBwdIdeal.AdaWeight

open Cert.AdaBwdIdeal Cert.AdaBwdIdeal.Gen
open Idealize.ShloMosaic Idealize.ShloMosaic.TcCoe Idealize.SL.Sem

/-- A number times its logistic. -/
def silu (z : EReal) : EReal := z * Ideal.logistic z

/-- Entry (k, j): the sum over the 8 sequences. -/
def product (x : Vec Ideal S8x1024 .f32) (w : Vec Ideal S8x1152 .f32) : Vec Ideal S1024x1152 .f32 := fun y => (∑ b : Fin 8, silu (x (ix2 b (y 0))) * w (ix2 b (y 1)) : EReal)

theorem whole (x : Vec Ideal S8x1024 .f32) (w : Vec Ideal S8x1152 .f32) : k0_pay1 x w = product x w := by
  funext y
  unfold product silu
  pointwise [k0_pay1]

variable (m : (ℓ : Loc nD τ sig) → Buf (Elt Ideal) ℓ) (ρ : Dev nD → PrngReg) (c : Dev nD)

/-- A whole run of the kernel. -/
theorem run : θ_run defs (onTc (τ := τ) main) ⟨m, fun _ => 0, ρ⟩ fun r => ∀ c : Dev nD,
    r.2.mem ((c.tc : Thread nD τ).loc main_v0) = product (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (whole (m ((c.tc : Thread nD τ).loc main_arg0)) (m ((c.tc : Thread nD τ).loc main_arg1))), (h c).2⟩) (Value.run m ρ)

end Cert.AdaBwdIdeal.AdaWeight

namespace Cert.AdaBwdRefIdeal.AdaWeight

open Cert.AdaBwdRefIdeal Cert.AdaBwdRefIdeal.Gen
open Idealize.ShloMosaic Idealize.ShloMosaic.TcCoe Idealize.ShloMosaic.StableHlo Idealize.SL.Sem
open Cert.AdaBwdIdeal.AdaWeight (product silu)

/-- The reference's activation. -/
def act (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

theorem act_apply (x : FVec Ideal S8x1024 .f32) (y : S8x1024.Idx) : act x y = silu (x y) := by
  unfold Cert.AdaBwdIdeal.AdaWeight.silu Ideal.logistic
  pointwise [act]

theorem whole (x : FVec Ideal S8x1024 .f32) (w : FVec Ideal S8x1152 .f32) :
    transpose S1024x1152 [1, 0] (Host.dotGeneral dot_S8x1152_S8x1024_S1152x1024_0_0_1_1_n_n none w (act x)) transposes_S1152x1024_S1024x1152_1_0 = product x w := by
  funext y
  unfold Cert.AdaBwdIdeal.AdaWeight.product
  simp only [← act_apply]
  generalize act x = d
  refine Eq.trans (b := (∑ b : Fin 8, (w (ix2 b (y 1)) : EReal) * d (ix2 b (y 0)) : EReal)) ?_ (Finset.sum_congr rfl fun b _ => mul_comm _ _)
  pointwise []

variable (m : (ℓ : Loc nD τ sig) → Buf (Elt Ideal) ℓ) (ρ : Dev nD → PrngReg) (c : Dev nD)

/-- A whole run of the reference. -/
theorem run : θ_run defs (onTc (τ := τ) main) ⟨m, fun _ => 0, ρ⟩ fun r => ∀ c : Dev nD,
    r.2.mem ((c.tc : Thread nD τ).loc main_v4) = product (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (whole (m ((c.tc : Thread nD τ).loc main_arg0)) (m ((c.tc : Thread nD τ).loc main_arg1))), (h c).2⟩) (Value.run m ρ)

end Cert.AdaBwdRefIdeal.AdaWeight

end
-- ==== Proof.AdaProduct.lean ====
/-
The product of the activated conditioning with the modulation's weight.
-/
module

public import proofs.«01_k».proof.Proof.Gen.AdaFwdIdeal.Value
public import proofs.«01_k».proof.Proof.Gen.AdaFwdRefIdeal.Run
public import Idealize.ShloMosaic.Lib.Pointwise

@[expose] public section

set_option maxRecDepth 16384

noncomputable section

namespace Cert.AdaFwdIdeal.AdaProduct

open Cert.AdaFwdIdeal Cert.AdaFwdIdeal.Gen
open Idealize.ShloMosaic Idealize.ShloMosaic.TcCoe Idealize.SL.Sem

/-- A number times its logistic. -/
def silu (z : EReal) : EReal := z * Ideal.logistic z

/-- Entry (b, j): the sum over the activated conditioning of sequence `b`. -/
def product (x : Vec Ideal S8x1024 .f32) (w : Vec Ideal S1024x1152 .f32) : Vec Ideal S8x1152 .f32 := fun y => (∑ k : Fin 1024, silu (x (ix2 (y 0) k)) * w (ix2 k (y 1)) : EReal)

theorem whole (x : Vec Ideal S8x1024 .f32) (w : Vec Ideal S1024x1152 .f32) : k0_pay1 x w = product x w := by
  funext y
  unfold product silu
  pointwise [k0_pay1]

variable (m : (ℓ : Loc nD τ sig) → Buf (Elt Ideal) ℓ) (ρ : Dev nD → PrngReg) (c : Dev nD)

/-- A whole run of the kernel. -/
theorem run : θ_run defs (onTc (τ := τ) main) ⟨m, fun _ => 0, ρ⟩ fun r => ∀ c : Dev nD,
    r.2.mem ((c.tc : Thread nD τ).loc main_v0) = product (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (whole (m ((c.tc : Thread nD τ).loc main_arg0)) (m ((c.tc : Thread nD τ).loc main_arg1))), (h c).2⟩) (Value.run m ρ)

end Cert.AdaFwdIdeal.AdaProduct

namespace Cert.AdaFwdRefIdeal.AdaProduct

open Cert.AdaFwdRefIdeal Cert.AdaFwdRefIdeal.Gen
open Idealize.ShloMosaic Idealize.ShloMosaic.TcCoe Idealize.ShloMosaic.StableHlo Idealize.SL.Sem
open Cert.AdaFwdIdeal.AdaProduct (product silu)

/-- The reference's activation. -/
def act (x : FVec Ideal S8x1024 .f32) : FVec Ideal S8x1024 .f32 :=
  mulf x (Host.divf (broadcastInDim S8x1024 ![] bcast_S_S8x1024 (constant S_ .f32 0x3F800000#32))
    (addf (broadcastInDim S8x1024 ![] bcast_S_S8x1024 (constant S_ .f32 0x3F800000#32)) (Host.exp (Host.negf x))))

theorem act_apply (x : FVec Ideal S8x1024 .f32) (y : S8x1024.Idx) : act x y = silu (x y) := by
  unfold Cert.AdaFwdIdeal.AdaProduct.silu Ideal.logistic
  pointwise [act]

theorem whole (x : FVec Ideal S8x1024 .f32) (w : FVec Ideal S1024x1152 .f32) :
    Host.dotGeneral dot_S8x1024_S1024x1152_S8x1152_1_0_0_1_n_n none (act x) w = product x w := by
  funext y
  unfold Cert.AdaFwdIdeal.AdaProduct.product
  simp only [← act_apply]
  generalize act x = d
  pointwise []

variable (m : (ℓ : Loc nD τ sig) → Buf (Elt Ideal) ℓ) (ρ : Dev nD → PrngReg) (c : Dev nD)

/-- A whole run of the reference. -/
theorem run : θ_run defs (onTc (τ := τ) main) ⟨m, fun _ => 0, ρ⟩ fun r => ∀ c : Dev nD,
    r.2.mem ((c.tc : Thread nD τ).loc main_v1) = product (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h c).1.trans (whole (m ((c.tc : Thread nD τ).loc main_arg0)) (m ((c.tc : Thread nD τ).loc main_arg1))), (h c).2⟩) (Value.run m ρ)

end Cert.AdaFwdRefIdeal.AdaProduct

end
-- ==== Proof.SmallStep.lean ====
/-
One step of the optimiser on the small weights, packed into rows of 1024.
-/
module

public import proofs.«01_k».proof.Proof.Gen.AdamSmallIdeal.Value
public import proofs.«01_k».proof.Proof.Gen.AdamSmallRefIdeal.Run
public import proofs.«01_k».proof.Proof.Adam
public import Idealize.ShloMosaic.Lib.Pipeline.ValueKit
public import Idealize.ShloMosaic.Lib.Pointwise

@[expose] public section

set_option maxRecDepth 16384

noncomputable section

namespace Cert.AdamSmallIdeal.SmallStep

open Cert.AdamSmallIdeal Cert.AdamSmallIdeal.Gen
open Idealize.ShloMosaic Idealize.ShloMosaic.TcCoe Idealize.SL.Sem

/-- The new average of the gradient. -/
def means (g a : Vec Ideal S160x1024 .f32) : Vec Ideal S160x1024 .f32 := fun y => Adam.mean (g y) (a y)

/-- The new average of the gradient's square. -/
def squares (g a : Vec Ideal S160x1024 .f32) : Vec Ideal S160x1024 .f32 := fun y => Adam.square (g y) (a y)

/-- The change of the weight. -/
def changes (g w a b : Vec Ideal S160x1024 .f32) : Vec Ideal S160x1024 .f32 := fun y => Adam.change (g y) (w y) (a y) (b y)

theorem block_mean (g a : Vec Ideal S160x1024 .f32) (y : S160x1024.Idx) : k0_pay1 g a y = Adam.mean (g y) (a y) := by
  unfold Adam.mean
  pointwise [k0_pay1]

theorem block_square (g a : Vec Ideal S160x1024 .f32) (y : S160x1024.Idx) : k0_pay2 g a y = Adam.square (g y) (a y) := by
  unfold Adam.square
  pointwise [k0_pay2]

theorem block_change (g w a b : Vec Ideal S160x1024 .f32) (y : S160x1024.Idx) : k0_pay3 g a b w y = Adam.change (g y) (w y) (a y) (b y) := by
  unfold Adam.change
  rw [← block_mean g a y, ← block_square g b y]
  unfold k0_pay3
  generalize k0_pay1 g a = d
  generalize k0_pay2 g b = e
  pointwise []

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

theorem points (t : Fin cfg0.N) : t.val < 1 := lt_of_lt_of_eq t.isLt N_0

/-- The entry of the array that is entry `y` of the block at point `t`. -/
def at_ (t : Fin cfg0.N) (y : S160x1024.Idx) : S160x1024.Idx :=
  ix2 ⟨t.val * 160 + (y 0).val, by have := points t; have : (y 0).val < 160 := (y 0).isLt; omega⟩ (y 1)

variable (m : (ℓ : Loc nD τ sig) → Buf (Elt Ideal) ℓ) (ρ : Dev nD → PrngReg) (c : Dev nD)

theorem read_gradient (t : Fin cfg0.N) (y : S160x1024.Idx) : iblk m c 0 t y = V m c main_arg0 (at_ t y) := by
  blk_simp [iblk]
  refine congrArg (V m c main_arg0) ?_
  blk_ext [index0 t, at_]

theorem read_weight (t : Fin cfg0.N) (y : S160x1024.Idx) : iblk m c 1 t y = V m c main_arg1 (at_ t y) := by
  blk_simp [iblk]
  refine congrArg (V m c main_arg1) ?_
  blk_ext [index1 t, at_]

theorem read_mean (t : Fin cfg0.N) (y : S160x1024.Idx) : iblk m c 2 t y = V m c main_arg2 (at_ t y) := by
  blk_simp [iblk]
  refine congrArg (V m c main_arg2) ?_
  blk_ext [index2 t, at_]

theorem read_square (t : Fin cfg0.N) (y : S160x1024.Idx) : iblk m c 3 t y = V m c main_arg3 (at_ t y) := by
  blk_simp [iblk]
  refine congrArg (V m c main_arg3) ?_
  blk_ext [index3 t, at_]

/-- The first result of the kernel is the gradient. -/
theorem result_gradient : (dats m 0 c).arrAt 4 cfg0.N = (V m c main_arg0) := by
  refine (dats m 0 c).arrAt_eq_of_covers 4 _ (by decide +kernel) fun t hf y => ?_
  have hstored : (dats m 0 c).after 4 t y = (V m c main_arg0) (at_ t y) := by
    rw [after0_4 m c t]
    frame_out
    exact read_gradient m c t y
  rw [hstored]
  blk_simp
  refine congrArg (V m c main_arg0) ?_
  blk_ext [index4 t, at_]

/-- The second result of the kernel. -/
theorem result_change : (dats m 0 c).arrAt 5 cfg0.N = changes (V m c main_arg0) (V m c main_arg1) (V m c main_arg2) (V m c main_arg3) := by
  refine (dats m 0 c).arrAt_eq_of_covers 5 _ (by decide +kernel) fun t hf y => ?_
  have hstored : (dats m 0 c).after 5 t y = changes (V m c main_arg0) (V m c main_arg1) (V m c main_arg2) (V m c main_arg3) (at_ t y) := by
    rw [after0_5 m c t]
    frame_out
    exact (block_change _ _ _ _ y).trans (by rw [read_gradient, read_weight, read_mean, read_square]; rfl)
  rw [hstored]
  blk_simp
  refine congrArg (changes _ _ _ _) ?_
  blk_ext [index5 t, at_]

/-- The third result of the kernel. -/
theorem result_mean : (dats m 0 c).arrAt 6 cfg0.N = means (V m c main_arg0) (V m c main_arg2) := by
  refine (dats m 0 c).arrAt_eq_of_covers 6 _ (by decide +kernel) fun t hf y => ?_
  have hstored : (dats m 0 c).after 6 t y = means (V m c main_arg0) (V m c main_arg2) (at_ t y) := by
    rw [after0_6 m c t]
    frame_out
    exact (block_mean _ _ y).trans (by rw [read_gradient, read_mean]; rfl)
  rw [hstored]
  blk_simp
  refine congrArg (means _ _) ?_
  blk_ext [index6 t, at_]

/-- The fourth result of the kernel. -/
theorem result_square : (dats m 0 c).arrAt 7 cfg0.N = squares (V m c main_arg0) (V m c main_arg3) := by
  refine (dats m 0 c).arrAt_eq_of_covers 7 _ (by decide +kernel) fun t hf y => ?_
  have hstored : (dats m 0 c).after 7 t y = squares (V m c main_arg0) (V m c main_arg3) (at_ t y) := by
    rw [after0_7 m c t]
    frame_out
    exact (block_square _ _ y).trans (by rw [read_gradient, read_square]; rfl)
  rw [hstored]
  blk_simp
  refine congrArg (squares _ _) ?_
  blk_ext [index7 t, at_]

/-- A whole run of the kernel. -/
theorem run : θ_run defs (onTc (τ := τ) main) ⟨m, fun _ => 0, ρ⟩ fun r => ∀ c : Dev nD,
    r.2.mem ((c.tc : Thread nD τ).loc main_v0_0) = m ((c.tc : Thread nD τ).loc main_arg0)
    ∧ r.2.mem ((c.tc : Thread nD τ).loc main_v0_1) = changes (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v0_2) = means (m ((c.tc : Thread nD τ).loc main_arg0)) (m ((c.tc : Thread nD τ).loc main_arg2))
    ∧ r.2.mem ((c.tc : Thread nD τ).loc main_v0_3) = squares (m ((c.tc : Thread nD τ).loc main_arg0)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1.trans ((result_gradient m c).trans (by rw [V_main_arg0])),
    (h c).2.1.trans ((result_change m c).trans (by rw [V_main_arg0, V_main_arg1, V_main_arg2, V_main_arg3])),
    (h c).2.2.1.trans ((result_mean m c).trans (by rw [V_main_arg0, V_main_arg2])),
    (h c).2.2.2.1.trans ((result_square m c).trans (by rw [V_main_arg0, V_main_arg3])), (h c).2.2.2.2⟩)
    (Value.run_blocks m ρ)

end Cert.AdamSmallIdeal.SmallStep

namespace Cert.AdamSmallRefIdeal.SmallStep

open Cert.AdamSmallRefIdeal Cert.AdamSmallRefIdeal.Gen
open Idealize.ShloMosaic Idealize.ShloMosaic.TcCoe Idealize.ShloMosaic.StableHlo Idealize.SL.Sem
open Cert.AdamSmallIdeal.SmallStep (means squares changes)

/-- A constant array of the reference. -/
def fill (k : BitVec 32) : FVec Ideal S160x1024 .f32 := broadcastInDim S160x1024 ![] bcast_S_S160x1024 (constant S_ .f32 k)

/-- The reference's average of the gradient. -/
def mean (g a : FVec Ideal S160x1024 .f32) : FVec Ideal S160x1024 .f32 := addf (mulf (fill 0x3F666666#32) a) (mulf (fill 0x3DCCCCCD#32) g)

/-- The reference's average of the gradient's square. -/
def square (g a : FVec Ideal S160x1024 .f32) : FVec Ideal S160x1024 .f32 := addf (mulf (fill 0x3F7FBE77#32) a) (mulf (fill 0x3A83126F#32) (mulf g g))

/-- The reference's change of the weight. -/
def change (p q w : FVec Ideal S160x1024 .f32) : FVec Ideal S160x1024 .f32 :=
  mulf (fill 0xBA83126F#32) (addf (Host.divf (Host.divf p (fill 0x3F26BD02#32)) (addf (Host.sqrt (Host.divf q (fill 0x3C231ACC#32))) (fill 0x322BCC77#32)))
    (mulf (fill 0x3C23D70A#32) w))

theorem mean_eq (g a : FVec Ideal S160x1024 .f32) : mean g a = means g a := by
  funext y
  unfold Cert.AdamSmallIdeal.SmallStep.means Adam.mean
  pointwise [mean, fill]

theorem square_eq (g a : FVec Ideal S160x1024 .f32) : square g a = squares g a := by
  funext y
  unfold Cert.AdamSmallIdeal.SmallStep.squares Adam.square
  pointwise [square, fill]

theorem change_eq (g w a b : FVec Ideal S160x1024 .f32) : change (mean g a) (square g b) w = changes g w a b := by
  funext y
  show _ = Adam.change (g y) (w y) (a y) (b y)
  unfold Adam.change
  rw [show Adam.mean (g y) (a y) = mean g a y from (congrFun (mean_eq g a) y).symm, show Adam.square (g y) (b y) = square g b y from (congrFun (square_eq g b) y).symm]
  generalize mean g a = d
  generalize square g b = e
  pointwise [change, fill]

variable (m : (ℓ : Loc nD τ sig) → Buf (Elt Ideal) ℓ) (ρ : Dev nD → PrngReg) (c : Dev nD)

/-- A whole run of the reference. -/
theorem run : θ_run defs (onTc (τ := τ) main) ⟨m, fun _ => 0, ρ⟩ fun r => ∀ c : Dev nD,
    r.2.mem ((c.tc : Thread nD τ).loc main_arg0) = m ((c.tc : Thread nD τ).loc main_arg0)
    ∧ r.2.mem ((c.tc : Thread nD τ).loc main_v23) = changes (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v4) = means (m ((c.tc : Thread nD τ).loc main_arg0)) (m ((c.tc : Thread nD τ).loc main_arg2))
    ∧ r.2.mem ((c.tc : Thread nD τ).loc main_v10) = squares (m ((c.tc : Thread nD τ).loc main_arg0)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c => ⟨(h c).1,
    (h c).2.1.trans (change_eq (m ((c.tc : Thread nD τ).loc main_arg0)) (m ((c.tc : Thread nD τ).loc main_arg1)) (m ((c.tc : Thread nD τ).loc main_arg2)) (m ((c.tc : Thread nD τ).loc main_arg3))),
    (h c).2.2.1.trans (mean_eq (m ((c.tc : Thread nD τ).loc main_arg0)) (m ((c.tc : Thread nD τ).loc main_arg2))),
    (h c).2.2.2.1.trans (square_eq (m ((c.tc : Thread nD τ).loc main_arg0)) (m ((c.tc : Thread nD τ).loc main_arg3))), (h c).2.2.2.2⟩)
    (Value.run m ρ)

end Cert.AdamSmallRefIdeal.SmallStep

end
-- ==== Proof.lean ====
module

public import proofs.«01_k».proof.Defs
public import proofs.«01_k».proof.Proof.Gen.ScanBwd
public import proofs.«01_k».proof.Proof.Gen.ScanBwd.Skeleton
public import proofs.«01_k».proof.Proof.Gen.ScanBwd.Loops
public import proofs.«01_k».proof.Proof.Gen.ScanBwd.Launch
public import proofs.«01_k».proof.Proof.Gen.ScanBwd.Points
public import proofs.«01_k».proof.Proof.Gen.ScanBwd.Frame
public import proofs.«01_k».proof.Proof.Gen.ScanBwdIdeal
public import proofs.«01_k».proof.Proof.Gen.ScanBwdIdeal.Skeleton
public import proofs.«01_k».proof.Proof.Gen.ScanBwdIdeal.Loops
public import proofs.«01_k».proof.Proof.Gen.ScanBwdIdeal.Launch
public import proofs.«01_k».proof.Proof.Gen.ScanBwdIdeal.Points
public import proofs.«01_k».proof.Proof.Gen.ScanBwdIdeal.Frame
public import proofs.«01_k».proof.Proof.Gen.ScanBwdRefIdeal
public import proofs.«01_k».proof.Proof.Gen.ScanBwdRefIdeal.Run
public import proofs.«01_k».proof.Proof.ScanValue
public import proofs.«01_k».proof.Proof.ScanSame
public import proofs.«01_k».proof.Proof.Gen.FfnDh
public import proofs.«01_k».proof.Proof.Gen.FfnDh.Frame
public import proofs.«01_k».proof.Proof.Gen.FfnDhIdeal.Value
public import proofs.«01_k».proof.Proof.Gen.FfnDhRefIdeal
public import proofs.«01_k».proof.Proof.Gen.FfnDhRefIdeal.Run
public import proofs.«01_k».proof.Proof.FfnInput
public import proofs.«01_k».proof.Proof.Gen.MixDh
public import proofs.«01_k».proof.Proof.Gen.MixDh.Frame
public import proofs.«01_k».proof.Proof.Gen.MixDhIdeal.Value
public import proofs.«01_k».proof.Proof.Gen.MixDhRefIdeal
public import proofs.«01_k».proof.Proof.Gen.MixDhRefIdeal.Run
public import proofs.«01_k».proof.Proof.MixInput
public import proofs.«01_k».proof.Proof.Gen.DwGu
public import proofs.«01_k».proof.Proof.Gen.DwGu.Frame
public import proofs.«01_k».proof.Proof.Gen.DwGuIdeal.Value
public import proofs.«01_k».proof.Proof.Gen.DwGuRefIdeal
public import proofs.«01_k».proof.Proof.Gen.DwGuRefIdeal.Run
public import proofs.«01_k».proof.Proof.GateUpWeight
public import proofs.«01_k».proof.Proof.Gen.DwDown
public import proofs.«01_k».proof.Proof.Gen.DwDown.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.DownWeight
public import proofs.«01_k».proof.Proof.Gen.DwIn
public import proofs.«01_k».proof.Proof.Gen.DwIn.Frame
public import proofs.«01_k».proof.Proof.Gen.DwInIdeal.Value
public import proofs.«01_k».proof.Proof.Gen.DwInRefIdeal
public import proofs.«01_k».proof.Proof.Gen.DwInRefIdeal.Run
public import proofs.«01_k».proof.Proof.InWeight
public import proofs.«01_k».proof.Proof.Gen.MergeBwd
public import proofs.«01_k».proof.Proof.Gen.MergeBwd.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.MergeBackward
public import proofs.«01_k».proof.Proof.Gen.RecinBwd
public import proofs.«01_k».proof.Proof.Gen.RecinBwd.Frame
public import proofs.«01_k».proof.Proof.Gen.RecinBwdIdeal.Value
public import proofs.«01_k».proof.Proof.Gen.RecinBwdRefIdeal
public import proofs.«01_k».proof.Proof.Gen.RecinBwdRefIdeal.Run
public import proofs.«01_k».proof.Proof.RecurrenceOutput
public import proofs.«01_k».proof.Proof.Gen.MmPost
public import proofs.«01_k».proof.Proof.Gen.MmPost.Frame
public import proofs.«01_k».proof.Proof.Gen.MmPostIdeal.Value
public import proofs.«01_k».proof.Proof.Gen.MmPostRefIdeal
public import proofs.«01_k».proof.Proof.Gen.MmPostRefIdeal.Run
public import proofs.«01_k».proof.Proof.FfnOutput
public import proofs.«01_k».proof.Proof.Gen.MergePost
public import proofs.«01_k».proof.Proof.Gen.MergePost.Frame
public import proofs.«01_k».proof.Proof.Gen.MergePostIdeal.Value
public import proofs.«01_k».proof.Proof.Gen.MergePostRefIdeal
public import proofs.«01_k».proof.Proof.Gen.MergePostRefIdeal.Run
public import proofs.«01_k».proof.Proof.MixOutput
public import proofs.«01_k».proof.Proof.Gen.DwOut
public import proofs.«01_k».proof.Proof.Gen.DwOut.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.OutWeight
public import proofs.«01_k».proof.Proof.Gen.DwRecO
public import proofs.«01_k».proof.Proof.Gen.DwRecO.Frame
public import proofs.«01_k».proof.Proof.Gen.DwRecOIdeal.Value
public import proofs.«01_k».proof.Proof.Gen.DwRecORefIdeal
public import proofs.«01_k».proof.Proof.Gen.DwRecORefIdeal.Run
public import proofs.«01_k».proof.Proof.RecurrenceWeight
public import proofs.«01_k».proof.Proof.Gen.DwAttO
public import proofs.«01_k».proof.Proof.Gen.DwAttO.Frame
public import proofs.«01_k».proof.Proof.Gen.DwAttOIdeal.Value
public import proofs.«01_k».proof.Proof.Gen.DwAttORefIdeal
public import proofs.«01_k».proof.Proof.Gen.DwAttORefIdeal.Run
public import proofs.«01_k».proof.Proof.AttentionWeight
public import proofs.«01_k».proof.Proof.Gen.PreUp
public import proofs.«01_k».proof.Proof.Gen.PreUp.Skeleton
public import proofs.«01_k».proof.Proof.Gen.PreUp.Launch
public import proofs.«01_k».proof.Proof.Gen.PreUp.Points
public import proofs.«01_k».proof.Proof.Gen.PreUp.Frame
public import proofs.«01_k».proof.Proof.Gen.PreUpIdeal
public import proofs.«01_k».proof.Proof.Gen.PreUpIdeal.Skeleton
public import proofs.«01_k».proof.Proof.Gen.PreUpIdeal.Launch
public import proofs.«01_k».proof.Proof.Gen.PreUpIdeal.Points
public import proofs.«01_k».proof.Proof.Gen.PreUpIdeal.Frame
public import proofs.«01_k».proof.Proof.Gen.PreUpRefIdeal
public import proofs.«01_k».proof.Proof.Gen.PreUpRefIdeal.Run
public import proofs.«01_k».proof.Proof.FfnUp
public import proofs.«01_k».proof.Proof.FfnUpCert
public import proofs.«01_k».proof.Proof.FfnUpSame
public import proofs.«01_k».proof.Proof.Gen.PreMm
public import proofs.«01_k».proof.Proof.Gen.PreMm.Skeleton
public import proofs.«01_k».proof.Proof.Gen.PreMm.Launch
public import proofs.«01_k».proof.Proof.Gen.PreMm.Points
public import proofs.«01_k».proof.Proof.Gen.PreMm.Frame
public import proofs.«01_k».proof.Proof.Gen.PreMmIdeal
public import proofs.«01_k».proof.Proof.Gen.PreMmIdeal.Skeleton
public import proofs.«01_k».proof.Proof.Gen.PreMmIdeal.Launch
public import proofs.«01_k».proof.Proof.Gen.PreMmIdeal.Points
public import proofs.«01_k».proof.Proof.Gen.PreMmIdeal.Frame
public import proofs.«01_k».proof.Proof.Gen.PreMmRefIdeal
public import proofs.«01_k».proof.Proof.Gen.PreMmRefIdeal.Run
public import proofs.«01_k».proof.Proof.MixIn
public import proofs.«01_k».proof.Proof.MixInCert
public import proofs.«01_k».proof.Proof.MixInSame
public import proofs.«01_k».proof.Proof.Gen.UpBwd
public import proofs.«01_k».proof.Proof.Gen.UpBwd.Skeleton
public import proofs.«01_k».proof.Proof.Gen.UpBwd.Launch
public import proofs.«01_k».proof.Proof.Gen.UpBwd.Points
public import proofs.«01_k».proof.Proof.Gen.UpBwd.Frame
public import proofs.«01_k».proof.Proof.Gen.UpBwdIdeal
public import proofs.«01_k».proof.Proof.Gen.UpBwdIdeal.Skeleton
public import proofs.«01_k».proof.Proof.Gen.UpBwdIdeal.Launch
public import proofs.«01_k».proof.Proof.Gen.UpBwdIdeal.Points
public import proofs.«01_k».proof.Proof.Gen.UpBwdIdeal.Frame
public import proofs.«01_k».proof.Proof.Gen.UpBwdRefIdeal
public import proofs.«01_k».proof.Proof.Gen.UpBwdRefIdeal.Run
public import proofs.«01_k».proof.Proof.UpBack
public import proofs.«01_k».proof.Proof.UpBackCert
public import proofs.«01_k».proof.Proof.UpBackSame
public import proofs.«01_k».proof.Proof.Gen.MmLoss
public import proofs.«01_k».proof.Proof.Gen.MmLoss.Frame
public import proofs.«01_k».proof.Proof.Gen.MmLossIdeal.Value
public import proofs.«01_k».proof.Proof.Gen.MmLossRefIdeal
public import proofs.«01_k».proof.Proof.Gen.MmLossRefIdeal.Run
public import proofs.«01_k».proof.Proof.LossOutput
public import proofs.«01_k».proof.Proof.Gen.RecOut
public import proofs.«01_k».proof.Proof.Gen.RecOut.Frame
public import proofs.«01_k».proof.Proof.Gen.RecOutIdeal.Value
public import proofs.«01_k».proof.Proof.Gen.RecOutRefIdeal
public import proofs.«01_k».proof.Proof.Gen.RecOutRefIdeal.Run
public import proofs.«01_k».proof.Proof.RecurrenceProduct
public import proofs.«01_k».proof.Proof.Gen.AttOut
public import proofs.«01_k».proof.Proof.Gen.AttOut.Frame
public import proofs.«01_k».proof.Proof.Gen.AttOutIdeal.Value
public import proofs.«01_k».proof.Proof.Gen.AttOutRefIdeal
public import proofs.«01_k».proof.Proof.Gen.AttOutRefIdeal.Run
public import proofs.«01_k».proof.Proof.AttentionProduct
public import proofs.«01_k».proof.Proof.Gen.AdamAda
public import proofs.«01_k».proof.Proof.Gen.AdamAda.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.AdaStep
public import proofs.«01_k».proof.Proof.Gen.AdaBwd
public import proofs.«01_k».proof.Proof.Gen.AdaBwd.Frame
public import proofs.«01_k».proof.Proof.Gen.AdaBwdIdeal.Value
public import proofs.«01_k».proof.Proof.Gen.AdaBwdRefIdeal
public import proofs.«01_k».proof.Proof.Gen.AdaBwdRefIdeal.Run
public import proofs.«01_k».proof.Proof.AdaWeight
public import proofs.«01_k».proof.Proof.Gen.AdaFwd
public import proofs.«01_k».proof.Proof.Gen.AdaFwd.Frame
public import proofs.«01_k».proof.Proof.Gen.AdaFwdIdeal.Value
public import proofs.«01_k».proof.Proof.Gen.AdaFwdRefIdeal
public import proofs.«01_k».proof.Proof.Gen.AdaFwdRefIdeal.Run
public import proofs.«01_k».proof.Proof.AdaProduct
public import proofs.«01_k».proof.Proof.Gen.AdamSmall
public import proofs.«01_k».proof.Proof.Gen.AdamSmall.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.SmallStep
public import Idealize.ShloMosaic.Adequacy
public import Idealize.ShloMosaic.Init

@[expose] public section

noncomputable section

namespace Cert.Proof

open Idealize.ShloMosaic Idealize.SL.Sem

/-- The backward scan's reference keeps its arguments and leaves every counter at zero. -/
theorem frame_ScanBwdRef : Cert.quiescent_ScanBwdRefIdeal := fun m ρ _ =>
  (θ_run Cert.ScanBwdRefIdeal.defs _ _).mono (fun r h => ⟨fun c => (h c).2, sem_eq_zero_of_no_sems (by decide) r.2⟩)
    (Cert.ScanBwdRefIdeal.Value.run m ρ)

/-- The backward scan of the kernel equals the gradient of the reference's recurrence. -/
theorem equal_ScanBwd : Cert.algebraic_ScanBwdIdeal_ScanBwdRefIdeal := fun m ρ m' ρ' _ hargs =>
  ⟨_, Cert.ScanBwdIdeal.ScanValue.run m ρ, (θ_run Cert.ScanBwdRefIdeal.defs _ _).mono (fun r h c =>
    ⟨((h c).1.trans (Cert.ScanBwdRefIdeal.ScanValue.result m' c)).trans
      (by rw [(hargs c).1, (hargs c).2.1, (hargs c).2.2]), (h c).2⟩) (Cert.ScanBwdRefIdeal.Value.run m' ρ')⟩

/-- The gradient of the feed-forward input: the reference keeps its arguments and leaves every counter at zero. -/
theorem frame_FfnDhRef : Cert.quiescent_FfnDhRefIdeal := fun m ρ _ =>
  (θ_run Cert.FfnDhRefIdeal.defs _ _).mono (fun r h => ⟨fun c => (h c).2.2, sem_eq_zero_of_no_sems (by decide) r.2⟩)
    (Cert.FfnDhRefIdeal.FfnInput.run m ρ)

/-- The gradient of the feed-forward input: kernel and reference agree. -/
theorem equal_FfnDh : Cert.algebraic_FfnDhIdeal_FfnDhRefIdeal := fun m ρ m' ρ' _ hargs =>
  ⟨_,_, Cert.FfnDhIdeal.FfnInput.run m ρ, (θ_run Cert.FfnDhRefIdeal.defs _ _).mono
    (fun r h c => by
      have hc := h c
      simp only [hargs c] at hc ⊢
      exact hc) (Cert.FfnDhRefIdeal.FfnInput.run m' ρ')⟩

/-- The gradient of the mixing block's input: the reference keeps its arguments and leaves every counter at zero. -/
theorem frame_MixDhRef : Cert.quiescent_MixDhRefIdeal := fun m ρ _ =>
  (θ_run Cert.MixDhRefIdeal.defs _ _).mono (fun r h => ⟨fun c => (h c).2.2, sem_eq_zero_of_no_sems (by decide) r.2⟩)
    (Cert.MixDhRefIdeal.MixInput.run m ρ)

/-- The gradient of the mixing block's input: kernel and reference agree. -/
theorem equal_MixDh : Cert.algebraic_MixDhIdeal_MixDhRefIdeal := fun m ρ m' ρ' _ hargs =>
  ⟨_,_, Cert.MixDhIdeal.MixInput.run m ρ, (θ_run Cert.MixDhRefIdeal.defs _ _).mono
    (fun r h c => by
      have hc := h c
      simp only [hargs c] at hc ⊢
      exact hc) (Cert.MixDhRefIdeal.MixInput.run m' ρ')⟩

/-- The gradient of the gate and up weights: the reference keeps its arguments and leaves every counter at zero. -/
theorem frame_DwGuRef : Cert.quiescent_DwGuRefIdeal := fun m ρ _ =>
  (θ_run Cert.DwGuRefIdeal.defs _ _).mono (fun r h => ⟨fun c => (h c).2, sem_eq_zero_of_no_sems (by decide) r.2⟩)
    (Cert.DwGuRefIdeal.GateUpWeight.run m ρ)

/-- The gradient of the gate and up weights: kernel and reference agree. -/
theorem equal_DwGu : Cert.algebraic_DwGuIdeal_DwGuRefIdeal := fun m ρ m' ρ' _ hargs =>
  ⟨_, Cert.DwGuIdeal.GateUpWeight.run m ρ, (θ_run Cert.DwGuRefIdeal.defs _ _).mono
    (fun r h c => by
      have hc := h c
      simp only [hargs c] at hc ⊢
      exact hc) (Cert.DwGuRefIdeal.GateUpWeight.run m' ρ')⟩

/-- The gradient of the down weight: the reference keeps its arguments and leaves every counter at zero. -/
theorem frame_DwDownRef : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.DownWeight.run m ρ)

/-- The gradient of the down weight: kernel and reference agree. -/
theorem equal_DwDown : Cert.algebraic_DwDownIdeal_DwDownRefIdeal := fun m ρ m' ρ' _ hargs =>
  ⟨_, Cert.DwDownIdeal.DownWeight.run m ρ, (θ_run Cert.DwDownRefIdeal.defs _ _).mono
    (fun r h c => by
      have hc := h c
      simp only [hargs c] at hc ⊢
      exact hc) (Cert.DwDownRefIdeal.DownWeight.run m' ρ')⟩

/-- The gradient of the input weight: the reference keeps its arguments and leaves every counter at zero. -/
theorem frame_DwInRef : Cert.quiescent_DwInRefIdeal := fun m ρ _ =>
  (θ_run Cert.DwInRefIdeal.defs _ _).mono (fun r h => ⟨fun c => (h c).2, sem_eq_zero_of_no_sems (by decide) r.2⟩)
    (Cert.DwInRefIdeal.InWeight.run m ρ)

/-- The gradient of the input weight: kernel and reference agree. -/
theorem equal_DwIn : Cert.algebraic_DwInIdeal_DwInRefIdeal := fun m ρ m' ρ' _ hargs =>
  ⟨_, Cert.DwInIdeal.InWeight.run m ρ, (θ_run Cert.DwInRefIdeal.defs _ _).mono
    (fun r h c => by
      have hc := h c
      simp only [hargs c] at hc ⊢
      exact hc) (Cert.DwInRefIdeal.InWeight.run m' ρ')⟩

/-- The gradient of the gated merge and of the norm after it: the reference keeps its arguments and leaves every counter at zero. -/
theorem frame_MergeBwdRef : Cert.quiescent_MergeBwdRefIdeal := fun m ρ _ =>
  (θ_run Cert.MergeBwdRefIdeal.defs _ _).mono (fun r h => ⟨fun c => (h c).2.2.2.2.2.2, sem_eq_zero_of_no_sems (by decide) r.2⟩)
    (Cert.MergeBwdRefIdeal.MergeBackward.run m ρ)

/-- The gradient of the gated merge and of the norm after it: kernel and reference agree. -/
theorem equal_MergeBwd : Cert.algebraic_MergeBwdIdeal_MergeBwdRefIdeal := fun m ρ m' ρ' _ hargs =>
  ⟨_,_,_,_,_,_, Cert.MergeBwdIdeal.MergeBackward.run m ρ, (θ_run Cert.MergeBwdRefIdeal.defs _ _).mono
    (fun r h c => by
      have hc := h c
      simp only [hargs c] at hc ⊢
      exact hc) (Cert.MergeBwdRefIdeal.MergeBackward.run m' ρ')⟩

/-- The gradient of the recurrence's output gate: the reference keeps its arguments and leaves every counter at zero. -/
theorem frame_RecinBwdRef : Cert.quiescent_RecinBwdRefIdeal := fun m ρ _ =>
  (θ_run Cert.RecinBwdRefIdeal.defs _ _).mono (fun r h => ⟨fun c => (h c).2.2, sem_eq_zero_of_no_sems (by decide) r.2⟩)
    (Cert.RecinBwdRefIdeal.RecurrenceOutput.run m ρ)

/-- The gradient of the recurrence's output gate: kernel and reference agree. -/
theorem equal_RecinBwd : Cert.algebraic_RecinBwdIdeal_RecinBwdRefIdeal := fun m ρ m' ρ' _ hargs =>
  ⟨_,_, Cert.RecinBwdIdeal.RecurrenceOutput.run m ρ, (θ_run Cert.RecinBwdRefIdeal.defs _ _).mono
    (fun r h c => by
      have hc := h c
      simp only [hargs c] at hc ⊢
      exact hc) (Cert.RecinBwdRefIdeal.RecurrenceOutput.run m' ρ')⟩

/-- The feed-forward output: the reference keeps its arguments and leaves every counter at zero. -/
theorem frame_MmPostRef : Cert.quiescent_MmPostRefIdeal := fun m ρ _ =>
  (θ_run Cert.MmPostRefIdeal.defs _ _).mono (fun r h => ⟨fun c => (h c).2.2, sem_eq_zero_of_no_sems (by decide) r.2⟩)
    (Cert.MmPostRefIdeal.FfnOutput.run m ρ)

/-- The feed-forward output: kernel and reference agree. -/
theorem equal_MmPost : Cert.algebraic_MmPostIdeal_MmPostRefIdeal := fun m ρ m' ρ' _ hargs =>
  ⟨_,_, Cert.MmPostIdeal.FfnOutput.run m ρ, (θ_run Cert.MmPostRefIdeal.defs _ _).mono
    (fun r h c => by
      have hc := h c
      simp only [hargs c] at hc ⊢
      exact hc) (Cert.MmPostRefIdeal.FfnOutput.run m' ρ')⟩

/-- The mixing block's output: the reference keeps its arguments and leaves every counter at zero. -/
theorem frame_MergePostRef : Cert.quiescent_MergePostRefIdeal := fun m ρ _ =>
  (θ_run Cert.MergePostRefIdeal.defs _ _).mono (fun r h => ⟨fun c => (h c).2.2.2, sem_eq_zero_of_no_sems (by decide) r.2⟩)
    (Cert.MergePostRefIdeal.MixOutput.run m ρ)

/-- The mixing block's output: kernel and reference agree. -/
theorem equal_MergePost : Cert.algebraic_MergePostIdeal_MergePostRefIdeal := fun m ρ m' ρ' _ hargs =>
  ⟨_,_,_, Cert.MergePostIdeal.MixOutput.run m ρ, (θ_run Cert.MergePostRefIdeal.defs _ _).mono
    (fun r h c => by
      have hc := h c
      simp only [hargs c] at hc ⊢
      exact hc) (Cert.MergePostRefIdeal.MixOutput.run m' ρ')⟩

/-- The gradient of the output weight: the reference keeps its arguments and leaves every counter at zero. -/
theorem frame_DwOutRef : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.OutWeight.run m ρ)

/-- The gradient of the output weight: kernel and reference agree. -/
theorem equal_DwOut : Cert.algebraic_DwOutIdeal_DwOutRefIdeal := fun m ρ m' ρ' _ hargs =>
  ⟨_, Cert.DwOutIdeal.OutWeight.run m ρ, (θ_run Cert.DwOutRefIdeal.defs _ _).mono
    (fun r h c => by
      have hc := h c
      simp only [hargs c] at hc ⊢
      exact hc) (Cert.DwOutRefIdeal.OutWeight.run m' ρ')⟩

/-- The gradient of the recurrence's output weight: the reference keeps its arguments and leaves every counter at zero. -/
theorem frame_DwRecORef : Cert.quiescent_DwRecORefIdeal := fun m ρ _ =>
  (θ_run Cert.DwRecORefIdeal.defs _ _).mono (fun r h => ⟨fun c => (h c).2, sem_eq_zero_of_no_sems (by decide) r.2⟩)
    (Cert.DwRecORefIdeal.RecurrenceWeight.run m ρ)

/-- The gradient of the recurrence's output weight: kernel and reference agree. -/
theorem equal_DwRecO : Cert.algebraic_DwRecOIdeal_DwRecORefIdeal := fun m ρ m' ρ' _ hargs =>
  ⟨_, Cert.DwRecOIdeal.RecurrenceWeight.run m ρ, (θ_run Cert.DwRecORefIdeal.defs _ _).mono
    (fun r h c => by
      have hc := h c
      simp only [hargs c] at hc ⊢
      exact hc) (Cert.DwRecORefIdeal.RecurrenceWeight.run m' ρ')⟩

/-- The gradient of the attention's output weight: the reference keeps its arguments and leaves every counter at zero. -/
theorem frame_DwAttORef : Cert.quiescent_DwAttORefIdeal := fun m ρ _ =>
  (θ_run Cert.DwAttORefIdeal.defs _ _).mono (fun r h => ⟨fun c => (h c).2, sem_eq_zero_of_no_sems (by decide) r.2⟩)
    (Cert.DwAttORefIdeal.AttentionWeight.run m ρ)

/-- The gradient of the attention's output weight: kernel and reference agree. -/
theorem equal_DwAttO : Cert.algebraic_DwAttOIdeal_DwAttORefIdeal := fun m ρ m' ρ' _ hargs =>
  ⟨_, Cert.DwAttOIdeal.AttentionWeight.run m ρ, (θ_run Cert.DwAttORefIdeal.defs _ _).mono
    (fun r h c => by
      have hc := h c
      simp only [hargs c] at hc ⊢
      exact hc) (Cert.DwAttORefIdeal.AttentionWeight.run m' ρ')⟩

/-- The feed-forward input: the reference keeps its arguments and leaves every counter at zero. -/
theorem frame_PreUpRef : Cert.quiescent_PreUpRefIdeal := fun m ρ _ =>
  (θ_run Cert.PreUpRefIdeal.defs _ _).mono (fun r h => ⟨fun c => (h c).2.2.2.2, sem_eq_zero_of_no_sems (by decide) r.2⟩)
    (Cert.PreUpRefIdeal.FfnUp.run m ρ)

/-- The feed-forward input: kernel and reference agree. -/
theorem equal_PreUp : Cert.algebraic_PreUpIdeal_PreUpRefIdeal := fun m ρ m' ρ' _ hargs =>
  ⟨_,_,_,_, Cert.PreUpIdeal.FfnUp.run m ρ, (θ_run Cert.PreUpRefIdeal.defs _ _).mono
    (fun r h c => by
      have hc := h c
      simp only [hargs c] at hc ⊢
      exact hc) (Cert.PreUpRefIdeal.FfnUp.run m' ρ')⟩

/-- The mixing block's input: the reference keeps its arguments and leaves every counter at zero. -/
theorem frame_PreMmRef : Cert.quiescent_PreMmRefIdeal := fun m ρ _ =>
  (θ_run Cert.PreMmRefIdeal.defs _ _).mono (fun r h => ⟨fun c => (h c).2.2, sem_eq_zero_of_no_sems (by decide) r.2⟩)
    (Cert.PreMmRefIdeal.MixIn.run m ρ)

/-- The mixing block's input: kernel and reference agree. -/
theorem equal_PreMm : Cert.algebraic_PreMmIdeal_PreMmRefIdeal := fun m ρ m' ρ' _ hargs =>
  ⟨_,_, Cert.PreMmIdeal.MixIn.run m ρ, (θ_run Cert.PreMmRefIdeal.defs _ _).mono
    (fun r h c => by
      have hc := h c
      simp only [hargs c] at hc ⊢
      exact hc) (Cert.PreMmRefIdeal.MixIn.run m' ρ')⟩

/-- The feed-forward output side's gradient: the reference keeps its arguments and leaves every counter at zero. -/
theorem frame_UpBwdRef : Cert.quiescent_UpBwdRefIdeal := fun m ρ _ =>
  (θ_run Cert.UpBwdRefIdeal.defs _ _).mono (fun r h => ⟨fun c => (h c).2.2.2, sem_eq_zero_of_no_sems (by decide) r.2⟩)
    (Cert.UpBwdRefIdeal.UpBack.run m ρ)

/-- The feed-forward output side's gradient: kernel and reference agree. -/
theorem equal_UpBwd : Cert.algebraic_UpBwdIdeal_UpBwdRefIdeal := fun m ρ m' ρ' _ hargs =>
  ⟨_,_,_, Cert.UpBwdIdeal.UpBack.run m ρ, (θ_run Cert.UpBwdRefIdeal.defs _ _).mono
    (fun r h c => by
      have hc := h c
      simp only [hargs c] at hc ⊢
      exact hc) (Cert.UpBwdRefIdeal.UpBack.run m' ρ')⟩

/-- The second feed-forward output and the loss: the reference keeps its arguments and leaves every counter at zero. -/
theorem frame_MmLossRef : Cert.quiescent_MmLossRefIdeal := fun m ρ _ =>
  (θ_run Cert.MmLossRefIdeal.defs _ _).mono (fun r h => ⟨fun c => (h c).2.2.2, sem_eq_zero_of_no_sems (by decide) r.2⟩)
    (Cert.MmLossRefIdeal.LossOutput.run m ρ)

/-- The second feed-forward output and the loss: kernel and reference agree. -/
theorem equal_MmLoss : Cert.algebraic_MmLossIdeal_MmLossRefIdeal := fun m ρ m' ρ' _ hargs =>
  ⟨_,_,_, Cert.MmLossIdeal.LossOutput.run m ρ, (θ_run Cert.MmLossRefIdeal.defs _ _).mono
    (fun r h c => by
      have hc := h c
      simp only [hargs c] at hc ⊢
      exact hc) (Cert.MmLossRefIdeal.LossOutput.run m' ρ')⟩

/-- The recurrence's output projection: the reference keeps its arguments and leaves every counter at zero. -/
theorem frame_RecOutRef : Cert.quiescent_RecOutRefIdeal := fun m ρ _ =>
  (θ_run Cert.RecOutRefIdeal.defs _ _).mono (fun r h => ⟨fun c => (h c).2, sem_eq_zero_of_no_sems (by decide) r.2⟩)
    (Cert.RecOutRefIdeal.RecurrenceProduct.run m ρ)

/-- The recurrence's output projection: kernel and reference agree. -/
theorem equal_RecOut : Cert.algebraic_RecOutIdeal_RecOutRefIdeal := fun m ρ m' ρ' _ hargs =>
  ⟨_, Cert.RecOutIdeal.RecurrenceProduct.run m ρ, (θ_run Cert.RecOutRefIdeal.defs _ _).mono
    (fun r h c => by
      have hc := h c
      simp only [hargs c] at hc ⊢
      exact hc) (Cert.RecOutRefIdeal.RecurrenceProduct.run m' ρ')⟩

/-- The attention's output projection: the reference keeps its arguments and leaves every counter at zero. -/
theorem frame_AttOutRef : Cert.quiescent_AttOutRefIdeal := fun m ρ _ =>
  (θ_run Cert.AttOutRefIdeal.defs _ _).mono (fun r h => ⟨fun c => (h c).2, sem_eq_zero_of_no_sems (by decide) r.2⟩)
    (Cert.AttOutRefIdeal.AttentionProduct.run m ρ)

/-- The attention's output projection: kernel and reference agree. -/
theorem equal_AttOut : Cert.algebraic_AttOutIdeal_AttOutRefIdeal := fun m ρ m' ρ' _ hargs =>
  ⟨_, Cert.AttOutIdeal.AttentionProduct.run m ρ, (θ_run Cert.AttOutRefIdeal.defs _ _).mono
    (fun r h c => by
      have hc := h c
      simp only [hargs c] at hc ⊢
      exact hc) (Cert.AttOutRefIdeal.AttentionProduct.run m' ρ')⟩

/-- The optimiser's step of the modulation's weight: the reference keeps its arguments and leaves every counter at zero. -/
theorem frame_AdamAdaRef : Cert.quiescent_AdamAdaRefIdeal := fun m ρ _ =>
  (θ_run Cert.AdamAdaRefIdeal.defs _ _).mono (fun r h => ⟨fun c => (h c).2.2.2.2, sem_eq_zero_of_no_sems (by decide) r.2⟩)
    (Cert.AdamAdaRefIdeal.AdaStep.run m ρ)

/-- The optimiser's step of the modulation's weight: kernel and reference agree. -/
theorem equal_AdamAda : Cert.algebraic_AdamAdaIdeal_AdamAdaRefIdeal := fun m ρ m' ρ' _ hargs =>
  ⟨_,_,_,_, Cert.AdamAdaIdeal.AdaStep.run m ρ, (θ_run Cert.AdamAdaRefIdeal.defs _ _).mono
    (fun r h c => by
      have hc := h c
      simp only [hargs c] at hc ⊢
      exact hc) (Cert.AdamAdaRefIdeal.AdaStep.run m' ρ')⟩

/-- The gradient of the modulation's weight: the reference keeps its arguments and leaves every counter at zero. -/
theorem frame_AdaBwdRef : Cert.quiescent_AdaBwdRefIdeal := fun m ρ _ =>
  (θ_run Cert.AdaBwdRefIdeal.defs _ _).mono (fun r h => ⟨fun c => (h c).2, sem_eq_zero_of_no_sems (by decide) r.2⟩)
    (Cert.AdaBwdRefIdeal.AdaWeight.run m ρ)

/-- The gradient of the modulation's weight: kernel and reference agree. -/
theorem equal_AdaBwd : Cert.algebraic_AdaBwdIdeal_AdaBwdRefIdeal := fun m ρ m' ρ' _ hargs =>
  ⟨_, Cert.AdaBwdIdeal.AdaWeight.run m ρ, (θ_run Cert.AdaBwdRefIdeal.defs _ _).mono
    (fun r h c => by
      have hc := h c
      simp only [hargs c] at hc ⊢
      exact hc) (Cert.AdaBwdRefIdeal.AdaWeight.run m' ρ')⟩

/-- The modulation's product: the reference keeps its arguments and leaves every counter at zero. -/
theorem frame_AdaFwdRef : Cert.quiescent_AdaFwdRefIdeal := fun m ρ _ =>
  (θ_run Cert.AdaFwdRefIdeal.defs _ _).mono (fun r h => ⟨fun c => (h c).2, sem_eq_zero_of_no_sems (by decide) r.2⟩)
    (Cert.AdaFwdRefIdeal.AdaProduct.run m ρ)

/-- The modulation's product: kernel and reference agree. -/
theorem equal_AdaFwd : Cert.algebraic_AdaFwdIdeal_AdaFwdRefIdeal := fun m ρ m' ρ' _ hargs =>
  ⟨_, Cert.AdaFwdIdeal.AdaProduct.run m ρ, (θ_run Cert.AdaFwdRefIdeal.defs _ _).mono
    (fun r h c => by
      have hc := h c
      simp only [hargs c] at hc ⊢
      exact hc) (Cert.AdaFwdRefIdeal.AdaProduct.run m' ρ')⟩

/-- The optimiser's step of the small weights: the reference keeps its arguments and leaves every counter at zero. -/
theorem frame_AdamSmallRef : Cert.quiescent_AdamSmallRefIdeal := fun m ρ _ =>
  (θ_run Cert.AdamSmallRefIdeal.defs _ _).mono (fun r h => ⟨fun c => (h c).2.2.2.2, sem_eq_zero_of_no_sems (by decide) r.2⟩)
    (Cert.AdamSmallRefIdeal.SmallStep.run m ρ)

/-- The optimiser's step of the small weights: kernel and reference agree. -/
theorem equal_AdamSmall : Cert.algebraic_AdamSmallIdeal_AdamSmallRefIdeal := fun m ρ m' ρ' _ hargs =>
  ⟨_,_,_,_, Cert.AdamSmallIdeal.SmallStep.run m ρ, (θ_run Cert.AdamSmallRefIdeal.defs _ _).mono
    (fun r h c => by
      have hc := h c
      simp only [hargs c] at hc ⊢
      exact hc) (Cert.AdamSmallRefIdeal.SmallStep.run m' ρ')⟩

theorem claim : Cert.Claim := ⟨Cert.ScanBwd.Gen.facts, Cert.ScanBwdIdeal.Gen.facts, Cert.ScanBwdRefIdeal.Gen.facts,
  Cert.FfnDh.Gen.facts, Cert.FfnDhIdeal.Gen.facts, Cert.FfnDhRefIdeal.Gen.facts,
  Cert.MixDh.Gen.facts, Cert.MixDhIdeal.Gen.facts, Cert.MixDhRefIdeal.Gen.facts,
  Cert.DwGu.Gen.facts, Cert.DwGuIdeal.Gen.facts, Cert.DwGuRefIdeal.Gen.facts,
  Cert.DwDown.Gen.facts, Cert.DwDownIdeal.Gen.facts, Cert.DwDownRefIdeal.Gen.facts,
  Cert.DwIn.Gen.facts, Cert.DwInIdeal.Gen.facts, Cert.DwInRefIdeal.Gen.facts,
  Cert.MergeBwd.Gen.facts, Cert.MergeBwdIdeal.Gen.facts, Cert.MergeBwdRefIdeal.Gen.facts,
  Cert.RecinBwd.Gen.facts, Cert.RecinBwdIdeal.Gen.facts, Cert.RecinBwdRefIdeal.Gen.facts,
  Cert.MmPost.Gen.facts, Cert.MmPostIdeal.Gen.facts, Cert.MmPostRefIdeal.Gen.facts,
  Cert.MergePost.Gen.facts, Cert.MergePostIdeal.Gen.facts, Cert.MergePostRefIdeal.Gen.facts,
  Cert.DwOut.Gen.facts, Cert.DwOutIdeal.Gen.facts, Cert.DwOutRefIdeal.Gen.facts,
  Cert.DwRecO.Gen.facts, Cert.DwRecOIdeal.Gen.facts, Cert.DwRecORefIdeal.Gen.facts,
  Cert.DwAttO.Gen.facts, Cert.DwAttOIdeal.Gen.facts, Cert.DwAttORefIdeal.Gen.facts,
  Cert.PreUp.Gen.facts, Cert.PreUpIdeal.Gen.facts, Cert.PreUpRefIdeal.Gen.facts,
  Cert.PreMm.Gen.facts, Cert.PreMmIdeal.Gen.facts, Cert.PreMmRefIdeal.Gen.facts,
  Cert.UpBwd.Gen.facts, Cert.UpBwdIdeal.Gen.facts, Cert.UpBwdRefIdeal.Gen.facts,
  Cert.MmLoss.Gen.facts, Cert.MmLossIdeal.Gen.facts, Cert.MmLossRefIdeal.Gen.facts,
  Cert.RecOut.Gen.facts, Cert.RecOutIdeal.Gen.facts, Cert.RecOutRefIdeal.Gen.facts,
  Cert.AttOut.Gen.facts, Cert.AttOutIdeal.Gen.facts, Cert.AttOutRefIdeal.Gen.facts,
  Cert.AdamAda.Gen.facts, Cert.AdamAdaIdeal.Gen.facts, Cert.AdamAdaRefIdeal.Gen.facts,
  Cert.AdaBwd.Gen.facts, Cert.AdaBwdIdeal.Gen.facts, Cert.AdaBwdRefIdeal.Gen.facts,
  Cert.AdaFwd.Gen.facts, Cert.AdaFwdIdeal.Gen.facts, Cert.AdaFwdRefIdeal.Gen.facts,
  Cert.AdamSmall.Gen.facts, Cert.AdamSmallIdeal.Gen.facts, Cert.AdamSmallRefIdeal.Gen.facts,
  Cert.ScanBwd.ScanSame.frame, fun m ρ _ => Cert.ScanBwdIdeal.ScanRun.frame m ρ, frame_ScanBwdRef,
  fun m ρ _ => Cert.FfnDh.Gen.frame m ρ, fun m ρ _ => Cert.FfnDhIdeal.Gen.frame m ρ, frame_FfnDhRef,
  fun m ρ _ => Cert.MixDh.Gen.frame m ρ, fun m ρ _ => Cert.MixDhIdeal.Gen.frame m ρ, frame_MixDhRef,
  fun m ρ _ => Cert.DwGu.Gen.frame m ρ, fun m ρ _ => Cert.DwGuIdeal.Gen.frame m ρ, frame_DwGuRef,
  fun m ρ _ => Cert.DwDown.Gen.frame m ρ, fun m ρ _ => Cert.DwDownIdeal.Gen.frame m ρ, frame_DwDownRef,
  fun m ρ _ => Cert.DwIn.Gen.frame m ρ, fun m ρ _ => Cert.DwInIdeal.Gen.frame m ρ, frame_DwInRef,
  fun m ρ _ => Cert.MergeBwd.Gen.frame m ρ, fun m ρ _ => Cert.MergeBwdIdeal.Gen.frame m ρ, frame_MergeBwdRef,
  fun m ρ _ => Cert.RecinBwd.Gen.frame m ρ, fun m ρ _ => Cert.RecinBwdIdeal.Gen.frame m ρ, frame_RecinBwdRef,
  fun m ρ _ => Cert.MmPost.Gen.frame m ρ, fun m ρ _ => Cert.MmPostIdeal.Gen.frame m ρ, frame_MmPostRef,
  fun m ρ _ => Cert.MergePost.Gen.frame m ρ, fun m ρ _ => Cert.MergePostIdeal.Gen.frame m ρ, frame_MergePostRef,
  fun m ρ _ => Cert.DwOut.Gen.frame m ρ, fun m ρ _ => Cert.DwOutIdeal.Gen.frame m ρ, frame_DwOutRef,
  fun m ρ _ => Cert.DwRecO.Gen.frame m ρ, fun m ρ _ => Cert.DwRecOIdeal.Gen.frame m ρ, frame_DwRecORef,
  fun m ρ _ => Cert.DwAttO.Gen.frame m ρ, fun m ρ _ => Cert.DwAttOIdeal.Gen.frame m ρ, frame_DwAttORef,
  Cert.PreUp.FfnUpSame.frame, fun m ρ _ => Cert.PreUpIdeal.FfnUpRun.frame m ρ, frame_PreUpRef,
  Cert.PreMm.MixInSame.frame, fun m ρ _ => Cert.PreMmIdeal.MixInRun.frame m ρ, frame_PreMmRef,
  Cert.UpBwd.UpBackSame.frame, fun m ρ _ => Cert.UpBwdIdeal.UpBackRun.frame m ρ, frame_UpBwdRef,
  fun m ρ _ => Cert.MmLoss.Gen.frame m ρ, fun m ρ _ => Cert.MmLossIdeal.Gen.frame m ρ, frame_MmLossRef,
  fun m ρ _ => Cert.RecOut.Gen.frame m ρ, fun m ρ _ => Cert.RecOutIdeal.Gen.frame m ρ, frame_RecOutRef,
  fun m ρ _ => Cert.AttOut.Gen.frame m ρ, fun m ρ _ => Cert.AttOutIdeal.Gen.frame m ρ, frame_AttOutRef,
  fun m ρ _ => Cert.AdamAda.Gen.frame m ρ, fun m ρ _ => Cert.AdamAdaIdeal.Gen.frame m ρ, frame_AdamAdaRef,
  fun m ρ _ => Cert.AdaBwd.Gen.frame m ρ, fun m ρ _ => Cert.AdaBwdIdeal.Gen.frame m ρ, frame_AdaBwdRef,
  fun m ρ _ => Cert.AdaFwd.Gen.frame m ρ, fun m ρ _ => Cert.AdaFwdIdeal.Gen.frame m ρ, frame_AdaFwdRef,
  fun m ρ _ => Cert.AdamSmall.Gen.frame m ρ, fun m ρ _ => Cert.AdamSmallIdeal.Gen.frame m ρ, frame_AdamSmallRef,
  trivial, equal_ScanBwd,
  trivial, equal_FfnDh,
  trivial, equal_MixDh,
  trivial, equal_DwGu,
  trivial, equal_DwDown,
  trivial, equal_DwIn,
  trivial, equal_MergeBwd,
  trivial, equal_RecinBwd,
  trivial, equal_MmPost,
  trivial, equal_MergePost,
  trivial, equal_DwOut,
  trivial, equal_DwRecO,
  trivial, equal_DwAttO,
  trivial, equal_PreUp,
  trivial, equal_PreMm,
  trivial, equal_UpBwd,
  trivial, equal_MmLoss,
  trivial, equal_RecOut,
  trivial, equal_AttOut,
  trivial, equal_AdamAda,
  trivial, equal_AdaBwd,
  trivial, equal_AdaFwd,
  trivial, equal_AdamSmall⟩

end Cert.Proof

end
